-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v60)) (v1 : (c : Dev Cert.Kernel4Ideal.nD) → Buf (Elt Ideal) ((c.tc : Thread Cert.Kernel4Ideal.nD Cert.Kernel4Ideal.τ).loc Cert.Kernel4Ideal.main_v69)) (v2 : (c : Dev Cert.Kernel4Ideal.nD) → Buf (Elt Ideal) ((c.tc : Thread Cert.Kernel4Ideal.nD Cert.Kernel4Ideal.τ).loc Cert.Kernel4Ideal.main_v77)) (v3 : (c : Dev Cert.Kernel4Ideal.nD) → Buf (Elt Ideal) ((c.tc : Thread Cert.Kernel4Ideal.nD Cert.Kernel4Ideal.τ).loc Cert.Kernel4Ideal.main_v5)) (v4 : (c : Dev Cert.Kernel4Ideal.nD) → Buf (Elt Ideal) ((c.tc : Thread Cert.Kernel4Ideal.nD Cert.Kernel4Ideal.τ).loc Cert.Kernel4Ideal.main_v102)) (v5 : (c : Dev Cert.Kernel4Ideal.nD) → Buf (Elt Ideal) ((c.tc : Thread Cert.Kernel4Ideal.nD Cert.Kernel4Ideal.τ).loc Cert.Kernel4Ideal.main_v103)) (v6 : (c : Dev Cert.Kernel4Ideal.nD) → Buf (Elt Ideal) ((c.tc : Thread Cert.Kernel4Ideal.nD Cert.Kernel4Ideal.τ).loc Cert.Kernel4Ideal.main_v104)) (v7 : (c : Dev Cert.Kernel4Ideal.nD) → Buf (Elt Ideal) ((c.tc : Thread Cert.Kernel4Ideal.nD Cert.Kernel4Ideal.τ).loc Cert.Kernel4Ideal.main_v6)) (v8 : (c : Dev Cert.Kernel4Ideal.nD) → Buf (Elt Ideal) ((c.tc : Thread Cert.Kernel4Ideal.nD Cert.Kernel4Ideal.τ).loc Cert.Kernel4Ideal.main_v50)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v60) = v0 c
          ∧ r.2.mem ((c.tc : Thread Cert.Kernel4Ideal.nD Cert.Kernel4Ideal.τ).loc Cert.Kernel4Ideal.main_v69) = v1 c
          ∧ r.2.mem ((c.tc : Thread Cert.Kernel4Ideal.nD Cert.Kernel4Ideal.τ).loc Cert.Kernel4Ideal.main_v77) = v2 c
          ∧ r.2.mem ((c.tc : Thread Cert.Kernel4Ideal.nD Cert.Kernel4Ideal.τ).loc Cert.Kernel4Ideal.main_v5) = v3 c
          ∧ r.2.mem ((c.tc : Thread Cert.Kernel4Ideal.nD Cert.Kernel4Ideal.τ).loc Cert.Kernel4Ideal.main_v102) = v4 c
          ∧ r.2.mem ((c.tc : Thread Cert.Kernel4Ideal.nD Cert.Kernel4Ideal.τ).loc Cert.Kernel4Ideal.main_v103) = v5 c
          ∧ r.2.mem ((c.tc : Thread Cert.Kernel4Ideal.nD Cert.Kernel4Ideal.τ).loc Cert.Kernel4Ideal.main_v104) = v6 c
          ∧ r.2.mem ((c.tc : Thread Cert.Kernel4Ideal.nD Cert.Kernel4Ideal.τ).loc Cert.Kernel4Ideal.main_v6) = v7 c
          ∧ r.2.mem ((c.tc : Thread Cert.Kernel4Ideal.nD Cert.Kernel4Ideal.τ).loc Cert.Kernel4Ideal.main_v50) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v74) = v0 c
          ∧ r.2.mem ((c.tc : Thread Cert.Reference4Ideal.nD Cert.Reference4Ideal.τ).loc Cert.Reference4Ideal.main_v81) = v1 c
          ∧ r.2.mem ((c.tc : Thread Cert.Reference4Ideal.nD Cert.Reference4Ideal.τ).loc Cert.Reference4Ideal.main_v88) = v2 c
          ∧ r.2.mem ((c.tc : Thread Cert.Reference4Ideal.nD Cert.Reference4Ideal.τ).loc Cert.Reference4Ideal.main_v187) = v3 c
          ∧ r.2.mem ((c.tc : Thread Cert.Reference4Ideal.nD Cert.Reference4Ideal.τ).loc Cert.Reference4Ideal.main_v167) = v4 c
          ∧ r.2.mem ((c.tc : Thread Cert.Reference4Ideal.nD Cert.Reference4Ideal.τ).loc Cert.Reference4Ideal.main_v176) = v5 c
          ∧ r.2.mem ((c.tc : Thread Cert.Reference4Ideal.nD Cert.Reference4Ideal.τ).loc Cert.Reference4Ideal.main_v185) = v6 c
          ∧ r.2.mem ((c.tc : Thread Cert.Reference4Ideal.nD Cert.Reference4Ideal.τ).loc Cert.Reference4Ideal.main_v189) = v7 c
          ∧ r.2.mem ((c.tc : Thread Cert.Reference4Ideal.nD Cert.Reference4Ideal.τ).loc Cert.Reference4Ideal.main_v296) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel4 : Cert.Kernel4.Facts) (hKernel4Ideal : Cert.Kernel4Ideal.Facts) (hReference4Ideal : Cert.Reference4Ideal.Facts) (hPre_finite_keys : Cert.Pre_finite_keys.Facts),
    quiescent_Kernel (hKernel := hKernel)
    ∧ quiescent_KernelIdeal (hKernelIdeal := hKernelIdeal)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_keys (hKernelIdeal := hKernelIdeal) (hReferenceIdeal := hReferenceIdeal) (hPre_finite_keys := hPre_finite_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel4_Kernel4Ideal
    ∧ algebraic_Kernel4Ideal_Reference4Ideal (hKernel4Ideal := hKernel4Ideal) (hReference4Ideal := hReference4Ideal)
-- ==== Pre_finite_keys.lean ====
abbrev S8704x3072 : Shape := ⟨2, ![8704, 3072]⟩
abbrev S8704x1536 : Shape := ⟨2, ![8704, 1536]⟩
abbrev S128x128x2x4x128 : Shape := ⟨5, ![128, 128, 2, 4, 128]⟩
abbrev S128x512x2x4x128 : Shape := ⟨5, ![128, 512, 2, 4, 128]⟩
abbrev S128x2048x2x4x128 : Shape := ⟨5, ![128, 2048, 2, 4, 128]⟩
abbrev S512x3072 : Shape := ⟨2, ![512, 3072]⟩
abbrev S_ : Shape := ⟨0, ![]⟩
abbrev S128x128x1x4x128 : Shape := ⟨5, ![128, 128, 1, 4, 128]⟩
abbrev S128x128x4x128 : Shape := ⟨4, ![128, 128, 4, 128]⟩

class Facts : Prop where
  slices_S8704x3072_S512x3072_8192_0 : S8704x3072.Slices ![8192, 0] S512x3072
  bcast_S_S512x3072 : S_.BroadcastsInDim S512x3072 (![] : Fin 0 → Fin S512x3072.rank)
  reducesTo_S512x3072_S_d0_1 : S512x3072.ReducesTo [0, 1] S_
  h_S_ : 0 < S_.numel
  slices_S128x128x2x4x128_S128x128x1x4x128_0_0_0_0_0 : S128x128x2x4x128.Slices ![0, 0, 0, 0, 0] S128x128x1x4x128
  shapeCasts_S128x128x1x4x128_S128x128x4x128 : S128x128x1x4x128.ShapeCasts S128x128x4x128
  bcast_S_S128x128x4x128 : S_.BroadcastsInDim S128x128x4x128 (![] : Fin 0 → Fin S128x128x4x128.rank)
  reducesTo_S128x128x4x128_S_d0_1_2_3 : S128x128x4x128.ReducesTo [0, 1, 2, 3] S_

variable [Facts]

def fn {F : FTy → Type} [FloatOps F] (main_arg0 : FVec F S8704x3072 .f32) (main_arg1 : FVec F S8704x1536 .f32) (main_arg2 : FVec F S128x128x2x4x128 .f32) (main_arg3 : FVec F S128x512x2x4x128 .f32) (main_arg4 : FVec F S128x2048x2x4x128 .f32) : IVec S_ 1 :=
  let main_v0 : FVec F S512x3072 .f32 := (extractStridedSlice S512x3072 ![8192, 0] · slices_S8704x3072_S512x3072_8192_0) main_arg0
  let main_v1 : FVec F S512x3072 .f32 := Host.absf main_v0
  let main_cst : FVec F S_ .f32 := constant S_ .f32 0x7F800000#32
  let main_v2 : FVec F S512x3072 .f32 := broadcastInDim S512x3072 ![] bcast_S_S512x3072 main_cst
  let main_v3 : IVec S512x3072 1 := cmpf .olt main_v1 main_v2
  let main_c : IVec S_ 1 := constantI S_ 1 1#1
  let main_v4 : IVec S_ 1 := (fun x v => Host.reduce IntOp.andi x v reducesTo_S512x3072_S_d0_1 h_S_) main_v3 main_c
  let main_v5 : FVec F S128x128x1x4x128 .f32 := (extractStridedSlice S128x128x1x4x128 ![0, 0, 0, 0, 0] · slices_S128x128x2x4x128_S128x128x1x4x128_0_0_0_0_0) main_arg2
  let main_v6 : FVec F S128x128x4x128 .f32 := shapeCast S128x128x4x128 main_v5 shapeCasts_S128x128x1x4x128_S128x128x4x128
  let main_v7 : FVec F S128x128x4x128 .f32 := Host.absf main_v6
  let main_cst_0 : FVec F S_ .f32 := constant S_ .f32 0x7F800000#32
  let main_v8 : FVec F S128x128x4x128 .f32 := broadcastInDim S128x128x4x128 ![] bcast_S_S128x128x4x128 main_cst_0
  let main_v9 : IVec S128x128x4x128 1 := cmpf .olt main_v7 main_v8
  let main_c_1 : IVec S_ 1 := constantI S_ 1 1#1
  let main_v10 : IVec S_ 1 := (fun x v => Host.reduce IntOp.andi x v reducesTo_S128x128x4x128_S_d0_1_2_3 h_S_) main_v9 main_c_1
  let main_v11 : IVec S_ 1 := andi main_v4 main_v10
  main_v11
-- ==== Kernel.lean ====
abbrev S8704x3072 : Shape := ⟨2, ![8704, 3072]⟩
abbrev S8704x1536 : Shape := ⟨2, ![8704, 1536]⟩
abbrev S128x128x2x4x128 : Shape := ⟨5, ![128, 128, 2, 4, 128]⟩
abbrev S128x512x2x4x128 : Shape := ⟨5, ![128, 512, 2, 4, 128]⟩
abbrev S128x2048x2x4x128 : Shape := ⟨5, ![128, 2048, 2, 4, 128]⟩
abbrev S128x128x4x2x4x128 : Shape := ⟨6, ![128, 128, 4, 2, 4, 128]⟩
abbrev S128x128x16x2x4x128 : Shape := ⟨6, ![128, 128, 16, 2, 4, 128]⟩
abbrev S512x512 : Shape := ⟨2, ![512, 512]⟩
abbrev S8x1536 : Shape := ⟨2, ![8, 1536]⟩
abbrev S2x128x2x4x128 : Shape := ⟨5, ![2, 128, 2, 4, 128]⟩
abbrev S2x128x4x2x4x128 : Shape := ⟨6, ![2, 128, 4, 2, 4, 128]⟩
abbrev S8x512 : Shape := ⟨2, ![8, 512]⟩
abbrev S16x1 : Shape := ⟨2, ![16, 1]⟩
abbrev S4x128 : Shape := ⟨2, ![4, 128]⟩
abbrev S16x128 : Shape := ⟨2, ![16, 128]⟩
abbrev S1x128x1x4x128 : Shape := ⟨5, ![1, 128, 1, 4, 128]⟩
abbrev S128x4x128 : Shape := ⟨3, ![128, 4, 128]⟩
abbrev S512x128 : Shape := ⟨2, ![512, 128]⟩
abbrev S528x128 : Shape := ⟨2, ![528, 128]⟩
abbrev S16x528 : Shape := ⟨2, ![16, 528]⟩
abbrev S1x528 : Shape := ⟨2, ![1, 528]⟩
abbrev S16 : Shape := ⟨1, ![16]⟩
abbrev S1x128x1x1x4x128 : Shape := ⟨6, ![1, 128, 1, 1, 4, 128]⟩
abbrev S2048x128 : Shape := ⟨2, ![2048, 128]⟩
abbrev S2064x128 : Shape := ⟨2, ![2064, 128]⟩
abbrev S16x2064 : Shape := ⟨2, ![16, 2064]⟩
abbrev S1x2064 : Shape := ⟨2, ![1, 2064]⟩
abbrev S4x512 : Shape := ⟨2, ![4, 512]⟩

abbrev nBuf : Space → Nat
  | .hbm => 8
  | .vmem => 14
  | .smem => 0
  | _ => 0

abbrev bufTy : (tb : Table) → Fin (tcTables nBuf tb) → BufTy
  | .hbm, ⟨0, _⟩ => ⟨S8704x3072, .f32⟩
  | .hbm, ⟨1, _⟩ => ⟨S8704x1536, .f32⟩
  | .hbm, ⟨2, _⟩ => ⟨S128x128x2x4x128, .f32⟩
  | .hbm, ⟨3, _⟩ => ⟨S128x512x2x4x128, .f32⟩
  | .hbm, ⟨4, _⟩ => ⟨S128x2048x2x4x128, .f32⟩
  | .hbm, ⟨5, _⟩ => ⟨S128x128x4x2x4x128, .f32⟩
  | .hbm, ⟨6, _⟩ => ⟨S128x128x16x2x4x128, .f32⟩
  | .hbm, ⟨7, _⟩ => ⟨S512x512, .bf16⟩
  | .local _ .vmem, ⟨0, _⟩ => ⟨S8x1536, .f32⟩
  | .local _ .vmem, ⟨1, _⟩ => ⟨S8x1536, .f32⟩
  | .local _ .vmem, ⟨2, _⟩ => ⟨S8x1536, .f32⟩
  | .local _ .vmem, ⟨3, _⟩ => ⟨S8x1536, .f32⟩
  | .local _ .vmem, ⟨4, _⟩ => ⟨S8x1536, .f32⟩
  | .local _ .vmem, ⟨5, _⟩ => ⟨S8x1536, .f32⟩
  | .local _ .vmem, ⟨6, _⟩ => ⟨S2x128x2x4x128, .f32⟩
  | .local _ .vmem, ⟨7, _⟩ => ⟨S2x128x2x4x128, .f32⟩
  | .local _ .vmem, ⟨8, _⟩ => ⟨S2x128x4x2x4x128, .f32⟩
  | .local _ .vmem, ⟨9, _⟩ => ⟨S2x128x4x2x4x128, .f32⟩
  | .local _ .vmem, ⟨10, _⟩ => ⟨S2x128x4x2x4x128, .f32⟩
  | .local _ .vmem, ⟨11, _⟩ => ⟨S2x128x4x2x4x128, .f32⟩
  | .local _ .vmem, ⟨12, _⟩ => ⟨S8x512, .bf16⟩
  | .local _ .vmem, ⟨13, _⟩ => ⟨S8x512, .bf16⟩
  | _, _ => ⟨S8704x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1024_i32 : BitVec 32 := 1024#32
  let v0 : BitVec 32 := Scalar.addi c1024_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_4 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

def cc0_transform_5 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x2x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x4x2x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x4x2x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8704x3072 : Shape := ⟨2, ![8704, 3072]⟩
abbrev S8704x1536 : Shape := ⟨2, ![8704, 1536]⟩
abbrev S128x128x2x4x128 : Shape := ⟨5, ![128, 128, 2, 4, 128]⟩
abbrev S128x512x2x4x128 : Shape := ⟨5, ![128, 512, 2, 4, 128]⟩
abbrev S128x2048x2x4x128 : Shape := ⟨5, ![128, 2048, 2, 4, 128]⟩
abbrev S512x1536 : Shape := ⟨2, ![512, 1536]⟩
abbrev S128x4x3x4x128 : Shape := ⟨5, ![128, 4, 3, 4, 128]⟩
abbrev S128x4x1x4x128 : Shape := ⟨5, ![128, 4, 1, 4, 128]⟩
abbrev S128x4x4x128 : Shape := ⟨4, ![128, 4, 4, 128]⟩
abbrev S128x4x2x4x128 : Shape := ⟨5, ![128, 4, 2, 4, 128]⟩
abbrev S128x132x2x4x128 : Shape := ⟨5, ![128, 132, 2, 4, 128]⟩
abbrev S4 : Shape := ⟨1, ![4]⟩
abbrev S_ : Shape := ⟨0, ![]⟩
abbrev S128x132x1x4x128 : Shape := ⟨5, ![128, 132, 1, 4, 128]⟩
abbrev S128x132x4x128 : Shape := ⟨4, ![128, 132, 4, 128]⟩
abbrev S4x1 : Shape := ⟨2, ![4, 1]⟩
abbrev S129 : Shape := ⟨1, ![129]⟩
abbrev S1x129 : Shape := ⟨2, ![1, 129]⟩
abbrev S4x129 : Shape := ⟨2, ![4, 129]⟩
abbrev S4x129x1 : Shape := ⟨3, ![4, 129, 1]⟩
abbrev S128x4x129x4x128 : Shape := ⟨5, ![128, 4, 129, 4, 128]⟩
abbrev S128x4x4x129 : Shape := ⟨4, ![128, 4, 4, 129]⟩
abbrev S1x4x1x129 : Shape := ⟨4, ![1, 4, 1, 129]⟩
abbrev S128x4x4 : Shape := ⟨3, ![128, 4, 4]⟩
abbrev S128x4x4x1 : Shape := ⟨4, ![128, 4, 4, 1]⟩
abbrev S128x516x2x4x128 : Shape := ⟨5, ![128, 516, 2, 4, 128]⟩
abbrev S128x516x1x4x128 : Shape := ⟨5, ![128, 516, 1, 4, 128]⟩
abbrev S128x516x4x128 : Shape := ⟨4, ![128, 516, 4, 128]⟩
abbrev S128x2052x2x4x128 : Shape := ⟨5, ![128, 2052, 2, 4, 128]⟩
abbrev S128x2052x1x4x128 : Shape := ⟨5, ![128, 2052, 1, 4, 128]⟩
abbrev S128x2052x4x128 : Shape := ⟨4, ![128, 2052, 4, 128]⟩
abbrev S1x128x4x4 : Shape := ⟨4, ![1, 128, 4, 4]⟩
abbrev S3x128x4x4 : Shape := ⟨4, ![3, 128, 4, 4]⟩
abbrev S1x128x4x4x128 : Shape := ⟨5, ![1, 128, 4, 4, 128]⟩
abbrev S3x128x4x4x128 : Shape := ⟨5, ![3, 128, 4, 4, 128]⟩
abbrev S128x4x512 : Shape := ⟨3, ![128, 4, 512]⟩
abbrev S512x512 : Shape := ⟨2, ![512, 512]⟩

abbrev nBuf : Space → Nat
  | .hbm => 265
  | .vmem => 0
  | .smem => 0
  | _ => 0

abbrev hbmTy0_0 (i : Nat) : BufTy := match i % 128 with
  | 0 => ⟨S8704x3072, .f32⟩
  | 1 => ⟨S8704x1536, .f32⟩
  | 2 => ⟨S128x128x2x4x128, .f32⟩
  | 3 => ⟨S128x512x2x4x128, .f32⟩
  | 4 => ⟨S128x2048x2x4x128, .f32⟩
  | 5 => ⟨S512x1536, .f32⟩
  | 6 => ⟨S128x4x3x4x128, .f32⟩
  | 7 => ⟨S512x1536, .f32⟩
  | 8 => ⟨S128x4x3x4x128, .f32⟩
  | 9 => ⟨S512x1536, .f32⟩
  | 10 => ⟨S128x4x3x4x128, .f32⟩
  | 11 => ⟨S128x4x1x4x128, .f32⟩
  | 12 => ⟨S128x4x4x128, .f32⟩
  | 13 => ⟨S128x4x1x4x128, .f32⟩
  | 14 => ⟨S128x4x4x128, .f32⟩
  | 15 => ⟨S128x4x1x4x128, .f32⟩
  | 16 => ⟨S128x4x1x4x128, .f32⟩
  | 17 => ⟨S128x4x2x4x128, .f32⟩
  | 18 => ⟨S128x132x2x4x128, .f32⟩
  | 19 => ⟨S4, .i32⟩
  | 20 => ⟨S_, .i32⟩
  | 21 => ⟨S4, .i32⟩
  | 22 => ⟨S4, .i32⟩
  | 23 => ⟨S128x4x1x4x128, .f32⟩
  | 24 => ⟨S128x4x4x128, .f32⟩
  | 25 => ⟨S128x132x1x4x128, .f32⟩
  | 26 => ⟨S128x132x4x128, .f32⟩
  | 27 => ⟨S128x132x1x4x128, .f32⟩
  | 28 => ⟨S128x132x4x128, .f32⟩
  | 29 => ⟨S4x1, .i32⟩
  | 30 => ⟨S129, .i32⟩
  | 31 => ⟨S1x129, .i32⟩
  | 32 => ⟨S_, .i32⟩
  | 33 => ⟨S1x129, .i32⟩
  | 34 => ⟨S1x129, .i32⟩
  | 35 => ⟨S4x129, .i32⟩
  | 36 => ⟨S4x129, .i32⟩
  | 37 => ⟨S4x129, .i32⟩
  | 38 => ⟨S_, .i32⟩
  | 39 => ⟨S4x129, .i32⟩
  | 40 => ⟨S4x129, .i1⟩
  | 41 => ⟨S_, .i32⟩
  | 42 => ⟨S4x129, .i32⟩
  | 43 => ⟨S4x129, .i32⟩
  | 44 => ⟨S_, .i32⟩
  | 45 => ⟨S4x129, .i32⟩
  | 46 => ⟨S4x129, .i1⟩
  | 47 => ⟨S_, .i32⟩
  | 48 => ⟨S4x129, .i32⟩
  | 49 => ⟨S4x129, .i32⟩
  | 50 => ⟨S4x129, .i32⟩
  | 51 => ⟨S4x129x1, .i32⟩
  | 52 => ⟨S128x4x129x4x128, .f32⟩
  | 53 => ⟨S_, .i32⟩
  | 54 => ⟨S4x129, .i32⟩
  | 55 => ⟨S4x129, .i1⟩
  | 56 => ⟨S_, .i32⟩
  | 57 => ⟨S4x129, .i32⟩
  | 58 => ⟨S4x129, .i32⟩
  | 59 => ⟨S4x129, .i32⟩
  | 60 => ⟨S4x129x1, .i32⟩
  | 61 => ⟨S128x4x129x4x128, .f32⟩
  | 62 => ⟨S128x4x4x129, .f32⟩
  | 63 => ⟨S_, .f32⟩
  | 64 => ⟨S128x4x4x129, .f32⟩
  | 65 => ⟨S128x4x4x129, .f32⟩
  | 66 => ⟨S1x4x1x129, .i1⟩
  | 67 => ⟨S_, .f32⟩
  | 68 => ⟨S_, .f32⟩
  | 69 => ⟨S128x4x4x129, .i1⟩
  | 70 => ⟨S128x4x4x129, .f32⟩
  | 71 => ⟨S128x4x4x129, .f32⟩
  | 72 => ⟨S_, .f32⟩
  | 73 => ⟨S128x4x4, .f32⟩
  | 74 => ⟨S128x4x4x1, .f32⟩
  | 75 => ⟨S128x4x4x129, .f32⟩
  | 76 => ⟨S128x4x4x129, .f32⟩
  | 77 => ⟨S128x4x4x129, .f32⟩
  | 78 => ⟨S_, .f32⟩
  | 79 => ⟨S128x4x4, .f32⟩
  | 80 => ⟨S128x4x4x1, .f32⟩
  | 81 => ⟨S128x4x4x129, .f32⟩
  | 82 => ⟨S128x4x4x129, .f32⟩
  | 83 => ⟨S128x4x4x128, .f32⟩
  | 84 => ⟨S128x4x4x1, .f32⟩
  | 85 => ⟨S128x4x4x1, .f32⟩
  | 86 => ⟨S128x4x4, .f32⟩
  | 87 => ⟨S128x4x1x4x128, .f32⟩
  | 88 => ⟨S128x4x4x128, .f32⟩
  | 89 => ⟨S128x4x1x4x128, .f32⟩
  | 90 => ⟨S128x4x4x128, .f32⟩
  | 91 => ⟨S128x4x1x4x128, .f32⟩
  | 92 => ⟨S128x4x1x4x128, .f32⟩
  | 93 => ⟨S128x4x2x4x128, .f32⟩
  | 94 => ⟨S128x516x2x4x128, .f32⟩
  | 95 => ⟨S4, .i32⟩
  | 96 => ⟨S_, .i32⟩
  | 97 => ⟨S4, .i32⟩
  | 98 => ⟨S4, .i32⟩
  | 99 => ⟨S128x4x1x4x128, .f32⟩
  | 100 => ⟨S128x4x4x128, .f32⟩
  | 101 => ⟨S128x516x1x4x128, .f32⟩
  | 102 => ⟨S128x516x4x128, .f32⟩
  | 103 => ⟨S128x516x1x4x128, .f32⟩
  | 104 => ⟨S128x516x4x128, .f32⟩
  | 105 => ⟨S4x1, .i32⟩
  | 106 => ⟨S129, .i32⟩
  | 107 => ⟨S1x129, .i32⟩
  | 108 => ⟨S_, .i32⟩
  | 109 => ⟨S1x129, .i32⟩
  | 110 => ⟨S1x129, .i32⟩
  | 111 => ⟨S4x129, .i32⟩
  | 112 => ⟨S4x129, .i32⟩
  | 113 => ⟨S4x129, .i32⟩
  | 114 => ⟨S_, .i32⟩
  | 115 => ⟨S4x129, .i32⟩
  | 116 => ⟨S4x129, .i1⟩
  | 117 => ⟨S_, .i32⟩
  | 118 => ⟨S4x129, .i32⟩
  | 119 => ⟨S4x129, .i32⟩
  | 120 => ⟨S_, .i32⟩
  | 121 => ⟨S4x129, .i32⟩
  | 122 => ⟨S4x129, .i1⟩
  | 123 => ⟨S_, .i32⟩
  | 124 => ⟨S4x129, .i32⟩
  | 125 => ⟨S4x129, .i32⟩
  | 126 => ⟨S4x129, .i32⟩
  | 127 => ⟨S4x129x1, .i32⟩
  | _ => ⟨S8704x3072, .f32⟩

abbrev hbmTy0_1 (i : Nat) : BufTy := match i % 128 with
  | 0 => ⟨S128x4x129x4x128, .f32⟩
  | 1 => ⟨S_, .i32⟩
  | 2 => ⟨S4x129, .i32⟩
  | 3 => ⟨S4x129, .i1⟩
  | 4 => ⟨S_, .i32⟩
  | 5 => ⟨S4x129, .i32⟩
  | 6 => ⟨S4x129, .i32⟩
  | 7 => ⟨S4x129, .i32⟩
  | 8 => ⟨S4x129x1, .i32⟩
  | 9 => ⟨S128x4x129x4x128, .f32⟩
  | 10 => ⟨S128x4x4x129, .f32⟩
  | 11 => ⟨S_, .f32⟩
  | 12 => ⟨S128x4x4x129, .f32⟩
  | 13 => ⟨S128x4x4x129, .f32⟩
  | 14 => ⟨S1x4x1x129, .i1⟩
  | 15 => ⟨S_, .f32⟩
  | 16 => ⟨S_, .f32⟩
  | 17 => ⟨S128x4x4x129, .i1⟩
  | 18 => ⟨S128x4x4x129, .f32⟩
  | 19 => ⟨S128x4x4x129, .f32⟩
  | 20 => ⟨S_, .f32⟩
  | 21 => ⟨S128x4x4, .f32⟩
  | 22 => ⟨S128x4x4x1, .f32⟩
  | 23 => ⟨S128x4x4x129, .f32⟩
  | 24 => ⟨S128x4x4x129, .f32⟩
  | 25 => ⟨S128x4x4x129, .f32⟩
  | 26 => ⟨S_, .f32⟩
  | 27 => ⟨S128x4x4, .f32⟩
  | 28 => ⟨S128x4x4x1, .f32⟩
  | 29 => ⟨S128x4x4x129, .f32⟩
  | 30 => ⟨S128x4x4x129, .f32⟩
  | 31 => ⟨S128x4x4x128, .f32⟩
  | 32 => ⟨S128x4x4x1, .f32⟩
  | 33 => ⟨S128x4x4x1, .f32⟩
  | 34 => ⟨S128x4x4, .f32⟩
  | 35 => ⟨S128x4x1x4x128, .f32⟩
  | 36 => ⟨S128x4x4x128, .f32⟩
  | 37 => ⟨S128x4x1x4x128, .f32⟩
  | 38 => ⟨S128x4x4x128, .f32⟩
  | 39 => ⟨S128x4x1x4x128, .f32⟩
  | 40 => ⟨S128x4x1x4x128, .f32⟩
  | 41 => ⟨S128x4x2x4x128, .f32⟩
  | 42 => ⟨S128x2052x2x4x128, .f32⟩
  | 43 => ⟨S4, .i32⟩
  | 44 => ⟨S_, .i32⟩
  | 45 => ⟨S4, .i32⟩
  | 46 => ⟨S4, .i32⟩
  | 47 => ⟨S128x4x1x4x128, .f32⟩
  | 48 => ⟨S128x4x4x128, .f32⟩
  | 49 => ⟨S128x2052x1x4x128, .f32⟩
  | 50 => ⟨S128x2052x4x128, .f32⟩
  | 51 => ⟨S128x2052x1x4x128, .f32⟩
  | 52 => ⟨S128x2052x4x128, .f32⟩
  | 53 => ⟨S4x1, .i32⟩
  | 54 => ⟨S129, .i32⟩
  | 55 => ⟨S1x129, .i32⟩
  | 56 => ⟨S_, .i32⟩
  | 57 => ⟨S1x129, .i32⟩
  | 58 => ⟨S1x129, .i32⟩
  | 59 => ⟨S4x129, .i32⟩
  | 60 => ⟨S4x129, .i32⟩
  | 61 => ⟨S4x129, .i32⟩
  | 62 => ⟨S_, .i32⟩
  | 63 => ⟨S4x129, .i32⟩
  | 64 => ⟨S4x129, .i1⟩
  | 65 => ⟨S_, .i32⟩
  | 66 => ⟨S4x129, .i32⟩
  | 67 => ⟨S4x129, .i32⟩
  | 68 => ⟨S_, .i32⟩
  | 69 => ⟨S4x129, .i32⟩
  | 70 => ⟨S4x129, .i1⟩
  | 71 => ⟨S_, .i32⟩
  | 72 => ⟨S4x129, .i32⟩
  | 73 => ⟨S4x129, .i32⟩
  | 74 => ⟨S4x129, .i32⟩
  | 75 => ⟨S4x129x1, .i32⟩
  | 76 => ⟨S128x4x129x4x128, .f32⟩
  | 77 => ⟨S_, .i32⟩
  | 78 => ⟨S4x129, .i32⟩
  | 79 => ⟨S4x129, .i1⟩
  | 80 => ⟨S_, .i32⟩
  | 81 => ⟨S4x129, .i32⟩
  | 82 => ⟨S4x129, .i32⟩
  | 83 => ⟨S4x129, .i32⟩
  | 84 => ⟨S4x129x1, .i32⟩
  | 85 => ⟨S128x4x129x4x128, .f32⟩
  | 86 => ⟨S128x4x4x129, .f32⟩
  | 87 => ⟨S_, .f32⟩
  | 88 => ⟨S128x4x4x129, .f32⟩
  | 89 => ⟨S128x4x4x129, .f32⟩
  | 90 => ⟨S1x4x1x129, .i1⟩
  | 91 => ⟨S_, .f32⟩
  | 92 => ⟨S_, .f32⟩
  | 93 => ⟨S128x4x4x129, .i1⟩
  | 94 => ⟨S128x4x4x129, .f32⟩
  | 95 => ⟨S128x4x4x129, .f32⟩
  | 96 => ⟨S_, .f32⟩
  | 97 => ⟨S128x4x4, .f32⟩
  | 98 => ⟨S128x4x4x1, .f32⟩
  | 99 => ⟨S128x4x4x129, .f32⟩
  | 100 => ⟨S128x4x4x129, .f32⟩
  | 101 => ⟨S128x4x4x129, .f32⟩
  | 102 => ⟨S_, .f32⟩
  | 103 => ⟨S128x4x4, .f32⟩
  | 104 => ⟨S128x4x4x1, .f32⟩
  | 105 => ⟨S128x4x4x129, .f32⟩
  | 106 => ⟨S128x4x4x129, .f32⟩
  | 107 => ⟨S128x4x4x128, .f32⟩
  | 108 => ⟨S128x4x4x1, .f32⟩
  | 109 => ⟨S128x4x4x1, .f32⟩
  | 110 => ⟨S128x4x4, .f32⟩
  | 111 => ⟨S1x128x4x4, .f32⟩
  | 112 => ⟨S1x128x4x4, .f32⟩
  | 113 => ⟨S1x128x4x4, .f32⟩
  | 114 => ⟨S3x128x4x4, .f32⟩
  | 115 => ⟨S_, .f32⟩
  | 116 => ⟨S128x4x4, .f32⟩
  | 117 => ⟨S_, .f32⟩
  | 118 => ⟨S128x4x4, .f32⟩
  | 119 => ⟨S128x4x4, .f32⟩
  | 120 => ⟨S1x128x4x4, .f32⟩
  | 121 => ⟨S3x128x4x4, .f32⟩
  | 122 => ⟨S3x128x4x4, .f32⟩
  | 123 => ⟨S3x128x4x4, .f32⟩
  | 124 => ⟨S_, .f32⟩
  | 125 => ⟨S128x4x4, .f32⟩
  | 126 => ⟨S1x128x4x4, .f32⟩
  | 127 => ⟨S3x128x4x4, .f32⟩
  | _ => ⟨S8704x3072, .f32⟩

abbrev hbmTy0_2 (i : Nat) : BufTy := match i % 128 with
  | 0 => ⟨S3x128x4x4, .f32⟩
  | 1 => ⟨S1x128x4x4x128, .f32⟩
  | 2 => ⟨S1x128x4x4x128, .f32⟩
  | 3 => ⟨S1x128x4x4x128, .f32⟩
  | 4 => ⟨S3x128x4x4x128, .f32⟩
  | 5 => ⟨S128x4x4x128, .f32⟩
  | 6 => ⟨S128x4x512, .f32⟩
  | 7 => ⟨S512x512, .f32⟩
  | 8 => ⟨S512x512, .bf16⟩
  | _ => ⟨S8704x3072, .f32⟩

abbrev hbmTy (i : Nat) : BufTy := match i / 128 with
  | 0 => hbmTy0_0 i
  | 1 => hbmTy0_1 i
  | 2 => hbmTy0_2 i
  | _ => ⟨S8704x3072, .f32⟩

abbrev bufTy : (tb : Table) → Fin (tcTables nBuf tb) → BufTy
  | .hbm, ⟨i, _⟩ => hbmTy i
  | _, _ => ⟨S8704x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_1 : Ref sig .tc := ⟨.hbm, 38, rfl⟩
abbrev main_v31 : Ref sig .tc := ⟨.hbm, 39, rfl⟩
abbrev main_v32 : Ref sig .tc := ⟨.hbm, 40, rfl⟩
abbrev main_c_2 : Ref sig .tc := ⟨.hbm, 41, rfl⟩
abbrev main_v33 : Ref sig .tc := ⟨.hbm, 42, rfl⟩
abbrev main_v34 : Ref sig .tc := ⟨.hbm, 43, rfl⟩
abbrev main_c_3 : Ref sig .tc := ⟨.hbm, 44, rfl⟩
abbrev main_v35 : Ref sig .tc := ⟨.hbm, 45, rfl⟩
abbrev main_v36 : Ref sig .tc := ⟨.hbm, 46, rfl⟩
abbrev main_c_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_v42 : Ref sig .tc := ⟨.hbm, 54, rfl⟩
abbrev main_v43 : Ref sig .tc := ⟨.hbm, 55, rfl⟩
abbrev main_c_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_9 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_c_10 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_c_11 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_c_12 : Ref sig .tc := ⟨.hbm, 114, rfl⟩
abbrev main_v92 : Ref sig .tc := ⟨.hbm, 115, rfl⟩
abbrev main_v93 : Ref sig .tc := ⟨.hbm, 116, rfl⟩
abbrev main_c_13 : Ref sig .tc := ⟨.hbm, 117, rfl⟩
abbrev main_v94 : Ref sig .tc := ⟨.hbm, 118, rfl⟩
abbrev main_v95 : Ref sig .tc := ⟨.hbm, 119, rfl⟩
abbrev main_c_14 : Ref sig .tc := ⟨.hbm, 120, rfl⟩
abbrev main_v96 : Ref sig .tc := ⟨.hbm, 121, rfl⟩
abbrev main_v97 : Ref sig .tc := ⟨.hbm, 122, rfl⟩
abbrev main_c_15 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_c_16 : Ref sig .tc := ⟨.hbm, 129, rfl⟩
abbrev main_v103 : Ref sig .tc := ⟨.hbm, 130, rfl⟩
abbrev main_v104 : Ref sig .tc := ⟨.hbm, 131, rfl⟩
abbrev main_c_17 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_18 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_cst_19 : Ref sig .tc := ⟨.hbm, 143, rfl⟩
abbrev main_call1_v0 : Ref sig .tc := ⟨.hbm, 144, rfl⟩
abbrev main_call1_v1 : Ref sig .tc := ⟨.hbm, 145, rfl⟩
abbrev main_call1_v2 : Ref sig .tc := ⟨.hbm, 146, rfl⟩
abbrev main_v114 : Ref sig .tc := ⟨.hbm, 147, rfl⟩
abbrev main_cst_20 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_21 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_c_22 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_c_23 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_c_24 : Ref sig .tc := ⟨.hbm, 190, rfl⟩
abbrev main_v153 : Ref sig .tc := ⟨.hbm, 191, rfl⟩
abbrev main_v154 : Ref sig .tc := ⟨.hbm, 192, rfl⟩
abbrev main_c_25 : Ref sig .tc := ⟨.hbm, 193, rfl⟩
abbrev main_v155 : Ref sig .tc := ⟨.hbm, 194, rfl⟩
abbrev main_v156 : Ref sig .tc := ⟨.hbm, 195, rfl⟩
abbrev main_c_26 : Ref sig .tc := ⟨.hbm, 196, rfl⟩
abbrev main_v157 : Ref sig .tc := ⟨.hbm, 197, rfl⟩
abbrev main_v158 : Ref sig .tc := ⟨.hbm, 198, rfl⟩
abbrev main_c_27 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_c_28 : Ref sig .tc := ⟨.hbm, 205, rfl⟩
abbrev main_v164 : Ref sig .tc := ⟨.hbm, 206, rfl⟩
abbrev main_v165 : Ref sig .tc := ⟨.hbm, 207, rfl⟩
abbrev main_c_29 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_cst_30 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_cst_31 : Ref sig .tc := ⟨.hbm, 219, rfl⟩
abbrev main_call2_v0 : Ref sig .tc := ⟨.hbm, 220, rfl⟩
abbrev main_call2_v1 : Ref sig .tc := ⟨.hbm, 221, rfl⟩
abbrev main_call2_v2 : Ref sig .tc := ⟨.hbm, 222, rfl⟩
abbrev main_v175 : Ref sig .tc := ⟨.hbm, 223, rfl⟩
abbrev main_cst_32 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_cst_33 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_cst_34 : Ref sig .tc := ⟨.hbm, 243, rfl⟩
abbrev main_v193 : Ref sig .tc := ⟨.hbm, 244, rfl⟩
abbrev main_cst_35 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_cst_36 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩

abbrev nD : Nat := 1
abbrev τ : Topo := Topo.v7x

variable {F : FTy → Type} [FloatOps F]
-- ==== Kernel2.lean ====
abbrev S8704x4096 : Shape := ⟨2, ![8704, 4096]⟩
abbrev S4096x19680 : Shape := ⟨2, ![4096, 19680]⟩
abbrev S19680x4096 : Shape := ⟨2, ![19680, 4096]⟩
abbrev S8704x8192 : Shape := ⟨2, ![8704, 8192]⟩
abbrev S1088x4096 : Shape := ⟨2, ![1088, 4096]⟩
abbrev S512x4096 : Shape := ⟨2, ![512, 4096]⟩
abbrev S1088x512 : Shape := ⟨2, ![1088, 512]⟩

abbrev nBuf : Space → Nat
  | .hbm => 4
  | .vmem => 6
  | .smem => 0
  | _ => 0

abbrev bufTy : (tb : Table) → Fin (tcTables nBuf tb) → BufTy
  | .hbm, ⟨0, _⟩ => ⟨S8704x4096, .bf16⟩
  | .hbm, ⟨1, _⟩ => ⟨S4096x19680, .f32⟩
  | .hbm, ⟨2, _⟩ => ⟨S19680x4096, .f32⟩
  | .hbm, ⟨3, _⟩ => ⟨S8704x8192, .f32⟩
  | .local _ .vmem, ⟨0, _⟩ => ⟨S1088x4096, .bf16⟩
  | .local _ .vmem, ⟨1, _⟩ => ⟨S1088x4096, .bf16⟩
  | .local _ .vmem, ⟨2, _⟩ => ⟨S512x4096, .f32⟩
  | .local _ .vmem, ⟨3, _⟩ => ⟨S512x4096, .f32⟩
  | .local _ .vmem, ⟨4, _⟩ => ⟨S1088x512, .f32⟩
  | .local _ .vmem, ⟨5, _⟩ => ⟨S1088x512, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi arg0 c9_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8704x4096 : Shape := ⟨2, ![8704, 4096]⟩
abbrev S4096x19680 : Shape := ⟨2, ![4096, 19680]⟩
abbrev S4096x8192 : Shape := ⟨2, ![4096, 8192]⟩
abbrev S8704x8192 : Shape := ⟨2, ![8704, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x19680, .f32⟩
  | .hbm, ⟨2, _⟩ => ⟨S8704x4096, .f32⟩
  | .hbm, ⟨3, _⟩ => ⟨S4096x8192, .f32⟩
  | .hbm, ⟨4, _⟩ => ⟨S8704x8192, .f32⟩
  | .hbm, ⟨5, _⟩ => ⟨S8704x8192, .f32⟩
  | .hbm, ⟨6, _⟩ => ⟨S8704x8192, .f32⟩
  | .hbm, ⟨7, _⟩ => ⟨S_, .f32⟩
  | .hbm, ⟨8, _⟩ => ⟨S8704x8192, .f32⟩
  | .hbm, ⟨9, _⟩ => ⟨S8704x8192, .f32⟩
  | .hbm, ⟨10, _⟩ => ⟨S_, .f32⟩
  | .hbm, ⟨11, _⟩ => ⟨S8704x8192, .f32⟩
  | .hbm, ⟨12, _⟩ => ⟨S8704x8192, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel3.lean ====
abbrev S8704x4096 : Shape := ⟨2, ![8704, 4096]⟩
abbrev S8704x512 : Shape := ⟨2, ![8704, 512]⟩
abbrev S8704x2048 : Shape := ⟨2, ![8704, 2048]⟩
abbrev S8704x8192 : Shape := ⟨2, ![8704, 8192]⟩
abbrev S512x4096 : Shape := ⟨2, ![512, 4096]⟩
abbrev S2048x4096 : Shape := ⟨2, ![2048, 4096]⟩
abbrev S4096x4096 : Shape := ⟨2, ![4096, 4096]⟩
abbrev S1088x512 : Shape := ⟨2, ![1088, 512]⟩
abbrev S1088x2048 : Shape := ⟨2, ![1088, 2048]⟩
abbrev S512x512 : Shape := ⟨2, ![512, 512]⟩
abbrev S2048x512 : Shape := ⟨2, ![2048, 512]⟩
abbrev S1088x4096 : Shape := ⟨2, ![1088, 4096]⟩
abbrev S4096x512 : Shape := ⟨2, ![4096, 512]⟩

abbrev nBuf : Space → Nat
  | .hbm => 9
  | .vmem => 22
  | .smem => 0
  | _ => 0

abbrev bufTy : (tb : Table) → Fin (tcTables nBuf tb) → BufTy
  | .hbm, ⟨0, _⟩ => ⟨S8704x4096, .f32⟩
  | .hbm, ⟨1, _⟩ => ⟨S8704x512, .bf16⟩
  | .hbm, ⟨2, _⟩ => ⟨S8704x2048, .bf16⟩
  | .hbm, ⟨3, _⟩ => ⟨S8704x8192, .f32⟩
  | .hbm, ⟨4, _⟩ => ⟨S512x4096, .f32⟩
  | .hbm, ⟨5, _⟩ => ⟨S2048x4096, .f32⟩
  | .hbm, ⟨6, _⟩ => ⟨S4096x4096, .f32⟩
  | .hbm, ⟨7, _⟩ => ⟨S8704x4096, .bf16⟩
  | .hbm, ⟨8, _⟩ => ⟨S8704x4096, .f32⟩
  | .local _ .vmem, ⟨0, _⟩ => ⟨S1088x512, .bf16⟩
  | .local _ .vmem, ⟨1, _⟩ => ⟨S1088x512, .bf16⟩
  | .local _ .vmem, ⟨2, _⟩ => ⟨S1088x2048, .bf16⟩
  | .local _ .vmem, ⟨3, _⟩ => ⟨S1088x2048, .bf16⟩
  | .local _ .vmem, ⟨4, _⟩ => ⟨S512x512, .f32⟩
  | .local _ .vmem, ⟨5, _⟩ => ⟨S512x512, .f32⟩
  | .local _ .vmem, ⟨6, _⟩ => ⟨S2048x512, .f32⟩
  | .local _ .vmem, ⟨7, _⟩ => ⟨S2048x512, .f32⟩
  | .local _ .vmem, ⟨8, _⟩ => ⟨S1088x512, .f32⟩
  | .local _ .vmem, ⟨9, _⟩ => ⟨S1088x512, .f32⟩
  | .local _ .vmem, ⟨10, _⟩ => ⟨S1088x512, .f32⟩
  | .local _ .vmem, ⟨11, _⟩ => ⟨S1088x512, .f32⟩
  | .local _ .vmem, ⟨12, _⟩ => ⟨S1088x512, .bf16⟩
  | .local _ .vmem, ⟨13, _⟩ => ⟨S1088x512, .bf16⟩
  | .local _ .vmem, ⟨14, _⟩ => ⟨S1088x4096, .bf16⟩
  | .local _ .vmem, ⟨15, _⟩ => ⟨S1088x4096, .bf16⟩
  | .local _ .vmem, ⟨16, _⟩ => ⟨S4096x512, .f32⟩
  | .local _ .vmem, ⟨17, _⟩ => ⟨S4096x512, .f32⟩
  | .local _ .vmem, ⟨18, _⟩ => ⟨S1088x512, .f32⟩
  | .local _ .vmem, ⟨19, _⟩ => ⟨S1088x512, .f32⟩
  | .local _ .vmem, ⟨20, _⟩ => ⟨S1088x512, .f32⟩
  | .local _ .vmem, ⟨21, _⟩ => ⟨S1088x512, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1088x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1088x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1088x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1088x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1088x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1088x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1088x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== Reference3Ideal.lean ====
abbrev S8704x4096 : Shape := ⟨2, ![8704, 4096]⟩
abbrev S8704x512 : Shape := ⟨2, ![8704, 512]⟩
abbrev S8704x2048 : Shape := ⟨2, ![8704, 2048]⟩
abbrev S8704x8192 : Shape := ⟨2, ![8704, 8192]⟩
abbrev S512x4096 : Shape := ⟨2, ![512, 4096]⟩
abbrev S2048x4096 : Shape := ⟨2, ![2048, 4096]⟩
abbrev S4096x4096 : Shape := ⟨2, ![4096, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S8704x512, .bf16⟩
  | .hbm, ⟨2, _⟩ => ⟨S8704x2048, .bf16⟩
  | .hbm, ⟨3, _⟩ => ⟨S8704x8192, .f32⟩
  | .hbm, ⟨4, _⟩ => ⟨S512x4096, .f32⟩
  | .hbm, ⟨5, _⟩ => ⟨S2048x4096, .f32⟩
  | .hbm, ⟨6, _⟩ => ⟨S4096x4096, .f32⟩
  | .hbm, ⟨7, _⟩ => ⟨S8704x4096, .f32⟩
  | .hbm, ⟨8, _⟩ => ⟨S8704x4096, .f32⟩
  | .hbm, ⟨9, _⟩ => ⟨S8704x512, .f32⟩
  | .hbm, ⟨10, _⟩ => ⟨S8704x4096, .f32⟩
  | .hbm, ⟨11, _⟩ => ⟨S8704x4096, .f32⟩
  | .hbm, ⟨12, _⟩ => ⟨S8704x2048, .f32⟩
  | .hbm, ⟨13, _⟩ => ⟨S8704x4096, .f32⟩
  | .hbm, ⟨14, _⟩ => ⟨S8704x4096, .f32⟩
  | .hbm, ⟨15, _⟩ => ⟨S8704x4096, .f32⟩
  | .hbm, ⟨16, _⟩ => ⟨S8704x4096, .f32⟩
  | .hbm, ⟨17, _⟩ => ⟨S8704x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Kernel5.lean ====
abbrev S6x8704x4096 : Shape := ⟨3, ![6, 8704, 4096]⟩
abbrev S4096x19680 : Shape := ⟨2, ![4096, 19680]⟩
abbrev S19680x4096 : Shape := ⟨2, ![19680, 4096]⟩
abbrev S8704x2048 : Shape := ⟨2, ![8704, 2048]⟩
abbrev S1x1088x4096 : Shape := ⟨3, ![1, 1088, 4096]⟩
abbrev S512x4096 : Shape := ⟨2, ![512, 4096]⟩
abbrev S1088x512 : Shape := ⟨2, ![1088, 512]⟩
abbrev S1088x4096 : Shape := ⟨2, ![1088, 4096]⟩

abbrev nBuf : Space → Nat
  | .hbm => 4
  | .vmem => 6
  | .smem => 0
  | _ => 0

abbrev bufTy : (tb : Table) → Fin (tcTables nBuf tb) → BufTy
  | .hbm, ⟨0, _⟩ => ⟨S6x8704x4096, .bf16⟩
  | .hbm, ⟨1, _⟩ => ⟨S4096x19680, .f32⟩
  | .hbm, ⟨2, _⟩ => ⟨S19680x4096, .f32⟩
  | .hbm, ⟨3, _⟩ => ⟨S8704x2048, .f32⟩
  | .local _ .vmem, ⟨0, _⟩ => ⟨S1x1088x4096, .bf16⟩
  | .local _ .vmem, ⟨1, _⟩ => ⟨S1x1088x4096, .bf16⟩
  | .local _ .vmem, ⟨2, _⟩ => ⟨S512x4096, .f32⟩
  | .local _ .vmem, ⟨3, _⟩ => ⟨S512x4096, .f32⟩
  | .local _ .vmem, ⟨4, _⟩ => ⟨S1088x512, .f32⟩
  | .local _ .vmem, ⟨5, _⟩ => ⟨S1088x512, .f32⟩
  | _, _ => ⟨S6x8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S6x8704x4096 : Shape := ⟨3, ![6, 8704, 4096]⟩
abbrev S4096x19680 : Shape := ⟨2, ![4096, 19680]⟩
abbrev S1x8704x4096 : Shape := ⟨3, ![1, 8704, 4096]⟩
abbrev S8704x4096 : Shape := ⟨2, ![8704, 4096]⟩
abbrev S4096x2048 : Shape := ⟨2, ![4096, 2048]⟩
abbrev S8704x2048 : Shape := ⟨2, ![8704, 2048]⟩

abbrev nBuf : Space → Nat
  | .hbm => 7
  | .vmem => 0
  | .smem => 0
  | _ => 0

abbrev bufTy : (tb : Table) → Fin (tcTables nBuf tb) → BufTy
  | .hbm, ⟨0, _⟩ => ⟨S6x8704x4096, .bf16⟩
  | .hbm, ⟨1, _⟩ => ⟨S4096x19680, .f32⟩
  | .hbm, ⟨2, _⟩ => ⟨S1x8704x4096, .bf16⟩
  | .hbm, ⟨3, _⟩ => ⟨S8704x4096, .bf16⟩
  | .hbm, ⟨4, _⟩ => ⟨S8704x4096, .f32⟩
  | .hbm, ⟨5, _⟩ => ⟨S4096x2048, .f32⟩
  | .hbm, ⟨6, _⟩ => ⟨S8704x2048, .f32⟩
  | _, _ => ⟨S6x8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S6x8704x4096 : Shape := ⟨3, ![6, 8704, 4096]⟩
abbrev S4096x19680 : Shape := ⟨2, ![4096, 19680]⟩
abbrev S19680x4096 : Shape := ⟨2, ![19680, 4096]⟩
abbrev S8704x2048 : Shape := ⟨2, ![8704, 2048]⟩
abbrev S1x1088x4096 : Shape := ⟨3, ![1, 1088, 4096]⟩
abbrev S512x4096 : Shape := ⟨2, ![512, 4096]⟩
abbrev S1088x512 : Shape := ⟨2, ![1088, 512]⟩
abbrev S1088x4096 : Shape := ⟨2, ![1088, 4096]⟩

abbrev nBuf : Space → Nat
  | .hbm => 4
  | .vmem => 6
  | .smem => 0
  | _ => 0

abbrev bufTy : (tb : Table) → Fin (tcTables nBuf tb) → BufTy
  | .hbm, ⟨0, _⟩ => ⟨S6x8704x4096, .bf16⟩
  | .hbm, ⟨1, _⟩ => ⟨S4096x19680, .f32⟩
  | .hbm, ⟨2, _⟩ => ⟨S19680x4096, .f32⟩
  | .hbm, ⟨3, _⟩ => ⟨S8704x2048, .f32⟩
  | .local _ .vmem, ⟨0, _⟩ => ⟨S1x1088x4096, .bf16⟩
  | .local _ .vmem, ⟨1, _⟩ => ⟨S1x1088x4096, .bf16⟩
  | .local _ .vmem, ⟨2, _⟩ => ⟨S512x4096, .f32⟩
  | .local _ .vmem, ⟨3, _⟩ => ⟨S512x4096, .f32⟩
  | .local _ .vmem, ⟨4, _⟩ => ⟨S1088x512, .f32⟩
  | .local _ .vmem, ⟨5, _⟩ => ⟨S1088x512, .f32⟩
  | _, _ => ⟨S6x8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c29_i32 : BitVec 32 := 29#32
  let v0 : BitVec 32 := Scalar.addi arg0 c29_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S6x8704x4096 : Shape := ⟨3, ![6, 8704, 4096]⟩
abbrev S4096x19680 : Shape := ⟨2, ![4096, 19680]⟩
abbrev S1x8704x4096 : Shape := ⟨3, ![1, 8704, 4096]⟩
abbrev S8704x4096 : Shape := ⟨2, ![8704, 4096]⟩
abbrev S4096x2048 : Shape := ⟨2, ![4096, 2048]⟩
abbrev S8704x2048 : Shape := ⟨2, ![8704, 2048]⟩

abbrev nBuf : Space → Nat
  | .hbm => 7
  | .vmem => 0
  | .smem => 0
  | _ => 0

abbrev bufTy : (tb : Table) → Fin (tcTables nBuf tb) → BufTy
  | .hbm, ⟨0, _⟩ => ⟨S6x8704x4096, .bf16⟩
  | .hbm, ⟨1, _⟩ => ⟨S4096x19680, .f32⟩
  | .hbm, ⟨2, _⟩ => ⟨S1x8704x4096, .bf16⟩
  | .hbm, ⟨3, _⟩ => ⟨S8704x4096, .bf16⟩
  | .hbm, ⟨4, _⟩ => ⟨S8704x4096, .f32⟩
  | .hbm, ⟨5, _⟩ => ⟨S4096x2048, .f32⟩
  | .hbm, ⟨6, _⟩ => ⟨S8704x2048, .f32⟩
  | _, _ => ⟨S6x8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S6x8704x4096 : Shape := ⟨3, ![6, 8704, 4096]⟩
abbrev S4096x19680 : Shape := ⟨2, ![4096, 19680]⟩
abbrev S19680x4096 : Shape := ⟨2, ![19680, 4096]⟩
abbrev S8704x2048 : Shape := ⟨2, ![8704, 2048]⟩
abbrev S1x1088x4096 : Shape := ⟨3, ![1, 1088, 4096]⟩
abbrev S512x4096 : Shape := ⟨2, ![512, 4096]⟩
abbrev S1088x512 : Shape := ⟨2, ![1088, 512]⟩
abbrev S1088x4096 : Shape := ⟨2, ![1088, 4096]⟩

abbrev nBuf : Space → Nat
  | .hbm => 4
  | .vmem => 6
  | .smem => 0
  | _ => 0

abbrev bufTy : (tb : Table) → Fin (tcTables nBuf tb) → BufTy
  | .hbm, ⟨0, _⟩ => ⟨S6x8704x4096, .bf16⟩
  | .hbm, ⟨1, _⟩ => ⟨S4096x19680, .f32⟩
  | .hbm, ⟨2, _⟩ => ⟨S19680x4096, .f32⟩
  | .hbm, ⟨3, _⟩ => ⟨S8704x2048, .f32⟩
  | .local _ .vmem, ⟨0, _⟩ => ⟨S1x1088x4096, .bf16⟩
  | .local _ .vmem, ⟨1, _⟩ => ⟨S1x1088x4096, .bf16⟩
  | .local _ .vmem, ⟨2, _⟩ => ⟨S512x4096, .f32⟩
  | .local _ .vmem, ⟨3, _⟩ => ⟨S512x4096, .f32⟩
  | .local _ .vmem, ⟨4, _⟩ => ⟨S1088x512, .f32⟩
  | .local _ .vmem, ⟨5, _⟩ => ⟨S1088x512, .f32⟩
  | _, _ => ⟨S6x8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.addi arg0 c33_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S6x8704x4096 : Shape := ⟨3, ![6, 8704, 4096]⟩
abbrev S4096x19680 : Shape := ⟨2, ![4096, 19680]⟩
abbrev S1x8704x4096 : Shape := ⟨3, ![1, 8704, 4096]⟩
abbrev S8704x4096 : Shape := ⟨2, ![8704, 4096]⟩
abbrev S4096x2048 : Shape := ⟨2, ![4096, 2048]⟩
abbrev S8704x2048 : Shape := ⟨2, ![8704, 2048]⟩

abbrev nBuf : Space → Nat
  | .hbm => 7
  | .vmem => 0
  | .smem => 0
  | _ => 0

abbrev bufTy : (tb : Table) → Fin (tcTables nBuf tb) → BufTy
  | .hbm, ⟨0, _⟩ => ⟨S6x8704x4096, .bf16⟩
  | .hbm, ⟨1, _⟩ => ⟨S4096x19680, .f32⟩
  | .hbm, ⟨2, _⟩ => ⟨S1x8704x4096, .bf16⟩
  | .hbm, ⟨3, _⟩ => ⟨S8704x4096, .bf16⟩
  | .hbm, ⟨4, _⟩ => ⟨S8704x4096, .f32⟩
  | .hbm, ⟨5, _⟩ => ⟨S4096x2048, .f32⟩
  | .hbm, ⟨6, _⟩ => ⟨S8704x2048, .f32⟩
  | _, _ => ⟨S6x8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S6x8704x4096 : Shape := ⟨3, ![6, 8704, 4096]⟩
abbrev S4096x19680 : Shape := ⟨2, ![4096, 19680]⟩
abbrev S4096x480 : Shape := ⟨2, ![4096, 480]⟩
abbrev S_ : Shape := ⟨0, ![]⟩
abbrev S4096x512 : Shape := ⟨2, ![4096, 512]⟩
abbrev S512x4096 : Shape := ⟨2, ![512, 4096]⟩
abbrev S8704x512 : Shape := ⟨2, ![8704, 512]⟩
abbrev S1x1088x4096 : Shape := ⟨3, ![1, 1088, 4096]⟩
abbrev S128x4096 : Shape := ⟨2, ![128, 4096]⟩
abbrev S1088x128 : Shape := ⟨2, ![1088, 128]⟩
abbrev S1088x4096 : Shape := ⟨2, ![1088, 4096]⟩

abbrev nBuf : Space → Nat
  | .hbm => 8
  | .vmem => 6
  | .smem => 0
  | _ => 0

abbrev bufTy : (tb : Table) → Fin (tcTables nBuf tb) → BufTy
  | .hbm, ⟨0, _⟩ => ⟨S6x8704x4096, .bf16⟩
  | .hbm, ⟨1, _⟩ => ⟨S4096x19680, .f32⟩
  | .hbm, ⟨2, _⟩ => ⟨S4096x480, .f32⟩
  | .hbm, ⟨3, _⟩ => ⟨S_, .i32⟩
  | .hbm, ⟨4, _⟩ => ⟨S_, .f32⟩
  | .hbm, ⟨5, _⟩ => ⟨S4096x512, .f32⟩
  | .hbm, ⟨6, _⟩ => ⟨S512x4096, .f32⟩
  | .hbm, ⟨7, _⟩ => ⟨S8704x512, .f32⟩
  | .local _ .vmem, ⟨0, _⟩ => ⟨S1x1088x4096, .bf16⟩
  | .local _ .vmem, ⟨1, _⟩ => ⟨S1x1088x4096, .bf16⟩
  | .local _ .vmem, ⟨2, _⟩ => ⟨S128x4096, .f32⟩
  | .local _ .vmem, ⟨3, _⟩ => ⟨S128x4096, .f32⟩
  | .local _ .vmem, ⟨4, _⟩ => ⟨S1088x128, .f32⟩
  | .local _ .vmem, ⟨5, _⟩ => ⟨S1088x128, .f32⟩
  | _, _ => ⟨S6x8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![c5_i32.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S6x8704x4096 : Shape := ⟨3, ![6, 8704, 4096]⟩
abbrev S4096x19680 : Shape := ⟨2, ![4096, 19680]⟩
abbrev S1x8704x4096 : Shape := ⟨3, ![1, 8704, 4096]⟩
abbrev S8704x4096 : Shape := ⟨2, ![8704, 4096]⟩
abbrev S4096x480 : Shape := ⟨2, ![4096, 480]⟩
abbrev S8704x480 : Shape := ⟨2, ![8704, 480]⟩
abbrev S_ : Shape := ⟨0, ![]⟩
abbrev S8704x32 : Shape := ⟨2, ![8704, 32]⟩
abbrev S8704x512 : Shape := ⟨2, ![8704, 512]⟩

abbrev nBuf : Space → Nat
  | .hbm => 10
  | .vmem => 0
  | .smem => 0
  | _ => 0

abbrev bufTy : (tb : Table) → Fin (tcTables nBuf tb) → BufTy
  | .hbm, ⟨0, _⟩ => ⟨S6x8704x4096, .bf16⟩
  | .hbm, ⟨1, _⟩ => ⟨S4096x19680, .f32⟩
  | .hbm, ⟨2, _⟩ => ⟨S1x8704x4096, .bf16⟩
  | .hbm, ⟨3, _⟩ => ⟨S8704x4096, .bf16⟩
  | .hbm, ⟨4, _⟩ => ⟨S8704x4096, .f32⟩
  | .hbm, ⟨5, _⟩ => ⟨S4096x480, .f32⟩
  | .hbm, ⟨6, _⟩ => ⟨S8704x480, .f32⟩
  | .hbm, ⟨7, _⟩ => ⟨S_, .f32⟩
  | .hbm, ⟨8, _⟩ => ⟨S8704x32, .f32⟩
  | .hbm, ⟨9, _⟩ => ⟨S8704x512, .f32⟩
  | _, _ => ⟨S6x8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S6x8704x4096 : Shape := ⟨3, ![6, 8704, 4096]⟩
abbrev S4096x19680 : Shape := ⟨2, ![4096, 19680]⟩
abbrev S19680x4096 : Shape := ⟨2, ![19680, 4096]⟩
abbrev S8704x128 : Shape := ⟨2, ![8704, 128]⟩
abbrev S1x1088x4096 : Shape := ⟨3, ![1, 1088, 4096]⟩
abbrev S128x4096 : Shape := ⟨2, ![128, 4096]⟩
abbrev S1088x128 : Shape := ⟨2, ![1088, 128]⟩
abbrev S1088x4096 : Shape := ⟨2, ![1088, 4096]⟩

abbrev nBuf : Space → Nat
  | .hbm => 4
  | .vmem => 5
  | .smem => 0
  | _ => 0

abbrev bufTy : (tb : Table) → Fin (tcTables nBuf tb) → BufTy
  | .hbm, ⟨0, _⟩ => ⟨S6x8704x4096, .bf16⟩
  | .hbm, ⟨1, _⟩ => ⟨S4096x19680, .f32⟩
  | .hbm, ⟨2, _⟩ => ⟨S19680x4096, .f32⟩
  | .hbm, ⟨3, _⟩ => ⟨S8704x128, .f32⟩
  | .local _ .vmem, ⟨0, _⟩ => ⟨S1x1088x4096, .bf16⟩
  | .local _ .vmem, ⟨1, _⟩ => ⟨S1x1088x4096, .bf16⟩
  | .local _ .vmem, ⟨2, _⟩ => ⟨S128x4096, .f32⟩
  | .local _ .vmem, ⟨3, _⟩ => ⟨S1088x128, .f32⟩
  | .local _ .vmem, ⟨4, _⟩ => ⟨S1088x128, .f32⟩
  | _, _ => ⟨S6x8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c148_i32 : BitVec 32 := 148#32
  let v0 : BitVec 32 := Scalar.addi arg0 c148_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S6x8704x4096 : Shape := ⟨3, ![6, 8704, 4096]⟩
abbrev S4096x19680 : Shape := ⟨2, ![4096, 19680]⟩
abbrev S1x8704x4096 : Shape := ⟨3, ![1, 8704, 4096]⟩
abbrev S8704x4096 : Shape := ⟨2, ![8704, 4096]⟩
abbrev S4096x128 : Shape := ⟨2, ![4096, 128]⟩
abbrev S8704x128 : Shape := ⟨2, ![8704, 128]⟩

abbrev nBuf : Space → Nat
  | .hbm => 7
  | .vmem => 0
  | .smem => 0
  | _ => 0

abbrev bufTy : (tb : Table) → Fin (tcTables nBuf tb) → BufTy
  | .hbm, ⟨0, _⟩ => ⟨S6x8704x4096, .bf16⟩
  | .hbm, ⟨1, _⟩ => ⟨S4096x19680, .f32⟩
  | .hbm, ⟨2, _⟩ => ⟨S1x8704x4096, .bf16⟩
  | .hbm, ⟨3, _⟩ => ⟨S8704x4096, .bf16⟩
  | .hbm, ⟨4, _⟩ => ⟨S8704x4096, .f32⟩
  | .hbm, ⟨5, _⟩ => ⟨S4096x128, .f32⟩
  | .hbm, ⟨6, _⟩ => ⟨S8704x128, .f32⟩
  | _, _ => ⟨S6x8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S6x8704x4096 : Shape := ⟨3, ![6, 8704, 4096]⟩
abbrev S4096x19680 : Shape := ⟨2, ![4096, 19680]⟩
abbrev S19680x4096 : Shape := ⟨2, ![19680, 4096]⟩
abbrev S8704x128 : Shape := ⟨2, ![8704, 128]⟩
abbrev S1x1088x4096 : Shape := ⟨3, ![1, 1088, 4096]⟩
abbrev S128x4096 : Shape := ⟨2, ![128, 4096]⟩
abbrev S1088x128 : Shape := ⟨2, ![1088, 128]⟩
abbrev S1088x4096 : Shape := ⟨2, ![1088, 4096]⟩

abbrev nBuf : Space → Nat
  | .hbm => 4
  | .vmem => 5
  | .smem => 0
  | _ => 0

abbrev bufTy : (tb : Table) → Fin (tcTables nBuf tb) → BufTy
  | .hbm, ⟨0, _⟩ => ⟨S6x8704x4096, .bf16⟩
  | .hbm, ⟨1, _⟩ => ⟨S4096x19680, .f32⟩
  | .hbm, ⟨2, _⟩ => ⟨S19680x4096, .f32⟩
  | .hbm, ⟨3, _⟩ => ⟨S8704x128, .f32⟩
  | .local _ .vmem, ⟨0, _⟩ => ⟨S1x1088x4096, .bf16⟩
  | .local _ .vmem, ⟨1, _⟩ => ⟨S1x1088x4096, .bf16⟩
  | .local _ .vmem, ⟨2, _⟩ => ⟨S128x4096, .f32⟩
  | .local _ .vmem, ⟨3, _⟩ => ⟨S1088x128, .f32⟩
  | .local _ .vmem, ⟨4, _⟩ => ⟨S1088x128, .f32⟩
  | _, _ => ⟨S6x8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![c4_i32.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c149_i32 : BitVec 32 := 149#32
  let v0 : BitVec 32 := Scalar.addi arg0 c149_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S6x8704x4096 : Shape := ⟨3, ![6, 8704, 4096]⟩
abbrev S4096x19680 : Shape := ⟨2, ![4096, 19680]⟩
abbrev S1x8704x4096 : Shape := ⟨3, ![1, 8704, 4096]⟩
abbrev S8704x4096 : Shape := ⟨2, ![8704, 4096]⟩
abbrev S4096x128 : Shape := ⟨2, ![4096, 128]⟩
abbrev S8704x128 : Shape := ⟨2, ![8704, 128]⟩

abbrev nBuf : Space → Nat
  | .hbm => 7
  | .vmem => 0
  | .smem => 0
  | _ => 0

abbrev bufTy : (tb : Table) → Fin (tcTables nBuf tb) → BufTy
  | .hbm, ⟨0, _⟩ => ⟨S6x8704x4096, .bf16⟩
  | .hbm, ⟨1, _⟩ => ⟨S4096x19680, .f32⟩
  | .hbm, ⟨2, _⟩ => ⟨S1x8704x4096, .bf16⟩
  | .hbm, ⟨3, _⟩ => ⟨S8704x4096, .bf16⟩
  | .hbm, ⟨4, _⟩ => ⟨S8704x4096, .f32⟩
  | .hbm, ⟨5, _⟩ => ⟨S4096x128, .f32⟩
  | .hbm, ⟨6, _⟩ => ⟨S8704x128, .f32⟩
  | _, _ => ⟨S6x8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S4x2048x4096 : Shape := ⟨3, ![4, 2048, 4096]⟩
abbrev S128x4x4096 : Shape := ⟨3, ![128, 4, 4096]⟩
abbrev S128x128x2x4x128 : Shape := ⟨5, ![128, 128, 2, 4, 128]⟩
abbrev S128x512x2x4x128 : Shape := ⟨5, ![128, 512, 2, 4, 128]⟩
abbrev S128x2048x2x4x128 : Shape := ⟨5, ![128, 2048, 2, 4, 128]⟩
abbrev S128x4096 : Shape := ⟨2, ![128, 4096]⟩
abbrev S4096 : Shape := ⟨1, ![4096]⟩
abbrev S4096x19680 : Shape := ⟨2, ![4096, 19680]⟩
abbrev S128 : Shape := ⟨1, ![128]⟩
abbrev S6x4096 : Shape := ⟨2, ![6, 4096]⟩
abbrev S8192x4096 : Shape := ⟨2, ![8192, 4096]⟩
abbrev S512x4096 : Shape := ⟨2, ![512, 4096]⟩
abbrev S8704x4096 : Shape := ⟨2, ![8704, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S4x4096 : Shape := ⟨2, ![4, 4096]⟩
abbrev S128x1x4096 : Shape := ⟨3, ![128, 1, 4096]⟩
abbrev S6x8704x4096 : Shape := ⟨3, ![6, 8704, 4096]⟩
abbrev S8x4096 : Shape := ⟨2, ![8, 4096]⟩
abbrev S6x128x4096 : Shape := ⟨3, ![6, 128, 4096]⟩
abbrev S128x1 : Shape := ⟨2, ![128, 1]⟩
abbrev S1x128x4096 : Shape := ⟨3, ![1, 128, 4096]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S4 : Shape := ⟨1, ![4]⟩
abbrev S_ : Shape := ⟨0, ![]⟩
abbrev S1x4 : Shape := ⟨2, ![1, 4]⟩
abbrev S128x4 : Shape := ⟨2, ![128, 4]⟩
abbrev S512 : Shape := ⟨1, ![512]⟩
abbrev S8704 : Shape := ⟨1, ![8704]⟩
abbrev S16 : Shape := ⟨1, ![16]⟩
abbrev S8704x1 : Shape := ⟨2, ![8704, 1]⟩
abbrev S1x16 : Shape := ⟨2, ![1, 16]⟩
abbrev S8704x16 : Shape := ⟨2, ![8704, 16]⟩
abbrev S8704x96 : Shape := ⟨2, ![8704, 96]⟩
abbrev S8704x128 : Shape := ⟨2, ![8704, 128]⟩
abbrev S8704x112 : Shape := ⟨2, ![8704, 112]⟩
abbrev S1x128 : Shape := ⟨2, ![1, 128]⟩
abbrev S2x128 : Shape := ⟨2, ![2, 128]⟩
abbrev S2x1x128 : Shape := ⟨3, ![2, 1, 128]⟩
abbrev S4096x4608 : Shape := ⟨2, ![4096, 4608]⟩
abbrev S4608x4096 : Shape := ⟨2, ![4608, 4096]⟩
abbrev S8704x3072 : Shape := ⟨2, ![8704, 3072]⟩
abbrev S1088x4096 : Shape := ⟨2, ![1088, 4096]⟩
abbrev S1x1x128 : Shape := ⟨3, ![1, 1, 128]⟩
abbrev S1088x128 : Shape := ⟨2, ![1088, 128]⟩
abbrev S1088x512 : Shape := ⟨2, ![1088, 512]⟩
abbrev S1088 : Shape := ⟨1, ![1088]⟩
abbrev S1088x1 : Shape := ⟨2, ![1088, 1]⟩
abbrev S8704x1536 : Shape := ⟨2, ![8704, 1536]⟩
abbrev S8192x512 : Shape := ⟨2, ![8192, 512]⟩
abbrev S8192x4x128 : Shape := ⟨3, ![8192, 4, 128]⟩
abbrev S8192x1x4x128 : Shape := ⟨4, ![8192, 1, 4, 128]⟩
abbrev S8192x2x4x128 : Shape := ⟨4, ![8192, 2, 4, 128]⟩
abbrev S4x2048x2x4x128 : Shape := ⟨5, ![4, 2048, 2, 4, 128]⟩
abbrev S4x128x2x4x128 : Shape := ⟨5, ![4, 128, 2, 4, 128]⟩
abbrev S4x512x2x4x128 : Shape := ⟨5, ![4, 512, 2, 4, 128]⟩
abbrev S512x512 : Shape := ⟨2, ![512, 512]⟩
abbrev S512x4x128 : Shape := ⟨3, ![512, 4, 128]⟩
abbrev S512x1x4x128 : Shape := ⟨4, ![512, 1, 4, 128]⟩
abbrev S512x2x4x128 : Shape := ⟨4, ![512, 2, 4, 128]⟩
abbrev S128x4x2x4x128 : Shape := ⟨5, ![128, 4, 2, 4, 128]⟩

abbrev nBuf : Space → Nat
  | .hbm => 124
  | .vmem => 51
  | .smem => 0
  | _ => 0

abbrev bufTy : (tb : Table) → Fin (tcTables nBuf tb) → BufTy
  | .hbm, ⟨0, _⟩ => ⟨S4x2048x4096, .f32⟩
  | .hbm, ⟨1, _⟩ => ⟨S128x4x4096, .f32⟩
  | .hbm, ⟨2, _⟩ => ⟨S128x128x2x4x128, .f32⟩
  | .hbm, ⟨3, _⟩ => ⟨S128x512x2x4x128, .f32⟩
  | .hbm, ⟨4, _⟩ => ⟨S128x2048x2x4x128, .f32⟩
  | .hbm, ⟨5, _⟩ => ⟨S128x4096, .f32⟩
  | .hbm, ⟨6, _⟩ => ⟨S4096, .f32⟩
  | .hbm, ⟨7, _⟩ => ⟨S4096x19680, .f32⟩
  | .hbm, ⟨8, _⟩ => ⟨S128, .f32⟩
  | .hbm, ⟨9, _⟩ => ⟨S128, .f32⟩
  | .hbm, ⟨10, _⟩ => ⟨S6x4096, .f32⟩
  | .hbm, ⟨11, _⟩ => ⟨S8192x4096, .f32⟩
  | .hbm, ⟨12, _⟩ => ⟨S512x4096, .f32⟩
  | .hbm, ⟨13, _⟩ => ⟨S8704x4096, .f32⟩
  | .hbm, ⟨14, _⟩ => ⟨S1x4096, .f32⟩
  | .hbm, ⟨15, _⟩ => ⟨S8704x4096, .f32⟩
  | .hbm, ⟨16, _⟩ => ⟨S4x4096, .f32⟩
  | .hbm, ⟨17, _⟩ => ⟨S128x4096, .f32⟩
  | .hbm, ⟨18, _⟩ => ⟨S128x1x4096, .f32⟩
  | .hbm, ⟨19, _⟩ => ⟨S128x4x4096, .f32⟩
  | .hbm, ⟨20, _⟩ => ⟨S512x4096, .f32⟩
  | .hbm, ⟨21, _⟩ => ⟨S8704x4096, .bf16⟩
  | .hbm, ⟨22, _⟩ => ⟨S6x8704x4096, .bf16⟩
  | .hbm, ⟨23, _⟩ => ⟨S2048, .i32⟩
  | .hbm, ⟨24, _⟩ => ⟨S1x2048, .i32⟩
  | .hbm, ⟨25, _⟩ => ⟨S4x2048, .i32⟩
  | .hbm, ⟨26, _⟩ => ⟨S8192, .i32⟩
  | .hbm, ⟨27, _⟩ => ⟨S4, .i32⟩
  | .hbm, ⟨28, _⟩ => ⟨S_, .i32⟩
  | .hbm, ⟨29, _⟩ => ⟨S4, .i32⟩
  | .hbm, ⟨30, _⟩ => ⟨S4, .i32⟩
  | .hbm, ⟨31, _⟩ => ⟨S1x4, .i32⟩
  | .hbm, ⟨32, _⟩ => ⟨S128x4, .i32⟩
  | .hbm, ⟨33, _⟩ => ⟨S512, .i32⟩
  | .hbm, ⟨34, _⟩ => ⟨S8704, .i32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S8704, .f32⟩
  | .hbm, ⟨44, _⟩ => ⟨S8704x1, .f32⟩
  | .hbm, ⟨45, _⟩ => ⟨S1x16, .f32⟩
  | .hbm, ⟨46, _⟩ => ⟨S8704x16, .f32⟩
  | .hbm, ⟨47, _⟩ => ⟨S8704x16, .f32⟩
  | .hbm, ⟨48, _⟩ => ⟨S8704x16, .f32⟩
  | .hbm, ⟨49, _⟩ => ⟨S8704x16, .f32⟩
  | .hbm, ⟨50, _⟩ => ⟨S8704x16, .f32⟩
  | .hbm, ⟨51, _⟩ => ⟨S_, .f32⟩
  | .hbm, ⟨52, _⟩ => ⟨S8704x96, .f32⟩
  | .hbm, ⟨53, _⟩ => ⟨S8704x128, .f32⟩
  | .hbm, ⟨54, _⟩ => ⟨S8704x16, .f32⟩
  | .hbm, ⟨55, _⟩ => ⟨S_, .f32⟩
  | .hbm, ⟨56, _⟩ => ⟨S8704x112, .f32⟩
  | .hbm, ⟨57, _⟩ => ⟨S8704x128, .f32⟩
  | .hbm, ⟨58, _⟩ => ⟨S_, .f32⟩
  | .hbm, ⟨59, _⟩ => ⟨S8704x16, .f32⟩
  | .hbm, ⟨60, _⟩ => ⟨S_, .f32⟩
  | .hbm, ⟨61, _⟩ => ⟨S8704x96, .f32⟩
  | .hbm, ⟨62, _⟩ => ⟨S8704x128, .f32⟩
  | .hbm, ⟨63, _⟩ => ⟨S1x128, .f32⟩
  | .hbm, ⟨64, _⟩ => ⟨S1x128, .f32⟩
  | .hbm, ⟨65, _⟩ => ⟨S2x128, .f32⟩
  | .hbm, ⟨66, _⟩ => ⟨S2x1x128, .f32⟩
  | .hbm, ⟨67, _⟩ => ⟨S4096x4608, .f32⟩
  | .hbm, ⟨68, _⟩ => ⟨S4608x4096, .f32⟩
  | .hbm, ⟨69, _⟩ => ⟨S8704x3072, .f32⟩
  | .hbm, ⟨70, _⟩ => ⟨S8704x1536, .f32⟩
  | .hbm, ⟨71, _⟩ => ⟨S8192x512, .f32⟩
  | .hbm, ⟨72, _⟩ => ⟨S8192x512, .f32⟩
  | .hbm, ⟨73, _⟩ => ⟨S8192x4x128, .f32⟩
  | .hbm, ⟨74, _⟩ => ⟨S8192x4x128, .f32⟩
  | .hbm, ⟨75, _⟩ => ⟨S8192x1x4x128, .f32⟩
  | .hbm, ⟨76, _⟩ => ⟨S8192x1x4x128, .f32⟩
  | .hbm, ⟨77, _⟩ => ⟨S8192x2x4x128, .f32⟩
  | .hbm, ⟨78, _⟩ => ⟨S4x2048x2x4x128, .f32⟩
  | .hbm, ⟨79, _⟩ => ⟨S4x128x2x4x128, .f32⟩
  | .hbm, ⟨80, _⟩ => ⟨S8192x512, .f32⟩
  | .hbm, ⟨81, _⟩ => ⟨S8192x512, .f32⟩
  | .hbm, ⟨82, _⟩ => ⟨S8192x4x128, .f32⟩
  | .hbm, ⟨83, _⟩ => ⟨S8192x4x128, .f32⟩
  | .hbm, ⟨84, _⟩ => ⟨S8192x1x4x128, .f32⟩
  | .hbm, ⟨85, _⟩ => ⟨S8192x1x4x128, .f32⟩
  | .hbm, ⟨86, _⟩ => ⟨S8192x2x4x128, .f32⟩
  | .hbm, ⟨87, _⟩ => ⟨S4x2048x2x4x128, .f32⟩
  | .hbm, ⟨88, _⟩ => ⟨S4x512x2x4x128, .f32⟩
  | .hbm, ⟨89, _⟩ => ⟨S8192x512, .f32⟩
  | .hbm, ⟨90, _⟩ => ⟨S8192x512, .f32⟩
  | .hbm, ⟨91, _⟩ => ⟨S8192x4x128, .f32⟩
  | .hbm, ⟨92, _⟩ => ⟨S8192x4x128, .f32⟩
  | .hbm, ⟨93, _⟩ => ⟨S8192x1x4x128, .f32⟩
  | .hbm, ⟨94, _⟩ => ⟨S8192x1x4x128, .f32⟩
  | .hbm, ⟨95, _⟩ => ⟨S8192x2x4x128, .f32⟩
  | .hbm, ⟨96, _⟩ => ⟨S4x2048x2x4x128, .f32⟩
  | .hbm, ⟨97, _⟩ => ⟨S512x512, .f32⟩
  | .hbm, ⟨98, _⟩ => ⟨S512x512, .f32⟩
  | .hbm, ⟨99, _⟩ => ⟨S512x4x128, .f32⟩
  | .hbm, ⟨100, _⟩ => ⟨S512x4x128, .f32⟩
  | .hbm, ⟨101, _⟩ => ⟨S512x1x4x128, .f32⟩
  | .hbm, ⟨102, _⟩ => ⟨S512x1x4x128, .f32⟩
  | .hbm, ⟨103, _⟩ => ⟨S512x2x4x128, .f32⟩
  | .hbm, ⟨104, _⟩ => ⟨S128x4x2x4x128, .f32⟩
  | .hbm, ⟨105, _⟩ => ⟨S512x512, .f32⟩
  | .hbm, ⟨106, _⟩ => ⟨S512x512, .f32⟩
  | .hbm, ⟨107, _⟩ => ⟨S512x4x128, .f32⟩
  | .hbm, ⟨108, _⟩ => ⟨S512x4x128, .f32⟩
  | .hbm, ⟨109, _⟩ => ⟨S512x1x4x128, .f32⟩
  | .hbm, ⟨110, _⟩ => ⟨S512x1x4x128, .f32⟩
  | .hbm, ⟨111, _⟩ => ⟨S512x2x4x128, .f32⟩
  | .hbm, ⟨112, _⟩ => ⟨S128x4x2x4x128, .f32⟩
  | .hbm, ⟨113, _⟩ => ⟨S512x512, .f32⟩
  | .hbm, ⟨114, _⟩ => ⟨S512x512, .f32⟩
  | .hbm, ⟨115, _⟩ => ⟨S512x4x128, .f32⟩
  | .hbm, ⟨116, _⟩ => ⟨S512x4x128, .f32⟩
  | .hbm, ⟨117, _⟩ => ⟨S512x1x4x128, .f32⟩
  | .hbm, ⟨118, _⟩ => ⟨S512x1x4x128, .f32⟩
  | .hbm, ⟨119, _⟩ => ⟨S512x2x4x128, .f32⟩
  | .hbm, ⟨120, _⟩ => ⟨S128x4x2x4x128, .f32⟩
  | .hbm, ⟨121, _⟩ => ⟨S128x128x2x4x128, .f32⟩
  | .hbm, ⟨122, _⟩ => ⟨S128x512x2x4x128, .f32⟩
  | .hbm, ⟨123, _⟩ => ⟨S128x2048x2x4x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S128x4096, .f32⟩
  | .local _ .vmem, ⟨6, _⟩ => ⟨S128x4096, .f32⟩
  | .local _ .vmem, ⟨7, _⟩ => ⟨S8x4096, .f32⟩
  | .local _ .vmem, ⟨8, _⟩ => ⟨S8x4096, .f32⟩
  | .local _ .vmem, ⟨9, _⟩ => ⟨S128x4096, .f32⟩
  | .local _ .vmem, ⟨10, _⟩ => ⟨S128x4096, .f32⟩
  | .local _ .vmem, ⟨11, _⟩ => ⟨S6x4096, .f32⟩
  | .local _ .vmem, ⟨12, _⟩ => ⟨S128x4096, .bf16⟩
  | .local _ .vmem, ⟨13, _⟩ => ⟨S128x4096, .bf16⟩
  | .local _ .vmem, ⟨14, _⟩ => ⟨S6x128x4096, .bf16⟩
  | .local _ .vmem, ⟨15, _⟩ => ⟨S6x128x4096, .bf16⟩
  | .local _ .vmem, ⟨16, _⟩ => ⟨S1088x4096, .bf16⟩
  | .local _ .vmem, ⟨17, _⟩ => ⟨S1088x4096, .bf16⟩
  | .local _ .vmem, ⟨18, _⟩ => ⟨S512x4096, .f32⟩
  | .local _ .vmem, ⟨19, _⟩ => ⟨S512x4096, .f32⟩
  | .local _ .vmem, ⟨20, _⟩ => ⟨S1x1x128, .f32⟩
  | .local _ .vmem, ⟨21, _⟩ => ⟨S1x1x128, .f32⟩
  | .local _ .vmem, ⟨22, _⟩ => ⟨S1088x128, .f32⟩
  | .local _ .vmem, ⟨23, _⟩ => ⟨S1088x128, .f32⟩
  | .local _ .vmem, ⟨24, _⟩ => ⟨S1088x128, .f32⟩
  | .local _ .vmem, ⟨25, _⟩ => ⟨S1088x128, .f32⟩
  | .local _ .vmem, ⟨26, _⟩ => ⟨S1088x128, .f32⟩
  | .local _ .vmem, ⟨27, _⟩ => ⟨S1088x128, .f32⟩
  | .local _ .vmem, ⟨28, _⟩ => ⟨S1088x512, .f32⟩
  | .local _ .vmem, ⟨29, _⟩ => ⟨S1088x512, .f32⟩
  | .local _ .vmem, ⟨30, _⟩ => ⟨S1088x4096, .bf16⟩
  | .local _ .vmem, ⟨31, _⟩ => ⟨S1088x4096, .bf16⟩
  | .local _ .vmem, ⟨32, _⟩ => ⟨S512x4096, .f32⟩
  | .local _ .vmem, ⟨33, _⟩ => ⟨S512x4096, .f32⟩
  | .local _ .vmem, ⟨34, _⟩ => ⟨S1088x512, .f32⟩
  | .local _ .vmem, ⟨35, _⟩ => ⟨S1088x512, .f32⟩
  | .local _ .vmem, ⟨36, _⟩ => ⟨S128x4x2x4x128, .f32⟩
  | .local _ .vmem, ⟨37, _⟩ => ⟨S128x4x2x4x128, .f32⟩
  | .local _ .vmem, ⟨38, _⟩ => ⟨S128x4x2x4x128, .f32⟩
  | .local _ .vmem, ⟨39, _⟩ => ⟨S128x4x2x4x128, .f32⟩
  | .local _ .vmem, ⟨40, _⟩ => ⟨S128x4x2x4x128, .f32⟩
  | .local _ .vmem, ⟨41, _⟩ => ⟨S128x4x2x4x128, .f32⟩
  | .local _ .vmem, ⟨42, _⟩ => ⟨S128x4x2x4x128, .f32⟩
  | .local _ .vmem, ⟨43, _⟩ => ⟨S128x4x2x4x128, .f32⟩
  | .local _ .vmem, ⟨44, _⟩ => ⟨S128x4x2x4x128, .f32⟩
  | .local _ .vmem, ⟨45, _⟩ => ⟨S128x4x2x4x128, .f32⟩
  | .local _ .vmem, ⟨46, _⟩ => ⟨S128x4x2x4x128, .f32⟩
  | .local _ .vmem, ⟨47, _⟩ => ⟨S128x4x2x4x128, .f32⟩
  | .local _ .vmem, ⟨48, _⟩ => ⟨S128x4x2x4x128, .f32⟩
  | .local _ .vmem, ⟨49, _⟩ => ⟨S128x4x2x4x128, .f32⟩
  | .local _ .vmem, ⟨50, _⟩ => ⟨S128x4x2x4x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_cst_0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_1 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_2 : Ref sig .tc := ⟨.hbm, 55, rfl⟩
abbrev main_v39 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_cst_4 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg2_0 : Ref sig .tc := ⟨.vmem, 44, rfl⟩
abbrev cc5_stg2_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg2_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem2_0 : DmaSem sig := 44
abbrev cc5_sem2_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem2_1 : DmaSem sig := 50

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![68], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc1_transform_2 (i : grid1.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S6x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S6x128x4096 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![6, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc2_transform_2 (i : grid2.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1088x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1088x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1088x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1088x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S1088x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨2, ![3, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1088x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S512x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1088x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![32], ![false]⟩

def cc4_transform_0 (i : grid4.Coords) : Fin 5 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v1.toNat, c0_i32_0.toNat, c0_i32_1.toNat, c0_i32_2.toNat]

def cc4_transform_1 (i : grid4.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc4_transform_2 (i : grid4.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage4_0 : Fin 2 → Memref sig .tc .vmem S128x4x2x4x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x4x2x4x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S128x4x2x4x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![128], ![false]⟩

def cc5_transform_0 (i : grid5.Coords) : Fin 5 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v1.toNat, c0_i32_0.toNat, c0_i32_1.toNat, c0_i32_2.toNat]

def cc5_transform_1 (i : grid5.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc5_transform_2 (i : grid5.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage5_0 : Fin 2 → Memref sig .tc .vmem S128x4x2x4x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x4x2x4x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S128x4x2x4x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![512], ![false]⟩

def cc6_transform_0 (i : grid6.Coords) : Fin 5 → Nat :=
  let arg0 : BitVec 32 := BitVec.ofNat 32 (i 0).val
  let c1_i32 : BitVec 32 := 1#32
  let v0 : BitVec 32 := Scalar.addi arg0 c1_i32
  let c511_i32 : BitVec 32 := 511#32
  let v1 : BitVec 32 := Scalar.minsi v0 c511_i32
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v1.toNat, c0_i32_0.toNat, c0_i32_1.toNat, c0_i32_2.toNat]

def cc6_transform_1 (i : grid6.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc6_transform_2 (i : grid6.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage6_0 : Fin 2 → Memref sig .tc .vmem S128x4x2x4x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x4x2x4x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S128x4x2x4x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]
-- ==== Reference4Ideal.lean ====
abbrev S4x2048x4096 : Shape := ⟨3, ![4, 2048, 4096]⟩
abbrev S128x4x4096 : Shape := ⟨3, ![128, 4, 4096]⟩
abbrev S128x128x2x4x128 : Shape := ⟨5, ![128, 128, 2, 4, 128]⟩
abbrev S128x512x2x4x128 : Shape := ⟨5, ![128, 512, 2, 4, 128]⟩
abbrev S128x2048x2x4x128 : Shape := ⟨5, ![128, 2048, 2, 4, 128]⟩
abbrev S128x4096 : Shape := ⟨2, ![128, 4096]⟩
abbrev S4096 : Shape := ⟨1, ![4096]⟩
abbrev S4096x19680 : Shape := ⟨2, ![4096, 19680]⟩
abbrev S128 : Shape := ⟨1, ![128]⟩
abbrev S6x4096 : Shape := ⟨2, ![6, 4096]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4096x3072 : Shape := ⟨2, ![4096, 3072]⟩
abbrev S4x2048x3072 : Shape := ⟨3, ![4, 2048, 3072]⟩
abbrev S4x2048x2x12x128 : Shape := ⟨5, ![4, 2048, 2, 12, 128]⟩
abbrev S4x2048x1x12x128 : Shape := ⟨5, ![4, 2048, 1, 12, 128]⟩
abbrev S4x2048x12x128 : Shape := ⟨4, ![4, 2048, 12, 128]⟩
abbrev S4x2048x12 : Shape := ⟨3, ![4, 2048, 12]⟩
abbrev S4x2048x12x1 : Shape := ⟨4, ![4, 2048, 12, 1]⟩
abbrev S1x1x1x128 : Shape := ⟨4, ![1, 1, 1, 128]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S4x2048x12x32 : Shape := ⟨4, ![4, 2048, 12, 32]⟩
abbrev S4x2048x12x16 : Shape := ⟨4, ![4, 2048, 12, 16]⟩
abbrev S4x2048x12x96 : Shape := ⟨4, ![4, 2048, 12, 96]⟩
abbrev S4x2048x3x4x128 : Shape := ⟨5, ![4, 2048, 3, 4, 128]⟩
abbrev S4x128x1x4x128 : Shape := ⟨5, ![4, 128, 1, 4, 128]⟩
abbrev S4x128x4x128 : Shape := ⟨4, ![4, 128, 4, 128]⟩
abbrev S4x128x2x4x128 : Shape := ⟨5, ![4, 128, 2, 4, 128]⟩
abbrev S4x512x1x4x128 : Shape := ⟨5, ![4, 512, 1, 4, 128]⟩
abbrev S4x512x4x128 : Shape := ⟨4, ![4, 512, 4, 128]⟩
abbrev S4x512x2x4x128 : Shape := ⟨5, ![4, 512, 2, 4, 128]⟩
abbrev S4x2048x1x4x128 : Shape := ⟨5, ![4, 2048, 1, 4, 128]⟩
abbrev S4x2048x4x128 : Shape := ⟨4, ![4, 2048, 4, 128]⟩
abbrev S4x2048x2x4x128 : Shape := ⟨5, ![4, 2048, 2, 4, 128]⟩
abbrev S4 : Shape := ⟨1, ![4]⟩
abbrev S128x4 : Shape := ⟨2, ![128, 4]⟩
abbrev S128x4x1 : Shape := ⟨3, ![128, 4, 1]⟩
abbrev S128x4x3072 : Shape := ⟨3, ![128, 4, 3072]⟩
abbrev S128x4x2x12x128 : Shape := ⟨5, ![128, 4, 2, 12, 128]⟩
abbrev S128x4x1x12x128 : Shape := ⟨5, ![128, 4, 1, 12, 128]⟩
abbrev S128x4x12x128 : Shape := ⟨4, ![128, 4, 12, 128]⟩
abbrev S128x4x12 : Shape := ⟨3, ![128, 4, 12]⟩
abbrev S128x4x12x1 : Shape := ⟨4, ![128, 4, 12, 1]⟩
abbrev S4x1 : Shape := ⟨2, ![4, 1]⟩
abbrev S4x16 : Shape := ⟨2, ![4, 16]⟩
abbrev S1x4x1x16 : Shape := ⟨4, ![1, 4, 1, 16]⟩
abbrev S128x4x12x32 : Shape := ⟨4, ![128, 4, 12, 32]⟩
abbrev S128x4x12x16 : Shape := ⟨4, ![128, 4, 12, 16]⟩
abbrev S128x4x12x96 : Shape := ⟨4, ![128, 4, 12, 96]⟩
abbrev S128x4x3x4x128 : Shape := ⟨5, ![128, 4, 3, 4, 128]⟩
abbrev S128x4x1x4x128 : Shape := ⟨5, ![128, 4, 1, 4, 128]⟩
abbrev S128x4x4x128 : Shape := ⟨4, ![128, 4, 4, 128]⟩
abbrev S128x4x2x4x128 : Shape := ⟨5, ![128, 4, 2, 4, 128]⟩
abbrev S128x132x2x4x128 : Shape := ⟨5, ![128, 132, 2, 4, 128]⟩
abbrev S128x516x2x4x128 : Shape := ⟨5, ![128, 516, 2, 4, 128]⟩
abbrev S128x2052x2x4x128 : Shape := ⟨5, ![128, 2052, 2, 4, 128]⟩
abbrev S4x1x4096 : Shape := ⟨3, ![4, 1, 4096]⟩
abbrev S4x4096 : Shape := ⟨2, ![4, 4096]⟩
abbrev S128x1x4096 : Shape := ⟨3, ![128, 1, 4096]⟩
abbrev S4096x1536 : Shape := ⟨2, ![4096, 1536]⟩
abbrev S4x2048x1536 : Shape := ⟨3, ![4, 2048, 1536]⟩
abbrev S128x4x1536 : Shape := ⟨3, ![128, 4, 1536]⟩
abbrev S8192x1536 : Shape := ⟨2, ![8192, 1536]⟩
abbrev S8192x3072 : Shape := ⟨2, ![8192, 3072]⟩
abbrev S512x1536 : Shape := ⟨2, ![512, 1536]⟩
abbrev S512x3072 : Shape := ⟨2, ![512, 3072]⟩
abbrev S8704x3072 : Shape := ⟨2, ![8704, 3072]⟩

abbrev nBuf : Space → Nat
  | .hbm => 336
  | .vmem => 0
  | .smem => 0
  | _ => 0

abbrev hbmTy0_0 (i : Nat) : BufTy := match i % 128 with
  | 0 => ⟨S4x2048x4096, .f32⟩
  | 1 => ⟨S128x4x4096, .f32⟩
  | 2 => ⟨S128x128x2x4x128, .f32⟩
  | 3 => ⟨S128x512x2x4x128, .f32⟩
  | 4 => ⟨S128x2048x2x4x128, .f32⟩
  | 5 => ⟨S128x4096, .f32⟩
  | 6 => ⟨S4096, .f32⟩
  | 7 => ⟨S4096x19680, .f32⟩
  | 8 => ⟨S128, .f32⟩
  | 9 => ⟨S128, .f32⟩
  | 10 => ⟨S6x4096, .f32⟩
  | 11 => ⟨S2048, .i32⟩
  | 12 => ⟨S4x2048x4096, .f32⟩
  | 13 => ⟨S_, .f32⟩
  | 14 => ⟨S4x2048, .f32⟩
  | 15 => ⟨S4x2048x1, .f32⟩
  | 16 => ⟨S_, .f32⟩
  | 17 => ⟨S4x2048x1, .f32⟩
  | 18 => ⟨S4x2048x1, .f32⟩
  | 19 => ⟨S_, .f32⟩
  | 20 => ⟨S4x2048x1, .f32⟩
  | 21 => ⟨S4x2048x1, .f32⟩
  | 22 => ⟨S4x2048x1, .f32⟩
  | 23 => ⟨S4x2048x4096, .f32⟩
  | 24 => ⟨S4x2048x4096, .f32⟩
  | 25 => ⟨S1x1x4096, .f32⟩
  | 26 => ⟨S4x2048x4096, .f32⟩
  | 27 => ⟨S4x2048x4096, .f32⟩
  | 28 => ⟨S4096x3072, .f32⟩
  | 29 => ⟨S4x2048x3072, .f32⟩
  | 30 => ⟨S4x2048x2x12x128, .f32⟩
  | 31 => ⟨S4x2048x1x12x128, .f32⟩
  | 32 => ⟨S4x2048x12x128, .f32⟩
  | 33 => ⟨S4x2048x12x128, .f32⟩
  | 34 => ⟨S_, .f32⟩
  | 35 => ⟨S4x2048x12, .f32⟩
  | 36 => ⟨S4x2048x12x1, .f32⟩
  | 37 => ⟨S_, .f32⟩
  | 38 => ⟨S4x2048x12x1, .f32⟩
  | 39 => ⟨S4x2048x12x1, .f32⟩
  | 40 => ⟨S_, .f32⟩
  | 41 => ⟨S4x2048x12x1, .f32⟩
  | 42 => ⟨S4x2048x12x1, .f32⟩
  | 43 => ⟨S4x2048x12x1, .f32⟩
  | 44 => ⟨S4x2048x12x128, .f32⟩
  | 45 => ⟨S4x2048x12x128, .f32⟩
  | 46 => ⟨S1x1x1x128, .f32⟩
  | 47 => ⟨S4x2048x12x128, .f32⟩
  | 48 => ⟨S4x2048x12x128, .f32⟩
  | 49 => ⟨S16, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S2048, .f32⟩
  | 58 => ⟨S2048x1, .f32⟩
  | 59 => ⟨S1x16, .f32⟩
  | 60 => ⟨S2048x16, .f32⟩
  | 61 => ⟨S2048x16, .f32⟩
  | 62 => ⟨S2048x16, .f32⟩
  | 63 => ⟨S2048x16, .f32⟩
  | 64 => ⟨S1x2048x1x16, .f32⟩
  | 65 => ⟨S2048x16, .f32⟩
  | 66 => ⟨S1x2048x1x16, .f32⟩
  | 67 => ⟨S4x2048x12x32, .f32⟩
  | 68 => ⟨S4x2048x12x16, .f32⟩
  | 69 => ⟨S4x2048x12x16, .f32⟩
  | 70 => ⟨S4x2048x12x16, .f32⟩
  | 71 => ⟨S4x2048x12x16, .f32⟩
  | 72 => ⟨S4x2048x12x16, .f32⟩
  | 73 => ⟨S4x2048x12x16, .f32⟩
  | 74 => ⟨S4x2048x12x16, .f32⟩
  | 75 => ⟨S4x2048x12x16, .f32⟩
  | 76 => ⟨S4x2048x12x16, .f32⟩
  | 77 => ⟨S4x2048x12x16, .f32⟩
  | 78 => ⟨S4x2048x12x16, .f32⟩
  | 79 => ⟨S4x2048x12x16, .f32⟩
  | 80 => ⟨S4x2048x12x32, .f32⟩
  | 81 => ⟨S4x2048x12x96, .f32⟩
  | 82 => ⟨S4x2048x12x128, .f32⟩
  | 83 => ⟨S4x2048x1x12x128, .f32⟩
  | 84 => ⟨S4x2048x12x128, .f32⟩
  | 85 => ⟨S4x2048x3x4x128, .f32⟩
  | 86 => ⟨S4x2048x3x4x128, .f32⟩
  | 87 => ⟨S4x128x1x4x128, .f32⟩
  | 88 => ⟨S4x128x4x128, .f32⟩
  | 89 => ⟨S4x128x1x4x128, .f32⟩
  | 90 => ⟨S4x128x4x128, .f32⟩
  | 91 => ⟨S4x128x1x4x128, .f32⟩
  | 92 => ⟨S4x128x1x4x128, .f32⟩
  | 93 => ⟨S4x128x2x4x128, .f32⟩
  | 94 => ⟨S4x512x1x4x128, .f32⟩
  | 95 => ⟨S4x512x4x128, .f32⟩
  | 96 => ⟨S4x512x1x4x128, .f32⟩
  | 97 => ⟨S4x512x4x128, .f32⟩
  | 98 => ⟨S4x512x1x4x128, .f32⟩
  | 99 => ⟨S4x512x1x4x128, .f32⟩
  | 100 => ⟨S4x512x2x4x128, .f32⟩
  | 101 => ⟨S4x2048x1x4x128, .f32⟩
  | 102 => ⟨S4x2048x4x128, .f32⟩
  | 103 => ⟨S4x2048x1x4x128, .f32⟩
  | 104 => ⟨S4x2048x4x128, .f32⟩
  | 105 => ⟨S4x2048x1x4x128, .f32⟩
  | 106 => ⟨S4x2048x1x4x128, .f32⟩
  | 107 => ⟨S4x2048x2x4x128, .f32⟩
  | 108 => ⟨S4, .i32⟩
  | 109 => ⟨S_, .i32⟩
  | 110 => ⟨S4, .i32⟩
  | 111 => ⟨S4, .i32⟩
  | 112 => ⟨S128x4x4096, .f32⟩
  | 113 => ⟨S_, .f32⟩
  | 114 => ⟨S128x4, .f32⟩
  | 115 => ⟨S128x4x1, .f32⟩
  | 116 => ⟨S_, .f32⟩
  | 117 => ⟨S128x4x1, .f32⟩
  | 118 => ⟨S128x4x1, .f32⟩
  | 119 => ⟨S_, .f32⟩
  | 120 => ⟨S128x4x1, .f32⟩
  | 121 => ⟨S128x4x1, .f32⟩
  | 122 => ⟨S128x4x1, .f32⟩
  | 123 => ⟨S128x4x4096, .f32⟩
  | 124 => ⟨S128x4x4096, .f32⟩
  | 125 => ⟨S1x1x4096, .f32⟩
  | 126 => ⟨S128x4x4096, .f32⟩
  | 127 => ⟨S128x4x4096, .f32⟩
  | _ => ⟨S4x2048x4096, .f32⟩

abbrev hbmTy0_1 (i : Nat) : BufTy := match i % 128 with
  | 0 => ⟨S4096x3072, .f32⟩
  | 1 => ⟨S128x4x3072, .f32⟩
  | 2 => ⟨S128x4x2x12x128, .f32⟩
  | 3 => ⟨S128x4x1x12x128, .f32⟩
  | 4 => ⟨S128x4x12x128, .f32⟩
  | 5 => ⟨S128x4x12x128, .f32⟩
  | 6 => ⟨S_, .f32⟩
  | 7 => ⟨S128x4x12, .f32⟩
  | 8 => ⟨S128x4x12x1, .f32⟩
  | 9 => ⟨S_, .f32⟩
  | 10 => ⟨S128x4x12x1, .f32⟩
  | 11 => ⟨S128x4x12x1, .f32⟩
  | 12 => ⟨S_, .f32⟩
  | 13 => ⟨S128x4x12x1, .f32⟩
  | 14 => ⟨S128x4x12x1, .f32⟩
  | 15 => ⟨S128x4x12x1, .f32⟩
  | 16 => ⟨S128x4x12x128, .f32⟩
  | 17 => ⟨S128x4x12x128, .f32⟩
  | 18 => ⟨S1x1x1x128, .f32⟩
  | 19 => ⟨S128x4x12x128, .f32⟩
  | 20 => ⟨S128x4x12x128, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S4, .f32⟩
  | 30 => ⟨S4x1, .f32⟩
  | 31 => ⟨S1x16, .f32⟩
  | 32 => ⟨S4x16, .f32⟩
  | 33 => ⟨S4x16, .f32⟩
  | 34 => ⟨S4x16, .f32⟩
  | 35 => ⟨S4x16, .f32⟩
  | 36 => ⟨S1x4x1x16, .f32⟩
  | 37 => ⟨S4x16, .f32⟩
  | 38 => ⟨S1x4x1x16, .f32⟩
  | 39 => ⟨S128x4x12x32, .f32⟩
  | 40 => ⟨S128x4x12x16, .f32⟩
  | 41 => ⟨S128x4x12x16, .f32⟩
  | 42 => ⟨S128x4x12x16, .f32⟩
  | 43 => ⟨S128x4x12x16, .f32⟩
  | 44 => ⟨S128x4x12x16, .f32⟩
  | 45 => ⟨S128x4x12x16, .f32⟩
  | 46 => ⟨S128x4x12x16, .f32⟩
  | 47 => ⟨S128x4x12x16, .f32⟩
  | 48 => ⟨S128x4x12x16, .f32⟩
  | 49 => ⟨S128x4x12x16, .f32⟩
  | 50 => ⟨S128x4x12x16, .f32⟩
  | 51 => ⟨S128x4x12x16, .f32⟩
  | 52 => ⟨S128x4x12x32, .f32⟩
  | 53 => ⟨S128x4x12x96, .f32⟩
  | 54 => ⟨S128x4x12x128, .f32⟩
  | 55 => ⟨S128x4x1x12x128, .f32⟩
  | 56 => ⟨S128x4x12x128, .f32⟩
  | 57 => ⟨S128x4x3x4x128, .f32⟩
  | 58 => ⟨S128x4x3x4x128, .f32⟩
  | 59 => ⟨S128x4x1x4x128, .f32⟩
  | 60 => ⟨S128x4x4x128, .f32⟩
  | 61 => ⟨S128x4x1x4x128, .f32⟩
  | 62 => ⟨S128x4x4x128, .f32⟩
  | 63 => ⟨S128x4x1x4x128, .f32⟩
  | 64 => ⟨S128x4x1x4x128, .f32⟩
  | 65 => ⟨S128x4x2x4x128, .f32⟩
  | 66 => ⟨S128x132x2x4x128, .f32⟩
  | 67 => ⟨S128x128x2x4x128, .f32⟩
  | 68 => ⟨S128x4x1x4x128, .f32⟩
  | 69 => ⟨S128x4x4x128, .f32⟩
  | 70 => ⟨S128x4x1x4x128, .f32⟩
  | 71 => ⟨S128x4x4x128, .f32⟩
  | 72 => ⟨S128x4x1x4x128, .f32⟩
  | 73 => ⟨S128x4x1x4x128, .f32⟩
  | 74 => ⟨S128x4x2x4x128, .f32⟩
  | 75 => ⟨S128x516x2x4x128, .f32⟩
  | 76 => ⟨S128x512x2x4x128, .f32⟩
  | 77 => ⟨S128x4x1x4x128, .f32⟩
  | 78 => ⟨S128x4x4x128, .f32⟩
  | 79 => ⟨S128x4x1x4x128, .f32⟩
  | 80 => ⟨S128x4x4x128, .f32⟩
  | 81 => ⟨S128x4x1x4x128, .f32⟩
  | 82 => ⟨S128x4x1x4x128, .f32⟩
  | 83 => ⟨S128x4x2x4x128, .f32⟩
  | 84 => ⟨S128x2052x2x4x128, .f32⟩
  | 85 => ⟨S128x2048x2x4x128, .f32⟩
  | 86 => ⟨S4x1x4096, .f32⟩
  | 87 => ⟨S4x4096, .f32⟩
  | 88 => ⟨S128x1x4096, .f32⟩
  | 89 => ⟨S128x4096, .f32⟩
  | 90 => ⟨S2048, .i32⟩
  | 91 => ⟨S4096x1536, .f32⟩
  | 92 => ⟨S4x2048x1536, .f32⟩
  | 93 => ⟨S4x2048x12x128, .f32⟩
  | 94 => ⟨S4x2048x12x128, .f32⟩
  | 95 => ⟨S_, .f32⟩
  | 96 => ⟨S4x2048x12, .f32⟩
  | 97 => ⟨S4x2048x12x1, .f32⟩
  | 98 => ⟨S_, .f32⟩
  | 99 => ⟨S4x2048x12x1, .f32⟩
  | 100 => ⟨S4x2048x12x1, .f32⟩
  | 101 => ⟨S_, .f32⟩
  | 102 => ⟨S4x2048x12x1, .f32⟩
  | 103 => ⟨S4x2048x12x1, .f32⟩
  | 104 => ⟨S4x2048x12x1, .f32⟩
  | 105 => ⟨S4x2048x12x128, .f32⟩
  | 106 => ⟨S4x2048x12x128, .f32⟩
  | 107 => ⟨S1x1x1x128, .f32⟩
  | 108 => ⟨S4x2048x12x128, .f32⟩
  | 109 => ⟨S4x2048x12x128, .f32⟩
  | 110 => ⟨S16, .f32⟩
  | 111 => ⟨S16, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S2048, .f32⟩
  | 119 => ⟨S2048x1, .f32⟩
  | 120 => ⟨S1x16, .f32⟩
  | 121 => ⟨S2048x16, .f32⟩
  | 122 => ⟨S2048x16, .f32⟩
  | 123 => ⟨S2048x16, .f32⟩
  | 124 => ⟨S2048x16, .f32⟩
  | 125 => ⟨S1x2048x1x16, .f32⟩
  | 126 => ⟨S2048x16, .f32⟩
  | 127 => ⟨S1x2048x1x16, .f32⟩
  | _ => ⟨S4x2048x4096, .f32⟩

abbrev hbmTy0_2 (i : Nat) : BufTy := match i % 128 with
  | 0 => ⟨S4x2048x12x32, .f32⟩
  | 1 => ⟨S4x2048x12x16, .f32⟩
  | 2 => ⟨S4x2048x12x16, .f32⟩
  | 3 => ⟨S4x2048x12x16, .f32⟩
  | 4 => ⟨S4x2048x12x16, .f32⟩
  | 5 => ⟨S4x2048x12x16, .f32⟩
  | 6 => ⟨S4x2048x12x16, .f32⟩
  | 7 => ⟨S4x2048x12x16, .f32⟩
  | 8 => ⟨S4x2048x12x16, .f32⟩
  | 9 => ⟨S4x2048x12x16, .f32⟩
  | 10 => ⟨S4x2048x12x16, .f32⟩
  | 11 => ⟨S4x2048x12x16, .f32⟩
  | 12 => ⟨S4x2048x12x16, .f32⟩
  | 13 => ⟨S4x2048x12x32, .f32⟩
  | 14 => ⟨S4x2048x12x96, .f32⟩
  | 15 => ⟨S4x2048x12x128, .f32⟩
  | 16 => ⟨S4, .i32⟩
  | 17 => ⟨S_, .i32⟩
  | 18 => ⟨S4, .i32⟩
  | 19 => ⟨S4, .i32⟩
  | 20 => ⟨S4096x1536, .f32⟩
  | 21 => ⟨S128x4x1536, .f32⟩
  | 22 => ⟨S128x4x12x128, .f32⟩
  | 23 => ⟨S128x4x12x128, .f32⟩
  | 24 => ⟨S_, .f32⟩
  | 25 => ⟨S128x4x12, .f32⟩
  | 26 => ⟨S128x4x12x1, .f32⟩
  | 27 => ⟨S_, .f32⟩
  | 28 => ⟨S128x4x12x1, .f32⟩
  | 29 => ⟨S128x4x12x1, .f32⟩
  | 30 => ⟨S_, .f32⟩
  | 31 => ⟨S128x4x12x1, .f32⟩
  | 32 => ⟨S128x4x12x1, .f32⟩
  | 33 => ⟨S128x4x12x1, .f32⟩
  | 34 => ⟨S128x4x12x128, .f32⟩
  | 35 => ⟨S128x4x12x128, .f32⟩
  | 36 => ⟨S1x1x1x128, .f32⟩
  | 37 => ⟨S128x4x12x128, .f32⟩
  | 38 => ⟨S128x4x12x128, .f32⟩
  | 39 => ⟨S16, .f32⟩
  | 40 => ⟨S16, .f32⟩
  | 41 => ⟨S_, .f32⟩
  | 42 => ⟨S16, .f32⟩
  | 43 => ⟨S16, .f32⟩
  | 44 => ⟨S_, .f32⟩
  | 45 => ⟨S16, .f32⟩
  | 46 => ⟨S16, .f32⟩
  | 47 => ⟨S4, .f32⟩
  | 48 => ⟨S4x1, .f32⟩
  | 49 => ⟨S1x16, .f32⟩
  | 50 => ⟨S4x16, .f32⟩
  | 51 => ⟨S4x16, .f32⟩
  | 52 => ⟨S4x16, .f32⟩
  | 53 => ⟨S4x16, .f32⟩
  | 54 => ⟨S1x4x1x16, .f32⟩
  | 55 => ⟨S4x16, .f32⟩
  | 56 => ⟨S1x4x1x16, .f32⟩
  | 57 => ⟨S128x4x12x32, .f32⟩
  | 58 => ⟨S128x4x12x16, .f32⟩
  | 59 => ⟨S128x4x12x16, .f32⟩
  | 60 => ⟨S128x4x12x16, .f32⟩
  | 61 => ⟨S128x4x12x16, .f32⟩
  | 62 => ⟨S128x4x12x16, .f32⟩
  | 63 => ⟨S128x4x12x16, .f32⟩
  | 64 => ⟨S128x4x12x16, .f32⟩
  | 65 => ⟨S128x4x12x16, .f32⟩
  | 66 => ⟨S128x4x12x16, .f32⟩
  | 67 => ⟨S128x4x12x16, .f32⟩
  | 68 => ⟨S128x4x12x16, .f32⟩
  | 69 => ⟨S128x4x12x16, .f32⟩
  | 70 => ⟨S128x4x12x32, .f32⟩
  | 71 => ⟨S128x4x12x96, .f32⟩
  | 72 => ⟨S128x4x12x128, .f32⟩
  | 73 => ⟨S8192x1536, .f32⟩
  | 74 => ⟨S8192x1536, .f32⟩
  | 75 => ⟨S8192x3072, .f32⟩
  | 76 => ⟨S512x1536, .f32⟩
  | 77 => ⟨S512x1536, .f32⟩
  | 78 => ⟨S512x3072, .f32⟩
  | 79 => ⟨S8704x3072, .f32⟩
  | _ => ⟨S4x2048x4096, .f32⟩

abbrev hbmTy (i : Nat) : BufTy := match i / 128 with
  | 0 => hbmTy0_0 i
  | 1 => hbmTy0_1 i
  | 2 => hbmTy0_2 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_c : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_7 : Ref sig .tc := ⟨.hbm, 113, rfl⟩
abbrev main_v93 : Ref sig .tc := ⟨.hbm, 114, rfl⟩
abbrev main_v94 : Ref sig .tc := ⟨.hbm, 115, rfl⟩
abbrev main_cst_8 : Ref sig .tc := ⟨.hbm, 116, rfl⟩
abbrev main_v95 : Ref sig .tc := ⟨.hbm, 117, rfl⟩
abbrev main_v96 : Ref sig .tc := ⟨.hbm, 118, rfl⟩
abbrev main_cst_9 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_cst_10 : Ref sig .tc := ⟨.hbm, 134, rfl⟩
abbrev main_v111 : Ref sig .tc := ⟨.hbm, 135, rfl⟩
abbrev main_v112 : Ref sig .tc := ⟨.hbm, 136, rfl⟩
abbrev main_cst_11 : Ref sig .tc := ⟨.hbm, 137, rfl⟩
abbrev main_v113 : Ref sig .tc := ⟨.hbm, 138, rfl⟩
abbrev main_v114 : Ref sig .tc := ⟨.hbm, 139, rfl⟩
abbrev main_cst_12 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_13 : Ref sig .tc := ⟨.hbm, 151, rfl⟩
abbrev main_v125 : Ref sig .tc := ⟨.hbm, 152, rfl⟩
abbrev main_v126 : Ref sig .tc := ⟨.hbm, 153, rfl⟩
abbrev main_cst_14 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_cst_15 : Ref sig .tc := ⟨.hbm, 223, rfl⟩
abbrev main_v195 : Ref sig .tc := ⟨.hbm, 224, rfl⟩
abbrev main_v196 : Ref sig .tc := ⟨.hbm, 225, rfl⟩
abbrev main_cst_16 : Ref sig .tc := ⟨.hbm, 226, rfl⟩
abbrev main_v197 : Ref sig .tc := ⟨.hbm, 227, rfl⟩
abbrev main_v198 : Ref sig .tc := ⟨.hbm, 228, rfl⟩
abbrev main_cst_17 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_cst_18 : Ref sig .tc := ⟨.hbm, 240, rfl⟩
abbrev main_v209 : Ref sig .tc := ⟨.hbm, 241, rfl⟩
abbrev main_v210 : Ref sig .tc := ⟨.hbm, 242, rfl⟩
abbrev main_cst_19 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_v230 : Ref sig .tc := ⟨.hbm, 263, rfl⟩
abbrev main_v231 : Ref sig .tc := ⟨.hbm, 264, rfl⟩
abbrev main_v232 : Ref sig .tc := ⟨.hbm, 265, rfl⟩
abbrev main_v233 : Ref sig .tc := ⟨.hbm, 266, rfl⟩
abbrev main_v234 : Ref sig .tc := ⟨.hbm, 267, rfl⟩
abbrev main_v235 : Ref sig .tc := ⟨.hbm, 268, rfl⟩
abbrev main_v236 : Ref sig .tc := ⟨.hbm, 269, rfl⟩
abbrev main_v237 : Ref sig .tc := ⟨.hbm, 270, rfl⟩
abbrev main_v238 : Ref sig .tc := ⟨.hbm, 271, rfl⟩
abbrev main_v239 : Ref sig .tc := ⟨.hbm, 272, rfl⟩
abbrev main_c_20 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_cst_21 : Ref sig .tc := ⟨.hbm, 280, rfl⟩
abbrev main_v246 : Ref sig .tc := ⟨.hbm, 281, rfl⟩
abbrev main_v247 : Ref sig .tc := ⟨.hbm, 282, rfl⟩
abbrev main_cst_22 : Ref sig .tc := ⟨.hbm, 283, rfl⟩
abbrev main_v248 : Ref sig .tc := ⟨.hbm, 284, rfl⟩
abbrev main_v249 : Ref sig .tc := ⟨.hbm, 285, rfl⟩
abbrev main_cst_23 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_v259 : Ref sig .tc := ⟨.hbm, 296, rfl⟩
abbrev main_cst_24 : Ref sig .tc := ⟨.hbm, 297, rfl⟩
abbrev main_v260 : Ref sig .tc := ⟨.hbm, 298, rfl⟩
abbrev main_v261 : Ref sig .tc := ⟨.hbm, 299, rfl⟩
abbrev main_cst_25 : Ref sig .tc := ⟨.hbm, 300, rfl⟩
abbrev main_v262 : Ref sig .tc := ⟨.hbm, 301, rfl⟩
abbrev main_v263 : Ref sig .tc := ⟨.hbm, 302, rfl⟩
abbrev main_v264 : Ref sig .tc := ⟨.hbm, 303, rfl⟩
abbrev main_v265 : Ref sig .tc := ⟨.hbm, 304, rfl⟩
abbrev main_v266 : Ref sig .tc := ⟨.hbm, 305, rfl⟩
abbrev main_v267 : Ref sig .tc := ⟨.hbm, 306, rfl⟩
abbrev main_v268 : Ref sig .tc := ⟨.hbm, 307, rfl⟩
abbrev main_v269 : Ref sig .tc := ⟨.hbm, 308, rfl⟩
abbrev main_v270 : Ref sig .tc := ⟨.hbm, 309, rfl⟩
abbrev main_v271 : Ref sig .tc := ⟨.hbm, 310, rfl⟩
abbrev main_v272 : Ref sig .tc := ⟨.hbm, 311, rfl⟩
abbrev main_v273 : Ref sig .tc := ⟨.hbm, 312, rfl⟩
abbrev main_v274 : Ref sig .tc := ⟨.hbm, 313, rfl⟩
abbrev main_v275 : Ref sig .tc := ⟨.hbm, 314, rfl⟩
abbrev main_v276 : Ref sig .tc := ⟨.hbm, 315, rfl⟩
abbrev main_v277 : Ref sig .tc := ⟨.hbm, 316, rfl⟩
abbrev main_v278 : Ref sig .tc := ⟨.hbm, 317, rfl⟩
abbrev main_v279 : Ref sig .tc := ⟨.hbm, 318, rfl⟩
abbrev main_v280 : Ref sig .tc := ⟨.hbm, 319, rfl⟩
abbrev main_v281 : Ref sig .tc := ⟨.hbm, 320, rfl⟩
abbrev main_v282 : Ref sig .tc := ⟨.hbm, 321, rfl⟩
abbrev main_v283 : Ref sig .tc := ⟨.hbm, 322, rfl⟩
abbrev main_v284 : Ref sig .tc := ⟨.hbm, 323, rfl⟩
abbrev main_v285 : Ref sig .tc := ⟨.hbm, 324, rfl⟩
abbrev main_v286 : Ref sig .tc := ⟨.hbm, 325, rfl⟩
abbrev main_v287 : Ref sig .tc := ⟨.hbm, 326, rfl⟩
abbrev main_v288 : Ref sig .tc := ⟨.hbm, 327, rfl⟩
abbrev main_v289 : Ref sig .tc := ⟨.hbm, 328, rfl⟩
abbrev main_v290 : Ref sig .tc := ⟨.hbm, 329, rfl⟩
abbrev main_v291 : Ref sig .tc := ⟨.hbm, 330, rfl⟩
abbrev main_v292 : Ref sig .tc := ⟨.hbm, 331, rfl⟩
abbrev main_v293 : Ref sig .tc := ⟨.hbm, 332, rfl⟩
abbrev main_v294 : Ref sig .tc := ⟨.hbm, 333, rfl⟩
abbrev main_v295 : Ref sig .tc := ⟨.hbm, 334, rfl⟩
abbrev main_v296 : Ref sig .tc := ⟨.hbm, 335, rfl⟩

abbrev nD : Nat := 1
abbrev τ : Topo := Topo.v7x

variable {F : FTy → Type} [FloatOps F]
-- ==== Proof.Block.lean ====
/- What one grid step of the sample attention writes, as a plain composition over its input blocks. -/
module

public import proofs.«01_k».proof.Proof.Gen.KernelIdeal.Value

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F]

/-- Four heads' rows stacked. -/
def stack (a : Fin 4 → Vec F S4x128 .f32) : FVec F S16x128 .f32 :=
  concatenate S16x128 0 [⟨S4x128, a 0⟩, ⟨S4x128, a 1⟩, ⟨S4x128, a 2⟩, ⟨S4x128, a 3⟩] concatenates_S4x128_S4x128_S4x128_S4x128_S16x128_d0

/-- The first group's keys (or values): the cached rows, then the new ones. -/
def keys0 (c : Vec F S1x128x1x4x128 .f32) (a : Fin 4 → Vec F S4x128 .f32) : FVec F S528x128 .bf16 :=
  truncf .bf16 (concatenate S528x128 0 [⟨S512x128, shapeCast S512x128 (shapeCast S128x4x128 c shapeCasts_S1x128x1x4x128_S128x4x128) shapeCasts_S128x4x128_S512x128⟩, ⟨S16x128, stack a⟩] concatenates_S512x128_S16x128_S528x128_d0) bitsLt_bf16_f32

/-- One class's cached rows. -/
def rows (c : Vec F S1x128x1x1x4x128 .f32) : FVec F S512x128 .f32 :=
  shapeCast S512x128 (shapeCast S128x4x128 c shapeCasts_S1x128x1x1x4x128_S128x4x128) shapeCasts_S128x4x128_S512x128

/-- A dilated group's keys (or values): four classes' cached rows, then the new ones. -/
def keysD (c : Fin 4 → Vec F S1x128x1x1x4x128 .f32) (a : Fin 4 → Vec F S4x128 .f32) : FVec F S2064x128 .bf16 :=
  truncf .bf16 (concatenate S2064x128 0 [⟨S2048x128, concatenate S2048x128 0 [⟨S512x128, rows (c 0)⟩, ⟨S512x128, rows (c 1)⟩, ⟨S512x128, rows (c 2)⟩, ⟨S512x128, rows (c 3)⟩] concatenates_S512x128_S512x128_S512x128_S512x128_S2048x128_d0⟩, ⟨S16x128, stack a⟩] concatenates_S2048x128_S16x128_S2064x128_d0) bitsLt_bf16_f32

/-- Which keys of the first group a query may see. -/
def mask0 : IVec S16x528 1 :=
  k0_pay60 k0_pay1 k0_pay2 (iota .tc S1x528 32 [1] iota_S1x528_d1_w32) k0_pay53 (k0_pay57 (iota .tc S1x528 32 [1] iota_S1x528_d1_w32) k0_pay53 k0_pay54 4#32 k0_pay55 k0_pay56) (Scalar.select (Scalar.cmpi .eq 4#32 0#32) 1#32 4#32) (k0_pay58 k0_pay54) (k0_pay59 k0_pay54) 0#32

/-- Which keys of a dilated group a query may see. -/
def maskD : IVec S16x2064 1 :=
  k0_pay47 k0_pay1 k0_pay2 (iota .tc S1x2064 32 [1] iota_S1x2064_d1_w32) k0_pay44 (k0_pay45 (iota .tc S1x2064 32 [1] iota_S1x2064_d1_w32)) (k0_pay46 (iota .tc S1x2064 32 [1] iota_S1x2064_d1_w32) k0_pay44) 4#32 (Scalar.cmpi .eq 4#32 0#32)

/-- The first group's masked scores. -/
def score0 (q : Fin 4 → Vec F S4x128 .f32) (k : FVec F S528x128 .bf16) : FVec F S16x528 .f32 :=
  select mask0 (mulf (matmul dot_S16x128_S528x128_S16x528_1_1_0_0_n_n none (truncf .bf16 (stack q) bitsLt_bf16_f32) k (constant S16x528 .f32 0x00000000#32)) (broadcast S16x528 (Scalar.ofBits .f32 0x3DB504F3#32 : F .f32))) (broadcast S16x528 (Scalar.ofBits .f32 0xFF800000#32 : F .f32))

/-- A dilated group's masked scores. -/
def scoreD (q : Fin 4 → Vec F S4x128 .f32) (k : FVec F S2064x128 .bf16) : FVec F S16x2064 .f32 :=
  select maskD (mulf (matmul dot_S16x128_S2064x128_S16x2064_1_1_0_0_n_n none (truncf .bf16 (stack q) bitsLt_bf16_f32) k (constant S16x2064 .f32 0x00000000#32)) (broadcast S16x2064 (Scalar.ofBits .f32 0x3DB504F3#32 : F .f32))) (broadcast S16x2064 (Scalar.ofBits .f32 0xFF800000#32 : F .f32))

section Row

variable {n : Nat} (hr : (⟨2, ![16, n]⟩ : Shape).Reduces [1] S16) (hb : S16x1.Broadcasts ⟨2, ![16, n]⟩) (s : FVec F ⟨2, ![16, n]⟩ .f32)

/-- Each row's greatest score. -/
def vmax : FVec F S16x1 .f32 :=
  shapeCast S16x1 (multiReduction .maximumf [1] S16 s 0xFF800000#32 hr (.inl rfl) rfl) shapeCasts_S16_S16x1

/-- Each score's weight. -/
def vexp : FVec F ⟨2, ![16, n]⟩ .f32 := exp (subf s (broadcastTo ⟨2, ![16, n]⟩ (vmax hr s) hb))

/-- Each row's denominator. -/
def vsum : FVec F S16x1 .f32 :=
  shapeCast S16x1 (multiReduction .add [1] S16 (vexp hr hb s) 0x00000000#32 hr (.inl rfl) rfl) shapeCasts_S16_S16x1

/-- Each row's log-sum-exp. -/
def vlse : FVec F S16x1 .f32 := addf (vmax hr s) (log (vsum hr hb s))

/-- Each row's probabilities. -/
def vprob : FVec F ⟨2, ![16, n]⟩ .bf16 :=
  truncf .bf16 (divf (vexp hr hb s) (broadcastTo ⟨2, ![16, n]⟩ (vsum hr hb s) hb)) bitsLt_bf16_f32

end Row

/-- The first group's output. -/
def val0 (s : FVec F S16x528 .f32) (v : FVec F S528x128 .bf16) : FVec F S16x128 .f32 :=
  matmul dot_S16x528_S528x128_S16x128_1_0_0_1_n_n none (vprob reduces_S16x528_S16 broadcasts_S16x1_S16x528 s) v (constant S16x128 .f32 0x00000000#32)

/-- A dilated group's output. -/
def valD (s : FVec F S16x2064 .f32) (v : FVec F S2064x128 .bf16) : FVec F S16x128 .f32 :=
  matmul dot_S16x2064_S2064x128_S16x128_1_0_0_1_n_n none (vprob reduces_S16x2064_S16 broadcasts_S16x1_S16x2064 s) v (constant S16x128 .f32 0x00000000#32)

/-- Three groups' outputs merged by their log-sum-exps. -/
def mergeV (l0 l1 l2 : FVec F S16x1 .f32) (o0 o1 o2 : FVec F S16x128 .f32) : FVec F S16x128 .f32 :=
  have M := maximumf (maximumf l0 l1) l2
  have t := addf (addf (exp (subf l0 M)) (exp (subf l1 M))) (exp (subf l2 M))
  addf (addf (mulf (broadcastTo S16x128 (divf (exp (subf l0 M)) t) broadcasts_S16x1_S16x128) o0)
    (mulf (broadcastTo S16x128 (divf (exp (subf l1 M)) t) broadcasts_S16x1_S16x128) o1))
    (mulf (broadcastTo S16x128 (divf (exp (subf l2 M)) t) broadcasts_S16x1_S16x128) o2)

/-- Heads laid side by side. -/
def side (x : FVec F S16x128 .f32) : FVec F S4x512 .f32 :=
  concatenate S4x512 1 [⟨S4x128, extractStridedSlice S4x128 ![0, 0] x slices_S16x128_o0_0_S4x128⟩, ⟨S4x128, extractStridedSlice S4x128 ![4, 0] x slices_S16x128_o4_0_S4x128⟩, ⟨S4x128, extractStridedSlice S4x128 ![8, 0] x slices_S16x128_o8_0_S4x128⟩, ⟨S4x128, extractStridedSlice S4x128 ![12, 0] x slices_S16x128_o12_0_S4x128⟩] concatenates_S4x128_S4x128_S4x128_S4x128_S4x512_d1

/-- The attention of one sequence, from its loaded pieces. -/
def attend (q0 k0 v0 q1 k1 v1 q2 k2 v2 : Fin 4 → Vec F S4x128 .f32) (ck cv : Vec F S1x128x1x4x128 .f32)
    (dk dv ek ev : Fin 4 → Vec F S1x128x1x1x4x128 .f32) : FVec F S16x128 .f32 :=
  have s0 := score0 q0 (keys0 ck k0)
  have s1 := scoreD q1 (keysD dk k1)
  have s2 := scoreD q2 (keysD ek k2)
  mergeV (vlse reduces_S16x528_S16 broadcasts_S16x1_S16x528 s0) (vlse reduces_S16x2064_S16 broadcasts_S16x1_S16x2064 s1)
    (vlse reduces_S16x2064_S16 broadcasts_S16x1_S16x2064 s2) (val0 s0 (keys0 cv v0)) (valD s1 (keysD dv v1)) (valD s2 (keysD ev v2))

/-- One head's rows of one sequence and group in a block of queries, keys or values. -/
def ldx (x : Vec F S8x1536 .f32) (e : Fin 2) (g : Fin 3) (h : Fin 4) : Vec F S4x128 .f32 :=
  View.ld x (Rect.unit (s := S8x1536) ![4 * e.val, 512 * g.val + 128 * h.val] S4x128.size (by
    intro a; match a with
    | ⟨0, _⟩ => show 4 * e.val + 4 ≤ 8; omega
    | ⟨1, _⟩ => show 512 * g.val + 128 * h.val + 128 ≤ 1536; omega))

/-- The first group's cached keys (`w = 0`) or values (`w = 1`) of one sequence. -/
def ldc (x : Vec F S2x128x2x4x128 .f32) (e w : Fin 2) : Vec F S1x128x1x4x128 .f32 :=
  View.ld x (Rect.unit (s := S2x128x2x4x128) ![e.val, 0, w.val, 0, 0] S1x128x1x4x128.size (by
    intro a; match a with
    | ⟨0, _⟩ => show e.val + 1 ≤ 2; omega
    | ⟨1, _⟩ => show 0 + 128 ≤ 128; omega
    | ⟨2, _⟩ => show w.val + 1 ≤ 2; omega
    | ⟨3, _⟩ => show 0 + 4 ≤ 4; omega
    | ⟨4, _⟩ => show 0 + 128 ≤ 128; omega))

/-- A dilated group's cached keys or values of one sequence and class. -/
def ldd (x : Vec F S2x128x4x2x4x128 .f32) (e w : Fin 2) (c : Fin 4) : Vec F S1x128x1x1x4x128 .f32 :=
  View.ld x (Rect.unit (s := S2x128x4x2x4x128) ![e.val, 0, c.val, w.val, 0, 0] S1x128x1x1x4x128.size (by
    intro a; match a with
    | ⟨0, _⟩ => show e.val + 1 ≤ 2; omega
    | ⟨1, _⟩ => show 0 + 128 ≤ 128; omega
    | ⟨2, _⟩ => show c.val + 1 ≤ 4; omega
    | ⟨3, _⟩ => show w.val + 1 ≤ 2; omega
    | ⟨4, _⟩ => show 0 + 4 ≤ 4; omega
    | ⟨5, _⟩ => show 0 + 128 ≤ 128; omega))

/-- The attention of one of a block's two sequences. -/
def entry (x0 x1 x2 : Vec F S8x1536 .f32) (x3 : Vec F S2x128x2x4x128 .f32) (x4 x5 : Vec F S2x128x4x2x4x128 .f32) (e : Fin 2) : FVec F S16x128 .f32 :=
  attend (ldx x0 e 0) (ldx x1 e 0) (ldx x2 e 0) (ldx x0 e 1) (ldx x1 e 1) (ldx x2 e 1) (ldx x0 e 2) (ldx x1 e 2) (ldx x2 e 2)
    (ldc x3 e 0) (ldc x3 e 1) (ldd x4 e 0) (ldd x4 e 1) (ldd x5 e 0) (ldd x5 e 1)

/-- The block written: two sequences' rows. -/
def both (a b : FVec F S16x128 .f32) : FVec F S8x512 .bf16 :=
  truncf .bf16 (concatenate S8x512 0 [⟨S4x512, side a⟩, ⟨S4x512, side b⟩] concatenates_S4x512_S4x512_S8x512_d0) bitsLt_bf16_f32

set_option maxHeartbeats 4000000 in
/-- The step's output block is the attention of its two sequences. -/
theorem out_eq (x0 x1 x2 : Vec F S8x1536 .f32) (x3 : Vec F S2x128x2x4x128 .f32) (x4 x5 : Vec F S2x128x4x2x4x128 .f32) :
    out0_6 x0 x1 x2 x3 x4 x5 = View.canon [⟨r0_44, both (entry x0 x1 x2 x3 x4 x5 0) (entry x0 x1 x2 x3 x4 x5 1)⟩] := by
  rfl

end Cert.KernelIdeal.Block

end
-- ==== Proof.Masks.lean ====
/- Which keys a query of the sample attention may see, in plain arithmetic. -/
module

public import proofs.«01_k».proof.Proof.Block
public import Idealize.ShloMosaic.Lib.Pointwise
public import Idealize.ShloMosaic.Lib.WordCmp
public import Idealize.ShloMosaic.Lib.Routing.Words

@[expose] public section

set_option maxRecDepth 16384

noncomputable section

namespace Cert.KernelIdeal.Block

open Cert.KernelIdeal Cert.KernelIdeal.Gen Idealize.ShloMosaic Idealize.ShloMosaic.WordCmp Idealize.ShloMosaic.TcCoe Idealize.SL.Sem

/-- The remainder as a kernel computes it on signed words. -/
def fmod (x m : BitVec 32) : BitVec 32 :=
  Scalar.select (IntOp.andi (IntOp.xori (IntOp.cmpi .slt (IntOp.remsi .vector x m) 0#32) (Scalar.cmpi .slt m 0#32))
    (IntOp.cmpi .ne (IntOp.remsi .vector x m) 0#32)) (IntOp.addi (IntOp.remsi .vector x m) m) (IntOp.remsi .vector x m)

/-- The floor quotient as a kernel computes it on signed words. -/
def fdiv (x m : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt m 0#32)) (Scalar.extui (Scalar.cmpi .slt m 0#32))))
    (IntOp.cmpi .ne (IntOp.remsi .vector x m) 0#32)) (IntOp.subi (IntOp.divsi .vector x m) 1#32) (IntOp.divsi .vector x m)

/-- The remainder of a word that is not negative. -/
theorem fmod_word {a m : Nat} (ha : a < 2 ^ 31) (h0 : 0 < m) (hm : m < 2 ^ 31) :
    fmod (BitVec.ofNat 32 a) (BitVec.ofNat 32 m) = BitVec.ofNat 32 (a % m) := by
  unfold fmod
  have hr : a % m < 2 ^ 31 := lt_of_lt_of_le (Nat.mod_lt a h0) hm.le
  have e1 : IntOp.cmpi .slt (BitVec.ofNat 32 (a % m)) 0#32 = 0#1 := (cmpi_slt_ofNat_eq_zero_iff (b := 0) hr (by decide)).mpr (by omega)
  have e2 : Scalar.cmpi .slt (BitVec.ofNat 32 m) 0#32 = 0#1 := (cmpi_slt_ofNat_eq_zero_iff (b := 0) hm (by decide)).mpr (by omega)
  rw [Routing.remsi_word .vector ha h0 hm, e1, e2]
  generalize IntOp.cmpi .ne (BitVec.ofNat 32 (a % m)) 0#32 = b
  simp [IntOp.xori, IntOp.andi, Scalar.select]

/-- The quotient of a word that is not negative. -/
theorem fdiv_word {a m : Nat} (ha : a < 2 ^ 31) (h0 : 0 < m) (hm : m < 2 ^ 31) :
    fdiv (BitVec.ofNat 32 a) (BitVec.ofNat 32 m) = BitVec.ofNat 32 (a / m) := by
  unfold fdiv
  have e1 : IntOp.cmpi .slt (BitVec.ofNat 32 a) 0#32 = 0#1 := (cmpi_slt_ofNat_eq_zero_iff (b := 0) ha (by decide)).mpr (by omega)
  have e2 : Scalar.cmpi .slt (BitVec.ofNat 32 m) 0#32 = 0#1 := (cmpi_slt_ofNat_eq_zero_iff (b := 0) hm (by decide)).mpr (by omega)
  have e3 : Scalar.cmpi .sgt (BitVec.ofNat 32 m) 0#32 = 1#1 := (cmpi_sgt_ofNat_eq_one_iff (b := 0) hm (by decide)).mpr (by omega)
  rw [Routing.remsi_word .vector ha h0 hm, Routing.divsi_word .vector ha h0 hm, e1, e2, e3]
  rcases Nat.eq_zero_or_pos a with rfl | hp
  · simp [IntOp.cmpi, IntOp.andi, Scalar.select]
  · have e4 : IntOp.cmpi .sgt (BitVec.ofNat 32 a) 0#32 = 1#1 := (cmpi_sgt_ofNat_eq_one_iff (b := 0) ha (by decide)).mpr (by omega)
    rw [e4]
    generalize IntOp.cmpi .ne (BitVec.ofNat 32 (a % m)) 0#32 = b
    have : IntOp.cmpi .ne (IntOp.subi (BitVec.setWidth 32 1#1) (BitVec.setWidth 32 0#1))
        (Scalar.subi (Scalar.extui 1#1) (Scalar.extui 0#1)) = 0#1 := by decide
    rw [this]
    simp [IntOp.andi, Scalar.select]

/-- The first group's mask in words. -/
theorem mask0_words (r : Fin 16) (k : Fin 528) : mask0 (ix2 r k) =
    IntOp.andi (IntOp.cmpi .sge (Scalar.select (IntOp.cmpi .sge (BitVec.ofNat 32 k.val) 512#32)
        (IntOp.subi (fmod (BitVec.ofNat 32 r.val) 4#32) (fmod (IntOp.subi (BitVec.ofNat 32 k.val) 512#32) 4#32))
        (IntOp.subi (fdiv (BitVec.ofNat 32 k.val) 4#32) (fmod (BitVec.ofNat 32 r.val) 4#32))) 0#32)
      (IntOp.cmpi .eq (Scalar.select (IntOp.cmpi .sge (BitVec.ofNat 32 k.val) 512#32) (fdiv (IntOp.subi (BitVec.ofNat 32 k.val) 512#32) 4#32)
        (fmod (BitVec.ofNat 32 k.val) 4#32)) (fdiv (BitVec.ofNat 32 r.val) 4#32)) := by
  have h4 : Scalar.select (Scalar.cmpi .eq 4#32 0#32) 1#32 4#32 = 4#32 := by decide
  pointwise [mask0, k0_pay60, k0_pay1, k0_pay2, k0_pay57, k0_pay58, k0_pay59, k0_pay53, k0_pay54, k0_pay55, k0_pay56]
  rw [h4]
  rfl

/-- A dilated group's mask in words. -/
theorem maskD_words (r : Fin 16) (k : Fin 2064) : maskD (ix2 r k) =
    IntOp.andi (IntOp.cmpi .eq (Scalar.select (IntOp.cmpi .sge (BitVec.ofNat 32 k.val) 2048#32)
        (fmod (IntOp.subi (BitVec.ofNat 32 k.val) 2048#32) 4#32)
        (fdiv (BitVec.ofNat 32 k.val) 512#32)) (fmod (BitVec.ofNat 32 r.val) 4#32))
      (IntOp.cmpi .eq (Scalar.select (IntOp.cmpi .sge (BitVec.ofNat 32 k.val) 2048#32) (fdiv (IntOp.subi (BitVec.ofNat 32 k.val) 2048#32) 4#32)
        (fmod (BitVec.ofNat 32 k.val) 4#32)) (fdiv (BitVec.ofNat 32 r.val) 4#32)) := by
  have h4 : Scalar.select (Scalar.cmpi .eq 4#32 0#32) 1#32 4#32 = 4#32 := by decide
  pointwise [maskD, k0_pay47, k0_pay1, k0_pay2, k0_pay44, k0_pay45, k0_pay46]
  rw [h4]
  rfl

/-- A difference of small words is not negative when the first is at least the second. -/
theorem sge_sub {a b : Nat} (ha : a < 2 ^ 31) (hb : b < 2 ^ 31) :
    IntOp.cmpi .sge (IntOp.subi (BitVec.ofNat 32 a) (BitVec.ofNat 32 b)) 0#32 = BitVec.ofBool (decide (b ≤ a)) := by
  rw [cmpi_sge_zero]
  congr 2
  unfold IntOp.subi
  rw [BitVec.toNat_sub, BitVec.toNat_ofNat, BitVec.toNat_ofNat]
  apply propext
  omega

/-- A difference of words in order. -/
theorem subi_word {a b : Nat} (hb : b ≤ a) (ha : a < 2 ^ 31) :
    IntOp.subi (BitVec.ofNat 32 a) (BitVec.ofNat 32 b) = BitVec.ofNat 32 (a - b) := by
  apply BitVec.eq_of_toNat_eq
  unfold IntOp.subi
  rw [BitVec.toNat_sub, BitVec.toNat_ofNat, BitVec.toNat_ofNat, BitVec.toNat_ofNat]
  omega

/-- Query row `r` (head `r / 4`, token `r % 4`) sees key `k` of the first group. -/
def sees0 (r k : Nat) : Prop :=
  if k < 512 then r % 4 ≤ k / 4 ∧ k % 4 = r / 4 else (k - 512) % 4 ≤ r % 4 ∧ (k - 512) / 4 = r / 4

/-- Query row `r` sees key `k` of a dilated group. -/
def seesD (r k : Nat) : Prop :=
  if k < 2048 then k / 512 = r % 4 ∧ k % 4 = r / 4 else (k - 2048) % 4 = r % 4 ∧ (k - 2048) / 4 = r / 4

instance (r k : Nat) : Decidable (sees0 r k) := by unfold sees0; infer_instance

instance (r k : Nat) : Decidable (seesD r k) := by unfold seesD; infer_instance

/-- The first group's mask. -/
theorem mask0_iff (r : Fin 16) (k : Fin 528) : mask0 (ix2 r k) = 1#1 ↔ sees0 r.val k.val := by
  have hr := r.isLt; have hk := k.isLt
  rw [mask0_words, fmod_word (m := 4) (by omega) (by decide) (by decide), fdiv_word (m := 4) (by omega) (by decide) (by decide),
    fmod_word (m := 4) (by omega) (by decide) (by decide), fdiv_word (m := 4) (by omega) (by decide) (by decide)]
  unfold sees0
  by_cases h : k.val < 512
  · have e : IntOp.cmpi .sge (BitVec.ofNat 32 k.val) 512#32 = 0#1 := (cmpi_sge_ofNat_eq_zero_iff (b := 512) (by omega) (by decide)).mpr (by omega)
    rw [e, if_pos h]
    show IntOp.andi (IntOp.cmpi .sge (IntOp.subi (BitVec.ofNat 32 (k.val / 4)) (BitVec.ofNat 32 (r.val % 4))) 0#32)
      (IntOp.cmpi .eq (BitVec.ofNat 32 (k.val % 4)) (BitVec.ofNat 32 (r.val / 4))) = 1#1 ↔ _
    rw [sge_sub (by omega) (by omega), cmpi_eq_ofNat (by omega) (by omega), andi_ofBool, ofBool_eq_one_iff]
    simp
  · have e : IntOp.cmpi .sge (BitVec.ofNat 32 k.val) 512#32 = 1#1 := (cmpi_sge_ofNat_eq_one_iff (b := 512) (by omega) (by decide)).mpr (by omega)
    rw [e, if_neg h, subi_word (b := 512) (by omega) (by omega), fmod_word (m := 4) (by omega) (by decide) (by decide), fdiv_word (m := 4) (by omega) (by decide) (by decide)]
    show IntOp.andi (IntOp.cmpi .sge (IntOp.subi (BitVec.ofNat 32 (r.val % 4)) (BitVec.ofNat 32 ((k.val - 512) % 4))) 0#32)
      (IntOp.cmpi .eq (BitVec.ofNat 32 ((k.val - 512) / 4)) (BitVec.ofNat 32 (r.val / 4))) = 1#1 ↔ _
    rw [sge_sub (by omega) (by omega), cmpi_eq_ofNat (by omega) (by omega), andi_ofBool, ofBool_eq_one_iff]
    simp

/-- A dilated group's mask. -/
theorem maskD_iff (r : Fin 16) (k : Fin 2064) : maskD (ix2 r k) = 1#1 ↔ seesD r.val k.val := by
  have hr := r.isLt; have hk := k.isLt
  rw [maskD_words, fmod_word (a := r.val) (m := 4) (by omega) (by decide) (by decide), fdiv_word (a := r.val) (m := 4) (by omega) (by decide) (by decide),
    fmod_word (a := k.val) (m := 4) (by omega) (by decide) (by decide), fdiv_word (a := k.val) (m := 512) (by omega) (by decide) (by decide)]
  unfold seesD
  by_cases h : k.val < 2048
  · have e : IntOp.cmpi .sge (BitVec.ofNat 32 k.val) 2048#32 = 0#1 := (cmpi_sge_ofNat_eq_zero_iff (b := 2048) (by omega) (by decide)).mpr (by omega)
    rw [e, if_pos h]
    show IntOp.andi (IntOp.cmpi .eq (BitVec.ofNat 32 (k.val / 512)) (BitVec.ofNat 32 (r.val % 4)))
      (IntOp.cmpi .eq (BitVec.ofNat 32 (k.val % 4)) (BitVec.ofNat 32 (r.val / 4))) = 1#1 ↔ _
    rw [cmpi_eq_ofNat (by omega) (by omega), cmpi_eq_ofNat (by omega) (by omega), andi_ofBool, ofBool_eq_one_iff]
    simp
  · have e : IntOp.cmpi .sge (BitVec.ofNat 32 k.val) 2048#32 = 1#1 := (cmpi_sge_ofNat_eq_one_iff (b := 2048) (by omega) (by decide)).mpr (by omega)
    rw [e, if_neg h, subi_word (b := 2048) (by omega) (by omega), fmod_word (m := 4) (by omega) (by decide) (by decide), fdiv_word (m := 4) (by omega) (by decide) (by decide)]
    show IntOp.andi (IntOp.cmpi .eq (BitVec.ofNat 32 ((k.val - 2048) % 4)) (BitVec.ofNat 32 (r.val % 4)))
      (IntOp.cmpi .eq (BitVec.ofNat 32 ((k.val - 2048) / 4)) (BitVec.ofNat 32 (r.val / 4))) = 1#1 ↔ _
    rw [cmpi_eq_ofNat (by omega) (by omega), cmpi_eq_ofNat (by omega) (by omega), andi_ofBool, ofBool_eq_one_iff]
    simp

end Cert.KernelIdeal.Block

end
-- ==== Proof.Attn.lean ====
/- One softmax attention row over extended reals, and three of them merged by their log-sum-exps. -/
module

public import Idealize.ShloMosaic.PureOps.Ideal
public import Idealize.ShloMosaic.PureOps.Ideal.Laws

@[expose] public section

noncomputable section

namespace Cert.Attn

open Idealize.ShloMosaic

variable {K J : Type} [Fintype K] [Fintype J]

/-- The greatest score. -/
def mx (s : K → EReal) : EReal := Finset.univ.fold max ⊥ s

/-- A key's unnormalised weight. -/
def pw (s : K → EReal) (k : K) : EReal := Ideal.exp (s k - mx s)

/-- The denominator: the sum of the weights. -/
def dn (s : K → EReal) : EReal := ∑ k, pw s k

/-- The row's log-sum-exp. -/
def lse (s : K → EReal) : EReal := mx s + Ideal.log (dn s)

/-- The row's output at one column of the values. -/
def out (s v : K → EReal) : EReal := ∑ k, Ideal.div (pw s k) (dn s) * v k

/-- Three rows' outputs weighted by the softmax of their log-sum-exps. -/
def merge (l0 l1 l2 o0 o1 o2 : EReal) : EReal :=
  Ideal.div (Ideal.exp (l0 - max (max l0 l1) l2))
      (Ideal.exp (l0 - max (max l0 l1) l2) + Ideal.exp (l1 - max (max l0 l1) l2) + Ideal.exp (l2 - max (max l0 l1) l2)) * o0
    + Ideal.div (Ideal.exp (l1 - max (max l0 l1) l2))
      (Ideal.exp (l0 - max (max l0 l1) l2) + Ideal.exp (l1 - max (max l0 l1) l2) + Ideal.exp (l2 - max (max l0 l1) l2)) * o1
    + Ideal.div (Ideal.exp (l2 - max (max l0 l1) l2))
      (Ideal.exp (l0 - max (max l0 l1) l2) + Ideal.exp (l1 - max (max l0 l1) l2) + Ideal.exp (l2 - max (max l0 l1) l2)) * o2

/-- The maximum is the supremum of the scores. -/
theorem mx_eq_sup (s : K → EReal) : mx s = Finset.univ.sup s := rfl

/-- No score exceeds the maximum. -/
theorem le_mx (s : K → EReal) (k : K) : s k ≤ mx s := by
  rw [mx_eq_sup]; exact Finset.le_sup (Finset.mem_univ k)

/-- A weight is not negative. -/
theorem exp_nonneg (x : EReal) : 0 ≤ Ideal.exp x := by
  induction x with
  | bot => simp
  | top => simp
  | coe r => rw [Ideal.exp_coe]; exact_mod_cast (Real.exp_pos r).le

/-- A weight is at most one. -/
theorem pw_le_one (s : K → EReal) (k : K) : pw s k ≤ 1 := by
  have h := le_mx s k
  unfold pw
  generalize s k = a at h ⊢
  generalize mx s = b at h ⊢
  induction a with
  | bot => simp
  | top => rw [top_le_iff] at h; subst h; simp
  | coe r =>
    induction b with
    | bot => simp at h
    | top => simp
    | coe q =>
      rw [← EReal.coe_sub, Ideal.exp_coe]
      have : r ≤ q := by exact_mod_cast h
      exact_mod_cast Real.exp_le_one_iff.mpr (by linarith)

/-- The denominator is not negative. -/
theorem dn_nonneg (s : K → EReal) : 0 ≤ dn s := Finset.sum_nonneg fun _ _ => exp_nonneg _

/-- The denominator is finite. -/
theorem dn_lt_top (s : K → EReal) : dn s < ⊤ := by
  have h : dn s ≤ ∑ _k : K, (1 : EReal) := Finset.sum_le_sum fun k _ => pw_le_one s k
  have e : ∑ _k : K, (1 : EReal) = ((Fintype.card K : ℕ) : EReal) := by simp
  rw [e] at h
  rw [← EReal.coe_natCast] at h
  exact lt_of_le_of_lt h (EReal.coe_lt_top _)

/-- A row with denominator zero has log-sum-exp `⊥`. -/
theorem lse_of_dn_eq_zero (s : K → EReal) (h : dn s = 0) : lse s = ⊥ := by
  unfold lse; rw [h]
  have : Ideal.log 0 = ⊥ := by
    show Ideal.log ((0 : ℝ) : EReal) = ⊥
    rw [Ideal.log_coe, if_pos le_rfl]
  rw [this, EReal.add_bot]

/-- A log-sum-exp is never `⊤`. -/
theorem lse_ne_top (s : K → EReal) : lse s ≠ ⊤ := by
  by_cases h : mx s = ⊤
  · have : dn s = 0 := Finset.sum_eq_zero fun k _ => by
      unfold pw; rw [h]
      simp
    rw [lse_of_dn_eq_zero s this]; exact bot_ne_top
  · have h1 := dn_lt_top s
    unfold lse
    have h2 : Ideal.log (dn s) ≠ ⊤ := by
      generalize dn s = d at h1 ⊢
      induction d with
      | bot => simp
      | top => simp at h1
      | coe r => rw [Ideal.log_coe]; split_ifs <;> simp
    exact (EReal.add_lt_top h h2).ne

/-- A row whose scores are all finite has a finite log-sum-exp and a positive denominator. -/
theorem lse_ne_bot [Nonempty K] (s : K → EReal) (h : ∀ k, ∃ r : ℝ, s k = r) : lse s ≠ ⊥ := by
  obtain ⟨k0⟩ := ‹Nonempty K›
  have hm : ∃ r : ℝ, mx s = r := by
    have h1 : mx s ≠ ⊥ := by
      obtain ⟨r, hr⟩ := h k0
      have := le_mx s k0
      rw [hr] at this
      intro hb; rw [hb] at this; simp at this
    have h2 : mx s ≠ ⊤ := by
      rw [mx_eq_sup]
      exact ((Finset.sup_lt_iff bot_lt_top).mpr fun k _ => by
        obtain ⟨r, hr⟩ := h k; rw [hr]; exact EReal.coe_lt_top r).ne
    exact ⟨(mx s).toReal, (EReal.coe_toReal h2 h1).symm⟩
  obtain ⟨a, ha⟩ := hm
  have hp : 0 < dn s := by
    obtain ⟨r, hr⟩ := h k0
    have : pw s k0 ≤ dn s := Finset.single_le_sum (f := pw s) (fun k _ => exp_nonneg _) (Finset.mem_univ k0)
    refine lt_of_lt_of_le ?_ this
    unfold pw; rw [ha, hr, ← EReal.coe_sub, Ideal.exp_coe]
    exact_mod_cast Real.exp_pos _
  have h1 := dn_lt_top s
  unfold lse
  rw [ha]
  generalize dn s = d at hp h1 ⊢
  induction d with
  | bot => simp at hp
  | top => simp at h1
  | coe r =>
    have : 0 < r := by exact_mod_cast hp
    rw [Ideal.log_coe, if_neg (not_le.mpr this), ← EReal.coe_add]
    exact EReal.coe_ne_bot _

section Reindex

variable (s v : K → EReal) (ι : J → K) (hι : Function.Injective ι) (hs : ∀ k, k ∉ Set.range ι → s k = ⊥)

include hs in
/-- The maximum over the keys is that over the kept keys. -/
theorem mx_comp : mx s = mx (s ∘ ι) := by
  rw [mx_eq_sup, mx_eq_sup]
  apply le_antisymm
  · refine Finset.sup_le fun k _ => ?_
    by_cases hk : k ∈ Set.range ι
    · obtain ⟨j, rfl⟩ := hk
      exact Finset.le_sup (f := s ∘ ι) (Finset.mem_univ j)
    · rw [hs k hk]; exact bot_le
  · exact Finset.sup_le fun j _ => Finset.le_sup (f := s) (Finset.mem_univ (ι j))

include hs in
/-- A key that is not kept has weight zero. -/
theorem pw_off (k : K) (hk : k ∉ Set.range ι) : pw s k = 0 := by
  unfold pw; rw [hs k hk]; simp

include hs in
/-- A kept key's weight. -/
theorem pw_comp (j : J) : pw s (ι j) = pw (s ∘ ι) j := by
  unfold pw; rw [mx_comp s ι hs]; rfl

include hι hs in
/-- The denominator over the keys is that over the kept keys. -/
theorem dn_comp : dn s = dn (s ∘ ι) :=
  (Fintype.sum_of_injective ι hι _ _ (fun k hk => pw_off s ι hs k hk) fun j => (pw_comp s ι hs j).symm).symm

include hι hs in
/-- The log-sum-exp over the keys is that over the kept keys. -/
theorem lse_comp : lse s = lse (s ∘ ι) := by
  unfold lse; rw [mx_comp s ι hs, dn_comp s ι hι hs]

include hι hs in
/-- So is the output, where the denominator is not zero. -/
theorem out_comp (h : dn s ≠ 0) : out s v = out (s ∘ ι) (v ∘ ι) := by
  refine (Fintype.sum_of_injective ι hι _ _ (fun k hk => ?_) fun j => ?_).symm
  · rw [pw_off s ι hs k hk]; unfold Ideal.div; rw [if_neg h, zero_mul, zero_mul]
  · rw [pw_comp s ι hs, dn_comp s ι hι hs]; rfl

end Reindex

/-- A row of log-sum-exp `⊥` does not count in the merge, so outputs that agree where the log-sum-exp is not `⊥` merge
    to the same value, as soon as the first row's log-sum-exp is finite and no other is `⊤`. -/
theorem merge_congr {l0 l1 l2 o0 o1 o2 p0 p1 p2 : EReal} (hb : l0 ≠ ⊥) (ht0 : l0 ≠ ⊤) (ht1 : l1 ≠ ⊤) (ht2 : l2 ≠ ⊤)
    (h0 : l0 ≠ ⊥ → o0 = p0) (h1 : l1 ≠ ⊥ → o1 = p1) (h2 : l2 ≠ ⊥ → o2 = p2) :
    merge l0 l1 l2 o0 o1 o2 = merge l0 l1 l2 p0 p1 p2 := by
  obtain rfl := h0 hb
  unfold merge
  have hM : ∃ r : ℝ, max (max l0 l1) l2 = r := by
    have a : max (max l0 l1) l2 ≠ ⊥ := by
      intro h
      have : l0 ≤ max (max l0 l1) l2 := le_trans (le_max_left _ _) (le_max_left _ _)
      rw [h, le_bot_iff] at this
      exact hb this
    have b : max (max l0 l1) l2 ≠ ⊤ :=
      (max_lt (max_lt (lt_top_iff_ne_top.mpr ht0) (lt_top_iff_ne_top.mpr ht1)) (lt_top_iff_ne_top.mpr ht2)).ne
    exact ⟨_, (EReal.coe_toReal b a).symm⟩
  obtain ⟨M, hM⟩ := hM
  obtain ⟨a, ha⟩ : ∃ r : ℝ, l0 = r := ⟨_, (EReal.coe_toReal ht0 hb).symm⟩
  rw [hM]
  have hpos : 0 < Ideal.exp (l0 - M) := by
    rw [ha, ← EReal.coe_sub, Ideal.exp_coe]; exact_mod_cast Real.exp_pos _
  have htot : Ideal.exp (l0 - M) + Ideal.exp (l1 - M) + Ideal.exp (l2 - M) ≠ 0 := by
    refine (lt_of_lt_of_le hpos ?_).ne'
    exact le_add_of_le_of_nonneg (le_add_of_le_of_nonneg le_rfl (exp_nonneg _)) (exp_nonneg _)
  have hz : ∀ l p q : EReal, (l ≠ ⊥ → p = q) →
      Ideal.div (Ideal.exp (l - M)) (Ideal.exp (l0 - M) + Ideal.exp (l1 - M) + Ideal.exp (l2 - M)) * p
        = Ideal.div (Ideal.exp (l - M)) (Ideal.exp (l0 - M) + Ideal.exp (l1 - M) + Ideal.exp (l2 - M)) * q := by
    intro l p q h
    by_cases hl : l = ⊥
    · have : Ideal.exp (l - M) = 0 := by rw [hl]; simp
      rw [this]; unfold Ideal.div; rw [if_neg htot, zero_mul, zero_mul, zero_mul]
    · rw [h hl]
  rw [hz l1 o1 p1 h1, hz l2 o2 p2 h2]

/-- The merged attention of three groups of keys. -/
def attn {K0 K1 K2 : Type} [Fintype K0] [Fintype K1] [Fintype K2] (s0 v0 : K0 → EReal) (s1 v1 : K1 → EReal)
    (s2 v2 : K2 → EReal) : EReal :=
  merge (lse s0) (lse s1) (lse s2) (out s0 v0) (out s1 v1) (out s2 v2)

/-- Masked attention over all keys is attention over the kept keys, when the first group's kept scores are finite. -/
theorem attn_reindex {K0 K1 K2 : Type} [Fintype K0] [Fintype K1] [Fintype K2] [Nonempty J]
    (s0 v0 : K0 → EReal) (s1 v1 : K1 → EReal) (s2 v2 : K2 → EReal) (t0 w0 t1 w1 t2 w2 : J → EReal)
    (ι0 : J → K0) (ι1 : J → K1) (ι2 : J → K2)
    (i0 : Function.Injective ι0) (i1 : Function.Injective ι1) (i2 : Function.Injective ι2)
    (z0 : ∀ k, k ∉ Set.range ι0 → s0 k = ⊥) (z1 : ∀ k, k ∉ Set.range ι1 → s1 k = ⊥) (z2 : ∀ k, k ∉ Set.range ι2 → s2 k = ⊥)
    (a0 : ∀ j, s0 (ι0 j) = t0 j) (a1 : ∀ j, s1 (ι1 j) = t1 j) (a2 : ∀ j, s2 (ι2 j) = t2 j)
    (b0 : ∀ j, v0 (ι0 j) = w0 j) (b1 : ∀ j, v1 (ι1 j) = w1 j) (b2 : ∀ j, v2 (ι2 j) = w2 j)
    (fin : ∀ j, ∃ r : ℝ, t0 j = r) :
    attn s0 v0 s1 v1 s2 v2 = attn t0 w0 t1 w1 t2 w2 := by
  obtain rfl : s0 ∘ ι0 = t0 := funext a0
  obtain rfl : s1 ∘ ι1 = t1 := funext a1
  obtain rfl : s2 ∘ ι2 = t2 := funext a2
  obtain rfl : v0 ∘ ι0 = w0 := funext b0
  obtain rfl : v1 ∘ ι1 = w1 := funext b1
  obtain rfl : v2 ∘ ι2 = w2 := funext b2
  unfold attn
  rw [← lse_comp s0 ι0 i0 z0, ← lse_comp s1 ι1 i1 z1, ← lse_comp s2 ι2 i2 z2]
  have hb : lse s0 ≠ ⊥ := by rw [lse_comp s0 ι0 i0 z0]; exact lse_ne_bot _ fin
  exact merge_congr hb (lse_ne_top _) (lse_ne_top _) (lse_ne_top _)
    (fun h => out_comp s0 v0 ι0 i0 z0 fun e => h (lse_of_dn_eq_zero _ e))
    (fun h => out_comp s1 v1 ι1 i1 z1 fun e => h (lse_of_dn_eq_zero _ e))
    (fun h => out_comp s2 v2 ι2 i2 z2 fun e => h (lse_of_dn_eq_zero _ e))

end Cert.Attn

end
-- ==== Proof.Vals.lean ====
/- The sample attention's step read at an index. -/
module

public import proofs.«01_k».proof.Proof.Masks
public import proofs.«01_k».proof.Proof.Attn

@[expose] public section

set_option maxRecDepth 16384

noncomputable section

namespace Cert.KernelIdeal.Block

open Cert.KernelIdeal Cert.KernelIdeal.Gen Idealize.ShloMosaic Idealize.ShloMosaic.TcCoe Idealize.SL.Sem

/-- The word of minus infinity is `⊥`. -/
theorem ofBits_neg_inf : Ideal.ofBits .f32 0xFF800000#32 = ⊥ := by
  simp [Ideal.ofBits, Ideal.ieee]

section Row

variable {n : Nat} (hr : (⟨2, ![16, n]⟩ : Shape).Reduces [1] S16) (hb : S16x1.Broadcasts ⟨2, ![16, n]⟩) (s : FVec Ideal ⟨2, ![16, n]⟩ .f32)

/-- A row's maximum. -/
theorem vmax_apply (r : Fin 16) : vmax hr s (ix2 r 0) = Attn.mx (fun k : Fin n => s (ix2 r k)) := by
  have h : vmax hr s (ix2 r 0) = multiReduction .maximumf [1] S16 s 0xFF800000#32 hr (.inl rfl) rfl (ix1 r) := by
    pointwise [vmax]
  rw [h]
  refine (Ideal.multiReduction_maximumf_single (a := 1) s _ hr (.inl rfl) rfl (ix1 r)).trans ?_
  unfold Attn.mx
  refine (congrArg (fun b => Finset.fold max b (s ∘ hr.lift (ix1 r)) Finset.univ) ofBits_neg_inf).trans ?_
  show Finset.fold max ⊥ (s ∘ hr.lift (ix1 r)) Finset.univ = _
  congr 1
  funext k
  show s _ = s _
  congr 1
  funext a
  match a with
  | ⟨0, _⟩ => rfl
  | ⟨1, _⟩ => rfl

/-- A score's weight. -/
theorem vexp_apply (r : Fin 16) (k : Fin n) : vexp hr hb s (ix2 r k) = Attn.pw (fun k : Fin n => s (ix2 r k)) k := by
  have h := vmax_apply hr s r
  unfold vexp
  generalize vmax hr s = M at h ⊢
  pointwise
  rw [h]; rfl

/-- A row's denominator. -/
theorem vsum_apply (r : Fin 16) : vsum hr hb s (ix2 r 0) = Attn.dn (fun k : Fin n => s (ix2 r k)) := by
  have h := vexp_apply hr hb s r
  unfold vsum
  generalize vexp hr hb s = M at h ⊢
  pointwise
  unfold Attn.dn
  exact Finset.sum_congr rfl fun k _ => h k

/-- A row's log-sum-exp. -/
theorem vlse_apply (r : Fin 16) : vlse hr hb s (ix2 r 0) = Attn.lse (fun k : Fin n => s (ix2 r k)) := by
  have h := vsum_apply hr hb s r
  have h' := vmax_apply hr s r
  unfold vlse
  generalize vsum hr hb s = M at h ⊢
  generalize vmax hr s = N at h' ⊢
  pointwise
  rw [h, h']; rfl

/-- A key's probability. -/
theorem vprob_apply (r : Fin 16) (k : Fin n) : vprob hr hb s (ix2 r k)
    = Ideal.div (Attn.pw (fun k : Fin n => s (ix2 r k)) k) (Attn.dn (fun k : Fin n => s (ix2 r k))) := by
  have h := vsum_apply hr hb s r
  have h' := vexp_apply hr hb s r k
  unfold vprob
  generalize vsum hr hb s = M at h ⊢
  generalize vexp hr hb s = N at h' ⊢
  pointwise
  rw [h, h']

end Row

/-- The first group's output. -/
theorem val0_apply (s : FVec Ideal S16x528 .f32) (v : FVec Ideal S528x128 .bf16) (r : Fin 16) (d : Fin 128) :
    val0 s v (ix2 r d) = Attn.out (fun k : Fin 528 => s (ix2 r k)) (fun k : Fin 528 => v (ix2 k d)) := by
  have h := vprob_apply reduces_S16x528_S16 broadcasts_S16x1_S16x528 s r
  unfold val0
  generalize vprob reduces_S16x528_S16 broadcasts_S16x1_S16x528 s = M at h ⊢
  pointwise
  unfold Attn.out
  exact Finset.sum_congr rfl fun k _ => by rw [h]

/-- A dilated group's output. -/
theorem valD_apply (s : FVec Ideal S16x2064 .f32) (v : FVec Ideal S2064x128 .bf16) (r : Fin 16) (d : Fin 128) :
    valD s v (ix2 r d) = Attn.out (fun k : Fin 2064 => s (ix2 r k)) (fun k : Fin 2064 => v (ix2 k d)) := by
  have h := vprob_apply reduces_S16x2064_S16 broadcasts_S16x1_S16x2064 s r
  unfold valD
  generalize vprob reduces_S16x2064_S16 broadcasts_S16x1_S16x2064 s = M at h ⊢
  pointwise
  unfold Attn.out
  exact Finset.sum_congr rfl fun k _ => by rw [h]

/-- The merge at an index. -/
theorem mergeV_apply (l0 l1 l2 : FVec Ideal S16x1 .f32) (o0 o1 o2 : FVec Ideal S16x128 .f32) (r : Fin 16) (d : Fin 128) :
    mergeV l0 l1 l2 o0 o1 o2 (ix2 r d) = Attn.merge (l0 (ix2 r 0)) (l1 (ix2 r 0)) (l2 (ix2 r 0)) (o0 (ix2 r d)) (o1 (ix2 r d)) (o2 (ix2 r d)) := by
  pointwise [mergeV]
  rfl

/-- Stacked rows, by head and token. -/
theorem stack_apply (a : Fin 4 → Vec Ideal S4x128 .f32) (r : Fin 16) (d : Fin 128) :
    stack a (ix2 r d) = a ⟨r.val / 4, by omega⟩ (ix2 ⟨r.val % 4, by omega⟩ d) := by
  have pick : ∀ (q q' x x' : Fin 4), q.val = q'.val → x.val = x'.val → a q (ix2 x d) = a q' (ix2 x' d) := by
    intro q q' x x' hq hx; rw [Fin.ext hq, Fin.ext hx]
  have hr := r.isLt
  pointwise [stack]
  by_cases h1 : r.val < 4
  · rw [dif_pos h1]
    exact pick _ _ _ _ (show 0 = r.val / 4 by omega) (show r.val = r.val % 4 by omega)
  rw [dif_neg h1]
  by_cases h2 : r.val - 4 < 4
  · rw [dif_pos h2]
    exact pick _ _ _ _ (show 1 = r.val / 4 by omega) (show r.val - 4 = r.val % 4 by omega)
  rw [dif_neg h2]
  by_cases h3 : r.val - 4 - 4 < 4
  · rw [dif_pos h3]
    exact pick _ _ _ _ (show 2 = r.val / 4 by omega) (show r.val - 4 - 4 = r.val % 4 by omega)
  rw [dif_neg h3]
  exact pick _ _ _ _ (show 3 = r.val / 4 by omega) (show r.val - 4 - 4 - 4 = r.val % 4 by omega)

/-- The first group's keys at an index. -/
theorem keys0_apply (c : Vec Ideal S1x128x1x4x128 .f32) (a : Fin 4 → Vec Ideal S4x128 .f32) (k : Fin 528) (d : Fin 128) :
    keys0 c a (ix2 k d) = if h : k.val < 512 then c (ix5 0 ⟨k.val / 4, by omega⟩ 0 ⟨k.val % 4, by omega⟩ d)
      else a ⟨(k.val - 512) / 4, by omega⟩ (ix2 ⟨(k.val - 512) % 4, by omega⟩ d) := by
  have h := stack_apply a
  unfold keys0
  generalize stack a = M at h ⊢
  pointwise
  simp only [h]

/-- A dilated group's keys at an index. -/
theorem keysD_apply (c : Fin 4 → Vec Ideal S1x128x1x1x4x128 .f32) (a : Fin 4 → Vec Ideal S4x128 .f32) (k : Fin 2064) (d : Fin 128) :
    keysD c a (ix2 k d) = if h : k.val < 2048 then c ⟨k.val / 512, by omega⟩ (ix6 0 ⟨k.val % 512 / 4, by omega⟩ 0 0 ⟨k.val % 4, by omega⟩ d)
      else a ⟨(k.val - 2048) / 4, by omega⟩ (ix2 ⟨(k.val - 2048) % 4, by omega⟩ d) := by
  have h := stack_apply a
  unfold keysD
  generalize stack a = M at h ⊢
  have pick : ∀ (q q' : Fin 4) (p p' : Fin 128) (x x' : Fin 4), q.val = q'.val → p.val = p'.val → x.val = x'.val →
      c q (ix6 0 p 0 0 x d) = c q' (ix6 0 p' 0 0 x' d) := by
    intro q q' p p' x x' hq hp hx; rw [Fin.ext hq, Fin.ext hp, Fin.ext hx]
  pointwise [rows]
  simp only [h]
  by_cases h0 : k.val < 2048
  · rw [dif_pos h0, dif_pos h0]
    by_cases h1 : k.val < 512
    · rw [dif_pos h1]
      exact pick _ _ _ _ _ _ (show 0 = k.val / 512 by omega) (show k.val / 4 = k.val % 512 / 4 by omega) (show k.val % 4 = k.val % 4 by omega)
    rw [dif_neg h1]
    by_cases h2 : k.val - 512 < 512
    · rw [dif_pos h2]
      exact pick _ _ _ _ _ _ (show 1 = k.val / 512 by omega) (show (k.val - 512) / 4 = k.val % 512 / 4 by omega) (show (k.val - 512) % 4 = k.val % 4 by omega)
    rw [dif_neg h2]
    by_cases h3 : k.val - 512 - 512 < 512
    · rw [dif_pos h3]
      exact pick _ _ _ _ _ _ (show 2 = k.val / 512 by omega) (show (k.val - 512 - 512) / 4 = k.val % 512 / 4 by omega) (show (k.val - 512 - 512) % 4 = k.val % 4 by omega)
    rw [dif_neg h3]
    exact pick _ _ _ _ _ _ (show 3 = k.val / 512 by omega) (show (k.val - 512 - 512 - 512) / 4 = k.val % 512 / 4 by omega) (show (k.val - 512 - 512 - 512) % 4 = k.val % 4 by omega)
  · rw [dif_neg h0, dif_neg h0]

/-- A first group's score. -/
theorem score0_apply (q : Fin 4 → Vec Ideal S4x128 .f32) (k : FVec Ideal S528x128 .bf16) (r : Fin 16) (j : Fin 528) :
    score0 q k (ix2 r j) = if sees0 r.val j.val then
      (∑ d : Fin 128, q ⟨r.val / 4, by omega⟩ (ix2 ⟨r.val % 4, by omega⟩ d) * k (ix2 j d)) * Ideal.ofBits .f32 0x3DB504F3#32 else ⊥ := by
  have h := stack_apply q
  have hm := mask0_iff r j
  unfold score0
  generalize mask0 = m at hm ⊢
  generalize stack q = M at h ⊢
  pointwise
  unfold Scalar.select
  by_cases hc : sees0 r.val j.val
  · rw [if_pos (show m (ix2 r j) = 1 from hm.mpr hc), if_pos hc]
    simp only [h]
  · rw [if_neg (show ¬ m (ix2 r j) = 1 from fun e => hc (hm.mp e)), if_neg hc, ofBits_neg_inf]

/-- A dilated group's score. -/
theorem scoreD_apply (q : Fin 4 → Vec Ideal S4x128 .f32) (k : FVec Ideal S2064x128 .bf16) (r : Fin 16) (j : Fin 2064) :
    scoreD q k (ix2 r j) = if seesD r.val j.val then
      (∑ d : Fin 128, q ⟨r.val / 4, by omega⟩ (ix2 ⟨r.val % 4, by omega⟩ d) * k (ix2 j d)) * Ideal.ofBits .f32 0x3DB504F3#32 else ⊥ := by
  have h := stack_apply q
  have hm := maskD_iff r j
  unfold scoreD
  generalize maskD = m at hm ⊢
  generalize stack q = M at h ⊢
  pointwise
  unfold Scalar.select
  by_cases hc : seesD r.val j.val
  · rw [if_pos (show m (ix2 r j) = 1 from hm.mpr hc), if_pos hc]
    simp only [h]
  · rw [if_neg (show ¬ m (ix2 r j) = 1 from fun e => hc (hm.mp e)), if_neg hc, ofBits_neg_inf]

/-- The block written, at row `4e + t` and column `128h + d`. -/
theorem both_apply (a b : FVec Ideal S16x128 .f32) (i : Fin 8) (j : Fin 512) :
    both a b (ix2 i j) = (if i.val < 4 then a else b) (ix2 ⟨4 * (j.val / 128) + i.val % 4, by omega⟩ ⟨j.val % 128, by omega⟩) := by
  have hi := i.isLt; have hj := j.isLt
  have pick : ∀ (x : FVec Ideal S16x128 .f32) (p p' : Fin 16) (d d' : Fin 128), p.val = p'.val → d.val = d'.val → x (ix2 p d) = x (ix2 p' d') := by
    intro x p p' d d' hp hd; rw [Fin.ext hp, Fin.ext hd]
  pointwise [both, side]
  by_cases h0 : i.val < 4
  · rw [dif_pos h0, if_pos h0]
    by_cases h1 : j.val < 128
    · rw [dif_pos h1]; exact pick _ _ _ _ _ (show i.val = 4 * (j.val / 128) + i.val % 4 by omega) (show j.val = j.val % 128 by omega)
    rw [dif_neg h1]
    by_cases h2 : j.val - 128 < 128
    · rw [dif_pos h2]; exact pick _ _ _ _ _ (show 4 + i.val = 4 * (j.val / 128) + i.val % 4 by omega) (show j.val - 128 = j.val % 128 by omega)
    rw [dif_neg h2]
    by_cases h3 : j.val - 128 - 128 < 128
    · rw [dif_pos h3]; exact pick _ _ _ _ _ (show 8 + i.val = 4 * (j.val / 128) + i.val % 4 by omega) (show j.val - 128 - 128 = j.val % 128 by omega)
    rw [dif_neg h3]; exact pick _ _ _ _ _ (show 12 + i.val = 4 * (j.val / 128) + i.val % 4 by omega) (show j.val - 128 - 128 - 128 = j.val % 128 by omega)
  · rw [dif_neg h0, if_neg h0]
    by_cases h1 : j.val < 128
    · rw [dif_pos h1]; exact pick _ _ _ _ _ (show i.val - 4 = 4 * (j.val / 128) + i.val % 4 by omega) (show j.val = j.val % 128 by omega)
    rw [dif_neg h1]
    by_cases h2 : j.val - 128 < 128
    · rw [dif_pos h2]; exact pick _ _ _ _ _ (show 4 + (i.val - 4) = 4 * (j.val / 128) + i.val % 4 by omega) (show j.val - 128 = j.val % 128 by omega)
    rw [dif_neg h2]
    by_cases h3 : j.val - 128 - 128 < 128
    · rw [dif_pos h3]; exact pick _ _ _ _ _ (show 8 + (i.val - 4) = 4 * (j.val / 128) + i.val % 4 by omega) (show j.val - 128 - 128 = j.val % 128 by omega)
    rw [dif_neg h3]; exact pick _ _ _ _ _ (show 12 + (i.val - 4) = 4 * (j.val / 128) + i.val % 4 by omega) (show j.val - 128 - 128 - 128 = j.val % 128 by omega)

/-- A loaded head's rows. -/
theorem ldx_apply (x : Vec Ideal S8x1536 .f32) (e : Fin 2) (g : Fin 3) (h : Fin 4) (t : Fin 4) (d : Fin 128) :
    ldx x e g h (ix2 t d) = x (ix2 ⟨4 * e.val + t.val, by omega⟩ ⟨512 * g.val + 128 * h.val + d.val, by omega⟩) := by
  pointwise [ldx]

/-- The first group's loaded cache. -/
theorem ldc_apply (x : Vec Ideal S2x128x2x4x128 .f32) (e w : Fin 2) (p : Fin 128) (h : Fin 4) (d : Fin 128) :
    ldc x e w (ix5 0 p 0 h d) = x (ix5 e p w h d) := by
  pointwise [ldc]

/-- A dilated group's loaded cache. -/
theorem ldd_apply (x : Vec Ideal S2x128x4x2x4x128 .f32) (e w : Fin 2) (c : Fin 4) (p : Fin 128) (h : Fin 4) (d : Fin 128) :
    ldd x e w c (ix6 0 p 0 0 h d) = x (ix6 e p c w h d) := by
  pointwise [ldd]

end Cert.KernelIdeal.Block

end
-- ==== Proof.Entry.lean ====
/- One sequence's step of the sample attention as the attention over its 129 keys of each group. -/
module

public import proofs.«01_k».proof.Proof.Vals

@[expose] public section

set_option maxRecDepth 16384

noncomputable section

namespace Cert.KernelIdeal.Block

open Cert.KernelIdeal Cert.KernelIdeal.Gen Idealize.ShloMosaic Idealize.ShloMosaic.TcCoe Idealize.SL.Sem

/-- Key `j` (counted backwards from token `t`) of the first group: a new token's row or a cached one. -/
def key0 (x : Vec Ideal S8x1536 .f32) (c : Vec Ideal S2x128x2x4x128 .f32) (e w : Fin 2) (h t : Fin 4) (j : Fin 129) (d : Fin 128) : EReal :=
  if j.val ≤ t.val then x (ix2 ⟨4 * e.val + (t.val - j.val), by omega⟩ ⟨512 * (0 : Fin 3).val + 128 * h.val + d.val, by show 512 * 0 + _ + _ < _; omega⟩)
  else c (ix5 e ⟨(127 + t.val + 1 - j.val) % 128, by omega⟩ w h d)

/-- Key `j` of a dilated group: the new token's own row or a cached row of its class. -/
def keyD (g : Fin 3) (x : Vec Ideal S8x1536 .f32) (c : Vec Ideal S2x128x4x2x4x128 .f32) (e w : Fin 2) (h t : Fin 4) (j : Fin 129) (d : Fin 128) : EReal :=
  if j.val = 0 then x (ix2 ⟨4 * e.val + t.val, by omega⟩ ⟨512 * g.val + 128 * h.val + d.val, by omega⟩)
  else c (ix6 e ⟨(128 - j.val) % 128, by omega⟩ t w h d)

/-- A query's scaled product with a key. -/
def dotq (g : Fin 3) (x : Vec Ideal S8x1536 .f32) (e : Fin 2) (h t : Fin 4) (k : Fin 128 → EReal) : EReal :=
  (∑ d : Fin 128, x (ix2 ⟨4 * e.val + t.val, by omega⟩ ⟨512 * g.val + 128 * h.val + d.val, by omega⟩) * k d) * Ideal.ofBits .f32 0x3DB504F3#32

/-- Where the first group's key `j` lies among the block's keys. -/
def at0 (h t : Fin 4) (j : Fin 129) : Fin 528 :=
  ⟨if j.val ≤ t.val then 512 + 4 * h.val + (t.val - j.val) else (128 + t.val - j.val) * 4 + h.val, by split <;> omega⟩

/-- Where a dilated group's key `j` lies among the block's keys. -/
def atD (h t : Fin 4) (j : Fin 129) : Fin 2064 :=
  ⟨if j.val = 0 then 2048 + 4 * h.val + t.val else t.val * 512 + (128 - j.val) * 4 + h.val, by split <;> omega⟩

theorem at0_inj (h t : Fin 4) : Function.Injective (at0 h t) := by
  intro i j e
  have := congrArg Fin.val e
  simp only [at0] at this
  apply Fin.ext
  split at this <;> split at this <;> omega

theorem atD_inj (h t : Fin 4) : Function.Injective (atD h t) := by
  intro i j e
  have := congrArg Fin.val e
  simp only [atD] at this
  apply Fin.ext
  split at this <;> split at this <;> omega

theorem sees0_at (h t : Fin 4) (j : Fin 129) : sees0 (4 * h.val + t.val) (at0 h t j).val := by
  unfold sees0
  rw [show (4 * h.val + t.val) % 4 = t.val by omega, show (4 * h.val + t.val) / 4 = h.val by omega]
  by_cases hj : j.val ≤ t.val
  · have hv : (at0 h t j).val = 512 + 4 * h.val + (t.val - j.val) := if_pos hj
    rw [if_neg (by omega)]; omega
  · have hv : (at0 h t j).val = (128 + t.val - j.val) * 4 + h.val := if_neg hj
    rw [if_pos (by omega)]; omega

theorem seesD_at (h t : Fin 4) (j : Fin 129) : seesD (4 * h.val + t.val) (atD h t j).val := by
  unfold seesD
  rw [show (4 * h.val + t.val) % 4 = t.val by omega, show (4 * h.val + t.val) / 4 = h.val by omega]
  by_cases hj : j.val = 0
  · have hv : (atD h t j).val = 2048 + 4 * h.val + t.val := if_pos hj
    rw [if_neg (by omega)]; constructor <;> omega
  · have hv : (atD h t j).val = t.val * 512 + (128 - j.val) * 4 + h.val := if_neg hj
    rw [if_pos (by omega)]; constructor <;> omega

theorem at0_of_sees (h t : Fin 4) (k : Fin 528) (s : sees0 (4 * h.val + t.val) k.val) : k ∈ Set.range (at0 h t) := by
  unfold sees0 at s
  rw [show (4 * h.val + t.val) % 4 = t.val by omega, show (4 * h.val + t.val) / 4 = h.val by omega] at s
  by_cases hk : k.val < 512
  · rw [if_pos hk] at s
    refine ⟨⟨128 + t.val - k.val / 4, by omega⟩, Fin.ext ?_⟩
    show (if 128 + t.val - k.val / 4 ≤ t.val then _ else (128 + t.val - (128 + t.val - k.val / 4)) * 4 + h.val) = k.val
    rw [if_neg (by omega)]; omega
  · rw [if_neg hk] at s
    refine ⟨⟨t.val - (k.val - 512) % 4, by omega⟩, Fin.ext ?_⟩
    show (if t.val - (k.val - 512) % 4 ≤ t.val then 512 + 4 * h.val + (t.val - (t.val - (k.val - 512) % 4)) else _) = k.val
    rw [if_pos (by omega)]; omega

theorem atD_of_sees (h t : Fin 4) (k : Fin 2064) (s : seesD (4 * h.val + t.val) k.val) : k ∈ Set.range (atD h t) := by
  unfold seesD at s
  rw [show (4 * h.val + t.val) % 4 = t.val by omega, show (4 * h.val + t.val) / 4 = h.val by omega] at s
  by_cases hk : k.val < 2048
  · rw [if_pos hk] at s
    refine ⟨⟨128 - k.val % 512 / 4, by omega⟩, Fin.ext ?_⟩
    show (if 128 - k.val % 512 / 4 = 0 then _ else t.val * 512 + (128 - (128 - k.val % 512 / 4)) * 4 + h.val) = k.val
    rw [if_neg (by omega)]; omega
  · rw [if_neg hk] at s
    refine ⟨⟨0, by omega⟩, Fin.ext ?_⟩
    show (if (0 : Nat) = 0 then 2048 + 4 * h.val + t.val else t.val * 512 + (128 - 0) * 4 + h.val) = k.val
    rw [if_pos rfl]; omega

theorem keys0_at (x : Vec Ideal S8x1536 .f32) (c : Vec Ideal S2x128x2x4x128 .f32) (e w : Fin 2) (h t : Fin 4) (j : Fin 129) (d : Fin 128) :
    keys0 (ldc c e w) (ldx x e 0) (ix2 (at0 h t j) d) = key0 x c e w h t j d := by
  rw [keys0_apply]
  unfold key0
  by_cases hj : j.val ≤ t.val
  · have hv : (at0 h t j).val = 512 + 4 * h.val + (t.val - j.val) := if_pos hj
    rw [dif_neg (by omega), ldx_apply, if_pos hj]
    congr 1
    congr 1 <;> apply Fin.ext
    · show 4 * e.val + ((at0 h t j).val - 512) % 4 = 4 * e.val + (t.val - j.val)
      omega
    · show 512 * (0 : Fin 3).val + 128 * (((at0 h t j).val - 512) / 4) + d.val = 512 * (0 : Fin 3).val + 128 * h.val + d.val
      omega
  · have hv : (at0 h t j).val = (128 + t.val - j.val) * 4 + h.val := if_neg hj
    rw [dif_pos (by omega), ldc_apply, if_neg hj]
    congr 1
    congr 1 <;> apply Fin.ext
    · show (at0 h t j).val / 4 = (127 + t.val + 1 - j.val) % 128
      omega
    · show (at0 h t j).val % 4 = h.val
      omega

theorem keysD_at (g : Fin 3) (x : Vec Ideal S8x1536 .f32) (c : Vec Ideal S2x128x4x2x4x128 .f32) (e w : Fin 2) (h t : Fin 4) (j : Fin 129) (d : Fin 128) :
    keysD (ldd c e w) (ldx x e g) (ix2 (atD h t j) d) = keyD g x c e w h t j d := by
  rw [keysD_apply]
  unfold keyD
  by_cases hj : j.val = 0
  · have hv : (atD h t j).val = 2048 + 4 * h.val + t.val := if_pos hj
    rw [dif_neg (by omega), ldx_apply, if_pos hj]
    congr 1
    congr 1 <;> apply Fin.ext
    · show 4 * e.val + ((atD h t j).val - 2048) % 4 = 4 * e.val + t.val
      omega
    · show 512 * g.val + 128 * (((atD h t j).val - 2048) / 4) + d.val = 512 * g.val + 128 * h.val + d.val
      omega
  · have hv : (atD h t j).val = t.val * 512 + (128 - j.val) * 4 + h.val := if_neg hj
    rw [dif_pos (by omega), ldd_apply, if_neg hj]
    congr 1
    congr 1 <;> apply Fin.ext
    · show (atD h t j).val % 512 / 4 = (128 - j.val) % 128
      omega
    · show (atD h t j).val / 512 = t.val
      omega
    · show (atD h t j).val % 4 = h.val
      omega

/-- A kept score of the first group. -/
theorem score0_at (q x : Vec Ideal S8x1536 .f32) (c : Vec Ideal S2x128x2x4x128 .f32) (e : Fin 2) (h t : Fin 4) (j : Fin 129) :
    score0 (ldx q e 0) (keys0 (ldc c e 0) (ldx x e 0)) (ix2 ⟨4 * h.val + t.val, by omega⟩ (at0 h t j)) = dotq 0 q e h t (key0 x c e 0 h t j) := by
  rw [score0_apply, if_pos (sees0_at h t j)]
  unfold dotq
  congr 1
  refine Finset.sum_congr rfl fun d _ => ?_
  rw [keys0_at, ldx_apply]
  congr 2
  congr 1 <;> apply Fin.ext
  · show 4 * e.val + (4 * h.val + t.val) % 4 = 4 * e.val + t.val
    omega
  · show 512 * (0 : Fin 3).val + 128 * ((4 * h.val + t.val) / 4) + d.val = 512 * (0 : Fin 3).val + 128 * h.val + d.val
    omega

/-- A kept score of a dilated group. -/
theorem scoreD_at (g : Fin 3) (q x : Vec Ideal S8x1536 .f32) (c : Vec Ideal S2x128x4x2x4x128 .f32) (e : Fin 2) (h t : Fin 4) (j : Fin 129) :
    scoreD (ldx q e g) (keysD (ldd c e 0) (ldx x e g)) (ix2 ⟨4 * h.val + t.val, by omega⟩ (atD h t j)) = dotq g q e h t (keyD g x c e 0 h t j) := by
  rw [scoreD_apply, if_pos (seesD_at h t j)]
  unfold dotq
  congr 1
  refine Finset.sum_congr rfl fun d _ => ?_
  rw [keysD_at, ldx_apply]
  congr 2
  congr 1 <;> apply Fin.ext
  · show 4 * e.val + (4 * h.val + t.val) % 4 = 4 * e.val + t.val
    omega
  · show 512 * g.val + 128 * ((4 * h.val + t.val) / 4) + d.val = 512 * g.val + 128 * h.val + d.val
    omega

/-- One sequence's output at head `h` and token `t`, when the first group's scores are finite. -/
theorem entry_apply (x0 x1 x2 : Vec Ideal S8x1536 .f32) (x3 : Vec Ideal S2x128x2x4x128 .f32) (x4 x5 : Vec Ideal S2x128x4x2x4x128 .f32)
    (e : Fin 2) (h t : Fin 4) (d : Fin 128) (fin : ∀ j, ∃ r : ℝ, dotq 0 x0 e h t (key0 x1 x3 e 0 h t j) = r) :
    entry x0 x1 x2 x3 x4 x5 e (ix2 ⟨4 * h.val + t.val, by omega⟩ d)
      = Attn.attn (fun j => dotq 0 x0 e h t (key0 x1 x3 e 0 h t j)) (fun j => key0 x2 x3 e 1 h t j d)
          (fun j => dotq 1 x0 e h t (keyD 1 x1 x4 e 0 h t j)) (fun j => keyD 1 x2 x4 e 1 h t j d)
          (fun j => dotq 2 x0 e h t (keyD 2 x1 x5 e 0 h t j)) (fun j => keyD 2 x2 x5 e 1 h t j d) := by
  unfold entry attend
  rw [mergeV_apply, vlse_apply, vlse_apply, vlse_apply, val0_apply, valD_apply, valD_apply]
  refine Attn.attn_reindex _ _ _ _ _ _ _ _ _ _ _ _ (at0 h t) (atD h t) (atD h t) (at0_inj h t) (atD_inj h t) (atD_inj h t) ?_ ?_ ?_
    (fun j => score0_at x0 x1 x3 e h t j) (fun j => scoreD_at 1 x0 x1 x4 e h t j) (fun j => scoreD_at 2 x0 x1 x5 e h t j)
    (fun j => keys0_at x2 x3 e 1 h t j d) (fun j => keysD_at 1 x2 x4 e 1 h t j d) (fun j => keysD_at 2 x2 x5 e 1 h t j d) fin
  · intro k hk; rw [score0_apply, if_neg fun s => hk (at0_of_sees h t k s)]
  · intro k hk; rw [scoreD_apply, if_neg fun s => hk (atD_of_sees h t k s)]
  · intro k hk; rw [scoreD_apply, if_neg fun s => hk (atD_of_sees h t k s)]

end Cert.KernelIdeal.Block

end
-- ==== Proof.Arrays.lean ====
/- The windows' blocks at an index of the arguments. -/
module

public import proofs.«01_k».proof.Proof.Entry
public import proofs.«01_k».proof.Proof.Gen.KernelIdeal.Value

@[expose] public section

set_option maxRecDepth 16384

noncomputable section

namespace Cert.KernelIdeal.Arrays

open Cert.KernelIdeal Cert.KernelIdeal.Gen Cert.KernelIdeal.Block Idealize.ShloMosaic Idealize.ShloMosaic.TcCoe Idealize.SL.Sem

variable (m : (ℓ : Loc nD τ sig) → Buf (Elt Ideal) ℓ) (c : Dev nD)

theorem n64 (t : Fin cfg0.N) : t.val < 64 := by have := t.isLt; have h : cfg0.N = 64 := N_0; omega

/-- The queries' block: eight rows of the sample's tokens. -/
theorem q_at (t : Fin cfg0.N) (r : Fin 8) (k : Fin 1536) :
    (iblk m c 0 t : Vec Ideal S8x1536 .f32) (ix2 r k)
      = (m ((c : Thread nD τ).loc main_arg0) : FVec Ideal S8704x3072 .f32) (ix2 ⟨8192 + (8 * t.val + r.val), by have := n64 t; omega⟩ ⟨k.val, by omega⟩) := by
  rw [← V_main_arg0 m c]
  have e : ∀ t : Fin cfg0.N, win0_0.index t 0 * win0_0.size 0 = 8192 + 8 * t.val ∧ win0_0.index t 1 * win0_0.size 1 = 0 := by decide +kernel
  refine congrArg (V m c main_arg0) (funext fun a => Fin.ext ?_)
  match a with
  | ⟨0, _⟩ => show win0_0.index t 0 * win0_0.size 0 + 1 * r.val = _; rw [(e t).1]; show _ = 8192 + (8 * t.val + r.val); omega
  | ⟨1, _⟩ => show win0_0.index t 1 * win0_0.size 1 + 1 * k.val = _; rw [(e t).2]; show _ = k.val; omega

theorem k_at (t : Fin cfg0.N) (r : Fin 8) (k : Fin 1536) :
    (iblk m c 1 t : Vec Ideal S8x1536 .f32) (ix2 r k)
      = (m ((c : Thread nD τ).loc main_arg0) : FVec Ideal S8704x3072 .f32) (ix2 ⟨8192 + (8 * t.val + r.val), by have := n64 t; omega⟩ ⟨1536 + k.val, by omega⟩) := by
  rw [← V_main_arg0 m c]
  have e : ∀ t : Fin cfg0.N, win0_1.index t 0 * win0_1.size 0 = 8192 + 8 * t.val ∧ win0_1.index t 1 * win0_1.size 1 = 1536 := by decide +kernel
  refine congrArg (V m c main_arg0) (funext fun a => Fin.ext ?_)
  match a with
  | ⟨0, _⟩ => show win0_1.index t 0 * win0_1.size 0 + 1 * r.val = _; rw [(e t).1]; show _ = 8192 + (8 * t.val + r.val); omega
  | ⟨1, _⟩ => show win0_1.index t 1 * win0_1.size 1 + 1 * k.val = _; rw [(e t).2]; show _ = 1536 + k.val; omega

theorem v_at (t : Fin cfg0.N) (r : Fin 8) (k : Fin 1536) :
    (iblk m c 2 t : Vec Ideal S8x1536 .f32) (ix2 r k)
      = (m ((c : Thread nD τ).loc main_arg1) : FVec Ideal S8704x1536 .f32) (ix2 ⟨8192 + (8 * t.val + r.val), by have := n64 t; omega⟩ k) := by
  rw [← V_main_arg1 m c]
  have e : ∀ t : Fin cfg0.N, win0_2.index t 0 * win0_2.size 0 = 8192 + 8 * t.val ∧ win0_2.index t 1 * win0_2.size 1 = 0 := by decide +kernel
  refine congrArg (V m c main_arg1) (funext fun a => Fin.ext ?_)
  match a with
  | ⟨0, _⟩ => show win0_2.index t 0 * win0_2.size 0 + 1 * r.val = _; rw [(e t).1]; show _ = 8192 + (8 * t.val + r.val); omega
  | ⟨1, _⟩ => show win0_2.index t 1 * win0_2.size 1 + 1 * k.val = _; rw [(e t).2]; show _ = k.val; omega

/-- The first cache's block: the two sequences of the point. -/
theorem c0_at (t : Fin cfg0.N) (e : Fin 2) (p : Fin 128) (w : Fin 2) (h : Fin 4) (d : Fin 128) :
    (iblk m c 3 t : Vec Ideal S2x128x2x4x128 .f32) (ix5 e p w h d)
      = (m ((c : Thread nD τ).loc main_arg2) : FVec Ideal S128x128x2x4x128 .f32) (ix5 ⟨2 * t.val + e.val, by have := n64 t; omega⟩ p w h d) := by
  rw [← V_main_arg2 m c]
  have z : ∀ t : Fin cfg0.N, win0_3.index t 0 * win0_3.size 0 = 2 * t.val ∧ win0_3.index t 1 * win0_3.size 1 = 0 ∧ win0_3.index t 2 * win0_3.size 2 = 0
      ∧ win0_3.index t 3 * win0_3.size 3 = 0 ∧ win0_3.index t 4 * win0_3.size 4 = 0 := by decide +kernel
  refine congrArg (V m c main_arg2) (funext fun a => Fin.ext ?_)
  match a with
  | ⟨0, _⟩ => show win0_3.index t 0 * win0_3.size 0 + 1 * e.val = _; rw [(z t).1]; show _ = 2 * t.val + e.val; omega
  | ⟨1, _⟩ => show win0_3.index t 1 * win0_3.size 1 + 1 * p.val = _; rw [(z t).2.1]; show _ = p.val; omega
  | ⟨2, _⟩ => show win0_3.index t 2 * win0_3.size 2 + 1 * w.val = _; rw [(z t).2.2.1]; show _ = w.val; omega
  | ⟨3, _⟩ => show win0_3.index t 3 * win0_3.size 3 + 1 * h.val = _; rw [(z t).2.2.2.1]; show _ = h.val; omega
  | ⟨4, _⟩ => show win0_3.index t 4 * win0_3.size 4 + 1 * d.val = _; rw [(z t).2.2.2.2]; show _ = d.val; omega

/-- The second cache, its rows split by their class modulo 4. -/
theorem V_v0 : (V m c main_v0 : FVec Ideal S128x128x4x2x4x128 .f32)
    = shapeCast S128x128x4x2x4x128 (m ((c : Thread nD τ).loc main_arg3) : FVec Ideal S128x512x2x4x128 .f32) shapeCasts_S128x512x2x4x128_S128x128x4x2x4x128 := by
  rfl

theorem V_v1 : (V m c main_v1 : FVec Ideal S128x128x16x2x4x128 .f32)
    = shapeCast S128x128x16x2x4x128 (m ((c : Thread nD τ).loc main_arg4) : FVec Ideal S128x2048x2x4x128 .f32) shapeCasts_S128x2048x2x4x128_S128x128x16x2x4x128 := by
  rfl

theorem split4 (x : FVec Ideal S128x512x2x4x128 .f32) (b p : Fin 128) (t : Fin 4) (w : Fin 2) (h : Fin 4) (d : Fin 128) :
    shapeCast S128x128x4x2x4x128 x shapeCasts_S128x512x2x4x128_S128x128x4x2x4x128 (ix6 b p t w h d) = x (ix5 b ⟨4 * p.val + t.val, by omega⟩ w h d) := by
  pointwise
  refine congrArg x ?_
  congr 1 <;> apply Fin.ext <;> simp <;> omega

theorem split16 (x : FVec Ideal S128x2048x2x4x128 .f32) (b p : Fin 128) (t : Fin 16) (w : Fin 2) (h : Fin 4) (d : Fin 128) :
    shapeCast S128x128x16x2x4x128 x shapeCasts_S128x2048x2x4x128_S128x128x16x2x4x128 (ix6 b p t w h d) = x (ix5 b ⟨16 * p.val + t.val, by omega⟩ w h d) := by
  pointwise
  refine congrArg x ?_
  congr 1 <;> apply Fin.ext <;> simp <;> omega

theorem c1_at (t : Fin cfg0.N) (e : Fin 2) (p : Fin 128) (q : Fin 4) (w : Fin 2) (h : Fin 4) (d : Fin 128) :
    (iblk m c 4 t : Vec Ideal S2x128x4x2x4x128 .f32) (ix6 e p q w h d)
      = (m ((c : Thread nD τ).loc main_arg3) : FVec Ideal S128x512x2x4x128 .f32) (ix5 ⟨2 * t.val + e.val, by have := n64 t; omega⟩ ⟨4 * p.val + q.val, by omega⟩ w h d) := by
  refine Eq.trans ?_ (split4 (m ((c : Thread nD τ).loc main_arg3)) _ p q w h d)
  rw [← V_v0 m c]
  have z : ∀ t : Fin cfg0.N, win0_4.index t 0 * win0_4.size 0 = 2 * t.val ∧ win0_4.index t 1 * win0_4.size 1 = 0 ∧ win0_4.index t 2 * win0_4.size 2 = 0
      ∧ win0_4.index t 3 * win0_4.size 3 = 0 ∧ win0_4.index t 4 * win0_4.size 4 = 0 ∧ win0_4.index t 5 * win0_4.size 5 = 0 := by decide +kernel
  refine congrArg (V m c main_v0) (funext fun a => Fin.ext ?_)
  match a with
  | ⟨0, _⟩ => show win0_4.index t 0 * win0_4.size 0 + 1 * e.val = _; rw [(z t).1]; show _ = 2 * t.val + e.val; omega
  | ⟨1, _⟩ => show win0_4.index t 1 * win0_4.size 1 + 1 * p.val = _; rw [(z t).2.1]; show _ = p.val; omega
  | ⟨2, _⟩ => show win0_4.index t 2 * win0_4.size 2 + 1 * q.val = _; rw [(z t).2.2.1]; show _ = q.val; omega
  | ⟨3, _⟩ => show win0_4.index t 3 * win0_4.size 3 + 1 * w.val = _; rw [(z t).2.2.2.1]; show _ = w.val; omega
  | ⟨4, _⟩ => show win0_4.index t 4 * win0_4.size 4 + 1 * h.val = _; rw [(z t).2.2.2.2.1]; show _ = h.val; omega
  | ⟨5, _⟩ => show win0_4.index t 5 * win0_4.size 5 + 1 * d.val = _; rw [(z t).2.2.2.2.2]; show _ = d.val; omega

theorem c2_at (t : Fin cfg0.N) (e : Fin 2) (p : Fin 128) (q : Fin 4) (w : Fin 2) (h : Fin 4) (d : Fin 128) :
    (iblk m c 5 t : Vec Ideal S2x128x4x2x4x128 .f32) (ix6 e p q w h d)
      = (m ((c : Thread nD τ).loc main_arg4) : FVec Ideal S128x2048x2x4x128 .f32) (ix5 ⟨2 * t.val + e.val, by have := n64 t; omega⟩ ⟨16 * p.val + q.val, by omega⟩ w h d) := by
  refine Eq.trans ?_ (split16 (m ((c : Thread nD τ).loc main_arg4)) _ p ⟨q.val, by omega⟩ w h d)
  rw [← V_v1 m c]
  have z : ∀ t : Fin cfg0.N, win0_5.index t 0 * win0_5.size 0 = 2 * t.val ∧ win0_5.index t 1 * win0_5.size 1 = 0 ∧ win0_5.index t 2 * win0_5.size 2 = 0
      ∧ win0_5.index t 3 * win0_5.size 3 = 0 ∧ win0_5.index t 4 * win0_5.size 4 = 0 ∧ win0_5.index t 5 * win0_5.size 5 = 0 := by decide +kernel
  refine congrArg (V m c main_v1) (funext fun a => Fin.ext ?_)
  match a with
  | ⟨0, _⟩ => show win0_5.index t 0 * win0_5.size 0 + 1 * e.val = _; rw [(z t).1]; show _ = 2 * t.val + e.val; omega
  | ⟨1, _⟩ => show win0_5.index t 1 * win0_5.size 1 + 1 * p.val = _; rw [(z t).2.1]; show _ = p.val; omega
  | ⟨2, _⟩ => show win0_5.index t 2 * win0_5.size 2 + 1 * q.val = _; rw [(z t).2.2.1]; show _ = q.val; omega
  | ⟨3, _⟩ => show win0_5.index t 3 * win0_5.size 3 + 1 * w.val = _; rw [(z t).2.2.2.1]; show _ = w.val; omega
  | ⟨4, _⟩ => show win0_5.index t 4 * win0_5.size 4 + 1 * h.val = _; rw [(z t).2.2.2.2.1]; show _ = h.val; omega
  | ⟨5, _⟩ => show win0_5.index t 5 * win0_5.size 5 + 1 * d.val = _; rw [(z t).2.2.2.2.2]; show _ = d.val; omega

end Cert.KernelIdeal.Arrays

end
-- ==== Proof.Ref.lean ====
/- The reference's sample attention read at an index. -/
module

public import proofs.«01_k».proof.Proof.Gen.ReferenceIdeal.Read
public import Idealize.ShloMosaic.Lib.Pointwise
public import Idealize.ShloMosaic.Lib.WordCmp
public import proofs.«01_k».proof.Proof.Attn

@[expose] public section

set_option maxRecDepth 16384

noncomputable section

namespace Cert.ReferenceIdeal.Attend

open Cert.ReferenceIdeal Cert.ReferenceIdeal.Gen Cert.ReferenceIdeal.Read Idealize.ShloMosaic Idealize.ShloMosaic.TcCoe Idealize.SL.Sem

/-- A group's masked scores from its queries and gathered keys. -/
def gsc (m : IVec S4x129 1) (q : FVec Ideal S128x4x4x128 .f32) (k : FVec Ideal S128x4x129x4x128 .f32) : FVec Ideal S128x4x4x129 .f32 :=
  select (broadcastInDim S128x4x4x129 ![0, 1, 2, 3] bcast_S1x4x1x129_S128x4x4x129_0_1_2_3 (broadcastInDim S1x4x1x129 ![1, 3] bcast_S4x129_S1x4x1x129_1_3 m))
    (mulf (Host.dotGeneral dot_S128x4x4x128_S128x4x129x4x128_S128x4x4x129_3_4_n_2_012_013 none q k)
      (broadcastInDim S128x4x4x129 ![] bcast_S_S128x4x4x129 (constant S_ .f32 0x3DB504F3#32)))
    (broadcastInDim S128x4x4x129 ![] bcast_S_S128x4x4x129 (constant S_ .f32 0xFF800000#32))

/-- A group's maxima. -/
def gmx (s : FVec Ideal S128x4x4x129 .f32) : FVec Ideal S128x4x4x1 .f32 :=
  broadcastInDim S128x4x4x1 ![0, 1, 2] bcast_S128x4x4_S128x4x4x1_0_1_2
    (Host.reduce FloatOps.maximumf s (constant S_ .f32 0xFF800000#32) reducesTo_S128x4x4x129_S128x4x4_d3 h_S_)

/-- A group's weights. -/
def gpw (s : FVec Ideal S128x4x4x129 .f32) : FVec Ideal S128x4x4x129 .f32 :=
  Host.exp (subf s (broadcastInDim S128x4x4x129 ![0, 1, 2, 3] bcast_S128x4x4x1_S128x4x4x129_0_1_2_3 (gmx s)))

/-- A group's denominators. -/
def gdn (s : FVec Ideal S128x4x4x129 .f32) : FVec Ideal S128x4x4x1 .f32 :=
  broadcastInDim S128x4x4x1 ![0, 1, 2] bcast_S128x4x4_S128x4x4x1_0_1_2
    (Host.reduceAdd (gpw s) (constant S_ .f32 0x00000000#32) reducesTo_S128x4x4x129_S128x4x4_d3 h_S_)

/-- A group's output. -/
def gout (s : FVec Ideal S128x4x4x129 .f32) (v : FVec Ideal S128x4x129x4x128 .f32) : FVec Ideal S128x4x4x128 .f32 :=
  Host.dotGeneral dot_S128x4x4x129_S128x4x129x4x128_S128x4x4x128_3_2_n_4_012_013 none
    (Host.divf (gpw s) (broadcastInDim S128x4x4x129 ![0, 1, 2, 3] bcast_S128x4x4x1_S128x4x4x129_0_1_2_3 (gdn s))) v

/-- A group's log-sum-exps. -/
def glse (s : FVec Ideal S128x4x4x129 .f32) : FVec Ideal S128x4x4 .f32 :=
  shapeCast _ (addf (gmx s) (Host.log (gdn s))) shapeCasts_S128x4x4x1_S128x4x4

/-- The word of minus infinity is `⊥`. -/
theorem ofBits_neg_inf : Ideal.ofBits .f32 0xFF800000#32 = ⊥ := by
  simp [Ideal.ofBits, Ideal.ieee]

theorem gsc_apply (m : IVec S4x129 1) (hm : ∀ t j, m (ix2 t j) = 1#1) (q : FVec Ideal S128x4x4x128 .f32) (k : FVec Ideal S128x4x129x4x128 .f32)
    (b : Fin 128) (t h : Fin 4) (j : Fin 129) :
    gsc m q k (ix4 b t h j) = (∑ d : Fin 128, q (ix4 b t h d) * k (ix5 b t j h d)) * Ideal.ofBits .f32 0x3DB504F3#32 := by
  pointwise [gsc]
  rw [hm]; rfl

theorem gmx_apply (s : FVec Ideal S128x4x4x129 .f32) (b : Fin 128) (t h : Fin 4) :
    gmx s (ix4 b t h 0) = Attn.mx (fun j : Fin 129 => s (ix4 b t h j)) := by
  pointwise [gmx]
  rw [ofBits_neg_inf]; rfl

theorem gpw_apply (s : FVec Ideal S128x4x4x129 .f32) (b : Fin 128) (t h : Fin 4) (j : Fin 129) :
    gpw s (ix4 b t h j) = Attn.pw (fun j : Fin 129 => s (ix4 b t h j)) j := by
  have e := gmx_apply s b t h
  unfold gpw
  generalize gmx s = M at e ⊢
  pointwise
  rw [e]; rfl

theorem gdn_apply (s : FVec Ideal S128x4x4x129 .f32) (b : Fin 128) (t h : Fin 4) :
    gdn s (ix4 b t h 0) = Attn.dn (fun j : Fin 129 => s (ix4 b t h j)) := by
  have e := gpw_apply s b t h
  unfold gdn
  generalize gpw s = M at e ⊢
  pointwise
  exact Finset.sum_congr rfl fun j _ => e j

theorem gout_apply (s : FVec Ideal S128x4x4x129 .f32) (v : FVec Ideal S128x4x129x4x128 .f32) (b : Fin 128) (t h : Fin 4) (d : Fin 128) :
    gout s v (ix4 b t h d) = Attn.out (fun j : Fin 129 => s (ix4 b t h j)) (fun j : Fin 129 => v (ix5 b t j h d)) := by
  have e := gpw_apply s b t h
  have e' := gdn_apply s b t h
  unfold gout
  generalize gpw s = M at e ⊢
  generalize gdn s = N at e' ⊢
  pointwise
  exact Finset.sum_congr rfl fun j _ => by rw [e, e']

theorem glse_apply (s : FVec Ideal S128x4x4x129 .f32) (b : Fin 128) (t h : Fin 4) :
    glse s (ix3 b t h) = Attn.lse (fun j : Fin 129 => s (ix4 b t h j)) := by
  have e := gmx_apply s b t h
  have e' := gdn_apply s b t h
  unfold glse
  generalize gmx s = M at e ⊢
  generalize gdn s = N at e' ⊢
  pointwise
  rw [e, e']; rfl

section Gather

variable {L : Nat} (wf : GatherDims.WF ⟨4, ![128, L, 4, 128]⟩ S4x129x1 S128x4x129x4x128 [0, 3, 4] [1] [] [1] [] 2 ![128, 1, 4, 128])

/-- A gather of whole rows of a sequence's keys or values. -/
abbrev rowsOf : GatherDims ⟨4, ![128, L, 4, 128]⟩ S4x129x1 S128x4x129x4x128 where
  offsetDims := [0, 3, 4]
  collapsedSliceDims := [1]
  operandBatchingDims := []
  startIndicesBatchingDims := []
  startIndexMap := [1]
  indexVectorDim := 2
  sliceSizes := ![128, 1, 4, 128]
  wf := wf

/-- The row a gather of whole rows reads. -/
theorem gather_rows (x : FVec Ideal ⟨4, ![128, L, 4, 128]⟩ .f32) (idx : IVec S4x129x1 32) (b : Fin 128) (t : Fin 4) (j : Fin 129) (h : Fin 4) (d : Fin 128)
    (p : Fin L) (hL : L < 2 ^ 31) (hp : idx (ix3 t j 0) = BitVec.ofNat 32 p.val) :
    Host.gather (rowsOf wf) x idx (ix5 b t j h d) = x (ix4 b p h d) := by
  unfold Host.gather
  congr 1
  funext a
  apply Fin.ext
  match a with
  | ⟨0, _⟩ =>
    show (rowsOf wf).start _ _ 0 + (rowsOf wf).batchCoord _ 0 + (rowsOf wf).offCoord _ 0 = b.val
    rw [GatherDims.batchCoord_eq_zero _ _ _ List.not_mem_nil]
    unfold GatherDims.start GatherDims.offCoord
    rw [dif_neg (by decide : (0 : Fin 4) ∉ ([1] : List (Fin 4))), dif_pos ((GatherDims.mem_sKept _ _).mpr ⟨(by decide : (0 : Fin 4) ∉ ([1] : List (Fin 4))), List.not_mem_nil⟩), Nat.zero_add]
    rfl
  | ⟨1, _⟩ =>
    show (rowsOf wf).start _ _ 1 + (rowsOf wf).batchCoord _ 1 + (rowsOf wf).offCoord _ 1 = p.val
    rw [GatherDims.batchCoord_eq_zero _ _ _ List.not_mem_nil, GatherDims.offCoord_eq_zero _ _ _ (fun e => ((GatherDims.mem_sKept _ _).mp e).1 (by decide : (1 : Fin 4) ∈ ([1] : List (Fin 4))))]
    unfold GatherDims.start
    rw [dif_pos (by decide : (1 : Fin 4) ∈ ([1] : List (Fin 4))), Nat.add_zero]
    have e : (rowsOf wf).siIdx (ix5 b t j h d) ⟨(rowsOf wf).startIndexMap.idxOf 1, (by decide : List.idxOf (1 : Fin 4) [1] < 1)⟩ = ix3 t j 0 := by
      funext c
      match c with
      | ⟨0, _⟩ => rfl
      | ⟨1, _⟩ => rfl
      | ⟨2, _⟩ => rfl
    rw [e, hp]
    have hv := p.isLt
    have hi : (BitVec.ofNat 32 p.val).toInt = p.val := by
      rw [BitVec.toInt_eq_toNat_of_lt (by rw [BitVec.toNat_ofNat]; omega), BitVec.toNat_ofNat]; omega
    rw [hi]
    show min p.val (L - 1) = p.val
    omega
  | ⟨2, _⟩ =>
    show (rowsOf wf).start _ _ 2 + (rowsOf wf).batchCoord _ 2 + (rowsOf wf).offCoord _ 2 = h.val
    rw [GatherDims.batchCoord_eq_zero _ _ _ List.not_mem_nil]
    unfold GatherDims.start GatherDims.offCoord
    rw [dif_neg (by decide : (2 : Fin 4) ∉ ([1] : List (Fin 4))), dif_pos ((GatherDims.mem_sKept _ _).mpr ⟨(by decide : (2 : Fin 4) ∉ ([1] : List (Fin 4))), List.not_mem_nil⟩), Nat.zero_add]
    rfl
  | ⟨3, _⟩ =>
    show (rowsOf wf).start _ _ 3 + (rowsOf wf).batchCoord _ 3 + (rowsOf wf).offCoord _ 3 = d.val
    rw [GatherDims.batchCoord_eq_zero _ _ _ List.not_mem_nil]
    unfold GatherDims.start GatherDims.offCoord
    rw [dif_neg (by decide : (3 : Fin 4) ∉ ([1] : List (Fin 4))), dif_pos ((GatherDims.mem_sKept _ _).mpr ⟨(by decide : (3 : Fin 4) ∉ ([1] : List (Fin 4))), List.not_mem_nil⟩), Nat.zero_add]
    rfl

end Gather

section Rows

/-- The row a query's key lies in: `L + t - w * j` for key `j` of token `t`. -/
theorem row_word {L w t j : Nat} (hL : L < 4096) (ht : t < 4) (hj : j < 129) (hw : w * j ≤ L) (hw' : w < 4096) :
    IntOp.maxsi (IntOp.subi (IntOp.addi (BitVec.ofNat 32 L) (BitVec.ofNat 32 t)) (IntOp.muli (BitVec.ofNat 32 w) (BitVec.ofNat 32 j))) 0#32
      = BitVec.ofNat 32 (L + t - w * j) ∧
    IntOp.cmpi .sge (IntOp.subi (IntOp.addi (BitVec.ofNat 32 L) (BitVec.ofNat 32 t)) (IntOp.muli (BitVec.ofNat 32 w) (BitVec.ofNat 32 j))) 0#32 = 1#1 := by
  have e : IntOp.subi (IntOp.addi (BitVec.ofNat 32 L) (BitVec.ofNat 32 t)) (IntOp.muli (BitVec.ofNat 32 w) (BitVec.ofNat 32 j)) = BitVec.ofNat 32 (L + t - w * j) := by
    apply BitVec.eq_of_toNat_eq
    show (BitVec.ofNat 32 L + BitVec.ofNat 32 t - BitVec.ofNat 32 w * BitVec.ofNat 32 j).toNat = _
    rw [← BitVec.ofNat_mul, ← BitVec.ofNat_add, BitVec.toNat_sub, BitVec.toNat_ofNat, BitVec.toNat_ofNat, BitVec.toNat_ofNat]
    generalize w * j = q at *
    omega
  rw [e]
  have hb : L + t - w * j < 2 ^ 31 := by generalize w * j = q at *; omega
  have hi : (BitVec.ofNat 32 (L + t - w * j)).toInt = ((L + t - w * j : Nat) : Int) := by
    rw [BitVec.toInt_eq_toNat_of_lt (by rw [BitVec.toNat_ofNat]; omega), BitVec.toNat_ofNat, Nat.mod_eq_of_lt (by omega)]
  constructor
  · unfold IntOp.maxsi
    by_cases h0 : L + t - w * j = 0
    · rw [h0]; rfl
    · have hs : (0#32).slt (BitVec.ofNat 32 (L + t - w * j)) = true := by
        rw [BitVec.slt, hi]
        exact decide_eq_true (show (0 : Int) < _ by omega)
      rw [if_pos hs]
  · exact (WordCmp.cmpi_sge_ofNat_eq_one_iff (b := 0) (by omega) (by decide)).mpr (Nat.zero_le _)

/-- A row's word is not negative, so it isn't wrapped. -/
theorem nowrap_word {n : Nat} (hn : n < 2 ^ 31) (y : BitVec 32) :
    Scalar.select (IntOp.cmpi .slt (BitVec.ofNat 32 n) 0#32) y (BitVec.ofNat 32 n) = BitVec.ofNat 32 n := by
  have e : IntOp.cmpi .slt (BitVec.ofNat 32 n) 0#32 = 0#1 := (WordCmp.cmpi_slt_ofNat_eq_zero_iff (b := 0) (by omega) (by decide)).mpr (by omega)
  rw [e]; rfl

end Rows

end Cert.ReferenceIdeal.Attend

end
-- ==== Proof.RefValue.lean ====
/- The reference's sample attention as the attention over its 129 keys of each group. -/
module

public import proofs.«01_k».proof.Proof.Ref

@[expose] public section

set_option maxRecDepth 16384

noncomputable section

namespace Cert.ReferenceIdeal.Attend

open Cert.ReferenceIdeal Cert.ReferenceIdeal.Gen Cert.ReferenceIdeal.Read Idealize.ShloMosaic Idealize.ShloMosaic.TcCoe Idealize.SL.Sem

/-- Token `t` of sequence `b`, head `h`, in a group whose columns begin at `col`. -/
def tok {W : Nat} (x : FVec Ideal ⟨2, ![8704, W]⟩ .f32) (col : Nat) (hc : col + 512 ≤ W) (b : Fin 128) (t h : Fin 4) (d : Fin 128) : EReal :=
  x (ix2 ⟨8192 + (4 * b.val + t.val), by omega⟩ ⟨col + (128 * h.val + d.val), by omega⟩)

/-- Row `p` of a sequence's cached rows followed by its new tokens. -/
def key {L W : Nat} (x : FVec Ideal ⟨2, ![8704, W]⟩ .f32) (col : Nat) (hc : col + 512 ≤ W) (c : FVec Ideal ⟨5, ![128, L, 2, 4, 128]⟩ .f32) (w : Fin 2)
    (b : Fin 128) (p : Fin (L + 4)) (h : Fin 4) (d : Fin 128) : EReal :=
  if hp : p.val < L then c (ix5 b ⟨p.val, hp⟩ w h d) else tok x col hc b ⟨p.val - L, by omega⟩ h d

theorem key_eq {L W : Nat} (x : FVec Ideal ⟨2, ![8704, W]⟩ .f32) (col : Nat) (hc : col + 512 ≤ W) (c : FVec Ideal ⟨5, ![128, L, 2, 4, 128]⟩ .f32) (w : Fin 2)
    (b : Fin 128) (p : Fin (L + 4)) (h : Fin 4) (d : Fin 128) (i : ¬ p.val < L → Fin 8704) (k : ¬ p.val < L → Fin W)
    (hi : ∀ hp, (i hp).val = 8192 + (4 * b.val + (p.val - L))) (hk : ∀ hp, (k hp).val = col + (128 * h.val + d.val)) :
    (if hp : p.val < L then c (ix5 b ⟨p.val, hp⟩ w h d) else x (ix2 (i hp) (k hp))) = key x col hc c w b p h d := by
  unfold key tok
  by_cases hp : p.val < L
  · rw [dif_pos hp, dif_pos hp]
  · rw [dif_neg hp, dif_neg hp]
    congr 2
    · exact Fin.ext (hi hp)
    · exact Fin.ext (hk hp)

theorem tok_eq {W : Nat} (x : FVec Ideal ⟨2, ![8704, W]⟩ .f32) (col : Nat) (hc : col + 512 ≤ W) (b : Fin 128) (t h : Fin 4) (d : Fin 128) (i : Fin 8704) (k : Fin W)
    (hi : i.val = 8192 + (4 * b.val + t.val)) (hk : k.val = col + (128 * h.val + d.val)) : x (ix2 i k) = tok x col hc b t h d := by
  unfold tok
  congr 2
  · exact Fin.ext hi
  · exact Fin.ext hk

/-- A query's scaled product with a key. -/
def rdot (q k : Fin 128 → EReal) : EReal := (∑ d : Fin 128, q d * k d) * Ideal.ofBits .f32 0x3DB504F3#32

/-- Key `j` of token `t` in a group of stride `w` and length `L`. -/
def back (L w : Nat) (hw : 128 * w ≤ L) (t : Fin 4) (j : Fin 129) : Fin (L + 4) := ⟨L + t.val - w * j.val, by omega⟩

variable (x0 : FVec Ideal S8704x3072 .f32) (x1 : FVec Ideal S8704x1536 .f32) (x2 : FVec Ideal S128x128x2x4x128 .f32)
  (x3 : FVec Ideal S128x512x2x4x128 .f32) (x4 : FVec Ideal S128x2048x2x4x128 .f32)

/-! Group 0: 128 cached rows, stride 1. -/

theorem words0 (t : Fin 4) (j : Fin 129) : val_main_v40 (F := Ideal) (ix3 t j 0) = BitVec.ofNat 32 (back 128 1 (by decide) t j).val
    ∧ val_main_v47 (F := Ideal) (ix3 t j 0) = BitVec.ofNat 32 (back 128 1 (by decide) t j).val ∧ val_main_v32 (F := Ideal) (ix2 t j) = 1#1 := by
  obtain ⟨e, e'⟩ := row_word (L := 128) (w := 1) (t := t.val) (j := j.val) (by decide) t.isLt j.isLt (by omega) (by decide)
  have hn : 128 + t.val - 1 * j.val < 2 ^ 31 := by omega
  refine ⟨?_, ?_, ?_⟩
  · pointwise [val_main_v40, val_main_v39, val_main_v36, val_main_v38, val_main_v34, val_main_v35, val_main_v37, val_main_v30, val_main_v33, val_main_c_3, val_main_c_4, val_main_v28, val_main_v29, val_main_c_2, val_main_v23, val_main_v27, val_main_v16, val_main_v26, val_main_v25, val_main_v15, val_main_v14, val_main_c_0, val_main_v24, val_main_c]
    rw [e]; exact nowrap_word hn _
  · pointwise [val_main_v47, val_main_v46, val_main_v43, val_main_v45, val_main_v34, val_main_v42, val_main_v44, val_main_v30, val_main_v33, val_main_c_5, val_main_c_6, val_main_v28, val_main_v29, val_main_c_2, val_main_v23, val_main_v27, val_main_v16, val_main_v26, val_main_v25, val_main_v15, val_main_v14, val_main_c_0, val_main_v24, val_main_c]
    rw [e]; exact nowrap_word hn _
  · pointwise [val_main_v32, val_main_v30, val_main_v31, val_main_v28, val_main_v29, val_main_c_1, val_main_v23, val_main_v27, val_main_v16, val_main_v26, val_main_v25, val_main_v15, val_main_v14, val_main_c_0, val_main_v24, val_main_c]
    exact e'

theorem query0 (b : Fin 128) (t h : Fin 4) (d : Fin 128) :
    val_main_v18 (F := Ideal) x0 (ix4 b t h d) = tok x0 0 (by decide) b t h d := by
  pointwise [val_main_v18, val_main_v17, val_main_v1, val_main_v0]
  exact tok_eq _ _ _ _ _ _ _ _ _ (by dsimp only; omega) (by dsimp only; omega)

theorem keys0 (b : Fin 128) (p : Fin 132) (h : Fin 4) (d : Fin 128) :
    val_main_v20 (F := Ideal) x0 x1 x2 (ix4 b p h d) = key (L := 128) x0 1536 (by decide) x2 0 b p h d := by
  pointwise [val_main_v20, val_main_v19, val_main_v13, val_main_v12, val_main_v10, val_main_v11, val_main_v7, val_main_v9, val_main_v6, val_main_v8, val_main_v3, val_main_v5, val_main_v2, val_main_v4]
  exact key_eq (L := 128) _ _ _ _ _ _ _ _ _ _ _ (fun _ => by dsimp only; omega) (fun _ => by dsimp only; omega)

theorem vals0 (b : Fin 128) (p : Fin 132) (h : Fin 4) (d : Fin 128) :
    val_main_v22 (F := Ideal) x0 x1 x2 (ix4 b p h d) = key (L := 128) x1 0 (by decide) x2 1 b p h d := by
  pointwise [val_main_v22, val_main_v21, val_main_v13, val_main_v12, val_main_v10, val_main_v11, val_main_v7, val_main_v9, val_main_v6, val_main_v8, val_main_v3, val_main_v5, val_main_v2, val_main_v4]
  exact key_eq (L := 128) _ _ _ _ _ _ _ _ _ _ _ (fun _ => by dsimp only; omega) (fun _ => by dsimp only; omega)

/-- Group 0's score of token `t` with its key `j`. -/
def sc0 (b : Fin 128) (t h : Fin 4) (j : Fin 129) : EReal :=
  rdot (tok x0 0 (by decide) b t h) (key (L := 128) x0 1536 (by decide) x2 0 b (back 128 1 (by decide) t j) h)

/-- Group 0's value at key `j`. -/
def vl0 (b : Fin 128) (t h : Fin 4) (d : Fin 128) (j : Fin 129) : EReal :=
  key (L := 128) x1 0 (by decide) x2 1 b (back 128 1 (by decide) t j) h d

theorem score0 (b : Fin 128) (t h : Fin 4) (j : Fin 129) : val_main_v53 (F := Ideal) x0 x1 x2 (ix4 b t h j) = sc0 x0 x2 b t h j := by
  have e : val_main_v53 (F := Ideal) x0 x1 x2 = gsc (val_main_v32 (F := Ideal)) (val_main_v18 (F := Ideal) x0) (val_main_v41 (F := Ideal) x0 x1 x2) := rfl
  rw [e, gsc_apply _ (fun t j => (words0 t j).2.2)]
  unfold sc0 rdot
  congr 1
  refine Finset.sum_congr rfl fun d _ => ?_
  rw [query0]
  congr 1
  exact (gather_rows (L := 132) gather_S128x132x4x128_S4x129x1_S128x4x129x4x128_034_1_n_n_1_2_12814128_wf _ _ b t j h d _ (by decide) (words0 t j).1).trans
    (keys0 x0 x1 x2 b _ h d)

theorem value0 (b : Fin 128) (t h : Fin 4) (j : Fin 129) (d : Fin 128) : val_main_v48 (F := Ideal) x0 x1 x2 (ix5 b t j h d) = vl0 x1 x2 b t h d j :=
  (gather_rows (L := 132) gather_S128x132x4x128_S4x129x1_S128x4x129x4x128_034_1_n_n_1_2_12814128_wf _ _ b t j h d _ (by decide) (words0 t j).2.1).trans
    (vals0 x0 x1 x2 b _ h d)

theorem out0 (b : Fin 128) (t h : Fin 4) (d : Fin 128) :
    val_main_v63 (F := Ideal) x0 x1 x2 (ix4 b t h d) = Attn.out (sc0 x0 x2 b t h) (vl0 x1 x2 b t h d) := by
  have e : val_main_v63 (F := Ideal) x0 x1 x2 = gout (val_main_v53 (F := Ideal) x0 x1 x2) (val_main_v48 (F := Ideal) x0 x1 x2) := rfl
  rw [e, gout_apply]
  congr 1
  · funext j; exact score0 x0 x1 x2 b t h j
  · funext j; exact value0 x0 x1 x2 b t h j d

theorem lse0 (b : Fin 128) (t h : Fin 4) :
    val_main_v66 (F := Ideal) x0 x1 x2 (ix3 b t h) = Attn.lse (sc0 x0 x2 b t h) := by
  have e : val_main_v66 (F := Ideal) x0 x1 x2 = glse (val_main_v53 (F := Ideal) x0 x1 x2) := rfl
  rw [e, glse_apply]
  congr 1
  funext j; exact score0 x0 x1 x2 b t h j

/-! Group 1: 512 cached rows, stride 4. -/

theorem words1 (t : Fin 4) (j : Fin 129) : val_main_v101 (F := Ideal) (ix3 t j 0) = BitVec.ofNat 32 (back 512 4 (by decide) t j).val
    ∧ val_main_v108 (F := Ideal) (ix3 t j 0) = BitVec.ofNat 32 (back 512 4 (by decide) t j).val ∧ val_main_v93 (F := Ideal) (ix2 t j) = 1#1 := by
  obtain ⟨e, e'⟩ := row_word (L := 512) (w := 4) (t := t.val) (j := j.val) (by decide) t.isLt j.isLt (by omega) (by decide)
  have hn : 512 + t.val - 4 * j.val < 2 ^ 31 := by omega
  refine ⟨?_, ?_, ?_⟩
  · pointwise [val_main_v101, val_main_v100, val_main_v97, val_main_v99, val_main_v95, val_main_v96, val_main_v98, val_main_v91, val_main_v94, val_main_c_14, val_main_c_15, val_main_v89, val_main_v90, val_main_c_13, val_main_v84, val_main_v88, val_main_v77, val_main_v87, val_main_v86, val_main_v76, val_main_v75, val_main_c_11, val_main_v85, val_main_c_10]
    rw [e]; exact nowrap_word hn _
  · pointwise [val_main_v108, val_main_v107, val_main_v104, val_main_v106, val_main_v95, val_main_v103, val_main_v105, val_main_v91, val_main_v94, val_main_c_16, val_main_c_17, val_main_v89, val_main_v90, val_main_c_13, val_main_v84, val_main_v88, val_main_v77, val_main_v87, val_main_v86, val_main_v76, val_main_v75, val_main_c_11, val_main_v85, val_main_c_10]
    rw [e]; exact nowrap_word hn _
  · pointwise [val_main_v93, val_main_v91, val_main_v92, val_main_v89, val_main_v90, val_main_c_12, val_main_v84, val_main_v88, val_main_v77, val_main_v87, val_main_v86, val_main_v76, val_main_v75, val_main_c_11, val_main_v85, val_main_c_10]
    exact e'

theorem query1 (b : Fin 128) (t h : Fin 4) (d : Fin 128) :
    val_main_v79 (F := Ideal) x0 (ix4 b t h d) = tok x0 512 (by decide) b t h d := by
  pointwise [val_main_v79, val_main_v78, val_main_v1, val_main_v0]
  exact tok_eq _ _ _ _ _ _ _ _ _ (by dsimp only; omega) (by dsimp only; omega)

theorem keys1 (b : Fin 128) (p : Fin 516) (h : Fin 4) (d : Fin 128) :
    val_main_v81 (F := Ideal) x0 x1 x3 (ix4 b p h d) = key (L := 512) x0 2048 (by decide) x3 0 b p h d := by
  pointwise [val_main_v81, val_main_v80, val_main_v74, val_main_v73, val_main_v71, val_main_v72, val_main_v68, val_main_v70, val_main_v67, val_main_v69, val_main_v3, val_main_v5, val_main_v2, val_main_v4]
  exact key_eq (L := 512) _ _ _ _ _ _ _ _ _ _ _ (fun _ => by dsimp only; omega) (fun _ => by dsimp only; omega)

theorem vals1 (b : Fin 128) (p : Fin 516) (h : Fin 4) (d : Fin 128) :
    val_main_v83 (F := Ideal) x0 x1 x3 (ix4 b p h d) = key (L := 512) x1 512 (by decide) x3 1 b p h d := by
  pointwise [val_main_v83, val_main_v82, val_main_v74, val_main_v73, val_main_v71, val_main_v72, val_main_v68, val_main_v70, val_main_v67, val_main_v69, val_main_v3, val_main_v5, val_main_v2, val_main_v4]
  exact key_eq (L := 512) _ _ _ _ _ _ _ _ _ _ _ (fun _ => by dsimp only; omega) (fun _ => by dsimp only; omega)

/-- Group 1's score of token `t` with its key `j`. -/
def sc1 (b : Fin 128) (t h : Fin 4) (j : Fin 129) : EReal :=
  rdot (tok x0 512 (by decide) b t h) (key (L := 512) x0 2048 (by decide) x3 0 b (back 512 4 (by decide) t j) h)

/-- Group 1's value at key `j`. -/
def vl1 (b : Fin 128) (t h : Fin 4) (d : Fin 128) (j : Fin 129) : EReal :=
  key (L := 512) x1 512 (by decide) x3 1 b (back 512 4 (by decide) t j) h d

theorem score1 (b : Fin 128) (t h : Fin 4) (j : Fin 129) : val_main_v114 (F := Ideal) x0 x1 x3 (ix4 b t h j) = sc1 x0 x3 b t h j := by
  have e : val_main_v114 (F := Ideal) x0 x1 x3 = gsc (val_main_v93 (F := Ideal)) (val_main_v79 (F := Ideal) x0) (val_main_v102 (F := Ideal) x0 x1 x3) := rfl
  rw [e, gsc_apply _ (fun t j => (words1 t j).2.2)]
  unfold sc1 rdot
  congr 1
  refine Finset.sum_congr rfl fun d _ => ?_
  rw [query1]
  congr 1
  exact (gather_rows (L := 516) gather_S128x516x4x128_S4x129x1_S128x4x129x4x128_034_1_n_n_1_2_12814128_wf _ _ b t j h d _ (by decide) (words1 t j).1).trans
    (keys1 x0 x1 x3 b _ h d)

theorem value1 (b : Fin 128) (t h : Fin 4) (j : Fin 129) (d : Fin 128) : val_main_v109 (F := Ideal) x0 x1 x3 (ix5 b t j h d) = vl1 x1 x3 b t h d j :=
  (gather_rows (L := 516) gather_S128x516x4x128_S4x129x1_S128x4x129x4x128_034_1_n_n_1_2_12814128_wf _ _ b t j h d _ (by decide) (words1 t j).2.1).trans
    (vals1 x0 x1 x3 b _ h d)

theorem out1 (b : Fin 128) (t h : Fin 4) (d : Fin 128) :
    val_main_v124 (F := Ideal) x0 x1 x3 (ix4 b t h d) = Attn.out (sc1 x0 x3 b t h) (vl1 x1 x3 b t h d) := by
  have e : val_main_v124 (F := Ideal) x0 x1 x3 = gout (val_main_v114 (F := Ideal) x0 x1 x3) (val_main_v109 (F := Ideal) x0 x1 x3) := rfl
  rw [e, gout_apply]
  congr 1
  · funext j; exact score1 x0 x1 x3 b t h j
  · funext j; exact value1 x0 x1 x3 b t h j d

theorem lse1 (b : Fin 128) (t h : Fin 4) :
    val_main_v127 (F := Ideal) x0 x1 x3 (ix3 b t h) = Attn.lse (sc1 x0 x3 b t h) := by
  have e : val_main_v127 (F := Ideal) x0 x1 x3 = glse (val_main_v114 (F := Ideal) x0 x1 x3) := rfl
  rw [e, glse_apply]
  congr 1
  funext j; exact score1 x0 x1 x3 b t h j

/-! Group 2: 2048 cached rows, stride 16. -/

theorem words2 (t : Fin 4) (j : Fin 129) : val_main_v162 (F := Ideal) (ix3 t j 0) = BitVec.ofNat 32 (back 2048 16 (by decide) t j).val
    ∧ val_main_v169 (F := Ideal) (ix3 t j 0) = BitVec.ofNat 32 (back 2048 16 (by decide) t j).val ∧ val_main_v154 (F := Ideal) (ix2 t j) = 1#1 := by
  obtain ⟨e, e'⟩ := row_word (L := 2048) (w := 16) (t := t.val) (j := j.val) (by decide) t.isLt j.isLt (by omega) (by decide)
  have hn : 2048 + t.val - 16 * j.val < 2 ^ 31 := by omega
  refine ⟨?_, ?_, ?_⟩
  · pointwise [val_main_v162, val_main_v161, val_main_v158, val_main_v160, val_main_v156, val_main_v157, val_main_v159, val_main_v152, val_main_v155, val_main_c_26, val_main_c_27, val_main_v150, val_main_v151, val_main_c_25, val_main_v145, val_main_v149, val_main_v138, val_main_v148, val_main_v147, val_main_v137, val_main_v136, val_main_c_23, val_main_v146, val_main_c_22]
    rw [e]; exact nowrap_word hn _
  · pointwise [val_main_v169, val_main_v168, val_main_v165, val_main_v167, val_main_v156, val_main_v164, val_main_v166, val_main_v152, val_main_v155, val_main_c_28, val_main_c_29, val_main_v150, val_main_v151, val_main_c_25, val_main_v145, val_main_v149, val_main_v138, val_main_v148, val_main_v147, val_main_v137, val_main_v136, val_main_c_23, val_main_v146, val_main_c_22]
    rw [e]; exact nowrap_word hn _
  · pointwise [val_main_v154, val_main_v152, val_main_v153, val_main_v150, val_main_v151, val_main_c_24, val_main_v145, val_main_v149, val_main_v138, val_main_v148, val_main_v147, val_main_v137, val_main_v136, val_main_c_23, val_main_v146, val_main_c_22]
    exact e'

theorem query2 (b : Fin 128) (t h : Fin 4) (d : Fin 128) :
    val_main_v140 (F := Ideal) x0 (ix4 b t h d) = tok x0 1024 (by decide) b t h d := by
  pointwise [val_main_v140, val_main_v139, val_main_v1, val_main_v0]
  exact tok_eq _ _ _ _ _ _ _ _ _ (by dsimp only; omega) (by dsimp only; omega)

theorem keys2 (b : Fin 128) (p : Fin 2052) (h : Fin 4) (d : Fin 128) :
    val_main_v142 (F := Ideal) x0 x1 x4 (ix4 b p h d) = key (L := 2048) x0 2560 (by decide) x4 0 b p h d := by
  pointwise [val_main_v142, val_main_v141, val_main_v135, val_main_v134, val_main_v132, val_main_v133, val_main_v129, val_main_v131, val_main_v128, val_main_v130, val_main_v3, val_main_v5, val_main_v2, val_main_v4]
  exact key_eq (L := 2048) _ _ _ _ _ _ _ _ _ _ _ (fun _ => by dsimp only; omega) (fun _ => by dsimp only; omega)

theorem vals2 (b : Fin 128) (p : Fin 2052) (h : Fin 4) (d : Fin 128) :
    val_main_v144 (F := Ideal) x0 x1 x4 (ix4 b p h d) = key (L := 2048) x1 1024 (by decide) x4 1 b p h d := by
  pointwise [val_main_v144, val_main_v143, val_main_v135, val_main_v134, val_main_v132, val_main_v133, val_main_v129, val_main_v131, val_main_v128, val_main_v130, val_main_v3, val_main_v5, val_main_v2, val_main_v4]
  exact key_eq (L := 2048) _ _ _ _ _ _ _ _ _ _ _ (fun _ => by dsimp only; omega) (fun _ => by dsimp only; omega)

/-- Group 2's score of token `t` with its key `j`. -/
def sc2 (b : Fin 128) (t h : Fin 4) (j : Fin 129) : EReal :=
  rdot (tok x0 1024 (by decide) b t h) (key (L := 2048) x0 2560 (by decide) x4 0 b (back 2048 16 (by decide) t j) h)

/-- Group 2's value at key `j`. -/
def vl2 (b : Fin 128) (t h : Fin 4) (d : Fin 128) (j : Fin 129) : EReal :=
  key (L := 2048) x1 1024 (by decide) x4 1 b (back 2048 16 (by decide) t j) h d

theorem score2 (b : Fin 128) (t h : Fin 4) (j : Fin 129) : val_main_v175 (F := Ideal) x0 x1 x4 (ix4 b t h j) = sc2 x0 x4 b t h j := by
  have e : val_main_v175 (F := Ideal) x0 x1 x4 = gsc (val_main_v154 (F := Ideal)) (val_main_v140 (F := Ideal) x0) (val_main_v163 (F := Ideal) x0 x1 x4) := rfl
  rw [e, gsc_apply _ (fun t j => (words2 t j).2.2)]
  unfold sc2 rdot
  congr 1
  refine Finset.sum_congr rfl fun d _ => ?_
  rw [query2]
  congr 1
  exact (gather_rows (L := 2052) gather_S128x2052x4x128_S4x129x1_S128x4x129x4x128_034_1_n_n_1_2_12814128_wf _ _ b t j h d _ (by decide) (words2 t j).1).trans
    (keys2 x0 x1 x4 b _ h d)

theorem value2 (b : Fin 128) (t h : Fin 4) (j : Fin 129) (d : Fin 128) : val_main_v170 (F := Ideal) x0 x1 x4 (ix5 b t j h d) = vl2 x1 x4 b t h d j :=
  (gather_rows (L := 2052) gather_S128x2052x4x128_S4x129x1_S128x4x129x4x128_034_1_n_n_1_2_12814128_wf _ _ b t j h d _ (by decide) (words2 t j).2.1).trans
    (vals2 x0 x1 x4 b _ h d)

theorem out2 (b : Fin 128) (t h : Fin 4) (d : Fin 128) :
    val_main_v185 (F := Ideal) x0 x1 x4 (ix4 b t h d) = Attn.out (sc2 x0 x4 b t h) (vl2 x1 x4 b t h d) := by
  have e : val_main_v185 (F := Ideal) x0 x1 x4 = gout (val_main_v175 (F := Ideal) x0 x1 x4) (val_main_v170 (F := Ideal) x0 x1 x4) := rfl
  rw [e, gout_apply]
  congr 1
  · funext j; exact score2 x0 x1 x4 b t h j
  · funext j; exact value2 x0 x1 x4 b t h j d

theorem lse2 (b : Fin 128) (t h : Fin 4) :
    val_main_v188 (F := Ideal) x0 x1 x4 (ix3 b t h) = Attn.lse (sc2 x0 x4 b t h) := by
  have e : val_main_v188 (F := Ideal) x0 x1 x4 = glse (val_main_v175 (F := Ideal) x0 x1 x4) := rfl
  rw [e, glse_apply]
  congr 1
  funext j; exact score2 x0 x1 x4 b t h j

/-- The stacked log-sum-exps. -/
theorem stacked (b : Fin 128) (t h : Fin 4) (g : Fin 3) : val_main_v192 (F := Ideal) x0 x1 x2 x3 x4 (ix4 g b t h)
    = if g.val = 0 then Attn.lse (sc0 x0 x2 b t h) else if g.val = 1 then Attn.lse (sc1 x0 x3 b t h) else Attn.lse (sc2 x0 x4 b t h) := by
  rw [← lse0 x0 x1, ← lse1 x0 x1, ← lse2 x0 x1]
  pointwise [val_main_v192, val_main_v189, val_main_v190, val_main_v191]
  match g with
  | ⟨0, _⟩ => rfl
  | ⟨1, _⟩ => rfl
  | ⟨2, _⟩ => rfl

/-- The maximum of three. -/
theorem fold3 (f : Fin 3 → EReal) : (Finset.univ : Finset (Fin 3)).fold max ⊥ f = max (max (f 0) (f 1)) (f 2) := by
  rw [show (Finset.univ : Finset (Fin 3)) = {0, 1, 2} from rfl, Finset.fold_insert (by decide), Finset.fold_insert (by decide), Finset.fold_singleton,
    max_bot_right, max_assoc]

theorem top (b : Fin 128) (t h : Fin 4) : val_main_v195 (F := Ideal) x0 x1 x2 x3 x4 (ix3 b t h)
    = max (max (Attn.lse (sc0 x0 x2 b t h)) (Attn.lse (sc1 x0 x3 b t h))) (Attn.lse (sc2 x0 x4 b t h)) := by
  have e := stacked x0 x1 x2 x3 x4 b t h
  unfold val_main_v195 val_main_v193
  generalize val_main_v192 (F := Ideal) x0 x1 x2 x3 x4 = M at e ⊢
  pointwise [val_main_v194, val_main_cst_34, val_main_cst_35]
  rw [ofBits_neg_inf, fold3, e, e, e, max_bot_left]
  rfl

theorem result (R C : Fin 512) (b : Fin 128) (t h : Fin 4) (d : Fin 128) (hR : R.val = 4 * b.val + t.val) (hC : C.val = 128 * h.val + d.val) :
    val_main_v211 (F := Ideal) x0 x1 x2 x3 x4 (ix2 R C) = Attn.attn (sc0 x0 x2 b t h) (vl0 x1 x2 b t h d) (sc1 x0 x3 b t h) (vl1 x1 x3 b t h d)
      (sc2 x0 x4 b t h) (vl2 x1 x4 b t h d) := by
  have e := stacked x0 x1 x2 x3 x4 b t h
  have e' := top x0 x1 x2 x3 x4 b t h
  unfold Attn.attn
  rw [← out0, ← out1, ← out2]
  have hs : val_main_v211 (F := Ideal) x0 x1 x2 x3 x4 (ix2 R C) = val_main_v208 (F := Ideal) x0 x1 x2 x3 x4 (ix4 b t h d) := by
    unfold val_main_v211 val_main_v210 val_main_v209
    generalize val_main_v208 (F := Ideal) x0 x1 x2 x3 x4 = N
    pointwise
    congr 1
    congr 1 <;> apply Fin.ext
    · show R.val / 4 = b.val
      omega
    · show R.val % 4 = t.val
      omega
    · show C.val / 128 = h.val
      omega
    · show C.val % 128 = d.val
      omega
  rw [hs]
  unfold val_main_v208 val_main_v207 val_main_v203 val_main_v202 val_main_v201 val_main_v200 val_main_v206 val_main_v205 val_main_v204
  unfold val_main_v199 val_main_v198 val_main_v197 val_main_v196
  generalize val_main_v195 (F := Ideal) x0 x1 x2 x3 x4 = N at e' ⊢
  generalize val_main_v192 (F := Ideal) x0 x1 x2 x3 x4 = M at e ⊢
  generalize val_main_v63 (F := Ideal) x0 x1 x2 = o0
  generalize val_main_v124 (F := Ideal) x0 x1 x3 = o1
  generalize val_main_v185 (F := Ideal) x0 x1 x4 = o2
  pointwise [val_main_cst_36]
  simp only [Fin.sum_univ_three, e, e']
  rfl

end Cert.ReferenceIdeal.Attend

end
-- ==== Proof.Finite.lean ====
/- What the precondition says of the queries, the new keys and the first cache's keys. -/
module

public import proofs.«01_k».proof.Proof.RefValue
public import proofs.«01_k».proof.Proof.Gen.Pre_finite_keys
public import Idealize.ShloMosaic.Lib.ReduceAll

@[expose] public section

set_option maxRecDepth 16384

noncomputable section

namespace Cert.ReferenceIdeal.Attend

open Cert.ReferenceIdeal Idealize.ShloMosaic Idealize.ShloMosaic.TcCoe Idealize.SL.Sem

theorem ofBits_inf : Ideal.ofBits .f32 0x7F800000#32 = (⊤ : EReal) := by
  simp [Ideal.ofBits, Ideal.ieee]

/-- A number whose magnitude is below infinity is real. -/
theorem real_of_abs (x : EReal) (h : Ideal.cmp .olt (max x (-x)) (Ideal.ofBits .f32 0x7F800000#32) = 1#1) : ∃ r : ℝ, x = r := by
  rw [ofBits_inf] at h
  have h' : max x (-x) < ⊤ := by
    by_contra hn
    have : max x (-x) = ⊤ := not_lt_top_iff.mp hn
    rw [this] at h
    simp [Ideal.cmp] at h
  have a : x ≠ ⊤ := fun e => by simp [e] at h'
  have b : x ≠ ⊥ := fun e => by simp [e] at h'
  exact ⟨x.toReal, (EReal.coe_toReal a b).symm⟩

/-- A real sum read among the extended reals. -/
theorem coe_sum {J : Type} (u : Finset J) (f : J → ℝ) : ((∑ d ∈ u, f d : ℝ) : EReal) = ∑ d ∈ u, (f d : EReal) := by
  classical
  induction u using Finset.induction_on with
  | empty => simp
  | insert a u ha ih => rw [Finset.sum_insert ha, Finset.sum_insert ha, EReal.coe_add, ih]

/-- A finite sum of products of real numbers, scaled, is real. -/
theorem rdot_real (q k : Fin 128 → EReal) (hq : ∀ d, ∃ r : ℝ, q d = r) (hk : ∀ d, ∃ r : ℝ, k d = r) : ∃ r : ℝ, rdot q k = r := by
  choose a ha using hq
  choose b hb using hk
  have hs : ∃ s : ℝ, Ideal.ofBits .f32 0x3DB504F3#32 = (s : EReal) := by
    simp only [Ideal.ofBits, Ideal.ieee]
    norm_num
    exact ⟨_, rfl⟩
  obtain ⟨s, hs⟩ := hs
  refine ⟨(∑ d, a d * b d) * s, ?_⟩
  unfold rdot
  rw [hs, EReal.coe_mul]
  congr 1
  refine (Finset.sum_congr rfl fun d _ => by rw [ha, hb, ← EReal.coe_mul]).trans (coe_sum _ fun d => a d * b d).symm

variable (x0 : FVec Ideal S8704x3072 .f32) (x1 : FVec Ideal S8704x1536 .f32) (x2 : FVec Ideal S128x128x2x4x128 .f32)
  (x3 : FVec Ideal S128x512x2x4x128 .f32) (x4 : FVec Ideal S128x2048x2x4x128 .f32)
  (pre : Cert.Pre_finite_keys.fn (F := Ideal) x0 x1 x2 x3 x4 = fun _ => 1#1)

include pre

theorem tokens_real (r : Fin 512) (k : Fin 3072) : ∃ v : ℝ, x0 (ix2 ⟨8192 + r.val, by omega⟩ k) = v := by
  have h := congrFun pre ix0
  dsimp only [Cert.Pre_finite_keys.fn] at h
  have h1 := (IntOp.andi_eq_one.mp h).1
  have h2 := Host.reduce_andi_all _ _ _ _ _ h1 (ix2 r k)
  have e : extractStridedSlice Cert.Pre_finite_keys.S512x3072 ![8192, 0] x0 Cert.Pre_finite_keys.Gen.slices_S8704x3072_S512x3072_8192_0 (ix2 r k)
      = x0 (ix2 ⟨8192 + r.val, by omega⟩ k) := by
    pointwise
  rw [← e]
  exact real_of_abs _ h2

theorem cache_real (b p : Fin 128) (h : Fin 4) (d : Fin 128) : ∃ v : ℝ, x2 (ix5 b p 0 h d) = v := by
  have h' := congrFun pre ix0
  dsimp only [Cert.Pre_finite_keys.fn] at h'
  have h1 := (IntOp.andi_eq_one.mp h').2
  have h2 := Host.reduce_andi_all _ _ _ _ _ h1 (ix4 b p h d)
  have e : shapeCast Cert.Pre_finite_keys.S128x128x4x128 (extractStridedSlice Cert.Pre_finite_keys.S128x128x1x4x128 ![0, 0, 0, 0, 0] x2
        Cert.Pre_finite_keys.Gen.slices_S128x128x2x4x128_S128x128x1x4x128_0_0_0_0_0) Cert.Pre_finite_keys.Gen.shapeCasts_S128x128x1x4x128_S128x128x4x128 (ix4 b p h d)
      = x2 (ix5 b p 0 h d) := by
    pointwise
  rw [← e]
  exact real_of_abs _ h2

/-- So the first group's scores are real. -/
theorem sc0_real (b : Fin 128) (t h : Fin 4) (j : Fin 129) : ∃ v : ℝ, sc0 x0 x2 b t h j = v := by
  refine rdot_real _ _ (fun d => tokens_real x0 x1 x2 x3 x4 pre ⟨4 * b.val + t.val, by omega⟩ _) fun d => ?_
  unfold key
  split
  · exact cache_real x0 x1 x2 x3 x4 pre _ _ _ _
  · exact tokens_real x0 x1 x2 x3 x4 pre ⟨4 * b.val + ((back 128 1 (by decide) t j).val - 128), by have := (back 128 1 (by decide) t j).isLt; omega⟩ _

end Cert.ReferenceIdeal.Attend

end
-- ==== Proof.Final.lean ====
/- The kernel's result array is the reference's. -/
module

public import proofs.«01_k».proof.Proof.Arrays
public import proofs.«01_k».proof.Proof.Finite
public import proofs.«01_k».proof.Proof.Gen.ReferenceIdeal.Run

@[expose] public section

set_option maxRecDepth 16384

noncomputable section

namespace Cert.KernelIdeal.Arrays

open Cert.KernelIdeal Cert.KernelIdeal.Gen Cert.KernelIdeal.Block Idealize.ShloMosaic Idealize.ShloMosaic.TcCoe Idealize.SL.Sem
open Cert.ReferenceIdeal.Attend (tok key rdot back sc0 vl0 sc1 vl1 sc2 vl2)

/-- A read of a two-dimensional array at equal positions. -/
theorem at2 {n k : Nat} (x : FVec Ideal ⟨2, ![n, k]⟩ .f32) {a a' : Fin n} {b b' : Fin k} (ha : a.val = a'.val) (hb : b.val = b'.val) :
    x (ix2 a b) = x (ix2 a' b') := by
  rw [Fin.ext ha, Fin.ext hb]

/-- The first group's keys of a block are the sequence's keys counted backwards. -/
theorem key0_eq {W : Nat} (y : FVec Ideal ⟨2, ![8704, W]⟩ .f32) (z : FVec Ideal ⟨5, ![128, 128, 2, 4, 128]⟩ .f32) (col : Nat) (hc : col + 1536 ≤ W) (n : Nat) (hn : n < 64)
    (x : Vec Ideal S8x1536 .f32) (c : Vec Ideal S2x128x2x4x128 .f32)
    (hx : ∀ (r : Fin 8) (k : Fin 1536), x (ix2 r k) = y (ix2 ⟨8192 + (8 * n + r.val), by omega⟩ ⟨col + k.val, by omega⟩))
    (hz : ∀ (e : Fin 2) (p : Fin 128) (w : Fin 2) (h : Fin 4) (d : Fin 128), c (ix5 e p w h d) = z (ix5 ⟨2 * n + e.val, by omega⟩ p w h d))
    (e w : Fin 2) (h t : Fin 4) (j : Fin 129) (d : Fin 128) (k : Nat) (hk : k = col) (hk' : k + 512 ≤ W) :
    key0 x c e w h t j d = key (L := 128) y k hk' z w ⟨2 * n + e.val, by omega⟩ (back 128 1 (by decide) t j) h d := by
  subst hk
  have hb : (back 128 1 (by decide) t j).val = 128 + t.val - 1 * j.val := rfl
  unfold key0 key tok
  by_cases hj : j.val ≤ t.val
  · rw [if_pos hj, dif_neg (by omega), hx]
    refine at2 y ?_ ?_
    · show 8192 + (8 * n + (4 * e.val + (t.val - j.val))) = 8192 + (4 * (2 * n + e.val) + ((back 128 1 (by decide) t j).val - 128))
      omega
    · show k + (512 * 0 + 128 * h.val + d.val) = k + (128 * h.val + d.val)
      omega
  · rw [if_neg hj, dif_pos (by omega), hz]
    congr 2
    apply Fin.ext
    show (127 + t.val + 1 - j.val) % 128 = (back 128 1 (by decide) t j).val
    omega

/-- A dilated group's keys of a block are the sequence's keys counted backwards in steps of `q`. -/
theorem keyD_eq {W L : Nat} (q : Nat) (hq : 4 ≤ q) (hL : L = 128 * q) (hw : 128 * q ≤ L) (g : Fin 3)
    (y : FVec Ideal ⟨2, ![8704, W]⟩ .f32) (z : FVec Ideal ⟨5, ![128, L, 2, 4, 128]⟩ .f32) (col : Nat) (hc : col + 1536 ≤ W) (n : Nat) (hn : n < 64)
    (x : Vec Ideal S8x1536 .f32) (c : Vec Ideal S2x128x4x2x4x128 .f32)
    (hx : ∀ (r : Fin 8) (k : Fin 1536), x (ix2 r k) = y (ix2 ⟨8192 + (8 * n + r.val), by omega⟩ ⟨col + k.val, by omega⟩))
    (hz : ∀ (e : Fin 2) (p : Fin 128) (s : Fin 4) (w : Fin 2) (h : Fin 4) (d : Fin 128) (i : Fin L), i.val = q * p.val + s.val →
      c (ix6 e p s w h d) = z (ix5 ⟨2 * n + e.val, by omega⟩ i w h d))
    (e w : Fin 2) (h t : Fin 4) (j : Fin 129) (d : Fin 128) (k : Nat) (hk : k = col + 512 * g.val) (hk' : k + 512 ≤ W) :
    keyD g x c e w h t j d = key (L := L) y k hk' z w ⟨2 * n + e.val, by omega⟩ (back L q hw t j) h d := by
  subst hk
  have hb : (back L q hw t j).val = L + t.val - q * j.val := rfl
  unfold keyD key tok
  by_cases hj : j.val = 0
  · rw [hj, Nat.mul_zero] at hb
    rw [if_pos hj, dif_neg (by omega), hx]
    refine at2 y ?_ ?_
    · show 8192 + (8 * n + (4 * e.val + t.val)) = 8192 + (4 * (2 * n + e.val) + ((back L q hw t j).val - L))
      omega
    · show col + (512 * g.val + 128 * h.val + d.val) = col + 512 * g.val + (128 * h.val + d.val)
      omega
  · have h1 : q * (128 - j.val) + q * j.val = 128 * q := by rw [← Nat.mul_add, Nat.sub_add_cancel (by omega), Nat.mul_comm]
    have h2 : q * 1 ≤ q * j.val := Nat.mul_le_mul_left q (by omega)
    rw [if_neg hj, dif_pos (by omega)]
    refine hz _ _ _ _ _ _ _ ?_
    show (back L q hw t j).val = q * ((128 - j.val) % 128) + t.val
    rw [Nat.mod_eq_of_lt (by omega)]
    omega

/-- A block's scores are the sequence's. -/
theorem dotq_eq {W : Nat} (g : Fin 3) (y : FVec Ideal ⟨2, ![8704, W]⟩ .f32) (hc : 1536 ≤ W) (n : Nat) (hn : n < 64) (x : Vec Ideal S8x1536 .f32)
    (hx : ∀ (r : Fin 8) (k : Fin 1536), x (ix2 r k) = y (ix2 ⟨8192 + (8 * n + r.val), by omega⟩ ⟨k.val, by omega⟩))
    (e : Fin 2) (h t : Fin 4) (a b : Fin 128 → EReal) (hab : ∀ d, a d = b d) (k : Nat) (hk : k = 512 * g.val) (hk' : k + 512 ≤ W) :
    dotq g x e h t a = rdot (tok y k hk' ⟨2 * n + e.val, by omega⟩ t h) b := by
  subst hk
  unfold dotq rdot tok
  congr 1
  refine Finset.sum_congr rfl fun d _ => ?_
  rw [hab, hx]
  congr 1
  refine at2 y ?_ ?_
  · show 8192 + (8 * n + (4 * e.val + t.val)) = 8192 + (4 * (2 * n + e.val) + t.val)
    omega
  · show 512 * g.val + 128 * h.val + d.val = 512 * g.val + (128 * h.val + d.val)
    omega

variable (m : (ℓ : Loc nD τ sig) → Buf (Elt Ideal) ℓ) (c : Dev nD)

/-- The call's arguments. -/
abbrev A0 : FVec Ideal S8704x3072 .f32 := m ((c : Thread nD τ).loc main_arg0)
abbrev A1 : FVec Ideal S8704x1536 .f32 := m ((c : Thread nD τ).loc main_arg1)
abbrev A2 : FVec Ideal S128x128x2x4x128 .f32 := m ((c : Thread nD τ).loc main_arg2)
abbrev A3 : FVec Ideal S128x512x2x4x128 .f32 := m ((c : Thread nD τ).loc main_arg3)
abbrev A4 : FVec Ideal S128x2048x2x4x128 .f32 := m ((c : Thread nD τ).loc main_arg4)

/-- The reference's result of them. -/
abbrev want : FVec Ideal S512x512 .bf16 :=
  Cert.ReferenceIdeal.Read.val_main_v211 (F := Ideal) (A0 m c) (A1 m c) (A2 m c) (A3 m c) (A4 m c)

variable (pre : Cert.Pre_finite_keys.fn (F := Ideal) (A0 m c) (A1 m c) (A2 m c) (A3 m c) (A4 m c) = fun _ => 1#1)

include pre in
/-- One sequence's part of a point's result. -/
theorem entry_at (n : Fin cfg0.N) (e : Fin 2) (h t : Fin 4) (d : Fin 128) (R C : Fin 512) (hR : R.val = 8 * n.val + (4 * e.val + t.val)) (hC : C.val = 128 * h.val + d.val) :
    entry (iblk m c 0 n) (iblk m c 1 n) (iblk m c 2 n) (iblk m c 3 n) (iblk m c 4 n) (iblk m c 5 n) e (ix2 ⟨4 * h.val + t.val, by omega⟩ d)
      = want m c (ix2 R C) := by
  have hn := n64 n
  refine Eq.trans ?_ (Cert.ReferenceIdeal.Attend.result (A0 m c) (A1 m c) (A2 m c) (A3 m c) (A4 m c) R C ⟨2 * n.val + e.val, by omega⟩ t h d
    (by rw [hR]; show _ = 4 * (2 * n.val + e.val) + t.val; omega) hC).symm
  have hk : ∀ (r : Fin 8) (k : Fin 1536), (iblk m c 1 n : Vec Ideal S8x1536 .f32) (ix2 r k) = A0 m c (ix2 ⟨8192 + (8 * n.val + r.val), by omega⟩ ⟨1536 + k.val, by omega⟩) := k_at m c n
  have hv : ∀ (r : Fin 8) (k : Fin 1536), (iblk m c 2 n : Vec Ideal S8x1536 .f32) (ix2 r k) = A1 m c (ix2 ⟨8192 + (8 * n.val + r.val), by omega⟩ ⟨0 + k.val, by omega⟩) :=
    fun r k => (v_at m c n r k).trans (at2 (A1 m c) rfl (by show k.val = 0 + k.val; omega))
  have hq : ∀ (r : Fin 8) (k : Fin 1536), (iblk m c 0 n : Vec Ideal S8x1536 .f32) (ix2 r k) = A0 m c (ix2 ⟨8192 + (8 * n.val + r.val), by omega⟩ ⟨k.val, by omega⟩) := q_at m c n
  have h1 : ∀ (e : Fin 2) (p : Fin 128) (s : Fin 4) (w : Fin 2) (h : Fin 4) (d : Fin 128) (i : Fin 512), i.val = 4 * p.val + s.val →
      (iblk m c 4 n : Vec Ideal S2x128x4x2x4x128 .f32) (ix6 e p s w h d) = A3 m c (ix5 ⟨2 * n.val + e.val, by omega⟩ i w h d) := fun e p s w h d i hi => by
    rw [c1_at]; congr 2; exact Fin.ext hi.symm
  have h2 : ∀ (e : Fin 2) (p : Fin 128) (s : Fin 4) (w : Fin 2) (h : Fin 4) (d : Fin 128) (i : Fin 2048), i.val = 16 * p.val + s.val →
      (iblk m c 5 n : Vec Ideal S2x128x4x2x4x128 .f32) (ix6 e p s w h d) = A4 m c (ix5 ⟨2 * n.val + e.val, by omega⟩ i w h d) := fun e p s w h d i hi => by
    rw [c2_at]; congr 2; exact Fin.ext hi.symm
  have s0 : ∀ j, dotq 0 (iblk m c 0 n) e h t (key0 (iblk m c 1 n) (iblk m c 3 n) e 0 h t j) = sc0 (A0 m c) (A2 m c) ⟨2 * n.val + e.val, by omega⟩ t h j := fun j =>
    dotq_eq 0 (A0 m c) (by decide) n.val hn _ hq e h t _ _ (fun d => key0_eq (A0 m c) (A2 m c) 1536 (by decide) n.val hn _ _ hk (c0_at m c n) e 0 h t j d 1536 rfl (by decide)) 0 rfl (by decide)
  have s1 : ∀ j, dotq 1 (iblk m c 0 n) e h t (keyD 1 (iblk m c 1 n) (iblk m c 4 n) e 0 h t j) = sc1 (A0 m c) (A3 m c) ⟨2 * n.val + e.val, by omega⟩ t h j := fun j =>
    dotq_eq 1 (A0 m c) (by decide) n.val hn _ hq e h t _ _ (fun d => keyD_eq 4 (by decide) rfl (by decide) 1 (A0 m c) (A3 m c) 1536 (by decide) n.val hn _ _ hk h1 e 0 h t j d 2048 rfl (by decide)) 512 rfl (by decide)
  have s2 : ∀ j, dotq 2 (iblk m c 0 n) e h t (keyD 2 (iblk m c 1 n) (iblk m c 5 n) e 0 h t j) = sc2 (A0 m c) (A4 m c) ⟨2 * n.val + e.val, by omega⟩ t h j := fun j =>
    dotq_eq 2 (A0 m c) (by decide) n.val hn _ hq e h t _ _ (fun d => keyD_eq 16 (by decide) rfl (by decide) 2 (A0 m c) (A4 m c) 1536 (by decide) n.val hn _ _ hk h2 e 0 h t j d 2560 rfl (by decide)) 1024 rfl (by decide)
  have w0 : ∀ j, key0 (iblk m c 2 n) (iblk m c 3 n) e 1 h t j d = vl0 (A1 m c) (A2 m c) ⟨2 * n.val + e.val, by omega⟩ t h d j := fun j =>
    key0_eq (A1 m c) (A2 m c) 0 (by decide) n.val hn _ _ hv (c0_at m c n) e 1 h t j d 0 rfl (by decide)
  have w1 : ∀ j, keyD 1 (iblk m c 2 n) (iblk m c 4 n) e 1 h t j d = vl1 (A1 m c) (A3 m c) ⟨2 * n.val + e.val, by omega⟩ t h d j := fun j =>
    keyD_eq 4 (by decide) rfl (by decide) 1 (A1 m c) (A3 m c) 0 (by decide) n.val hn _ _ hv h1 e 1 h t j d 512 rfl (by decide)
  have w2 : ∀ j, keyD 2 (iblk m c 2 n) (iblk m c 5 n) e 1 h t j d = vl2 (A1 m c) (A4 m c) ⟨2 * n.val + e.val, by omega⟩ t h d j := fun j =>
    keyD_eq 16 (by decide) rfl (by decide) 2 (A1 m c) (A4 m c) 0 (by decide) n.val hn _ _ hv h2 e 1 h t j d 1024 rfl (by decide)
  rw [entry_apply _ _ _ _ _ _ e h t d (fun j => by rw [s0]; exact Cert.ReferenceIdeal.Attend.sc0_real _ _ _ _ _ pre _ _ _ _)]
  rw [funext s0, funext s1, funext s2, funext w0, funext w1, funext w2]

theorem hz : (![0, 0] : Fin 2 → Nat) = fun _ => 0 := funext fun a => by fin_cases a <;> rfl

include pre in
/-- What a point writes back is its block of the reference's result. -/
theorem flushed_eq (n : Fin cfg0.N) : (dats m 0 c).flushed 6 n = ((cfg0.win 6).blk n).view.read (Elt Ideal) (want m c) := by
  have hn := n64 n
  rw [Cert.KernelIdeal.Value.flushed6, out_eq]
  funext i
  obtain ⟨r, k, rfl⟩ : ∃ (r : Fin 8) (k : Fin 512), i = ix2 r k := ⟨i 0, i 1, funext fun a => by match a with | ⟨0, _⟩ => rfl | ⟨1, _⟩ => rfl⟩
  have z : ∀ t : Fin cfg0.N, win0_6.index t 0 * win0_6.size 0 = 8 * t.val ∧ win0_6.index t 1 * win0_6.size 1 = 0 := by decide +kernel
  have e : ((cfg0.win 6).blk n).view.read (Elt Ideal) (want m c) (ix2 r k) = want m c (ix2 ⟨8 * n.val + r.val, by omega⟩ k) := by
    refine congrArg (want m c) (funext fun a => Fin.ext ?_)
    match a with
    | ⟨0, _⟩ => show win0_6.index n 0 * win0_6.size 0 + 1 * r.val = _; rw [(z n).1]; show _ = 8 * n.val + r.val; omega
    | ⟨1, _⟩ => show win0_6.index n 1 * win0_6.size 1 + 1 * k.val = _; rw [(z n).2]; show _ = k.val; omega
  rw [e]
  show View.canon _ (ix2 r k) = _
  rw [View.canon_unit_zero hz, both_apply]
  have key := fun e : Fin 2 => entry_at m c pre n e ⟨k.val / 128, by omega⟩ ⟨r.val % 4, by omega⟩ ⟨k.val % 128, by omega⟩
  split
  · exact key 0 _ _ (by show 8 * n.val + r.val = 8 * n.val + (4 * 0 + r.val % 4); omega) (by show k.val = 128 * (k.val / 128) + k.val % 128; omega)
  · exact key 1 _ _ (by show 8 * n.val + r.val = 8 * n.val + (4 * 1 + r.val % 4); omega) (by show k.val = 128 * (k.val / 128) + k.val % 128; omega)

/-- The blocks tile the result. -/
theorem cover (i : S512x512.Idx) : ∃ t : Fin cfg0.N, (cfg0.win 6).flush t = true ∧ i ∈ ((cfg0.win 6).blk t).view.set := by
  have h0 : (i 0 : Nat) < 512 := (i 0).isLt
  have h1 : (i 1 : Nat) < 512 := (i 1).isLt
  have hN : cfg0.N = 64 := N_0
  obtain ⟨t, ht⟩ : ∃ t : Fin cfg0.N, t.val = (i 0 : Nat) / 8 := ⟨⟨(i 0 : Nat) / 8, by omega⟩, rfl⟩
  refine ⟨t, flush0_6 t, ?_⟩
  show i ∈ ((View.whole main_v2).slice (win0_6.rect t)).set
  rw [View.set_slice_whole, Rect.mem_set_unit]
  have z : ∀ t : Fin cfg0.N, win0_6.index t 0 * win0_6.size 0 = 8 * t.val ∧ win0_6.xsize (grid0.coords t) 0 = 8
      ∧ win0_6.index t 1 * win0_6.size 1 = 0 ∧ win0_6.xsize (grid0.coords t) 1 = 512 := by decide +kernel
  obtain ⟨z1, z2, z3, z4⟩ := z t
  intro a
  match a with
  | ⟨0, _⟩ =>
    show win0_6.index t 0 * win0_6.size 0 ≤ (i 0 : Nat) ∧ (i 0 : Nat) < win0_6.index t 0 * win0_6.size 0 + win0_6.xsize (grid0.coords t) 0
    rw [z1, z2]
    omega
  | ⟨1, _⟩ =>
    show win0_6.index t 1 * win0_6.size 1 ≤ (i 1 : Nat) ∧ (i 1 : Nat) < win0_6.index t 1 * win0_6.size 1 + win0_6.xsize (grid0.coords t) 1
    rw [z3, z4]
    omega

include pre in
/-- So the result array ends at the reference's result. -/
theorem final : (dats m 0 c).arrAt 6 cfg0.N = want m c :=
  (dats m 0 c).arrAt_eq_of_cover 6 (want m c) (fun t _ => flushed_eq m c pre t) cover

end Cert.KernelIdeal.Arrays

end
-- ==== Proof.FrontSpec.lean ====
/- The layer's front in plain functions of a row: the normalised row, a head's normalisation and its turn. -/
module

public import Idealize.ShloMosaic.Lib.Pointwise

@[expose] public section

noncomputable section

namespace Cert.Front

open Idealize.ShloMosaic

/-- A row of `n` numbers divided by its root mean square and multiplied by the gains; `len` is the word of the row's length. -/
def rmsRow {n : Nat} (len : BitVec 32) (x g : Fin n → EReal) (k : Fin n) : EReal :=
  x k * Ideal.rsqrt (Ideal.div (∑ d, x d * x d) (Ideal.ofBits FTy.f32 len) + Ideal.ofBits FTy.f32 897988541#32) * g k

/-- A head's row and two shifts of it, each times its own table, added. -/
def turn (y : Fin 128 → EReal) (c a b : Fin 128 → EReal) (k : Fin 128) : EReal :=
  y k * c k + y ⟨(k.val + 128 - 112) % 128, by omega⟩ * a k + y ⟨(k.val + 128 - 16) % 128, by omega⟩ * b k

/-- A head's row with its first two runs of sixteen turned by the angles' cosines and sines. -/
def rot (y : Fin 128 → EReal) (c s : Fin 16 → EReal) (k : Fin 128) : EReal :=
  if h : k.val < 16 then y k * c ⟨k.val, h⟩ - y ⟨16 + k.val, by omega⟩ * s ⟨k.val, h⟩
  else if h' : k.val < 32 then y k * c ⟨k.val - 16, by omega⟩ + y ⟨k.val - 16, by omega⟩ * s ⟨k.val - 16, by omega⟩
  else y k

/-- The turn, with the two turned runs told from the rest first. -/
theorem rot_of (y : Fin 128 → EReal) (c s : Fin 16 → EReal) (k : Fin 128) :
    (if h : k.val < 32 then
      if h' : k.val < 16 then y k * c ⟨k.val, h'⟩ - y ⟨16 + k.val, by omega⟩ * s ⟨k.val, h'⟩
      else y ⟨16 + (k.val - 16), by omega⟩ * c ⟨k.val - 16, by omega⟩ + y ⟨k.val - 16, by omega⟩ * s ⟨k.val - 16, by omega⟩
    else y ⟨32 + (k.val - 32), by omega⟩) = rot y c s k := by
  unfold rot
  by_cases h : k.val < 16
  · rw [dif_pos (show k.val < 32 by omega), dif_pos h, dif_pos h]
  by_cases h' : k.val < 32
  · rw [dif_pos h', dif_neg h, dif_neg h, dif_pos h']
    exact congrArg (fun j => y j * c ⟨k.val - 16, by omega⟩ + y ⟨k.val - 16, by omega⟩ * s ⟨k.val - 16, by omega⟩) (Fin.ext (by show 16 + (k.val - 16) = k.val; omega))
  · rw [dif_neg h', dif_neg h, dif_neg h']
    exact congrArg y (Fin.ext (by show 32 + (k.val - 32) = k.val; omega))

/-- With the tables cut as cosines, cosines, ones; minus sines, zeros; zeros, sines, zeros, the three products are the turn. -/
theorem turn_eq (y : Fin 128 → EReal) (c s : Fin 16 → EReal) (C A B : Fin 128 → EReal)
    (hC : ∀ k : Fin 128, C k = if h : k.val < 16 then c ⟨k.val, h⟩ else if h' : k.val < 32 then c ⟨k.val - 16, by omega⟩ else 1)
    (hA : ∀ k : Fin 128, A k = if h : k.val < 16 then - s ⟨k.val, h⟩ else 0)
    (hB : ∀ k : Fin 128, B k = if k.val < 16 then 0 else if h' : k.val < 32 then s ⟨k.val - 16, by omega⟩ else 0)
    (k : Fin 128) : turn y C A B k = rot y c s k := by
  unfold turn rot
  rw [hC, hA, hB]
  by_cases h : k.val < 16
  · simp only [dif_pos h, if_pos h, mul_zero, add_zero, mul_neg, sub_eq_add_neg]
    have e : (⟨(k.val + 128 - 112) % 128, by omega⟩ : Fin 128) = ⟨16 + k.val, by omega⟩ := Fin.ext (by show (k.val + 128 - 112) % 128 = 16 + k.val; omega)
    rw [e]
  · by_cases h' : k.val < 32
    · simp only [dif_neg h, if_neg h, dif_pos h', mul_zero, add_zero]
      have e : (⟨(k.val + 128 - 16) % 128, by omega⟩ : Fin 128) = ⟨k.val - 16, by omega⟩ := Fin.ext (by show (k.val + 128 - 16) % 128 = k.val - 16; omega)
      rw [e]
    · simp only [dif_neg h, if_neg h, dif_neg h', mul_zero, add_zero, mul_one]

/-- The sixteen frequencies. -/
def frq (k : Fin 16) : EReal :=
  Ideal.pow (Ideal.ofBits FTy.f32 1223959552#32) (Ideal.div (-(FloatOps.sitofp (F := Ideal) FTy.f32 (BitVec.ofNat 32 k.val))) (Ideal.ofBits FTy.f32 1098907648#32))

/-- A position's sixteen angles. -/
def angle (p : Nat) (k : Fin 16) : EReal := FloatOps.sitofp (F := Ideal) FTy.f32 (BitVec.ofNat 32 p) * frq k

/-- A key: the normalised row's product with the head's columns, normalised, turned by the position's angles. -/
def key (h : Fin 4096 → EReal) (w : Fin 4096 → Fin 19680 → EReal) (g : Fin 128 → EReal) (p : Nat) (n : Fin 12) (k : Fin 128) : EReal :=
  rot (rmsRow 1124073472#32 (fun d : Fin 128 => ∑ e, h e * w e ⟨1536 + 128 * n.val + d.val, by omega⟩) g)
    (fun i => Ideal.cos (angle p i)) (fun i => Ideal.sin (angle p i)) k

/-- A value: the normalised row's product with the head's columns. -/
def value (h : Fin 4096 → EReal) (w : Fin 4096 → Fin 19680 → EReal) (n : Fin 12) (k : Fin 128) : EReal :=
  ∑ e, h e * w e ⟨3072 + 128 * n.val + k.val, by omega⟩

/-- A cache entry: the key, then the value. -/
def entry (h : Fin 4096 → EReal) (w : Fin 4096 → Fin 19680 → EReal) (g : Fin 128 → EReal) (p : Nat) (n : Fin 12) (q : Fin 2) (k : Fin 128) : EReal :=
  if q.val < 1 then key h w g p n k else value h w n k

end Cert.Front
end
-- ==== Proof.FrontPay.lean ====
/- What the bodies of the front's calls compute, entry by entry. -/
module

public import proofs.«01_k».proof.Proof.Gen.Kernel4Ideal.Skeleton
public import proofs.«01_k».proof.Proof.FrontSpec

@[expose] public section

set_option maxRecDepth 16384
noncomputable section

namespace Cert.Kernel4Ideal.Front

open Cert.Kernel4Ideal Cert.Kernel4Ideal.Gen Cert.Front Idealize.ShloMosaic Idealize.ShloMosaic.TcCoe Idealize.SL Idealize.SL.Sem

/-- An entry of the normalised block. -/
theorem pay0_apply (x : Vec Ideal S256x4096 .f32) (g : Vec Ideal S1x4096 .f32) (r : Fin 256) (k : Fin 4096) :
    k0_pay1 x g (ix2 r k) = rmsRow 1166016512#32 (fun d => x (ix2 r d)) (fun d => g (ix2 0 d)) k := by
  unfold rmsRow
  pointwise [k0_pay1]

/-- An entry of the block handed on. -/
theorem pay1_apply (x : Vec Ideal S128x4096 .f32) (r : Fin 128) (k : Fin 4096) :
    k1_pay7 (k1_pay2 x) (ix2 r k) = x (ix2 r k) := by
  pointwise [k1_pay7, k1_pay2]

/-- An entry of the values' block: the row's product with the weights' row. -/
theorem pay3_apply (x : Vec Ideal S1088x4096 .bf16) (w : Vec Ideal S512x4096 .f32) (r : Fin 1088) (k : Fin 512) :
    k3_pay1 x w (ix2 r k) = ∑ d, x (ix2 r d) * w (ix2 k d) := by
  pointwise [k3_pay1]

/-- An entry of the queries' or keys' product. -/
theorem prod_apply (x : Vec Ideal S1088x4096 .bf16) (w : Vec Ideal S512x4096 .f32) (r : Fin 1088) (k : Fin 512) :
    k2_pay2 x w (ix2 r k) = ∑ d, x (ix2 r d) * w (ix2 k d) := by
  pointwise [k2_pay2]

/-- A head of a product's row, normalised and turned by its tables. -/
def head (y : FVec Ideal S1088x512 .f32) (c a b : FVec Ideal S1088x128 .f32) (g : Vec Ideal S1x1x128 .f32) (r : Fin 1088) (o : Nat) (ho : o ≤ 384) (k : Fin 128) : EReal :=
  turn (rmsRow 1124073472#32 (fun d : Fin 128 => y (ix2 r ⟨o + d.val, by omega⟩)) (fun d => g (ix3 0 0 d)))
    (fun d => c (ix2 r d)) (fun d => a (ix2 r d)) (fun d => b (ix2 r d)) k

/-- The first head of the block. -/
theorem head0 (x : Vec Ideal S1088x4096 .bf16) (w : Vec Ideal S512x4096 .f32) (c a b : Vec Ideal S1088x128 .f32) (g : Vec Ideal S1x1x128 .f32) (r : Fin 1088) (k : Fin 128) :
    k2_pay7 x w c a b g (ix2 r k) = head (k2_pay2 x w) c a b g r 0 (by omega) k := by
  unfold k2_pay7
  generalize k2_pay2 x w = y
  unfold head turn rmsRow
  simp only [Nat.zero_add]
  pointwise [k2_pay3, k2_pay4, k2_pay5, k2_pay6]

/-- The second head of the block. -/
theorem head1 (x : Vec Ideal S1088x4096 .bf16) (w : Vec Ideal S512x4096 .f32) (c a b : Vec Ideal S1088x128 .f32) (g : Vec Ideal S1x1x128 .f32) (r : Fin 1088) (k : Fin 128) :
    k2_pay10 (k2_pay3 c) (k2_pay4 a) (k2_pay5 b) (k2_pay6 g) (k2_pay8 x w) (k2_pay9 x w) (ix2 r k) = head (k2_pay2 x w) c a b g r 128 (by omega) k := by
  unfold k2_pay9 k2_pay8
  generalize k2_pay2 x w = y
  unfold head turn rmsRow
  pointwise [k2_pay10, k2_pay3, k2_pay4, k2_pay5, k2_pay6]

/-- The third head of the block. -/
theorem head2 (x : Vec Ideal S1088x4096 .bf16) (w : Vec Ideal S512x4096 .f32) (c a b : Vec Ideal S1088x128 .f32) (g : Vec Ideal S1x1x128 .f32) (r : Fin 1088) (k : Fin 128) :
    k2_pay11 (k2_pay2 x w) (k2_pay3 c) (k2_pay4 a) (k2_pay5 b) (k2_pay6 g) (ix2 r k) = head (k2_pay2 x w) c a b g r 256 (by omega) k := by
  generalize k2_pay2 x w = y
  unfold head turn rmsRow
  pointwise [k2_pay11, k2_pay3, k2_pay4, k2_pay5, k2_pay6]

/-- A head's entry at equal places. -/
theorem head_congr (y : FVec Ideal S1088x512 .f32) (c a b : FVec Ideal S1088x128 .f32) (g : Vec Ideal S1x1x128 .f32) (r : Fin 1088) {o o' : Nat} (ho : o ≤ 384) (ho' : o' ≤ 384)
    {k k' : Fin 128} (e : o = o') (e' : k = k') : head y c a b g r o ho k = head y c a b g r o' ho' k' := by
  subst e; subst e'; rfl

/-- An entry of the block region 2 writes: the entry of its head. -/
theorem pay2_apply (x : Vec Ideal S1088x4096 .bf16) (w : Vec Ideal S512x4096 .f32) (c a b : Vec Ideal S1088x128 .f32) (g : Vec Ideal S1x1x128 .f32) (r : Fin 1088) (k : Fin 512) :
    k2_pay1 (k2_pay3 c) (k2_pay4 a) (k2_pay5 b) (k2_pay7 x w c a b g)
        (k2_pay10 (k2_pay3 c) (k2_pay4 a) (k2_pay5 b) (k2_pay6 g) (k2_pay8 x w) (k2_pay9 x w))
        (k2_pay11 (k2_pay2 x w) (k2_pay3 c) (k2_pay4 a) (k2_pay5 b) (k2_pay6 g))
        (k2_pay12 (k2_pay2 x w)) (k2_pay13 (k2_pay6 g)) (ix2 r k)
      = head (k2_pay2 x w) c a b g r (128 * (k.val / 128)) (by omega) ⟨k.val % 128, by omega⟩ := by
  have h0 := head0 x w c a b g r
  have h1 := head1 x w c a b g r
  have h2 := head2 x w c a b g r
  generalize k2_pay7 x w c a b g = z0 at h0 ⊢
  generalize k2_pay10 (k2_pay3 c) (k2_pay4 a) (k2_pay5 b) (k2_pay6 g) (k2_pay8 x w) (k2_pay9 x w) = z1 at h1 ⊢
  generalize k2_pay11 (k2_pay2 x w) (k2_pay3 c) (k2_pay4 a) (k2_pay5 b) (k2_pay6 g) = z2 at h2 ⊢
  generalize k2_pay2 x w = y at h0 h1 h2 ⊢
  pointwise [k2_pay1, k2_pay12, k2_pay13, k2_pay3, k2_pay4, k2_pay5, k2_pay6]
  by_cases h : k.val < 128
  · rw [dif_pos h, h0]
    exact head_congr _ _ _ _ _ _ (by omega) (by omega) (by omega) (Fin.ext (by show k.val = k.val % 128; omega))
  rw [dif_neg h]
  by_cases h : k.val - 128 < 128
  · rw [dif_pos h, h1]
    exact head_congr _ _ _ _ _ _ (by omega) (by omega) (by omega) (Fin.ext (by show k.val - 128 = k.val % 128; omega))
  rw [dif_neg h]
  by_cases h : k.val - 128 - 128 < 128
  · rw [dif_pos h, h2]
    exact head_congr _ _ _ _ _ _ (by omega) (by omega) (by omega) (Fin.ext (by show k.val - 128 - 128 = k.val % 128; omega))
  rw [dif_neg h]
  refine Eq.trans ?_ (head_congr y c a b g r (o := 384) (k := ⟨k.val - 128 - 128 - 128, by omega⟩) (by omega) (by omega) (by omega) (Fin.ext (by show k.val - 128 - 128 - 128 = k.val % 128; omega)))
  unfold head turn rmsRow
  rfl

/-- A choice on a bit that says whether a proposition holds. -/
theorem select_of {α : Type} (b : BitVec 1) (p : Prop) [Decidable p] (h : b = if p then 1 else 0) (x y : α) : Scalar.select b x y = if p then x else y := by
  subst h
  by_cases hp : p
  · simp only [if_pos hp]; rfl
  · simp only [if_neg hp]; rfl

/-- The block the first roll writes: the new rows at the last point, the cache's next block before. -/
theorem pay4_eq (i : grid4.Coords) (n x : Vec Ideal S128x4x2x4x128 .f32) : k4_pay1 i n x = if (i 0).val = 31 then n else x := by
  have e : ∀ i : Fin 32, (Scalar.cmpi .eq (BitVec.ofNat 32 i.val) 31#32) = if i.val = 31 then 1 else 0 := by decide +kernel
  refine Eq.trans ?_ (select_of _ _ (e (i 0)) n x)
  funext j
  pointwise [k4_pay1]

/-- The block the second roll writes. -/
theorem pay5_eq (i : grid5.Coords) (n x : Vec Ideal S128x4x2x4x128 .f32) : k5_pay1 i n x = if (i 0).val = 127 then n else x := by
  have e : ∀ i : Fin 128, (Scalar.cmpi .eq (BitVec.ofNat 32 i.val) 127#32) = if i.val = 127 then 1 else 0 := by decide +kernel
  refine Eq.trans ?_ (select_of _ _ (e (i 0)) n x)
  funext j
  pointwise [k5_pay1]

/-- The block the third roll writes. -/
theorem pay6_eq (i : grid6.Coords) (n x : Vec Ideal S128x4x2x4x128 .f32) : k6_pay1 i n x = if (i 0).val = 511 then n else x := by
  have e : ∀ i : Fin 512, (Scalar.cmpi .eq (BitVec.ofNat 32 i.val) 511#32) = if i.val = 511 then 1 else 0 := by decide +kernel
  refine Eq.trans ?_ (select_of _ _ (e (i 0)) n x)
  funext j
  pointwise [k6_pay1]

end Cert.Kernel4Ideal.Front
end
-- ==== Proof.FrontArr.lean ====
/- What the calls that project the front leave in their output arrays, of what they find. -/
module

public import proofs.«01_k».proof.Proof.Gen.Kernel4Ideal.Frame
public import proofs.«01_k».proof.Proof.FrontPay

@[expose] public section

set_option maxRecDepth 16384

noncomputable section

namespace Cert.Kernel4Ideal.Front

open Cert.Kernel4Ideal Cert.Kernel4Ideal.Gen Cert.Front Idealize.ShloMosaic Idealize.ShloMosaic.TcCoe Idealize.SL Idealize.SL.Sem

/-- The zero offsets of a plane. -/
theorem hz : (![0, 0] : Fin 2 → Nat) = fun _ => 0 := funext fun a => by fin_cases a <;> rfl
/-- The zero offsets of a stack of planes. -/
theorem hz3 : (![0, 0, 0] : Fin 3 → Nat) = fun _ => 0 := funext fun a => by fin_cases a <;> rfl

/-- Every row normalised. -/
def normed (x : FVec Ideal S8704x4096 .f32) (g : FVec Ideal S1x4096 .f32) : FVec Ideal S8704x4096 .f32 :=
  fun i => rmsRow 1166016512#32 (fun d : Fin 4096 => x (ix2 (i 0) d)) (fun d => g (ix2 0 d)) (i 1)

/-- The same rows, handed on in the narrower type. -/
def handed (x : FVec Ideal S8704x4096 .f32) : FVec Ideal S8704x4096 .bf16 := fun i => x i

/-- A row's head: the product with 128 of the weights' rows from `o` on, normalised with the `j`-th gains and turned by its tables. -/
def headAt (h : FVec Ideal S8704x4096 .bf16) (w : FVec Ideal S4608x4096 .f32) (g : FVec Ideal S2x1x128 .f32) (C A B : FVec Ideal S8704x128 .f32)
    (r : Fin 8704) (o : Nat) (ho : o + 128 ≤ 4608) (j : Fin 2) (k : Fin 128) : EReal :=
  turn (rmsRow 1124073472#32 (fun d : Fin 128 => ∑ e : Fin 4096, h (ix2 r e) * w (ix2 ⟨o + d.val, by omega⟩ e)) (fun d => g (ix3 j 0 d)))
    (fun d => C (ix2 r d)) (fun d => A (ix2 r d)) (fun d => B (ix2 r d)) k

/-- A head's entry at equal places. -/
theorem headAt_congr (h : FVec Ideal S8704x4096 .bf16) (w : FVec Ideal S4608x4096 .f32) (g : FVec Ideal S2x1x128 .f32) (C A B : FVec Ideal S8704x128 .f32)
    (r : Fin 8704) {o o' : Nat} (ho : o + 128 ≤ 4608) (ho' : o' + 128 ≤ 4608) {j j' : Fin 2} {k k' : Fin 128} (e1 : o = o') (e2 : j = j') (e3 : k = k') :
    headAt h w g C A B r o ho j k = headAt h w g C A B r o' ho' j' k' := by subst e1; subst e2; subst e3; rfl

/-- Queries and keys, head by head. -/
def headed (h : FVec Ideal S8704x4096 .bf16) (w : FVec Ideal S4608x4096 .f32) (g : FVec Ideal S2x1x128 .f32) (C A B : FVec Ideal S8704x128 .f32) : FVec Ideal S8704x3072 .f32 :=
  fun i => headAt h w g C A B (i 0) (128 * ((i 1).val / 128)) (by have h1 : (i 1).val < 3072 := (i 1).isLt; omega)
    ⟨(i 1).val / 1536, by have h1 : (i 1).val < 3072 := (i 1).isLt; omega⟩ ⟨(i 1).val % 128, by omega⟩

/-- The values: each row's product with the weights' rows from 3072 on. -/
def valued (h : FVec Ideal S8704x4096 .bf16) (w : FVec Ideal S4608x4096 .f32) : FVec Ideal S8704x1536 .f32 :=
  fun i => ∑ e : Fin 4096, h (ix2 (i 0) e) * w (ix2 ⟨3072 + (i 1).val, by have h1 : (i 1).val < 1536 := (i 1).isLt; omega⟩ e)

variable (V : (c : Dev nD) → (b : Ref sig .tc) → Buf (Elt Ideal) ((c : Thread nD τ).loc b)) (c : Dev nD)

/-- Region 0 has 34 points. -/
theorem n_0 (t : Fin cfg0.N) : t.val < 34 := by have := t.isLt; have h : cfg0.N = 34 := N_0; omega

/-- The rows' block. -/
theorem b0_0 (t : Fin cfg0.N) (r : Fin 256) (d : Fin 4096) :
    (iblk0 V c 0 t : Vec Ideal S256x4096 .f32) (ix2 r d) = (V c main_v2 : FVec Ideal S8704x4096 .f32) (ix2 ⟨256 * t.val + r.val, by have := n_0 t; omega⟩ d) := by
  have e : ∀ t : Fin cfg0.N, win0_0.index t 0 * win0_0.size 0 = 256 * t.val ∧ win0_0.index t 1 * win0_0.size 1 = 0 := by decide +kernel
  refine congrArg (V c main_v2) (funext fun a => Fin.ext ?_)
  match a with
  | ⟨0, _⟩ => show win0_0.index t 0 * win0_0.size 0 + 1 * r.val = _; rw [(e t).1]; show _ = 256 * t.val + r.val; omega
  | ⟨1, _⟩ => show win0_0.index t 1 * win0_0.size 1 + 1 * d.val = _; rw [(e t).2]; show _ = d.val; omega

/-- The gains, whole. -/
theorem b0_1 (t : Fin cfg0.N) (r : Fin 1) (d : Fin 4096) :
    (iblk0 V c 1 t : Vec Ideal S1x4096 .f32) (ix2 r d) = (V c main_v3 : FVec Ideal S1x4096 .f32) (ix2 r d) := by
  have e : ∀ t : Fin cfg0.N, win0_1.index t 0 * win0_1.size 0 = 0 ∧ win0_1.index t 1 * win0_1.size 1 = 0 := by decide +kernel
  refine congrArg (V c main_v3) (funext fun a => Fin.ext ?_)
  match a with
  | ⟨0, _⟩ => show win0_1.index t 0 * win0_1.size 0 + 1 * r.val = _; rw [(e t).1]; show _ = r.val; omega
  | ⟨1, _⟩ => show win0_1.index t 1 * win0_1.size 1 + 1 * d.val = _; rw [(e t).2]; show _ = d.val; omega

/-- What a point of region 0 writes back is its block of the normalised rows. -/
theorem flushed0 (t : Fin cfg0.N) : (dat0 V c).flushed 2 t = ((cfg0.win 2).blk t).view.read (Elt Ideal) (normed (V c main_v2) (V c main_v3)) := by
  have hn := n_0 t
  show (dat0 V c).after 2 t = _
  rw [after0_2]
  unfold out0_2
  rw [View.canon_unit_zero hz, View.ld_unit_zero hz, View.ld_unit_zero hz]
  funext i
  obtain ⟨r, d, rfl⟩ : ∃ (r : Fin 256) (d : Fin 4096), i = ix2 r d := ⟨i 0, i 1, eq_ix2 i⟩
  have z : ∀ t : Fin cfg0.N, win0_2.index t 0 * win0_2.size 0 = 256 * t.val ∧ win0_2.index t 1 * win0_2.size 1 = 0 := by decide +kernel
  have e : ((cfg0.win 2).blk t).view.read (Elt Ideal) (normed (V c main_v2) (V c main_v3)) (ix2 r d)
      = (normed (V c main_v2) (V c main_v3)) (ix2 ⟨256 * t.val + r.val, by omega⟩ d) := by
    refine congrArg (normed (V c main_v2) (V c main_v3)) (funext fun a => Fin.ext ?_)
    match a with
    | ⟨0, _⟩ => show win0_2.index t 0 * win0_2.size 0 + 1 * r.val = _; rw [(z t).1]; show _ = 256 * t.val + r.val; omega
    | ⟨1, _⟩ => show win0_2.index t 1 * win0_2.size 1 + 1 * d.val = _; rw [(z t).2]; show _ = d.val; omega
  rw [e]
  refine (pay0_apply _ _ r d).trans ?_
  simp only [b0_0, b0_1]
  rfl

/-- The blocks of region 0 tile its output. -/
theorem cover0 (i : S8704x4096.Idx) : ∃ t : Fin cfg0.N, (cfg0.win 2).flush t = true ∧ i ∈ ((cfg0.win 2).blk t).view.set := by
  have h0 : (i 0 : Nat) < 8704 := (i 0).isLt
  have h1 : (i 1 : Nat) < 4096 := (i 1).isLt
  have hN : cfg0.N = 34 := N_0
  obtain ⟨t, ht⟩ : ∃ t : Fin cfg0.N, t.val = (i 0 : Nat) / 256 := ⟨⟨(i 0 : Nat) / 256, by omega⟩, rfl⟩
  refine ⟨t, flush0_2 t, ?_⟩
  show i ∈ ((View.whole main_v4).slice (win0_2.rect t)).set
  rw [View.set_slice_whole, Rect.mem_set_unit]
  have z : ∀ t : Fin cfg0.N, (win0_2.index t 0 * win0_2.size 0 = 256 * t.val ∧ win0_2.index t 1 * win0_2.size 1 = 0) ∧ win0_2.xsize (grid0.coords t) 0 = 256 ∧ win0_2.xsize (grid0.coords t) 1 = 4096 := by decide +kernel
  obtain ⟨⟨z0, z1⟩, y0, y1⟩ := z t
  intro a
  match a with
  | ⟨0, _⟩ =>
    show win0_2.index t 0 * win0_2.size 0 ≤ (i 0 : Nat) ∧ (i 0 : Nat) < win0_2.index t 0 * win0_2.size 0 + win0_2.xsize (grid0.coords t) 0
    rw [z0, y0]
    omega
  | ⟨1, _⟩ =>
    show win0_2.index t 1 * win0_2.size 1 ≤ (i 1 : Nat) ∧ (i 1 : Nat) < win0_2.index t 1 * win0_2.size 1 + win0_2.xsize (grid0.coords t) 1
    rw [z1, y1]
    omega

/-- Region 0 leaves the normalised rows. -/
theorem arr0 : (dat0 V c).arrAt 2 cfg0.N = normed (V c main_v2) (V c main_v3) :=
  (dat0 V c).arrAt_eq_of_cover 2 (normed (V c main_v2) (V c main_v3)) (fun t _ => flushed0 V c t) cover0

/-- Region 1 has 68 points. -/
theorem n_1 (t : Fin cfg1.N) : t.val < 68 := by have := t.isLt; have h : cfg1.N = 68 := N_1; omega

/-- The normalised rows' block. -/
theorem b1_0 (t : Fin cfg1.N) (r : Fin 128) (d : Fin 4096) :
    (iblk1 V c 0 t : Vec Ideal S128x4096 .f32) (ix2 r d) = (V c main_v4 : FVec Ideal S8704x4096 .f32) (ix2 ⟨128 * t.val + r.val, by have := n_1 t; omega⟩ d) := by
  have e : ∀ t : Fin cfg1.N, win1_0.index t 0 * win1_0.size 0 = 128 * t.val ∧ win1_0.index t 1 * win1_0.size 1 = 0 := by decide +kernel
  refine congrArg (V c main_v4) (funext fun a => Fin.ext ?_)
  match a with
  | ⟨0, _⟩ => show win1_0.index t 0 * win1_0.size 0 + 1 * r.val = _; rw [(e t).1]; show _ = 128 * t.val + r.val; omega
  | ⟨1, _⟩ => show win1_0.index t 1 * win1_0.size 1 + 1 * d.val = _; rw [(e t).2]; show _ = d.val; omega

/-- What a point of region 1 writes back is its block of the rows handed on. -/
theorem flushed1 (t : Fin cfg1.N) : (dat1 V c).flushed 4 t = ((cfg1.win 4).blk t).view.read (Elt Ideal) (handed (V c main_v4)) := by
  have hn := n_1 t
  show (dat1 V c).after 4 t = _
  rw [after1_4]
  unfold out1_4 k1_pay14
  rw [View.canon_unit_zero hz, View.ld_unit_zero hz]
  funext i
  obtain ⟨r, d, rfl⟩ : ∃ (r : Fin 128) (d : Fin 4096), i = ix2 r d := ⟨i 0, i 1, eq_ix2 i⟩
  have z : ∀ t : Fin cfg1.N, win1_4.index t 0 * win1_4.size 0 = 128 * t.val ∧ win1_4.index t 1 * win1_4.size 1 = 0 := by decide +kernel
  have e : ((cfg1.win 4).blk t).view.read (Elt Ideal) (handed (V c main_v4)) (ix2 r d)
      = (handed (V c main_v4)) (ix2 ⟨128 * t.val + r.val, by omega⟩ d) := by
    refine congrArg (handed (V c main_v4)) (funext fun a => Fin.ext ?_)
    match a with
    | ⟨0, _⟩ => show win1_4.index t 0 * win1_4.size 0 + 1 * r.val = _; rw [(z t).1]; show _ = 128 * t.val + r.val; omega
    | ⟨1, _⟩ => show win1_4.index t 1 * win1_4.size 1 + 1 * d.val = _; rw [(z t).2]; show _ = d.val; omega
  rw [e]
  refine (pay1_apply _ r d).trans ?_
  exact b1_0 V c t r d

/-- The blocks of region 1 tile its output. -/
theorem cover1 (i : S8704x4096.Idx) : ∃ t : Fin cfg1.N, (cfg1.win 4).flush t = true ∧ i ∈ ((cfg1.win 4).blk t).view.set := by
  have h0 : (i 0 : Nat) < 8704 := (i 0).isLt
  have h1 : (i 1 : Nat) < 4096 := (i 1).isLt
  have hN : cfg1.N = 68 := N_1
  obtain ⟨t, ht⟩ : ∃ t : Fin cfg1.N, t.val = (i 0 : Nat) / 128 := ⟨⟨(i 0 : Nat) / 128, by omega⟩, rfl⟩
  refine ⟨t, flush1_4 t, ?_⟩
  show i ∈ ((View.whole main_v10_0).slice (win1_4.rect t)).set
  rw [View.set_slice_whole, Rect.mem_set_unit]
  have z : ∀ t : Fin cfg1.N, (win1_4.index t 0 * win1_4.size 0 = 128 * t.val ∧ win1_4.index t 1 * win1_4.size 1 = 0) ∧ win1_4.xsize (grid1.coords t) 0 = 128 ∧ win1_4.xsize (grid1.coords t) 1 = 4096 := by decide +kernel
  obtain ⟨⟨z0, z1⟩, y0, y1⟩ := z t
  intro a
  match a with
  | ⟨0, _⟩ =>
    show win1_4.index t 0 * win1_4.size 0 ≤ (i 0 : Nat) ∧ (i 0 : Nat) < win1_4.index t 0 * win1_4.size 0 + win1_4.xsize (grid1.coords t) 0
    rw [z0, y0]
    omega
  | ⟨1, _⟩ =>
    show win1_4.index t 1 * win1_4.size 1 ≤ (i 1 : Nat) ∧ (i 1 : Nat) < win1_4.index t 1 * win1_4.size 1 + win1_4.xsize (grid1.coords t) 1
    rw [z1, y1]
    omega

/-- Region 1 leaves the rows handed on. -/
theorem arr1 : (dat1 V c).arrAt 4 cfg1.N = handed (V c main_v4) :=
  (dat1 V c).arrAt_eq_of_cover 4 (handed (V c main_v4)) (fun t _ => flushed1 V c t) cover1

/-- Region 2 has 48 points. -/
theorem n_2 (t : Fin cfg2.N) : t.val < 48 := by have := t.isLt; have h : cfg2.N = 48 := N_2; omega

/-- The rows' block. -/
theorem b2_0 (t : Fin cfg2.N) (r : Fin 1088) (d : Fin 4096) :
    (iblk2 V c 0 t : Vec Ideal S1088x4096 .bf16) (ix2 r d) = (V c main_v10_0 : FVec Ideal S8704x4096 .bf16) (ix2 ⟨1088 * (t.val % 8) + r.val, by have := n_2 t; omega⟩ d) := by
  have e : ∀ t : Fin cfg2.N, win2_0.index t 0 * win2_0.size 0 = 1088 * (t.val % 8) ∧ win2_0.index t 1 * win2_0.size 1 = 0 := by decide +kernel
  refine congrArg (V c main_v10_0) (funext fun a => Fin.ext ?_)
  match a with
  | ⟨0, _⟩ => show win2_0.index t 0 * win2_0.size 0 + 1 * r.val = _; rw [(e t).1]; show _ = 1088 * (t.val % 8) + r.val; omega
  | ⟨1, _⟩ => show win2_0.index t 1 * win2_0.size 1 + 1 * d.val = _; rw [(e t).2]; show _ = d.val; omega

/-- The weights' block. -/
theorem b2_1 (t : Fin cfg2.N) (r : Fin 512) (d : Fin 4096) :
    (iblk2 V c 1 t : Vec Ideal S512x4096 .f32) (ix2 r d) = (V c main_v49 : FVec Ideal S4608x4096 .f32) (ix2 ⟨512 * (t.val / 8) + r.val, by have := n_2 t; omega⟩ d) := by
  have e : ∀ t : Fin cfg2.N, win2_1.index t 0 * win2_1.size 0 = 512 * (t.val / 8) ∧ win2_1.index t 1 * win2_1.size 1 = 0 := by decide +kernel
  refine congrArg (V c main_v49) (funext fun a => Fin.ext ?_)
  match a with
  | ⟨0, _⟩ => show win2_1.index t 0 * win2_1.size 0 + 1 * r.val = _; rw [(e t).1]; show _ = 512 * (t.val / 8) + r.val; omega
  | ⟨1, _⟩ => show win2_1.index t 1 * win2_1.size 1 + 1 * d.val = _; rw [(e t).2]; show _ = d.val; omega

/-- The gains' block. -/
theorem b2_2 (t : Fin cfg2.N) (r : Fin 1) (d : Fin 1) (u : Fin 128) :
    (iblk2 V c 2 t : Vec Ideal S1x1x128 .f32) (ix3 r d u) = (V c main_v47 : FVec Ideal S2x1x128 .f32) (ix3 ⟨t.val / 24 + r.val, by have := n_2 t; omega⟩ d u) := by
  have e : ∀ t : Fin cfg2.N, win2_2.index t 0 * win2_2.size 0 = t.val / 24 ∧ win2_2.index t 1 * win2_2.size 1 = 0 ∧ win2_2.index t 2 * win2_2.size 2 = 0 := by decide +kernel
  refine congrArg (V c main_v47) (funext fun a => Fin.ext ?_)
  match a with
  | ⟨0, _⟩ => show win2_2.index t 0 * win2_2.size 0 + 1 * r.val = _; rw [(e t).1]; show _ = t.val / 24 + r.val; omega
  | ⟨1, _⟩ => show win2_2.index t 1 * win2_2.size 1 + 1 * d.val = _; rw [(e t).2.1]; show _ = d.val; omega
  | ⟨2, _⟩ => show win2_2.index t 2 * win2_2.size 2 + 1 * u.val = _; rw [(e t).2.2]; show _ = u.val; omega

/-- The first table's block. -/
theorem b2_3 (t : Fin cfg2.N) (r : Fin 1088) (d : Fin 128) :
    (iblk2 V c 3 t : Vec Ideal S1088x128 .f32) (ix2 r d) = (V c main_v37 : FVec Ideal S8704x128 .f32) (ix2 ⟨1088 * (t.val % 8) + r.val, by have := n_2 t; omega⟩ d) := by
  have e : ∀ t : Fin cfg2.N, win2_3.index t 0 * win2_3.size 0 = 1088 * (t.val % 8) ∧ win2_3.index t 1 * win2_3.size 1 = 0 := by decide +kernel
  refine congrArg (V c main_v37) (funext fun a => Fin.ext ?_)
  match a with
  | ⟨0, _⟩ => show win2_3.index t 0 * win2_3.size 0 + 1 * r.val = _; rw [(e t).1]; show _ = 1088 * (t.val % 8) + r.val; omega
  | ⟨1, _⟩ => show win2_3.index t 1 * win2_3.size 1 + 1 * d.val = _; rw [(e t).2]; show _ = d.val; omega

/-- The second table's block. -/
theorem b2_4 (t : Fin cfg2.N) (r : Fin 1088) (d : Fin 128) :
    (iblk2 V c 4 t : Vec Ideal S1088x128 .f32) (ix2 r d) = (V c main_v40 : FVec Ideal S8704x128 .f32) (ix2 ⟨1088 * (t.val % 8) + r.val, by have := n_2 t; omega⟩ d) := by
  have e : ∀ t : Fin cfg2.N, win2_4.index t 0 * win2_4.size 0 = 1088 * (t.val % 8) ∧ win2_4.index t 1 * win2_4.size 1 = 0 := by decide +kernel
  refine congrArg (V c main_v40) (funext fun a => Fin.ext ?_)
  match a with
  | ⟨0, _⟩ => show win2_4.index t 0 * win2_4.size 0 + 1 * r.val = _; rw [(e t).1]; show _ = 1088 * (t.val % 8) + r.val; omega
  | ⟨1, _⟩ => show win2_4.index t 1 * win2_4.size 1 + 1 * d.val = _; rw [(e t).2]; show _ = d.val; omega

/-- The third table's block. -/
theorem b2_5 (t : Fin cfg2.N) (r : Fin 1088) (d : Fin 128) :
    (iblk2 V c 5 t : Vec Ideal S1088x128 .f32) (ix2 r d) = (V c main_v43 : FVec Ideal S8704x128 .f32) (ix2 ⟨1088 * (t.val % 8) + r.val, by have := n_2 t; omega⟩ d) := by
  have e : ∀ t : Fin cfg2.N, win2_5.index t 0 * win2_5.size 0 = 1088 * (t.val % 8) ∧ win2_5.index t 1 * win2_5.size 1 = 0 := by decide +kernel
  refine congrArg (V c main_v43) (funext fun a => Fin.ext ?_)
  match a with
  | ⟨0, _⟩ => show win2_5.index t 0 * win2_5.size 0 + 1 * r.val = _; rw [(e t).1]; show _ = 1088 * (t.val % 8) + r.val; omega
  | ⟨1, _⟩ => show win2_5.index t 1 * win2_5.size 1 + 1 * d.val = _; rw [(e t).2]; show _ = d.val; omega

/-- What a point of region 2 writes back is its block of the heads. -/
theorem flushed2 (t : Fin cfg2.N) : (dat2 V c).flushed 6 t = ((cfg2.win 6).blk t).view.read (Elt Ideal) (headed (V c main_v10_0) (V c main_v49) (V c main_v47) (V c main_v37) (V c main_v40) (V c main_v43)) := by
  have hn := n_2 t
  show (dat2 V c).after 6 t = _
  rw [after2_6]
  unfold out2_6 k2_pay18 k2_pay17 k2_pay16 k2_pay15 k2_pay14
  rw [View.canon_unit_zero hz, View.ld_unit_zero hz, View.ld_unit_zero hz, View.ld_unit_zero hz, View.ld_unit_zero hz, View.ld_unit_zero hz, View.ld_unit_zero hz3]
  funext i
  obtain ⟨r, d, rfl⟩ : ∃ (r : Fin 1088) (d : Fin 512), i = ix2 r d := ⟨i 0, i 1, eq_ix2 i⟩
  have z : ∀ t : Fin cfg2.N, win2_6.index t 0 * win2_6.size 0 = 1088 * (t.val % 8) ∧ win2_6.index t 1 * win2_6.size 1 = 512 * (t.val / 8) := by decide +kernel
  have e : ((cfg2.win 6).blk t).view.read (Elt Ideal) (headed (V c main_v10_0) (V c main_v49) (V c main_v47) (V c main_v37) (V c main_v40) (V c main_v43)) (ix2 r d)
      = (headed (V c main_v10_0) (V c main_v49) (V c main_v47) (V c main_v37) (V c main_v40) (V c main_v43)) (ix2 ⟨1088 * (t.val % 8) + r.val, by omega⟩ ⟨512 * (t.val / 8) + d.val, by omega⟩) := by
    refine congrArg (headed (V c main_v10_0) (V c main_v49) (V c main_v47) (V c main_v37) (V c main_v40) (V c main_v43)) (funext fun a => Fin.ext ?_)
    match a with
    | ⟨0, _⟩ => show win2_6.index t 0 * win2_6.size 0 + 1 * r.val = _; rw [(z t).1]; show _ = 1088 * (t.val % 8) + r.val; omega
    | ⟨1, _⟩ => show win2_6.index t 1 * win2_6.size 1 + 1 * d.val = _; rw [(z t).2]; show _ = 512 * (t.val / 8) + d.val; omega
  rw [e]
  refine (pay2_apply _ _ _ _ _ _ r d).trans ?_
  unfold head
  simp only [prod_apply, b2_0, b2_1, b2_2, b2_3, b2_4, b2_5, ← Nat.add_assoc]
  exact headAt_congr (V c main_v10_0) (V c main_v49) (V c main_v47) (V c main_v37) (V c main_v40) (V c main_v43) ⟨1088 * (t.val % 8) + r.val, by omega⟩
    (o := 512 * (t.val / 8) + 128 * (d.val / 128)) (by omega) (by show 128 * ((512 * (t.val / 8) + d.val) / 128) + 128 ≤ 4608; omega)
    (j := ⟨t.val / 24 + (0 : Fin 1).val, by show t.val / 24 + 0 < 2; omega⟩) (j' := ⟨(512 * (t.val / 8) + d.val) / 1536, by omega⟩)
    (by show _ = 128 * ((512 * (t.val / 8) + d.val) / 128); omega) (Fin.ext (by show t.val / 24 + 0 = (512 * (t.val / 8) + d.val) / 1536; omega))
    (Fin.ext (by show d.val % 128 = (512 * (t.val / 8) + d.val) % 128; omega))

/-- The blocks of region 2 tile its output. -/
theorem cover2 (i : S8704x3072.Idx) : ∃ t : Fin cfg2.N, (cfg2.win 6).flush t = true ∧ i ∈ ((cfg2.win 6).blk t).view.set := by
  have h0 : (i 0 : Nat) < 8704 := (i 0).isLt
  have h1 : (i 1 : Nat) < 3072 := (i 1).isLt
  have hN : cfg2.N = 48 := N_2
  obtain ⟨t, ht⟩ : ∃ t : Fin cfg2.N, t.val = 8 * ((i 1 : Nat) / 512) + (i 0 : Nat) / 1088 := ⟨⟨8 * ((i 1 : Nat) / 512) + (i 0 : Nat) / 1088, by omega⟩, rfl⟩
  refine ⟨t, flush2_6 t, ?_⟩
  show i ∈ ((View.whole main_v50).slice (win2_6.rect t)).set
  rw [View.set_slice_whole, Rect.mem_set_unit]
  have z : ∀ t : Fin cfg2.N, (win2_6.index t 0 * win2_6.size 0 = 1088 * (t.val % 8) ∧ win2_6.index t 1 * win2_6.size 1 = 512 * (t.val / 8)) ∧ win2_6.xsize (grid2.coords t) 0 = 1088 ∧ win2_6.xsize (grid2.coords t) 1 = 512 := by decide +kernel
  obtain ⟨⟨z0, z1⟩, y0, y1⟩ := z t
  intro a
  match a with
  | ⟨0, _⟩ =>
    show win2_6.index t 0 * win2_6.size 0 ≤ (i 0 : Nat) ∧ (i 0 : Nat) < win2_6.index t 0 * win2_6.size 0 + win2_6.xsize (grid2.coords t) 0
    rw [z0, y0]
    omega
  | ⟨1, _⟩ =>
    show win2_6.index t 1 * win2_6.size 1 ≤ (i 1 : Nat) ∧ (i 1 : Nat) < win2_6.index t 1 * win2_6.size 1 + win2_6.xsize (grid2.coords t) 1
    rw [z1, y1]
    omega

/-- Region 2 leaves the heads. -/
theorem arr2 : (dat2 V c).arrAt 6 cfg2.N = headed (V c main_v10_0) (V c main_v49) (V c main_v47) (V c main_v37) (V c main_v40) (V c main_v43) :=
  (dat2 V c).arrAt_eq_of_cover 6 (headed (V c main_v10_0) (V c main_v49) (V c main_v47) (V c main_v37) (V c main_v40) (V c main_v43)) (fun t _ => flushed2 V c t) cover2

/-- Region 3 has 24 points. -/
theorem n_3 (t : Fin cfg3.N) : t.val < 24 := by have := t.isLt; have h : cfg3.N = 24 := N_3; omega

/-- The rows' block. -/
theorem b3_0 (t : Fin cfg3.N) (r : Fin 1088) (d : Fin 4096) :
    (iblk3 V c 0 t : Vec Ideal S1088x4096 .bf16) (ix2 r d) = (V c main_v10_0 : FVec Ideal S8704x4096 .bf16) (ix2 ⟨1088 * (t.val % 8) + r.val, by have := n_3 t; omega⟩ d) := by
  have e : ∀ t : Fin cfg3.N, win3_0.index t 0 * win3_0.size 0 = 1088 * (t.val % 8) ∧ win3_0.index t 1 * win3_0.size 1 = 0 := by decide +kernel
  refine congrArg (V c main_v10_0) (funext fun a => Fin.ext ?_)
  match a with
  | ⟨0, _⟩ => show win3_0.index t 0 * win3_0.size 0 + 1 * r.val = _; rw [(e t).1]; show _ = 1088 * (t.val % 8) + r.val; omega
  | ⟨1, _⟩ => show win3_0.index t 1 * win3_0.size 1 + 1 * d.val = _; rw [(e t).2]; show _ = d.val; omega

/-- The weights' block. -/
theorem b3_1 (t : Fin cfg3.N) (r : Fin 512) (d : Fin 4096) :
    (iblk3 V c 1 t : Vec Ideal S512x4096 .f32) (ix2 r d) = (V c main_v49 : FVec Ideal S4608x4096 .f32) (ix2 ⟨3072 + 512 * (t.val / 8) + r.val, by have := n_3 t; omega⟩ d) := by
  have e : ∀ t : Fin cfg3.N, win3_1.index t 0 * win3_1.size 0 = 3072 + 512 * (t.val / 8) ∧ win3_1.index t 1 * win3_1.size 1 = 0 := by decide +kernel
  refine congrArg (V c main_v49) (funext fun a => Fin.ext ?_)
  match a with
  | ⟨0, _⟩ => show win3_1.index t 0 * win3_1.size 0 + 1 * r.val = _; rw [(e t).1]; show _ = 3072 + 512 * (t.val / 8) + r.val; omega
  | ⟨1, _⟩ => show win3_1.index t 1 * win3_1.size 1 + 1 * d.val = _; rw [(e t).2]; show _ = d.val; omega

/-- What a point of region 3 writes back is its block of the values. -/
theorem flushed3 (t : Fin cfg3.N) : (dat3 V c).flushed 2 t = ((cfg3.win 2).blk t).view.read (Elt Ideal) (valued (V c main_v10_0) (V c main_v49)) := by
  have hn := n_3 t
  show (dat3 V c).after 2 t = _
  rw [after3_2]
  unfold out3_2
  rw [View.canon_unit_zero hz, View.ld_unit_zero hz, View.ld_unit_zero hz]
  funext i
  obtain ⟨r, d, rfl⟩ : ∃ (r : Fin 1088) (d : Fin 512), i = ix2 r d := ⟨i 0, i 1, eq_ix2 i⟩
  have z : ∀ t : Fin cfg3.N, win3_2.index t 0 * win3_2.size 0 = 1088 * (t.val % 8) ∧ win3_2.index t 1 * win3_2.size 1 = 512 * (t.val / 8) := by decide +kernel
  have e : ((cfg3.win 2).blk t).view.read (Elt Ideal) (valued (V c main_v10_0) (V c main_v49)) (ix2 r d)
      = (valued (V c main_v10_0) (V c main_v49)) (ix2 ⟨1088 * (t.val % 8) + r.val, by omega⟩ ⟨512 * (t.val / 8) + d.val, by omega⟩) := by
    refine congrArg (valued (V c main_v10_0) (V c main_v49)) (funext fun a => Fin.ext ?_)
    match a with
    | ⟨0, _⟩ => show win3_2.index t 0 * win3_2.size 0 + 1 * r.val = _; rw [(z t).1]; show _ = 1088 * (t.val % 8) + r.val; omega
    | ⟨1, _⟩ => show win3_2.index t 1 * win3_2.size 1 + 1 * d.val = _; rw [(z t).2]; show _ = 512 * (t.val / 8) + d.val; omega
  rw [e]
  refine (pay3_apply _ _ r d).trans ?_
  simp only [b3_0, b3_1, Nat.add_assoc]
  rfl

/-- The blocks of region 3 tile its output. -/
theorem cover3 (i : S8704x1536.Idx) : ∃ t : Fin cfg3.N, (cfg3.win 2).flush t = true ∧ i ∈ ((cfg3.win 2).blk t).view.set := by
  have h0 : (i 0 : Nat) < 8704 := (i 0).isLt
  have h1 : (i 1 : Nat) < 1536 := (i 1).isLt
  have hN : cfg3.N = 24 := N_3
  obtain ⟨t, ht⟩ : ∃ t : Fin cfg3.N, t.val = 8 * ((i 1 : Nat) / 512) + (i 0 : Nat) / 1088 := ⟨⟨8 * ((i 1 : Nat) / 512) + (i 0 : Nat) / 1088, by omega⟩, rfl⟩
  refine ⟨t, flush3_2 t, ?_⟩
  show i ∈ ((View.whole main_v51).slice (win3_2.rect t)).set
  rw [View.set_slice_whole, Rect.mem_set_unit]
  have z : ∀ t : Fin cfg3.N, (win3_2.index t 0 * win3_2.size 0 = 1088 * (t.val % 8) ∧ win3_2.index t 1 * win3_2.size 1 = 512 * (t.val / 8)) ∧ win3_2.xsize (grid3.coords t) 0 = 1088 ∧ win3_2.xsize (grid3.coords t) 1 = 512 := by decide +kernel
  obtain ⟨⟨z0, z1⟩, y0, y1⟩ := z t
  intro a
  match a with
  | ⟨0, _⟩ =>
    show win3_2.index t 0 * win3_2.size 0 ≤ (i 0 : Nat) ∧ (i 0 : Nat) < win3_2.index t 0 * win3_2.size 0 + win3_2.xsize (grid3.coords t) 0
    rw [z0, y0]
    omega
  | ⟨1, _⟩ =>
    show win3_2.index t 1 * win3_2.size 1 ≤ (i 1 : Nat) ∧ (i 1 : Nat) < win3_2.index t 1 * win3_2.size 1 + win3_2.xsize (grid3.coords t) 1
    rw [z1, y1]
    omega

/-- Region 3 leaves the values. -/
theorem arr3 : (dat3 V c).arrAt 2 cfg3.N = valued (V c main_v10_0) (V c main_v49) :=
  (dat3 V c).arrAt_eq_of_cover 2 (valued (V c main_v10_0) (V c main_v49)) (fun t _ => flushed3 V c t) cover3

end Cert.Kernel4Ideal.Front
end
-- ==== Proof.FrontRoll.lean ====
/- What the calls that move the caches on leave in their output arrays, of what they find. -/
module

public import proofs.«01_k».proof.Proof.Gen.Kernel4Ideal.Frame
public import proofs.«01_k».proof.Proof.FrontPay

@[expose] public section

set_option maxRecDepth 16384

noncomputable section

namespace Cert.Kernel4Ideal.Front

open Cert.Kernel4Ideal Cert.Kernel4Ideal.Gen Cert.Front Idealize.ShloMosaic Idealize.ShloMosaic.TcCoe Idealize.SL Idealize.SL.Sem

/-- The zero offsets of a five-axis block. -/
theorem hz5 : (![0, 0, 0, 0, 0] : Fin 5 → Nat) = fun _ => 0 := funext fun a => by fin_cases a <;> rfl

/-- A cache of `n` positions with four dropped in front and four new ones behind. -/
def rolled {n : Nat} (hn : 4 ≤ n) (x : FVec Ideal ⟨5, ![128, n, 2, 4, 128]⟩ .f32) (y : FVec Ideal S128x4x2x4x128 .f32) : FVec Ideal ⟨5, ![128, n, 2, 4, 128]⟩ .f32 :=
  fun i => if h : (i 1).val + 4 < n then x (ix5 (i 0) ⟨(i 1).val + 4, h⟩ (i 2) (i 3) (i 4))
    else y (ix5 (i 0) ⟨(i 1).val + 4 - n, by have h1 : (i 1).val < n := (i 1).isLt; omega⟩ (i 2) (i 3) (i 4))

/-- At a position with a later one in the cache. -/
theorem rolled_old {n : Nat} (hn : 4 ≤ n) (x : FVec Ideal ⟨5, ![128, n, 2, 4, 128]⟩ .f32) (y : FVec Ideal S128x4x2x4x128 .f32)
    (r : Fin 128) (d d' : Fin n) (u : Fin 2) (f : Fin 4) (g : Fin 128) (h : d'.val = d.val + 4) :
    x (ix5 r d' u f g) = rolled hn x y (ix5 r d u f g) := by
  have hl : d.val + 4 < n := h ▸ d'.isLt
  have hd : d' = ⟨d.val + 4, hl⟩ := Fin.ext h
  rw [hd]
  have e : rolled hn x y (ix5 r d u f g) = if h : d.val + 4 < n then x (ix5 r ⟨d.val + 4, h⟩ u f g) else y (ix5 r ⟨d.val + 4 - n, by omega⟩ u f g) := rfl
  rw [e, dif_pos hl]

/-- At one of the last four positions. -/
theorem rolled_new {n : Nat} (hn : 4 ≤ n) (x : FVec Ideal ⟨5, ![128, n, 2, 4, 128]⟩ .f32) (y : FVec Ideal S128x4x2x4x128 .f32)
    (r : Fin 128) (d : Fin n) (d' : Fin 4) (u : Fin 2) (f : Fin 4) (g : Fin 128) (h : d.val + 4 = n + d'.val) :
    y (ix5 r d' u f g) = rolled hn x y (ix5 r d u f g) := by
  have hl : ¬ d.val + 4 < n := by omega
  have hd : d' = ⟨d.val + 4 - n, by omega⟩ := Fin.ext (by show d'.val = d.val + 4 - n; omega)
  rw [hd]
  have e : rolled hn x y (ix5 r d u f g) = if h : d.val + 4 < n then x (ix5 r ⟨d.val + 4, h⟩ u f g) else y (ix5 r ⟨d.val + 4 - n, by omega⟩ u f g) := rfl
  rw [e, dif_neg hl]

variable (V : (c : Dev nD) → (b : Ref sig .tc) → Buf (Elt Ideal) ((c : Thread nD τ).loc b)) (c : Dev nD)

/-- Region 4 has 32 points. -/
theorem n_4 (t : Fin cfg4.N) : t.val < 32 := by have := t.isLt; have h : cfg4.N = 32 := N_4; omega

/-- The cache's next block, the last point's aside. -/
theorem b4_0 (t : Fin cfg4.N) (r : Fin 128) (d : Fin 4) (u : Fin 2) (f : Fin 4) (g : Fin 128) :
    (iblk4 V c 0 t : Vec Ideal S128x4x2x4x128 .f32) (ix5 r d u f g) = (V c main_arg2 : FVec Ideal S128x128x2x4x128 .f32) (ix5 r ⟨4 * min (t.val + 1) 31 + d.val, by have := n_4 t; omega⟩ u f g) := by
  have e : ∀ t : Fin cfg4.N, win4_0.index t 0 * win4_0.size 0 = 0 ∧ win4_0.index t 1 * win4_0.size 1 = 4 * min (t.val + 1) 31 ∧ win4_0.index t 2 * win4_0.size 2 = 0 ∧ win4_0.index t 3 * win4_0.size 3 = 0 ∧ win4_0.index t 4 * win4_0.size 4 = 0 := by decide +kernel
  refine congrArg (V c main_arg2) (funext fun a => Fin.ext ?_)
  match a with
  | ⟨0, _⟩ => show win4_0.index t 0 * win4_0.size 0 + 1 * r.val = _; rw [(e t).1]; show _ = r.val; omega
  | ⟨1, _⟩ => show win4_0.index t 1 * win4_0.size 1 + 1 * d.val = _; rw [(e t).2.1]; show _ = 4 * min (t.val + 1) 31 + d.val; omega
  | ⟨2, _⟩ => show win4_0.index t 2 * win4_0.size 2 + 1 * u.val = _; rw [(e t).2.2.1]; show _ = u.val; omega
  | ⟨3, _⟩ => show win4_0.index t 3 * win4_0.size 3 + 1 * f.val = _; rw [(e t).2.2.2.1]; show _ = f.val; omega
  | ⟨4, _⟩ => show win4_0.index t 4 * win4_0.size 4 + 1 * g.val = _; rw [(e t).2.2.2.2]; show _ = g.val; omega

/-- The new rows, whole. -/
theorem b4_1 (t : Fin cfg4.N) (r : Fin 128) (d : Fin 4) (u : Fin 2) (f : Fin 4) (g : Fin 128) :
    (iblk4 V c 1 t : Vec Ideal S128x4x2x4x128 .f32) (ix5 r d u f g) = (V c main_v85 : FVec Ideal S128x4x2x4x128 .f32) (ix5 r d u f g) := by
  have e : ∀ t : Fin cfg4.N, win4_1.index t 0 * win4_1.size 0 = 0 ∧ win4_1.index t 1 * win4_1.size 1 = 0 ∧ win4_1.index t 2 * win4_1.size 2 = 0 ∧ win4_1.index t 3 * win4_1.size 3 = 0 ∧ win4_1.index t 4 * win4_1.size 4 = 0 := by decide +kernel
  refine congrArg (V c main_v85) (funext fun a => Fin.ext ?_)
  match a with
  | ⟨0, _⟩ => show win4_1.index t 0 * win4_1.size 0 + 1 * r.val = _; rw [(e t).1]; show _ = r.val; omega
  | ⟨1, _⟩ => show win4_1.index t 1 * win4_1.size 1 + 1 * d.val = _; rw [(e t).2.1]; show _ = d.val; omega
  | ⟨2, _⟩ => show win4_1.index t 2 * win4_1.size 2 + 1 * u.val = _; rw [(e t).2.2.1]; show _ = u.val; omega
  | ⟨3, _⟩ => show win4_1.index t 3 * win4_1.size 3 + 1 * f.val = _; rw [(e t).2.2.2.1]; show _ = f.val; omega
  | ⟨4, _⟩ => show win4_1.index t 4 * win4_1.size 4 + 1 * g.val = _; rw [(e t).2.2.2.2]; show _ = g.val; omega

/-- A point's coordinate. -/
theorem at_4 : ∀ t : Fin cfg4.N, (grid4.coords t 0).val = t.val := by decide +kernel

/-- What a point of region 4 writes back is its block of the cache moved on. -/
theorem flushed4 (t : Fin cfg4.N) : (dat4 V c).flushed 2 t = ((cfg4.win 2).blk t).view.read (Elt Ideal) (rolled (n := 128) (by omega) (V c main_arg2) (V c main_v85)) := by
  have hn := n_4 t
  show (dat4 V c).after 2 t = _
  rw [after4_2]
  unfold out4_2
  rw [View.canon_unit_zero hz5, View.ld_unit_zero hz5, View.ld_unit_zero hz5, pay4_eq]
  have hc := at_4 t
  funext i
  obtain ⟨r, d, u, f, g, rfl⟩ : ∃ (r : Fin 128) (d : Fin 4) (u : Fin 2) (f : Fin 4) (g : Fin 128), i = ix5 r d u f g := ⟨i 0, i 1, i 2, i 3, i 4, eq_ix5 i⟩
  have z : ∀ t : Fin cfg4.N, win4_2.index t 0 * win4_2.size 0 = 0 ∧ win4_2.index t 1 * win4_2.size 1 = 4 * t.val ∧ win4_2.index t 2 * win4_2.size 2 = 0 ∧ win4_2.index t 3 * win4_2.size 3 = 0 ∧ win4_2.index t 4 * win4_2.size 4 = 0 := by decide +kernel
  have e : ((cfg4.win 2).blk t).view.read (Elt Ideal) (rolled (n := 128) (by omega) (V c main_arg2) (V c main_v85)) (ix5 r d u f g)
      = (rolled (n := 128) (by omega) (V c main_arg2) (V c main_v85)) (ix5 r ⟨4 * t.val + d.val, by omega⟩ u f g) := by
    refine congrArg (rolled (n := 128) (by omega) (V c main_arg2) (V c main_v85)) (funext fun a => Fin.ext ?_)
    match a with
    | ⟨0, _⟩ => show win4_2.index t 0 * win4_2.size 0 + 1 * r.val = _; rw [(z t).1]; show _ = r.val; omega
    | ⟨1, _⟩ => show win4_2.index t 1 * win4_2.size 1 + 1 * d.val = _; rw [(z t).2.1]; show _ = 4 * t.val + d.val; omega
    | ⟨2, _⟩ => show win4_2.index t 2 * win4_2.size 2 + 1 * u.val = _; rw [(z t).2.2.1]; show _ = u.val; omega
    | ⟨3, _⟩ => show win4_2.index t 3 * win4_2.size 3 + 1 * f.val = _; rw [(z t).2.2.2.1]; show _ = f.val; omega
    | ⟨4, _⟩ => show win4_2.index t 4 * win4_2.size 4 + 1 * g.val = _; rw [(z t).2.2.2.2]; show _ = g.val; omega
  rw [e]
  by_cases hl : t.val = 31
  · rw [if_pos (hc.trans hl)]
    refine (b4_1 V c t r d u f g).trans ?_
    exact rolled_new _ _ _ r _ d u f g (by show 4 * t.val + d.val + 4 = 128 + d.val; omega)
  · rw [if_neg (fun h => hl (hc.symm.trans h))]
    refine (b4_0 V c t r d u f g).trans ?_
    exact rolled_old _ _ _ r _ _ u f g (by show 4 * min (t.val + 1) 31 + d.val = 4 * t.val + d.val + 4; omega)

/-- The blocks of region 4 tile its output. -/
theorem cover4 (i : S128x128x2x4x128.Idx) : ∃ t : Fin cfg4.N, (cfg4.win 2).flush t = true ∧ i ∈ ((cfg4.win 2).blk t).view.set := by
  have h0 : (i 0 : Nat) < 128 := (i 0).isLt
  have h1 : (i 1 : Nat) < 128 := (i 1).isLt
  have h2 : (i 2 : Nat) < 2 := (i 2).isLt
  have h3 : (i 3 : Nat) < 4 := (i 3).isLt
  have h4 : (i 4 : Nat) < 128 := (i 4).isLt
  have hN : cfg4.N = 32 := N_4
  obtain ⟨t, ht⟩ : ∃ t : Fin cfg4.N, t.val = (i 1 : Nat) / 4 := ⟨⟨(i 1 : Nat) / 4, by omega⟩, rfl⟩
  refine ⟨t, flush4_2 t, ?_⟩
  show i ∈ ((View.whole main_v102).slice (win4_2.rect t)).set
  rw [View.set_slice_whole, Rect.mem_set_unit]
  have z : ∀ t : Fin cfg4.N, (win4_2.index t 0 * win4_2.size 0 = 0 ∧ win4_2.index t 1 * win4_2.size 1 = 4 * t.val ∧ win4_2.index t 2 * win4_2.size 2 = 0 ∧ win4_2.index t 3 * win4_2.size 3 = 0 ∧ win4_2.index t 4 * win4_2.size 4 = 0) ∧ win4_2.xsize (grid4.coords t) 0 = 128 ∧ win4_2.xsize (grid4.coords t) 1 = 4 ∧ win4_2.xsize (grid4.coords t) 2 = 2 ∧ win4_2.xsize (grid4.coords t) 3 = 4 ∧ win4_2.xsize (grid4.coords t) 4 = 128 := by decide +kernel
  obtain ⟨⟨z0, z1, z2, z3, z4⟩, y0, y1, y2, y3, y4⟩ := z t
  intro a
  match a with
  | ⟨0, _⟩ =>
    show win4_2.index t 0 * win4_2.size 0 ≤ (i 0 : Nat) ∧ (i 0 : Nat) < win4_2.index t 0 * win4_2.size 0 + win4_2.xsize (grid4.coords t) 0
    rw [z0, y0]
    omega
  | ⟨1, _⟩ =>
    show win4_2.index t 1 * win4_2.size 1 ≤ (i 1 : Nat) ∧ (i 1 : Nat) < win4_2.index t 1 * win4_2.size 1 + win4_2.xsize (grid4.coords t) 1
    rw [z1, y1]
    omega
  | ⟨2, _⟩ =>
    show win4_2.index t 2 * win4_2.size 2 ≤ (i 2 : Nat) ∧ (i 2 : Nat) < win4_2.index t 2 * win4_2.size 2 + win4_2.xsize (grid4.coords t) 2
    rw [z2, y2]
    omega
  | ⟨3, _⟩ =>
    show win4_2.index t 3 * win4_2.size 3 ≤ (i 3 : Nat) ∧ (i 3 : Nat) < win4_2.index t 3 * win4_2.size 3 + win4_2.xsize (grid4.coords t) 3
    rw [z3, y3]
    omega
  | ⟨4, _⟩ =>
    show win4_2.index t 4 * win4_2.size 4 ≤ (i 4 : Nat) ∧ (i 4 : Nat) < win4_2.index t 4 * win4_2.size 4 + win4_2.xsize (grid4.coords t) 4
    rw [z4, y4]
    omega

/-- Region 4 leaves the cache moved on. -/
theorem arr4 : (dat4 V c).arrAt 2 cfg4.N = rolled (n := 128) (by omega) (V c main_arg2) (V c main_v85) :=
  (dat4 V c).arrAt_eq_of_cover 2 (rolled (n := 128) (by omega) (V c main_arg2) (V c main_v85)) (fun t _ => flushed4 V c t) cover4

/-- Region 5 has 128 points. -/
theorem n_5 (t : Fin cfg5.N) : t.val < 128 := by have := t.isLt; have h : cfg5.N = 128 := N_5; omega

/-- The cache's next block, the last point's aside. -/
theorem b5_0 (t : Fin cfg5.N) (r : Fin 128) (d : Fin 4) (u : Fin 2) (f : Fin 4) (g : Fin 128) :
    (iblk5 V c 0 t : Vec Ideal S128x4x2x4x128 .f32) (ix5 r d u f g) = (V c main_arg3 : FVec Ideal S128x512x2x4x128 .f32) (ix5 r ⟨4 * min (t.val + 1) 127 + d.val, by have := n_5 t; omega⟩ u f g) := by
  have e : ∀ t : Fin cfg5.N, win5_0.index t 0 * win5_0.size 0 = 0 ∧ win5_0.index t 1 * win5_0.size 1 = 4 * min (t.val + 1) 127 ∧ win5_0.index t 2 * win5_0.size 2 = 0 ∧ win5_0.index t 3 * win5_0.size 3 = 0 ∧ win5_0.index t 4 * win5_0.size 4 = 0 := by decide +kernel
  refine congrArg (V c main_arg3) (funext fun a => Fin.ext ?_)
  match a with
  | ⟨0, _⟩ => show win5_0.index t 0 * win5_0.size 0 + 1 * r.val = _; rw [(e t).1]; show _ = r.val; omega
  | ⟨1, _⟩ => show win5_0.index t 1 * win5_0.size 1 + 1 * d.val = _; rw [(e t).2.1]; show _ = 4 * min (t.val + 1) 127 + d.val; omega
  | ⟨2, _⟩ => show win5_0.index t 2 * win5_0.size 2 + 1 * u.val = _; rw [(e t).2.2.1]; show _ = u.val; omega
  | ⟨3, _⟩ => show win5_0.index t 3 * win5_0.size 3 + 1 * f.val = _; rw [(e t).2.2.2.1]; show _ = f.val; omega
  | ⟨4, _⟩ => show win5_0.index t 4 * win5_0.size 4 + 1 * g.val = _; rw [(e t).2.2.2.2]; show _ = g.val; omega

/-- The new rows, whole. -/
theorem b5_1 (t : Fin cfg5.N) (r : Fin 128) (d : Fin 4) (u : Fin 2) (f : Fin 4) (g : Fin 128) :
    (iblk5 V c 1 t : Vec Ideal S128x4x2x4x128 .f32) (ix5 r d u f g) = (V c main_v93 : FVec Ideal S128x4x2x4x128 .f32) (ix5 r d u f g) := by
  have e : ∀ t : Fin cfg5.N, win5_1.index t 0 * win5_1.size 0 = 0 ∧ win5_1.index t 1 * win5_1.size 1 = 0 ∧ win5_1.index t 2 * win5_1.size 2 = 0 ∧ win5_1.index t 3 * win5_1.size 3 = 0 ∧ win5_1.index t 4 * win5_1.size 4 = 0 := by decide +kernel
  refine congrArg (V c main_v93) (funext fun a => Fin.ext ?_)
  match a with
  | ⟨0, _⟩ => show win5_1.index t 0 * win5_1.size 0 + 1 * r.val = _; rw [(e t).1]; show _ = r.val; omega
  | ⟨1, _⟩ => show win5_1.index t 1 * win5_1.size 1 + 1 * d.val = _; rw [(e t).2.1]; show _ = d.val; omega
  | ⟨2, _⟩ => show win5_1.index t 2 * win5_1.size 2 + 1 * u.val = _; rw [(e t).2.2.1]; show _ = u.val; omega
  | ⟨3, _⟩ => show win5_1.index t 3 * win5_1.size 3 + 1 * f.val = _; rw [(e t).2.2.2.1]; show _ = f.val; omega
  | ⟨4, _⟩ => show win5_1.index t 4 * win5_1.size 4 + 1 * g.val = _; rw [(e t).2.2.2.2]; show _ = g.val; omega

/-- A point's coordinate. -/
theorem at_5 : ∀ t : Fin cfg5.N, (grid5.coords t 0).val = t.val := by decide +kernel

/-- What a point of region 5 writes back is its block of the cache moved on. -/
theorem flushed5 (t : Fin cfg5.N) : (dat5 V c).flushed 2 t = ((cfg5.win 2).blk t).view.read (Elt Ideal) (rolled (n := 512) (by omega) (V c main_arg3) (V c main_v93)) := by
  have hn := n_5 t
  show (dat5 V c).after 2 t = _
  rw [after5_2]
  unfold out5_2
  rw [View.canon_unit_zero hz5, View.ld_unit_zero hz5, View.ld_unit_zero hz5, pay5_eq]
  have hc := at_5 t
  funext i
  obtain ⟨r, d, u, f, g, rfl⟩ : ∃ (r : Fin 128) (d : Fin 4) (u : Fin 2) (f : Fin 4) (g : Fin 128), i = ix5 r d u f g := ⟨i 0, i 1, i 2, i 3, i 4, eq_ix5 i⟩
  have z : ∀ t : Fin cfg5.N, win5_2.index t 0 * win5_2.size 0 = 0 ∧ win5_2.index t 1 * win5_2.size 1 = 4 * t.val ∧ win5_2.index t 2 * win5_2.size 2 = 0 ∧ win5_2.index t 3 * win5_2.size 3 = 0 ∧ win5_2.index t 4 * win5_2.size 4 = 0 := by decide +kernel
  have e : ((cfg5.win 2).blk t).view.read (Elt Ideal) (rolled (n := 512) (by omega) (V c main_arg3) (V c main_v93)) (ix5 r d u f g)
      = (rolled (n := 512) (by omega) (V c main_arg3) (V c main_v93)) (ix5 r ⟨4 * t.val + d.val, by omega⟩ u f g) := by
    refine congrArg (rolled (n := 512) (by omega) (V c main_arg3) (V c main_v93)) (funext fun a => Fin.ext ?_)
    match a with
    | ⟨0, _⟩ => show win5_2.index t 0 * win5_2.size 0 + 1 * r.val = _; rw [(z t).1]; show _ = r.val; omega
    | ⟨1, _⟩ => show win5_2.index t 1 * win5_2.size 1 + 1 * d.val = _; rw [(z t).2.1]; show _ = 4 * t.val + d.val; omega
    | ⟨2, _⟩ => show win5_2.index t 2 * win5_2.size 2 + 1 * u.val = _; rw [(z t).2.2.1]; show _ = u.val; omega
    | ⟨3, _⟩ => show win5_2.index t 3 * win5_2.size 3 + 1 * f.val = _; rw [(z t).2.2.2.1]; show _ = f.val; omega
    | ⟨4, _⟩ => show win5_2.index t 4 * win5_2.size 4 + 1 * g.val = _; rw [(z t).2.2.2.2]; show _ = g.val; omega
  rw [e]
  by_cases hl : t.val = 127
  · rw [if_pos (hc.trans hl)]
    refine (b5_1 V c t r d u f g).trans ?_
    exact rolled_new _ _ _ r _ d u f g (by show 4 * t.val + d.val + 4 = 512 + d.val; omega)
  · rw [if_neg (fun h => hl (hc.symm.trans h))]
    refine (b5_0 V c t r d u f g).trans ?_
    exact rolled_old _ _ _ r _ _ u f g (by show 4 * min (t.val + 1) 127 + d.val = 4 * t.val + d.val + 4; omega)

/-- The blocks of region 5 tile its output. -/
theorem cover5 (i : S128x512x2x4x128.Idx) : ∃ t : Fin cfg5.N, (cfg5.win 2).flush t = true ∧ i ∈ ((cfg5.win 2).blk t).view.set := by
  have h0 : (i 0 : Nat) < 128 := (i 0).isLt
  have h1 : (i 1 : Nat) < 512 := (i 1).isLt
  have h2 : (i 2 : Nat) < 2 := (i 2).isLt
  have h3 : (i 3 : Nat) < 4 := (i 3).isLt
  have h4 : (i 4 : Nat) < 128 := (i 4).isLt
  have hN : cfg5.N = 128 := N_5
  obtain ⟨t, ht⟩ : ∃ t : Fin cfg5.N, t.val = (i 1 : Nat) / 4 := ⟨⟨(i 1 : Nat) / 4, by omega⟩, rfl⟩
  refine ⟨t, flush5_2 t, ?_⟩
  show i ∈ ((View.whole main_v103).slice (win5_2.rect t)).set
  rw [View.set_slice_whole, Rect.mem_set_unit]
  have z : ∀ t : Fin cfg5.N, (win5_2.index t 0 * win5_2.size 0 = 0 ∧ win5_2.index t 1 * win5_2.size 1 = 4 * t.val ∧ win5_2.index t 2 * win5_2.size 2 = 0 ∧ win5_2.index t 3 * win5_2.size 3 = 0 ∧ win5_2.index t 4 * win5_2.size 4 = 0) ∧ win5_2.xsize (grid5.coords t) 0 = 128 ∧ win5_2.xsize (grid5.coords t) 1 = 4 ∧ win5_2.xsize (grid5.coords t) 2 = 2 ∧ win5_2.xsize (grid5.coords t) 3 = 4 ∧ win5_2.xsize (grid5.coords t) 4 = 128 := by decide +kernel
  obtain ⟨⟨z0, z1, z2, z3, z4⟩, y0, y1, y2, y3, y4⟩ := z t
  intro a
  match a with
  | ⟨0, _⟩ =>
    show win5_2.index t 0 * win5_2.size 0 ≤ (i 0 : Nat) ∧ (i 0 : Nat) < win5_2.index t 0 * win5_2.size 0 + win5_2.xsize (grid5.coords t) 0
    rw [z0, y0]
    omega
  | ⟨1, _⟩ =>
    show win5_2.index t 1 * win5_2.size 1 ≤ (i 1 : Nat) ∧ (i 1 : Nat) < win5_2.index t 1 * win5_2.size 1 + win5_2.xsize (grid5.coords t) 1
    rw [z1, y1]
    omega
  | ⟨2, _⟩ =>
    show win5_2.index t 2 * win5_2.size 2 ≤ (i 2 : Nat) ∧ (i 2 : Nat) < win5_2.index t 2 * win5_2.size 2 + win5_2.xsize (grid5.coords t) 2
    rw [z2, y2]
    omega
  | ⟨3, _⟩ =>
    show win5_2.index t 3 * win5_2.size 3 ≤ (i 3 : Nat) ∧ (i 3 : Nat) < win5_2.index t 3 * win5_2.size 3 + win5_2.xsize (grid5.coords t) 3
    rw [z3, y3]
    omega
  | ⟨4, _⟩ =>
    show win5_2.index t 4 * win5_2.size 4 ≤ (i 4 : Nat) ∧ (i 4 : Nat) < win5_2.index t 4 * win5_2.size 4 + win5_2.xsize (grid5.coords t) 4
    rw [z4, y4]
    omega

/-- Region 5 leaves the cache moved on. -/
theorem arr5 : (dat5 V c).arrAt 2 cfg5.N = rolled (n := 512) (by omega) (V c main_arg3) (V c main_v93) :=
  (dat5 V c).arrAt_eq_of_cover 2 (rolled (n := 512) (by omega) (V c main_arg3) (V c main_v93)) (fun t _ => flushed5 V c t) cover5

/-- Region 6 has 512 points. -/
theorem n_6 (t : Fin cfg6.N) : t.val < 512 := by have := t.isLt; have h : cfg6.N = 512 := N_6; omega

/-- The cache's next block, the last point's aside. -/
theorem b6_0 (t : Fin cfg6.N) (r : Fin 128) (d : Fin 4) (u : Fin 2) (f : Fin 4) (g : Fin 128) :
    (iblk6 V c 0 t : Vec Ideal S128x4x2x4x128 .f32) (ix5 r d u f g) = (V c main_arg4 : FVec Ideal S128x2048x2x4x128 .f32) (ix5 r ⟨4 * min (t.val + 1) 511 + d.val, by have := n_6 t; omega⟩ u f g) := by
  have e : ∀ t : Fin cfg6.N, win6_0.index t 0 * win6_0.size 0 = 0 ∧ win6_0.index t 1 * win6_0.size 1 = 4 * min (t.val + 1) 511 ∧ win6_0.index t 2 * win6_0.size 2 = 0 ∧ win6_0.index t 3 * win6_0.size 3 = 0 ∧ win6_0.index t 4 * win6_0.size 4 = 0 := by decide +kernel
  refine congrArg (V c main_arg4) (funext fun a => Fin.ext ?_)
  match a with
  | ⟨0, _⟩ => show win6_0.index t 0 * win6_0.size 0 + 1 * r.val = _; rw [(e t).1]; show _ = r.val; omega
  | ⟨1, _⟩ => show win6_0.index t 1 * win6_0.size 1 + 1 * d.val = _; rw [(e t).2.1]; show _ = 4 * min (t.val + 1) 511 + d.val; omega
  | ⟨2, _⟩ => show win6_0.index t 2 * win6_0.size 2 + 1 * u.val = _; rw [(e t).2.2.1]; show _ = u.val; omega
  | ⟨3, _⟩ => show win6_0.index t 3 * win6_0.size 3 + 1 * f.val = _; rw [(e t).2.2.2.1]; show _ = f.val; omega
  | ⟨4, _⟩ => show win6_0.index t 4 * win6_0.size 4 + 1 * g.val = _; rw [(e t).2.2.2.2]; show _ = g.val; omega

/-- The new rows, whole. -/
theorem b6_1 (t : Fin cfg6.N) (r : Fin 128) (d : Fin 4) (u : Fin 2) (f : Fin 4) (g : Fin 128) :
    (iblk6 V c 1 t : Vec Ideal S128x4x2x4x128 .f32) (ix5 r d u f g) = (V c main_v101 : FVec Ideal S128x4x2x4x128 .f32) (ix5 r d u f g) := by
  have e : ∀ t : Fin cfg6.N, win6_1.index t 0 * win6_1.size 0 = 0 ∧ win6_1.index t 1 * win6_1.size 1 = 0 ∧ win6_1.index t 2 * win6_1.size 2 = 0 ∧ win6_1.index t 3 * win6_1.size 3 = 0 ∧ win6_1.index t 4 * win6_1.size 4 = 0 := by decide +kernel
  refine congrArg (V c main_v101) (funext fun a => Fin.ext ?_)
  match a with
  | ⟨0, _⟩ => show win6_1.index t 0 * win6_1.size 0 + 1 * r.val = _; rw [(e t).1]; show _ = r.val; omega
  | ⟨1, _⟩ => show win6_1.index t 1 * win6_1.size 1 + 1 * d.val = _; rw [(e t).2.1]; show _ = d.val; omega
  | ⟨2, _⟩ => show win6_1.index t 2 * win6_1.size 2 + 1 * u.val = _; rw [(e t).2.2.1]; show _ = u.val; omega
  | ⟨3, _⟩ => show win6_1.index t 3 * win6_1.size 3 + 1 * f.val = _; rw [(e t).2.2.2.1]; show _ = f.val; omega
  | ⟨4, _⟩ => show win6_1.index t 4 * win6_1.size 4 + 1 * g.val = _; rw [(e t).2.2.2.2]; show _ = g.val; omega

/-- A point's coordinate. -/
theorem at_6 : ∀ t : Fin cfg6.N, (grid6.coords t 0).val = t.val := by decide +kernel

/-- What a point of region 6 writes back is its block of the cache moved on. -/
theorem flushed6 (t : Fin cfg6.N) : (dat6 V c).flushed 2 t = ((cfg6.win 2).blk t).view.read (Elt Ideal) (rolled (n := 2048) (by omega) (V c main_arg4) (V c main_v101)) := by
  have hn := n_6 t
  show (dat6 V c).after 2 t = _
  rw [after6_2]
  unfold out6_2
  rw [View.canon_unit_zero hz5, View.ld_unit_zero hz5, View.ld_unit_zero hz5, pay6_eq]
  have hc := at_6 t
  funext i
  obtain ⟨r, d, u, f, g, rfl⟩ : ∃ (r : Fin 128) (d : Fin 4) (u : Fin 2) (f : Fin 4) (g : Fin 128), i = ix5 r d u f g := ⟨i 0, i 1, i 2, i 3, i 4, eq_ix5 i⟩
  have z : ∀ t : Fin cfg6.N, win6_2.index t 0 * win6_2.size 0 = 0 ∧ win6_2.index t 1 * win6_2.size 1 = 4 * t.val ∧ win6_2.index t 2 * win6_2.size 2 = 0 ∧ win6_2.index t 3 * win6_2.size 3 = 0 ∧ win6_2.index t 4 * win6_2.size 4 = 0 := by decide +kernel
  have e : ((cfg6.win 2).blk t).view.read (Elt Ideal) (rolled (n := 2048) (by omega) (V c main_arg4) (V c main_v101)) (ix5 r d u f g)
      = (rolled (n := 2048) (by omega) (V c main_arg4) (V c main_v101)) (ix5 r ⟨4 * t.val + d.val, by omega⟩ u f g) := by
    refine congrArg (rolled (n := 2048) (by omega) (V c main_arg4) (V c main_v101)) (funext fun a => Fin.ext ?_)
    match a with
    | ⟨0, _⟩ => show win6_2.index t 0 * win6_2.size 0 + 1 * r.val = _; rw [(z t).1]; show _ = r.val; omega
    | ⟨1, _⟩ => show win6_2.index t 1 * win6_2.size 1 + 1 * d.val = _; rw [(z t).2.1]; show _ = 4 * t.val + d.val; omega
    | ⟨2, _⟩ => show win6_2.index t 2 * win6_2.size 2 + 1 * u.val = _; rw [(z t).2.2.1]; show _ = u.val; omega
    | ⟨3, _⟩ => show win6_2.index t 3 * win6_2.size 3 + 1 * f.val = _; rw [(z t).2.2.2.1]; show _ = f.val; omega
    | ⟨4, _⟩ => show win6_2.index t 4 * win6_2.size 4 + 1 * g.val = _; rw [(z t).2.2.2.2]; show _ = g.val; omega
  rw [e]
  by_cases hl : t.val = 511
  · rw [if_pos (hc.trans hl)]
    refine (b6_1 V c t r d u f g).trans ?_
    exact rolled_new _ _ _ r _ d u f g (by show 4 * t.val + d.val + 4 = 2048 + d.val; omega)
  · rw [if_neg (fun h => hl (hc.symm.trans h))]
    refine (b6_0 V c t r d u f g).trans ?_
    exact rolled_old _ _ _ r _ _ u f g (by show 4 * min (t.val + 1) 511 + d.val = 4 * t.val + d.val + 4; omega)

/-- The blocks of region 6 tile its output. -/
theorem cover6 (i : S128x2048x2x4x128.Idx) : ∃ t : Fin cfg6.N, (cfg6.win 2).flush t = true ∧ i ∈ ((cfg6.win 2).blk t).view.set := by
  have h0 : (i 0 : Nat) < 128 := (i 0).isLt
  have h1 : (i 1 : Nat) < 2048 := (i 1).isLt
  have h2 : (i 2 : Nat) < 2 := (i 2).isLt
  have h3 : (i 3 : Nat) < 4 := (i 3).isLt
  have h4 : (i 4 : Nat) < 128 := (i 4).isLt
  have hN : cfg6.N = 512 := N_6
  obtain ⟨t, ht⟩ : ∃ t : Fin cfg6.N, t.val = (i 1 : Nat) / 4 := ⟨⟨(i 1 : Nat) / 4, by omega⟩, rfl⟩
  refine ⟨t, flush6_2 t, ?_⟩
  show i ∈ ((View.whole main_v104).slice (win6_2.rect t)).set
  rw [View.set_slice_whole, Rect.mem_set_unit]
  have z : ∀ t : Fin cfg6.N, (win6_2.index t 0 * win6_2.size 0 = 0 ∧ win6_2.index t 1 * win6_2.size 1 = 4 * t.val ∧ win6_2.index t 2 * win6_2.size 2 = 0 ∧ win6_2.index t 3 * win6_2.size 3 = 0 ∧ win6_2.index t 4 * win6_2.size 4 = 0) ∧ win6_2.xsize (grid6.coords t) 0 = 128 ∧ win6_2.xsize (grid6.coords t) 1 = 4 ∧ win6_2.xsize (grid6.coords t) 2 = 2 ∧ win6_2.xsize (grid6.coords t) 3 = 4 ∧ win6_2.xsize (grid6.coords t) 4 = 128 := by decide +kernel
  obtain ⟨⟨z0, z1, z2, z3, z4⟩, y0, y1, y2, y3, y4⟩ := z t
  intro a
  match a with
  | ⟨0, _⟩ =>
    show win6_2.index t 0 * win6_2.size 0 ≤ (i 0 : Nat) ∧ (i 0 : Nat) < win6_2.index t 0 * win6_2.size 0 + win6_2.xsize (grid6.coords t) 0
    rw [z0, y0]
    omega
  | ⟨1, _⟩ =>
    show win6_2.index t 1 * win6_2.size 1 ≤ (i 1 : Nat) ∧ (i 1 : Nat) < win6_2.index t 1 * win6_2.size 1 + win6_2.xsize (grid6.coords t) 1
    rw [z1, y1]
    omega
  | ⟨2, _⟩ =>
    show win6_2.index t 2 * win6_2.size 2 ≤ (i 2 : Nat) ∧ (i 2 : Nat) < win6_2.index t 2 * win6_2.size 2 + win6_2.xsize (grid6.coords t) 2
    rw [z2, y2]
    omega
  | ⟨3, _⟩ =>
    show win6_2.index t 3 * win6_2.size 3 ≤ (i 3 : Nat) ∧ (i 3 : Nat) < win6_2.index t 3 * win6_2.size 3 + win6_2.xsize (grid6.coords t) 3
    rw [z3, y3]
    omega
  | ⟨4, _⟩ =>
    show win6_2.index t 4 * win6_2.size 4 ≤ (i 4 : Nat) ∧ (i 4 : Nat) < win6_2.index t 4 * win6_2.size 4 + win6_2.xsize (grid6.coords t) 4
    rw [z4, y4]
    omega

/-- Region 6 leaves the cache moved on. -/
theorem arr6 : (dat6 V c).arrAt 2 cfg6.N = rolled (n := 2048) (by omega) (V c main_arg4) (V c main_v101) :=
  (dat6 V c).arrAt_eq_of_cover 2 (rolled (n := 2048) (by omega) (V c main_arg4) (V c main_v101)) (fun t _ => flushed6 V c t) cover6

end Cert.Kernel4Ideal.Front
end
-- ==== Proof.FrontHost.lean ====
/- The arrays the host makes for the front's calls: the turning tables, the gains and the weights' columns. -/
module

public import proofs.«01_k».proof.Proof.Gen.Kernel4Ideal.Launch
public import proofs.«01_k».proof.Proof.FrontSpec

@[expose] public section

set_option maxRecDepth 16384
noncomputable section

namespace Cert.Kernel4Ideal.Front

open Cert.Kernel4Ideal Cert.Kernel4Ideal.Gen Cert.Front Idealize.ShloMosaic Idealize.ShloMosaic.TcCoe Idealize.SL Idealize.SL.Sem

/-- The prompts' rows' positions. -/
def posP : IVec S8192 32 :=
  shapeCast S8192 (broadcastInDim S4x2048 ![0, 1] bcast_S1x2048_S4x2048_0_1 (shapeCast S1x2048 (iotaInDim S2048 32 0) shapeCasts_S2048_S1x2048)) shapeCasts_S4x2048_S8192
/-- The samples' rows' positions. -/
def posS : IVec S512 32 :=
  shapeCast S512 (broadcastInDim S128x4 ![0, 1] bcast_S1x4_S128x4_0_1 (shapeCast S1x4 (addi (broadcastInDim S4 ![] bcast_S_S4 (constantI S_ 32 2048#32)) (iotaInDim S4 32 0)) shapeCasts_S4_S1x4)) shapeCasts_S128x4_S512
/-- Each row's position: the prompts' rows count from 0, the samples' four from 2048. -/
def pos : IVec S8704 32 := concatenate S8704 0 [⟨S8192, posP⟩, ⟨S512, posS⟩] concatenates_S8192_S512_S8704_d0

/-- The sixteen frequencies. -/
def freq : FVec Ideal S16 .f32 :=
  Host.powf (broadcastInDim S16 ![] bcast_S_S16 (constant (F := Ideal) S_ .f32 0x48F42400#32))
    (Host.divf (Host.negf (sitofp .f32 (iotaInDim S16 32 0))) (broadcastInDim S16 ![] bcast_S_S16 (constant (F := Ideal) S_ .f32 0x41800000#32)))

/-- Each row's sixteen angles. -/
def ang : FVec Ideal S8704x16 .f32 :=
  mulf (broadcastInDim S8704x16 ![0, 1] bcast_S8704x1_S8704x16_0_1 (broadcastInDim S8704x1 ![0] bcast_S8704_S8704x1_0 (sitofp (F := Ideal) .f32 pos)))
    (broadcastInDim S8704x16 ![0, 1] bcast_S1x16_S8704x16_0_1 (broadcastInDim S1x16 ![1] bcast_S16_S1x16_1 freq))

/-- The first table: cosines, cosines, ones. -/
def tabC : FVec Ideal S8704x128 .f32 :=
  concatenate S8704x128 1 [⟨S8704x16, Host.cos ang⟩, ⟨S8704x16, Host.cos ang⟩, ⟨S8704x96, broadcastInDim S8704x96 ![] bcast_S_S8704x96 (constant (F := Ideal) S_ .f32 0x3F800000#32)⟩] concatenates_S8704x16_S8704x16_S8704x96_S8704x128_d1
/-- The second: minus sines, zeros. -/
def tabA : FVec Ideal S8704x128 .f32 :=
  concatenate S8704x128 1 [⟨S8704x16, Host.negf (Host.sin ang)⟩, ⟨S8704x112, broadcastInDim S8704x112 ![] bcast_S_S8704x112 (constant (F := Ideal) S_ .f32 0x00000000#32)⟩] concatenates_S8704x16_S8704x112_S8704x128_d1
/-- The third: zeros, sines, zeros. -/
def tabB : FVec Ideal S8704x128 .f32 :=
  concatenate S8704x128 1 [⟨S8704x16, broadcastInDim S8704x16 ![] bcast_S_S8704x16 (constant (F := Ideal) S_ .f32 0x00000000#32)⟩, ⟨S8704x16, Host.sin ang⟩, ⟨S8704x96, broadcastInDim S8704x96 ![] bcast_S_S8704x96 (constant (F := Ideal) S_ .f32 0x00000000#32)⟩] concatenates_S8704x16_S8704x16_S8704x96_S8704x128_d1
/-- The two heads' gains, one above the other. -/
def gains (q k : FVec Ideal S128 .f32) : FVec Ideal S2x1x128 .f32 :=
  shapeCast S2x1x128 (concatenate S2x128 0 [⟨S1x128, broadcastInDim S1x128 ![1] bcast_S128_S1x128_1 q⟩, ⟨S1x128, broadcastInDim S1x128 ![1] bcast_S128_S1x128_1 k⟩] concatenates_S1x128_S1x128_S2x128_d0) shapeCasts_S2x128_S2x1x128
/-- The columns of queries, keys and values, as rows. -/
def wrows (w : FVec Ideal S4096x19680 .f32) : FVec Ideal S4608x4096 .f32 :=
  transpose S4608x4096 [1, 0] (extractStridedSlice S4096x4608 ![0, 0] w slices_S4096x19680_S4096x4608_0_0) transposes_S4096x4608_S4608x4096_1_0
/-- The prompts' and the samples' rows, one under the other. -/
def rows (p : FVec Ideal S4x2048x4096 .f32) (s : FVec Ideal S128x4x4096 .f32) : FVec Ideal S8704x4096 .f32 :=
  concatenate S8704x4096 0 [⟨S8192x4096, shapeCast S8192x4096 p shapeCasts_S4x2048x4096_S8192x4096⟩, ⟨S512x4096, shapeCast S512x4096 s shapeCasts_S128x4x4096_S512x4096⟩] concatenates_S8192x4096_S512x4096_S8704x4096_d0

section
variable (W : Valuation τ sig (Elt Ideal))
/-- The first table the host leaves. -/
theorem after_tabC : (StableHlo.after hostOps2 W (Proc.devRef .tc main_v37) : FVec Ideal S8704x128 .f32) = tabC := rfl
/-- The second. -/
theorem after_tabA : (StableHlo.after hostOps2 W (Proc.devRef .tc main_v40) : FVec Ideal S8704x128 .f32) = tabA := rfl
/-- The third. -/
theorem after_tabB : (StableHlo.after hostOps2 W (Proc.devRef .tc main_v43) : FVec Ideal S8704x128 .f32) = tabB := rfl
/-- The gains it leaves. -/
theorem after_gains : (StableHlo.after hostOps2 W (Proc.devRef .tc main_v47) : FVec Ideal S2x1x128 .f32) = gains (W (Proc.devRef .tc main_arg8)) (W (Proc.devRef .tc main_arg9)) := rfl
/-- The weights it leaves. -/
theorem after_wrows : (StableHlo.after hostOps2 W (Proc.devRef .tc main_v49) : FVec Ideal S4608x4096 .f32) = wrows (W (Proc.devRef .tc main_arg7)) := rfl
/-- The rows it leaves. -/
theorem after_rows : (StableHlo.after hostOps0 W (Proc.devRef .tc main_v2) : FVec Ideal S8704x4096 .f32) = rows (W (Proc.devRef .tc main_arg0)) (W (Proc.devRef .tc main_arg1)) := rfl
/-- The layer's gains it leaves. -/
theorem after_gain : (StableHlo.after hostOps0 W (Proc.devRef .tc main_v3) : FVec Ideal S1x4096 .f32) = shapeCast S1x4096 (W (Proc.devRef .tc main_arg6) : FVec Ideal S4096 .f32) shapeCasts_S4096_S1x4096 := rfl
end

/-- A prompt row's position. -/
theorem posP_apply (r : Fin 8192) : posP (ix1 r) = BitVec.ofNat 32 (r.val % 2048) := by
  unfold posP
  generalize hi : (iotaInDim S2048 32 0 : IVec S2048 32) = y
  pointwise
  rw [← hi]
  rfl

/-- A sample row's position. -/
theorem posS_apply (r : Fin 512) : posS (ix1 r) = BitVec.ofNat 32 (2048 + r.val % 4) := by
  unfold posS
  generalize hi : (addi (broadcastInDim S4 ![] bcast_S_S4 (constantI S_ 32 2048#32)) (iotaInDim S4 32 0) : IVec S4 32) = y
  pointwise
  rw [← hi]
  have e : ∀ k : Fin 4, (2048#32 + BitVec.ofNat 32 k.val : BitVec 32) = BitVec.ofNat 32 (2048 + k.val) := by decide
  exact e ⟨r.val % 4, by omega⟩

/-- A row's position, as a number. -/
def posn (r : Fin 8704) : Nat := if r.val < 8192 then r.val % 2048 else 2048 + (r.val - 8192) % 4

/-- The word of a row's position. -/
theorem pos_apply (r : Fin 8704) : pos (ix1 r) = BitVec.ofNat 32 (posn r) := by
  have h : pos (ix1 r) = if h : r.val < 8192 then posP (ix1 ⟨r.val, h⟩) else posS (ix1 ⟨r.val - 8192, by omega⟩) := by
    unfold pos
    generalize posP = a
    generalize posS = b
    pointwise
  rw [h]
  unfold posn
  by_cases hr : r.val < 8192
  · rw [dif_pos hr, if_pos hr, posP_apply]
  · rw [dif_neg hr, if_neg hr, posS_apply]

/-- A frequency. -/
theorem freq_apply (k : Fin 16) : freq (ix1 k) = frq k := by
  unfold frq
  pointwise [freq]

/-- A row's angle. -/
theorem ang_apply (r : Fin 8704) (k : Fin 16) : ang (ix2 r k) = angle (posn r) k := by
  unfold angle
  rw [← freq_apply, ← pos_apply]
  unfold ang
  generalize pos = p
  generalize freq = f
  pointwise

/-- An entry of the first table. -/
theorem tabC_apply (r : Fin 8704) (k : Fin 128) : tabC (ix2 r k)
    = if h : k.val < 16 then Ideal.cos (angle (posn r) ⟨k.val, h⟩) else if h' : k.val < 32 then Ideal.cos (angle (posn r) ⟨k.val - 16, by omega⟩) else 1 := by
  have e : tabC (ix2 r k) = if h : k.val < 16 then Ideal.cos (ang (ix2 r ⟨k.val, h⟩)) else if h' : k.val - 16 < 16 then Ideal.cos (ang (ix2 r ⟨k.val - 16, h'⟩)) else 1 := by
    unfold tabC
    generalize ang = a
    pointwise
  rw [e]
  simp only [ang_apply]
  by_cases h : k.val < 16
  · rw [dif_pos h, dif_pos h]
  by_cases h' : k.val < 32
  · rw [dif_neg h, dif_neg h, dif_pos h', dif_pos (show k.val - 16 < 16 by omega)]
  · rw [dif_neg h, dif_neg h, dif_neg h', dif_neg (show ¬ k.val - 16 < 16 by omega)]

/-- An entry of the second table. -/
theorem tabA_apply (r : Fin 8704) (k : Fin 128) : tabA (ix2 r k) = if h : k.val < 16 then - Ideal.sin (angle (posn r) ⟨k.val, h⟩) else 0 := by
  have e : tabA (ix2 r k) = if h : k.val < 16 then - Ideal.sin (ang (ix2 r ⟨k.val, h⟩)) else 0 := by
    unfold tabA
    generalize ang = a
    pointwise
  rw [e]
  simp only [ang_apply]

/-- An entry of the third table. -/
theorem tabB_apply (r : Fin 8704) (k : Fin 128) : tabB (ix2 r k)
    = if k.val < 16 then 0 else if h' : k.val < 32 then Ideal.sin (angle (posn r) ⟨k.val - 16, by omega⟩) else 0 := by
  have e : tabB (ix2 r k) = if h : k.val < 16 then 0 else if h' : k.val - 16 < 16 then Ideal.sin (ang (ix2 r ⟨k.val - 16, h'⟩)) else 0 := by
    unfold tabB
    generalize ang = a
    pointwise
  rw [e]
  simp only [ang_apply]
  by_cases h : k.val < 16
  · rw [dif_pos h, if_pos h]
  by_cases h' : k.val < 32
  · rw [dif_neg h, if_neg h, dif_pos h', dif_pos (show k.val - 16 < 16 by omega)]
  · rw [dif_neg h, if_neg h, dif_neg h', dif_neg (show ¬ k.val - 16 < 16 by omega)]

/-- The keys' gains are the second. -/
theorem gains_apply (p q : FVec Ideal S128 .f32) (k : Fin 128) : gains p q (ix3 1 0 k) = q (ix1 k) := by
  pointwise [gains]

/-- A weight row is a weight column. -/
theorem wrows_apply (w : FVec Ideal S4096x19680 .f32) (j : Fin 4608) (k : Fin 4096) : wrows w (ix2 j k) = w (ix2 k ⟨j.val, by omega⟩) := by
  pointwise [wrows]

/-- A row among all. -/
theorem rows_apply (p : FVec Ideal S4x2048x4096 .f32) (s : FVec Ideal S128x4x4096 .f32) (r : Fin 8704) (k : Fin 4096) :
    rows p s (ix2 r k) = if h : r.val < 8192 then p (ix3 ⟨r.val / 2048, by omega⟩ ⟨r.val % 2048, by omega⟩ k)
      else s (ix3 ⟨(r.val - 8192) / 4, by omega⟩ ⟨(r.val - 8192) % 4, by omega⟩ k) := by
  pointwise [rows]

/-- A prompt's row among all. -/
theorem rows_prompt (p : FVec Ideal S4x2048x4096 .f32) (s : FVec Ideal S128x4x4096 .f32) (b : Fin 4) (t : Fin 2048) (k : Fin 4096) :
    rows p s (ix2 ⟨2048 * b.val + t.val, by omega⟩ k) = p (ix3 b t k) := by
  rw [rows_apply, dif_pos (show 2048 * b.val + t.val < 8192 by omega)]
  have e0 : (⟨(2048 * b.val + t.val) / 2048, by omega⟩ : Fin 4) = b := Fin.ext (by show (2048 * b.val + t.val) / 2048 = b.val; omega)
  have e1 : (⟨(2048 * b.val + t.val) % 2048, by omega⟩ : Fin 2048) = t := Fin.ext (by show (2048 * b.val + t.val) % 2048 = t.val; omega)
  exact congrArg p (congrArg₂ (fun a b => ix3 a b k) e0 e1)

/-- A sample's row among all. -/
theorem rows_sample (p : FVec Ideal S4x2048x4096 .f32) (s : FVec Ideal S128x4x4096 .f32) (b : Fin 128) (t : Fin 4) (k : Fin 4096) :
    rows p s (ix2 ⟨8192 + (4 * b.val + t.val), by omega⟩ k) = s (ix3 b t k) := by
  rw [rows_apply, dif_neg (show ¬ 8192 + (4 * b.val + t.val) < 8192 by omega)]
  have e0 : (⟨(8192 + (4 * b.val + t.val) - 8192) / 4, by omega⟩ : Fin 128) = b := Fin.ext (by show (8192 + (4 * b.val + t.val) - 8192) / 4 = b.val; omega)
  have e1 : (⟨(8192 + (4 * b.val + t.val) - 8192) % 4, by omega⟩ : Fin 4) = t := Fin.ext (by show (8192 + (4 * b.val + t.val) - 8192) % 4 = t.val; omega)
  exact congrArg s (congrArg₂ (fun a b => ix3 a b k) e0 e1)

end Cert.Kernel4Ideal.Front
end
-- ==== Proof.FrontCut.lean ====
/- What the host cuts out of the heads and the values: the caches' rows, entry by entry. -/
module

public import Idealize.ShloMosaic.Lib.StableHlo.RunRead
public import proofs.«01_k».proof.Proof.FrontHost

@[expose] public section

set_option maxRecDepth 16384
noncomputable section

namespace Cert.Kernel4Ideal.Front

open Cert.Kernel4Ideal Cert.Kernel4Ideal.Gen Cert.Front Idealize.ShloMosaic Idealize.ShloMosaic.TcCoe Idealize.SL Idealize.SL.Sem

/-- The prompts' keys and values of one group of heads, side by side. -/
def joinP (y z : FVec Ideal S8192x512 .f32) : FVec Ideal S4x2048x2x4x128 .f32 :=
  shapeCast S4x2048x2x4x128 (concatenate S8192x2x4x128 1
    [⟨S8192x1x4x128, broadcastInDim S8192x1x4x128 ![0, 2, 3] bcast_S8192x4x128_S8192x1x4x128_0_2_3 (shapeCast S8192x4x128 y shapeCasts_S8192x512_S8192x4x128)⟩,
     ⟨S8192x1x4x128, broadcastInDim S8192x1x4x128 ![0, 2, 3] bcast_S8192x4x128_S8192x1x4x128_0_2_3 (shapeCast S8192x4x128 z shapeCasts_S8192x512_S8192x4x128)⟩]
    concatenates_S8192x1x4x128_S8192x1x4x128_S8192x2x4x128_d1) shapeCasts_S8192x2x4x128_S4x2048x2x4x128

/-- An entry of them. -/
theorem joinP_apply (y z : FVec Ideal S8192x512 .f32) (b : Fin 4) (t : Fin 2048) (q : Fin 2) (n : Fin 4) (k : Fin 128) :
    joinP y z (ix5 b t q n k) = if q.val < 1 then y (ix2 ⟨2048 * b.val + t.val, by omega⟩ ⟨128 * n.val + k.val, by omega⟩)
      else z (ix2 ⟨2048 * b.val + t.val, by omega⟩ ⟨128 * n.val + k.val, by omega⟩) := by
  refine Eq.trans ?_ dite_eq_ite
  pointwise [joinP]
  simp only [Nat.mul_comm]

/-- The samples' keys and values of one group of heads, side by side. -/
def joinS (y z : FVec Ideal S512x512 .f32) : FVec Ideal S128x4x2x4x128 .f32 :=
  shapeCast S128x4x2x4x128 (concatenate S512x2x4x128 1
    [⟨S512x1x4x128, broadcastInDim S512x1x4x128 ![0, 2, 3] bcast_S512x4x128_S512x1x4x128_0_2_3 (shapeCast S512x4x128 y shapeCasts_S512x512_S512x4x128)⟩,
     ⟨S512x1x4x128, broadcastInDim S512x1x4x128 ![0, 2, 3] bcast_S512x4x128_S512x1x4x128_0_2_3 (shapeCast S512x4x128 z shapeCasts_S512x512_S512x4x128)⟩]
    concatenates_S512x1x4x128_S512x1x4x128_S512x2x4x128_d1) shapeCasts_S512x2x4x128_S128x4x2x4x128

/-- An entry of them. -/
theorem joinS_apply (y z : FVec Ideal S512x512 .f32) (b : Fin 128) (t : Fin 4) (q : Fin 2) (n : Fin 4) (k : Fin 128) :
    joinS y z (ix5 b t q n k) = if q.val < 1 then y (ix2 ⟨4 * b.val + t.val, by omega⟩ ⟨128 * n.val + k.val, by omega⟩)
      else z (ix2 ⟨4 * b.val + t.val, by omega⟩ ⟨128 * n.val + k.val, by omega⟩) := by
  refine Eq.trans ?_ dite_eq_ite
  pointwise [joinS]
  simp only [Nat.mul_comm]

/-- A group's keys and values, cut out. -/
theorem cutP0 (x : FVec Ideal S8704x3072 .f32) (y : FVec Ideal S8704x1536 .f32) (r : Fin 8192) (n : Fin 4) (k : Fin 128) :
    extractStridedSlice S8192x512 ![0, 1536] x slices_S8704x3072_S8192x512_0_1536 (ix2 r ⟨128 * n.val + k.val, by omega⟩) = x (ix2 ⟨0 + r.val, by omega⟩ ⟨1536 + (128 * (0 + n.val) + k.val), by omega⟩)
      ∧ extractStridedSlice S8192x512 ![0, 0] y slices_S8704x1536_S8192x512_0_0 (ix2 r ⟨128 * n.val + k.val, by omega⟩) = y (ix2 ⟨0 + r.val, by omega⟩ ⟨128 * (0 + n.val) + k.val, by omega⟩) := by
  constructor
  · refine Eq.trans (b := x (ix2 ⟨0 + r.val, by omega⟩ ⟨1536 + (128 * n.val + k.val), by omega⟩)) ?_ (congrArg (fun j => x (ix2 ⟨0 + r.val, by omega⟩ j)) (Fin.ext (by show 1536 + (128 * n.val + k.val) = 1536 + (128 * (0 + n.val) + k.val); omega)))
    pointwise
  · refine Eq.trans (b := y (ix2 ⟨0 + r.val, by omega⟩ ⟨0 + (128 * n.val + k.val), by omega⟩)) ?_ (congrArg (fun j => y (ix2 ⟨0 + r.val, by omega⟩ j)) (Fin.ext (by show 0 + (128 * n.val + k.val) = 128 * (0 + n.val) + k.val; omega)))
    pointwise

/-- A group's keys and values, cut out. -/
theorem cutP1 (x : FVec Ideal S8704x3072 .f32) (y : FVec Ideal S8704x1536 .f32) (r : Fin 8192) (n : Fin 4) (k : Fin 128) :
    extractStridedSlice S8192x512 ![0, 2048] x slices_S8704x3072_S8192x512_0_2048 (ix2 r ⟨128 * n.val + k.val, by omega⟩) = x (ix2 ⟨0 + r.val, by omega⟩ ⟨1536 + (128 * (4 + n.val) + k.val), by omega⟩)
      ∧ extractStridedSlice S8192x512 ![0, 512] y slices_S8704x1536_S8192x512_0_512 (ix2 r ⟨128 * n.val + k.val, by omega⟩) = y (ix2 ⟨0 + r.val, by omega⟩ ⟨128 * (4 + n.val) + k.val, by omega⟩) := by
  constructor
  · refine Eq.trans (b := x (ix2 ⟨0 + r.val, by omega⟩ ⟨2048 + (128 * n.val + k.val), by omega⟩)) ?_ (congrArg (fun j => x (ix2 ⟨0 + r.val, by omega⟩ j)) (Fin.ext (by show 2048 + (128 * n.val + k.val) = 1536 + (128 * (4 + n.val) + k.val); omega)))
    pointwise
  · refine Eq.trans (b := y (ix2 ⟨0 + r.val, by omega⟩ ⟨512 + (128 * n.val + k.val), by omega⟩)) ?_ (congrArg (fun j => y (ix2 ⟨0 + r.val, by omega⟩ j)) (Fin.ext (by show 512 + (128 * n.val + k.val) = 128 * (4 + n.val) + k.val; omega)))
    pointwise

/-- A group's keys and values, cut out. -/
theorem cutP2 (x : FVec Ideal S8704x3072 .f32) (y : FVec Ideal S8704x1536 .f32) (r : Fin 8192) (n : Fin 4) (k : Fin 128) :
    extractStridedSlice S8192x512 ![0, 2560] x slices_S8704x3072_S8192x512_0_2560 (ix2 r ⟨128 * n.val + k.val, by omega⟩) = x (ix2 ⟨0 + r.val, by omega⟩ ⟨1536 + (128 * (8 + n.val) + k.val), by omega⟩)
      ∧ extractStridedSlice S8192x512 ![0, 1024] y slices_S8704x1536_S8192x512_0_1024 (ix2 r ⟨128 * n.val + k.val, by omega⟩) = y (ix2 ⟨0 + r.val, by omega⟩ ⟨128 * (8 + n.val) + k.val, by omega⟩) := by
  constructor
  · refine Eq.trans (b := x (ix2 ⟨0 + r.val, by omega⟩ ⟨2560 + (128 * n.val + k.val), by omega⟩)) ?_ (congrArg (fun j => x (ix2 ⟨0 + r.val, by omega⟩ j)) (Fin.ext (by show 2560 + (128 * n.val + k.val) = 1536 + (128 * (8 + n.val) + k.val); omega)))
    pointwise
  · refine Eq.trans (b := y (ix2 ⟨0 + r.val, by omega⟩ ⟨1024 + (128 * n.val + k.val), by omega⟩)) ?_ (congrArg (fun j => y (ix2 ⟨0 + r.val, by omega⟩ j)) (Fin.ext (by show 1024 + (128 * n.val + k.val) = 128 * (8 + n.val) + k.val; omega)))
    pointwise

/-- A group's keys and values, cut out. -/
theorem cutS0 (x : FVec Ideal S8704x3072 .f32) (y : FVec Ideal S8704x1536 .f32) (r : Fin 512) (n : Fin 4) (k : Fin 128) :
    extractStridedSlice S512x512 ![8192, 1536] x slices_S8704x3072_S512x512_8192_1536 (ix2 r ⟨128 * n.val + k.val, by omega⟩) = x (ix2 ⟨8192 + r.val, by omega⟩ ⟨1536 + (128 * (0 + n.val) + k.val), by omega⟩)
      ∧ extractStridedSlice S512x512 ![8192, 0] y slices_S8704x1536_S512x512_8192_0 (ix2 r ⟨128 * n.val + k.val, by omega⟩) = y (ix2 ⟨8192 + r.val, by omega⟩ ⟨128 * (0 + n.val) + k.val, by omega⟩) := by
  constructor
  · refine Eq.trans (b := x (ix2 ⟨8192 + r.val, by omega⟩ ⟨1536 + (128 * n.val + k.val), by omega⟩)) ?_ (congrArg (fun j => x (ix2 ⟨8192 + r.val, by omega⟩ j)) (Fin.ext (by show 1536 + (128 * n.val + k.val) = 1536 + (128 * (0 + n.val) + k.val); omega)))
    pointwise
  · refine Eq.trans (b := y (ix2 ⟨8192 + r.val, by omega⟩ ⟨0 + (128 * n.val + k.val), by omega⟩)) ?_ (congrArg (fun j => y (ix2 ⟨8192 + r.val, by omega⟩ j)) (Fin.ext (by show 0 + (128 * n.val + k.val) = 128 * (0 + n.val) + k.val; omega)))
    pointwise

/-- A group's keys and values, cut out. -/
theorem cutS1 (x : FVec Ideal S8704x3072 .f32) (y : FVec Ideal S8704x1536 .f32) (r : Fin 512) (n : Fin 4) (k : Fin 128) :
    extractStridedSlice S512x512 ![8192, 2048] x slices_S8704x3072_S512x512_8192_2048 (ix2 r ⟨128 * n.val + k.val, by omega⟩) = x (ix2 ⟨8192 + r.val, by omega⟩ ⟨1536 + (128 * (4 + n.val) + k.val), by omega⟩)
      ∧ extractStridedSlice S512x512 ![8192, 512] y slices_S8704x1536_S512x512_8192_512 (ix2 r ⟨128 * n.val + k.val, by omega⟩) = y (ix2 ⟨8192 + r.val, by omega⟩ ⟨128 * (4 + n.val) + k.val, by omega⟩) := by
  constructor
  · refine Eq.trans (b := x (ix2 ⟨8192 + r.val, by omega⟩ ⟨2048 + (128 * n.val + k.val), by omega⟩)) ?_ (congrArg (fun j => x (ix2 ⟨8192 + r.val, by omega⟩ j)) (Fin.ext (by show 2048 + (128 * n.val + k.val) = 1536 + (128 * (4 + n.val) + k.val); omega)))
    pointwise
  · refine Eq.trans (b := y (ix2 ⟨8192 + r.val, by omega⟩ ⟨512 + (128 * n.val + k.val), by omega⟩)) ?_ (congrArg (fun j => y (ix2 ⟨8192 + r.val, by omega⟩ j)) (Fin.ext (by show 512 + (128 * n.val + k.val) = 128 * (4 + n.val) + k.val; omega)))
    pointwise

/-- A group's keys and values, cut out. -/
theorem cutS2 (x : FVec Ideal S8704x3072 .f32) (y : FVec Ideal S8704x1536 .f32) (r : Fin 512) (n : Fin 4) (k : Fin 128) :
    extractStridedSlice S512x512 ![8192, 2560] x slices_S8704x3072_S512x512_8192_2560 (ix2 r ⟨128 * n.val + k.val, by omega⟩) = x (ix2 ⟨8192 + r.val, by omega⟩ ⟨1536 + (128 * (8 + n.val) + k.val), by omega⟩)
      ∧ extractStridedSlice S512x512 ![8192, 1024] y slices_S8704x1536_S512x512_8192_1024 (ix2 r ⟨128 * n.val + k.val, by omega⟩) = y (ix2 ⟨8192 + r.val, by omega⟩ ⟨128 * (8 + n.val) + k.val, by omega⟩) := by
  constructor
  · refine Eq.trans (b := x (ix2 ⟨8192 + r.val, by omega⟩ ⟨2560 + (128 * n.val + k.val), by omega⟩)) ?_ (congrArg (fun j => x (ix2 ⟨8192 + r.val, by omega⟩ j)) (Fin.ext (by show 2560 + (128 * n.val + k.val) = 1536 + (128 * (8 + n.val) + k.val); omega)))
    pointwise
  · refine Eq.trans (b := y (ix2 ⟨8192 + r.val, by omega⟩ ⟨1024 + (128 * n.val + k.val), by omega⟩)) ?_ (congrArg (fun j => y (ix2 ⟨8192 + r.val, by omega⟩ j)) (Fin.ext (by show 1024 + (128 * n.val + k.val) = 128 * (8 + n.val) + k.val; omega)))
    pointwise

/-- Buffer 60 of the heads and the values. -/
def out60 (x : FVec Ideal S8704x3072 .f32) (y : FVec Ideal S8704x1536 .f32) : FVec Ideal S4x128x2x4x128 .f32 :=
  extractStridedSlice S4x128x2x4x128 ![0, 1920, 0, 0, 0] (joinP (extractStridedSlice S8192x512 ![0, 1536] x slices_S8704x3072_S8192x512_0_1536) (extractStridedSlice S8192x512 ![0, 0] y slices_S8704x1536_S8192x512_0_0)) slices_S4x2048x2x4x128_S4x128x2x4x128_0_1920_0_0_0

/-- An entry of it. -/
theorem out60_apply (x : FVec Ideal S8704x3072 .f32) (y : FVec Ideal S8704x1536 .f32) (b : Fin 4) (t : Fin 128) (q : Fin 2) (n : Fin 4) (k : Fin 128) :
    out60 x y (ix5 b t q n k)
      = if q.val < 1 then x (ix2 ⟨2048 * b.val + (1920 + t.val), by omega⟩ ⟨1536 + (128 * (0 + n.val) + k.val), by omega⟩)
        else y (ix2 ⟨2048 * b.val + (1920 + t.val), by omega⟩ ⟨128 * (0 + n.val) + k.val, by omega⟩) := by
  have e : ∀ z : FVec Ideal S4x2048x2x4x128 .f32, extractStridedSlice S4x128x2x4x128 ![0, 1920, 0, 0, 0] z slices_S4x2048x2x4x128_S4x128x2x4x128_0_1920_0_0_0 (ix5 b t q n k) = z (ix5 b ⟨1920 + t.val, by omega⟩ q n k) := fun z => by
    pointwise
  refine (e _).trans ?_
  refine (joinP_apply _ _ b ⟨1920 + t.val, by omega⟩ q n k).trans ?_
  have h := cutP0 x y ⟨2048 * b.val + (1920 + t.val), by omega⟩ n k
  simp only [Nat.zero_add] at h ⊢
  exact if_congr Iff.rfl h.1 h.2

/-- The host's buffer 60 is that. -/
theorem after_60 (W : Valuation τ sig (Elt Ideal)) : (StableHlo.after hostOps4 W (Proc.devRef .tc main_v60) : FVec Ideal S4x128x2x4x128 .f32)
    = out60 (W (Proc.devRef .tc main_v50)) (W (Proc.devRef .tc main_v51)) := by
  after_reads_simp
  rfl

/-- Buffer 69 of the heads and the values. -/
def out69 (x : FVec Ideal S8704x3072 .f32) (y : FVec Ideal S8704x1536 .f32) : FVec Ideal S4x512x2x4x128 .f32 :=
  extractStridedSlice S4x512x2x4x128 ![0, 1536, 0, 0, 0] (joinP (extractStridedSlice S8192x512 ![0, 2048] x slices_S8704x3072_S8192x512_0_2048) (extractStridedSlice S8192x512 ![0, 512] y slices_S8704x1536_S8192x512_0_512)) slices_S4x2048x2x4x128_S4x512x2x4x128_0_1536_0_0_0

/-- An entry of it. -/
theorem out69_apply (x : FVec Ideal S8704x3072 .f32) (y : FVec Ideal S8704x1536 .f32) (b : Fin 4) (t : Fin 512) (q : Fin 2) (n : Fin 4) (k : Fin 128) :
    out69 x y (ix5 b t q n k)
      = if q.val < 1 then x (ix2 ⟨2048 * b.val + (1536 + t.val), by omega⟩ ⟨1536 + (128 * (4 + n.val) + k.val), by omega⟩)
        else y (ix2 ⟨2048 * b.val + (1536 + t.val), by omega⟩ ⟨128 * (4 + n.val) + k.val, by omega⟩) := by
  have e : ∀ z : FVec Ideal S4x2048x2x4x128 .f32, extractStridedSlice S4x512x2x4x128 ![0, 1536, 0, 0, 0] z slices_S4x2048x2x4x128_S4x512x2x4x128_0_1536_0_0_0 (ix5 b t q n k) = z (ix5 b ⟨1536 + t.val, by omega⟩ q n k) := fun z => by
    pointwise
  refine (e _).trans ?_
  refine (joinP_apply _ _ b ⟨1536 + t.val, by omega⟩ q n k).trans ?_
  have h := cutP1 x y ⟨2048 * b.val + (1536 + t.val), by omega⟩ n k
  simp only [Nat.zero_add] at h ⊢
  exact if_congr Iff.rfl h.1 h.2

/-- The host's buffer 69 is that. -/
theorem after_69 (W : Valuation τ sig (Elt Ideal)) : (StableHlo.after hostOps4 W (Proc.devRef .tc main_v69) : FVec Ideal S4x512x2x4x128 .f32)
    = out69 (W (Proc.devRef .tc main_v50)) (W (Proc.devRef .tc main_v51)) := by
  after_reads_simp
  rfl

/-- Buffer 77 of the heads and the values. -/
def out77 (x : FVec Ideal S8704x3072 .f32) (y : FVec Ideal S8704x1536 .f32) : FVec Ideal S4x2048x2x4x128 .f32 :=
  joinP (extractStridedSlice S8192x512 ![0, 2560] x slices_S8704x3072_S8192x512_0_2560) (extractStridedSlice S8192x512 ![0, 1024] y slices_S8704x1536_S8192x512_0_1024)

/-- An entry of it. -/
theorem out77_apply (x : FVec Ideal S8704x3072 .f32) (y : FVec Ideal S8704x1536 .f32) (b : Fin 4) (t : Fin 2048) (q : Fin 2) (n : Fin 4) (k : Fin 128) :
    out77 x y (ix5 b t q n k)
      = if q.val < 1 then x (ix2 ⟨2048 * b.val + t.val, by omega⟩ ⟨1536 + (128 * (8 + n.val) + k.val), by omega⟩)
        else y (ix2 ⟨2048 * b.val + t.val, by omega⟩ ⟨128 * (8 + n.val) + k.val, by omega⟩) := by
  unfold out77
  refine (joinP_apply _ _ b t q n k).trans ?_
  have h := cutP2 x y ⟨2048 * b.val + t.val, by omega⟩ n k
  simp only [Nat.zero_add] at h ⊢
  exact if_congr Iff.rfl h.1 h.2

/-- The host's buffer 77 is that. -/
theorem after_77 (W : Valuation τ sig (Elt Ideal)) : (StableHlo.after hostOps4 W (Proc.devRef .tc main_v77) : FVec Ideal S4x2048x2x4x128 .f32)
    = out77 (W (Proc.devRef .tc main_v50)) (W (Proc.devRef .tc main_v51)) := by
  after_reads_simp
  rfl

/-- Buffer 85 of the heads and the values. -/
def out85 (x : FVec Ideal S8704x3072 .f32) (y : FVec Ideal S8704x1536 .f32) : FVec Ideal S128x4x2x4x128 .f32 :=
  joinS (extractStridedSlice S512x512 ![8192, 1536] x slices_S8704x3072_S512x512_8192_1536) (extractStridedSlice S512x512 ![8192, 0] y slices_S8704x1536_S512x512_8192_0)

/-- An entry of it. -/
theorem out85_apply (x : FVec Ideal S8704x3072 .f32) (y : FVec Ideal S8704x1536 .f32) (b : Fin 128) (t : Fin 4) (q : Fin 2) (n : Fin 4) (k : Fin 128) :
    out85 x y (ix5 b t q n k)
      = if q.val < 1 then x (ix2 ⟨8192 + (4 * b.val + t.val), by omega⟩ ⟨1536 + (128 * (0 + n.val) + k.val), by omega⟩)
        else y (ix2 ⟨8192 + (4 * b.val + t.val), by omega⟩ ⟨128 * (0 + n.val) + k.val, by omega⟩) := by
  unfold out85
  refine (joinS_apply _ _ b t q n k).trans ?_
  have h := cutS0 x y ⟨4 * b.val + t.val, by omega⟩ n k
  simp only [Nat.zero_add] at h ⊢
  exact if_congr Iff.rfl h.1 h.2

/-- The host's buffer 85 is that. -/
theorem after_85 (W : Valuation τ sig (Elt Ideal)) : (StableHlo.after hostOps4 W (Proc.devRef .tc main_v85) : FVec Ideal S128x4x2x4x128 .f32)
    = out85 (W (Proc.devRef .tc main_v50)) (W (Proc.devRef .tc main_v51)) := by
  after_reads_simp
  rfl

/-- Buffer 93 of the heads and the values. -/
def out93 (x : FVec Ideal S8704x3072 .f32) (y : FVec Ideal S8704x1536 .f32) : FVec Ideal S128x4x2x4x128 .f32 :=
  joinS (extractStridedSlice S512x512 ![8192, 2048] x slices_S8704x3072_S512x512_8192_2048) (extractStridedSlice S512x512 ![8192, 512] y slices_S8704x1536_S512x512_8192_512)

/-- An entry of it. -/
theorem out93_apply (x : FVec Ideal S8704x3072 .f32) (y : FVec Ideal S8704x1536 .f32) (b : Fin 128) (t : Fin 4) (q : Fin 2) (n : Fin 4) (k : Fin 128) :
    out93 x y (ix5 b t q n k)
      = if q.val < 1 then x (ix2 ⟨8192 + (4 * b.val + t.val), by omega⟩ ⟨1536 + (128 * (4 + n.val) + k.val), by omega⟩)
        else y (ix2 ⟨8192 + (4 * b.val + t.val), by omega⟩ ⟨128 * (4 + n.val) + k.val, by omega⟩) := by
  unfold out93
  refine (joinS_apply _ _ b t q n k).trans ?_
  have h := cutS1 x y ⟨4 * b.val + t.val, by omega⟩ n k
  simp only [Nat.zero_add] at h ⊢
  exact if_congr Iff.rfl h.1 h.2

/-- The host's buffer 93 is that. -/
theorem after_93 (W : Valuation τ sig (Elt Ideal)) : (StableHlo.after hostOps4 W (Proc.devRef .tc main_v93) : FVec Ideal S128x4x2x4x128 .f32)
    = out93 (W (Proc.devRef .tc main_v50)) (W (Proc.devRef .tc main_v51)) := by
  after_reads_simp
  rfl

/-- Buffer 101 of the heads and the values. -/
def out101 (x : FVec Ideal S8704x3072 .f32) (y : FVec Ideal S8704x1536 .f32) : FVec Ideal S128x4x2x4x128 .f32 :=
  joinS (extractStridedSlice S512x512 ![8192, 2560] x slices_S8704x3072_S512x512_8192_2560) (extractStridedSlice S512x512 ![8192, 1024] y slices_S8704x1536_S512x512_8192_1024)

/-- An entry of it. -/
theorem out101_apply (x : FVec Ideal S8704x3072 .f32) (y : FVec Ideal S8704x1536 .f32) (b : Fin 128) (t : Fin 4) (q : Fin 2) (n : Fin 4) (k : Fin 128) :
    out101 x y (ix5 b t q n k)
      = if q.val < 1 then x (ix2 ⟨8192 + (4 * b.val + t.val), by omega⟩ ⟨1536 + (128 * (8 + n.val) + k.val), by omega⟩)
        else y (ix2 ⟨8192 + (4 * b.val + t.val), by omega⟩ ⟨128 * (8 + n.val) + k.val, by omega⟩) := by
  unfold out101
  refine (joinS_apply _ _ b t q n k).trans ?_
  have h := cutS2 x y ⟨4 * b.val + t.val, by omega⟩ n k
  simp only [Nat.zero_add] at h ⊢
  exact if_congr Iff.rfl h.1 h.2

/-- The host's buffer 101 is that. -/
theorem after_101 (W : Valuation τ sig (Elt Ideal)) : (StableHlo.after hostOps4 W (Proc.devRef .tc main_v101) : FVec Ideal S128x4x2x4x128 .f32)
    = out101 (W (Proc.devRef .tc main_v50)) (W (Proc.devRef .tc main_v51)) := by
  after_reads_simp
  rfl

section
variable (W : Valuation τ sig (Elt Ideal))

/-- The last normalised rows the host takes for the prompts. -/
theorem after_5 (b : Fin 4) (k : Fin 4096) : (StableHlo.after hostOps1 W (Proc.devRef .tc main_v5) : FVec Ideal S4x4096 .f32) (ix2 b k)
    = (W (Proc.devRef .tc main_v4) : FVec Ideal S8704x4096 .f32) (ix2 ⟨2048 * b.val + 2047, by omega⟩ k) := by
  have e : (StableHlo.after hostOps1 W (Proc.devRef .tc main_v5) : FVec Ideal S4x4096 .f32)
      = Host.slice S4x4096 ![2047, 0] ![2048, 1] (W (Proc.devRef .tc main_v4) : FVec Ideal S8704x4096 .f32) slicesBy_S8704x4096_S4x4096_2047s2048_0s1 := rfl
  rw [e]
  generalize (W (Proc.devRef .tc main_v4) : FVec Ideal S8704x4096 .f32) = y
  exact congrArg y (funext fun a => Fin.ext (by
    match a with
    | ⟨0, _⟩ => exact (show 2047 + 2048 * b.val = 2048 * b.val + 2047 by omega)
    | ⟨1, _⟩ => exact (show 0 + 1 * k.val = k.val by omega)))

/-- The last normalised rows the host takes for the samples. -/
theorem after_6 (b : Fin 128) (k : Fin 4096) : (StableHlo.after hostOps1 W (Proc.devRef .tc main_v6) : FVec Ideal S128x4096 .f32) (ix2 b k)
    = (W (Proc.devRef .tc main_v4) : FVec Ideal S8704x4096 .f32) (ix2 ⟨8192 + (4 * b.val + 3), by omega⟩ k) := by
  have e : (StableHlo.after hostOps1 W (Proc.devRef .tc main_v6) : FVec Ideal S128x4096 .f32)
      = Host.slice S128x4096 ![8195, 0] ![4, 1] (W (Proc.devRef .tc main_v4) : FVec Ideal S8704x4096 .f32) slicesBy_S8704x4096_S128x4096_8195s4_0s1 := rfl
  rw [e]
  generalize (W (Proc.devRef .tc main_v4) : FVec Ideal S8704x4096 .f32) = y
  exact congrArg y (funext fun a => Fin.ext (by
    match a with
    | ⟨0, _⟩ => exact (show 8195 + 4 * b.val = 8192 + (4 * b.val + 3) by omega)
    | ⟨1, _⟩ => exact (show 0 + 1 * k.val = k.val by omega)))
end

end Cert.Kernel4Ideal.Front
end
-- ==== Proof.FrontRef.lean ====
/- The reference's cache entries, in plain functions of a row. -/
module

public import proofs.«01_k».proof.Proof.Gen.Reference4Ideal.Read
public import proofs.«01_k».proof.Proof.FrontSpec

@[expose] public section

set_option maxRecDepth 16384
noncomputable section

namespace Cert.Reference4Ideal.Front

open Cert.Reference4Ideal Cert.Reference4Ideal.Gen Cert.Reference4Ideal.Read Cert.Front Idealize.ShloMosaic Idealize.ShloMosaic.TcCoe

/-- The prompts' normalised rows. -/
theorem rowP (x0 : FVec Ideal S4x2048x4096 .f32) (x6 : FVec Ideal S4096 .f32) (b : Fin 4) (t : Fin 2048) (k : Fin 4096) :
    val_main_v13 (F := Ideal) x0 x6 (ix3 b t k) = rmsRow 1166016512#32 (fun d : Fin 4096 => x0 (ix3 b t d)) (fun d => x6 (ix1 d)) k := by
  unfold rmsRow
  pointwise [val_main_v1, val_main_v2, val_main_v3, val_main_v4, val_main_v5, val_main_v6, val_main_v7, val_main_v8, val_main_v9, val_main_v10, val_main_v11, val_main_v12, val_main_v13, val_main_cst, val_main_cst_0, val_main_cst_1]

/-- The prompts' keys and values before the keys are normalised: products with the columns from 1536 on. -/
theorem prodP (x0 : FVec Ideal S4x2048x4096 .f32) (x6 : FVec Ideal S4096 .f32) (x7 : FVec Ideal S4096x19680 .f32) (b : Fin 4) (t : Fin 2048) (q : Fin 2) (n : Fin 12) (k : Fin 128) :
    val_main_v16 (F := Ideal) x0 x6 x7 (ix5 b t q n k) = ∑ e : Fin 4096, val_main_v13 (F := Ideal) x0 x6 (ix3 b t e) * x7 (ix2 e ⟨1536 + (1536 * q.val + 128 * n.val + k.val), by omega⟩) := by
  have f : ∀ (z : FVec Ideal S4x2048x4096 .f32) (y : FVec Ideal S4096x3072 .f32), shapeCast S4x2048x2x12x128 (Host.dotGeneral dot_S4x2048x4096_S4096x3072_S4x2048x3072_2_0_01_1_n_n none z y : FVec Ideal S4x2048x3072 .f32) shapeCasts_S4x2048x3072_S4x2048x2x12x128 (ix5 b t q n k)
      = ∑ e : Fin 4096, z (ix3 b t e) * y (ix2 e ⟨1536 * q.val + 128 * n.val + k.val, by omega⟩) := fun z y => by
    pointwise
    simp only [Nat.mul_comm]
  refine (f _ _).trans (Finset.sum_congr rfl fun e _ => congrArg _ ?_)
  pointwise [val_main_v14]

/-- The prompts' normalised keys. -/
theorem normP (x0 : FVec Ideal S4x2048x4096 .f32) (x6 : FVec Ideal S4096 .f32) (x7 : FVec Ideal S4096x19680 .f32) (x9 : FVec Ideal S128 .f32) (b : Fin 4) (t : Fin 2048) (n : Fin 12) (k : Fin 128) :
    val_main_v31 (F := Ideal) x0 x6 x7 x9 (ix4 b t n k) = rmsRow 1124073472#32 (fun d : Fin 128 => val_main_v16 (F := Ideal) x0 x6 x7 (ix5 b t 0 n d)) (fun d => x9 (ix1 d)) k := by
  unfold val_main_v31 val_main_v30 val_main_v29 val_main_v28 val_main_v27 val_main_v26 val_main_v25 val_main_v24 val_main_v23 val_main_v22 val_main_v21 val_main_v20 val_main_v19 val_main_v18 val_main_v17
  generalize val_main_v16 (F := Ideal) x0 x6 x7 = y
  unfold rmsRow
  pointwise [val_main_cst_2, val_main_cst_3, val_main_cst_4]

/-- The prompts' positions' angles. -/
theorem angP (t : Fin 2048) (i : Fin 16) : val_main_v43 (F := Ideal) (ix2 t i) = angle t.val i := by
  unfold angle frq
  pointwise [val_main_v32, val_main_v33, val_main_v34, val_main_v35, val_main_v36, val_main_v37, val_main_v38, val_main_v39, val_main_v40, val_main_v41, val_main_v42, val_main_v43, val_main_v0, val_main_cst_5, val_main_cst_6]

/-- The prompts' keys, turned. -/
theorem keyP (x0 : FVec Ideal S4x2048x4096 .f32) (x6 : FVec Ideal S4096 .f32) (x7 : FVec Ideal S4096x19680 .f32) (x9 : FVec Ideal S128 .f32) (b : Fin 4) (t : Fin 2048) (n : Fin 12) (k : Fin 128) :
    val_main_v63 (F := Ideal) x0 x6 x7 x9 (ix4 b t n k)
      = rot (fun d => val_main_v31 (F := Ideal) x0 x6 x7 x9 (ix4 b t n d)) (fun i => Ideal.cos (angle t.val i)) (fun i => Ideal.sin (angle t.val i)) k := by
  unfold val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44
  generalize val_main_v31 (F := Ideal) x0 x6 x7 x9 = y
  have ha := angP t
  generalize val_main_v43 (F := Ideal) = w at ha ⊢
  refine Eq.trans ?_ (rot_of (fun d => y (ix4 b t n d)) _ _ k)
  pointwise
  simp only [ha]

/-- A prompt's cache entry: the turned key, then the value. -/
theorem entryP (x0 : FVec Ideal S4x2048x4096 .f32) (x6 : FVec Ideal S4096 .f32) (x7 : FVec Ideal S4096x19680 .f32) (x9 : FVec Ideal S128 .f32) (b : Fin 4) (t : Fin 2048) (n : Fin 12) (q : Fin 2) (k : Fin 128) :
    (if q.val < 1 then val_main_v63 (F := Ideal) x0 x6 x7 x9 (ix4 b t n k) else val_main_v16 (F := Ideal) x0 x6 x7 (ix5 b t 1 n k))
      = entry (rmsRow 1166016512#32 (fun d : Fin 4096 => x0 (ix3 b t d)) (fun d => x6 (ix1 d))) (fun e j => x7 (ix2 e j)) (fun d => x9 (ix1 d)) t.val n q k := by
  unfold entry key value
  rw [keyP]
  simp only [normP, prodP, rowP]
  refine if_congr Iff.rfl ?_ ?_
  · simp only [Fin.val_zero, Nat.mul_zero, Nat.zero_add, ← Nat.add_assoc]
  · simp only [Fin.val_one, Nat.mul_one, ← Nat.add_assoc, Nat.reduceAdd]

/-- The samples' normalised rows. -/
theorem rowS (x1 : FVec Ideal S128x4x4096 .f32) (x6 : FVec Ideal S4096 .f32) (b : Fin 128) (t : Fin 4) (k : Fin 4096) :
    val_main_v104 (F := Ideal) x1 x6 (ix3 b t k) = rmsRow 1166016512#32 (fun d : Fin 4096 => x1 (ix3 b t d)) (fun d => x6 (ix1 d)) k := by
  unfold rmsRow
  pointwise [val_main_v92, val_main_v93, val_main_v94, val_main_v95, val_main_v96, val_main_v97, val_main_v98, val_main_v99, val_main_v100, val_main_v101, val_main_v102, val_main_v103, val_main_v104, val_main_cst_7, val_main_cst_8, val_main_cst_9]

/-- The samples' keys and values before the keys are normalised: products with the columns from 1536 on. -/
theorem prodS (x1 : FVec Ideal S128x4x4096 .f32) (x6 : FVec Ideal S4096 .f32) (x7 : FVec Ideal S4096x19680 .f32) (b : Fin 128) (t : Fin 4) (q : Fin 2) (n : Fin 12) (k : Fin 128) :
    val_main_v107 (F := Ideal) x1 x6 x7 (ix5 b t q n k) = ∑ e : Fin 4096, val_main_v104 (F := Ideal) x1 x6 (ix3 b t e) * x7 (ix2 e ⟨1536 + (1536 * q.val + 128 * n.val + k.val), by omega⟩) := by
  have f : ∀ (z : FVec Ideal S128x4x4096 .f32) (y : FVec Ideal S4096x3072 .f32), shapeCast S128x4x2x12x128 (Host.dotGeneral dot_S128x4x4096_S4096x3072_S128x4x3072_2_0_01_1_n_n none z y : FVec Ideal S128x4x3072 .f32) shapeCasts_S128x4x3072_S128x4x2x12x128 (ix5 b t q n k)
      = ∑ e : Fin 4096, z (ix3 b t e) * y (ix2 e ⟨1536 * q.val + 128 * n.val + k.val, by omega⟩) := fun z y => by
    pointwise
    simp only [Nat.mul_comm]
  refine (f _ _).trans (Finset.sum_congr rfl fun e _ => congrArg _ ?_)
  pointwise [val_main_v105]

/-- The samples' normalised keys. -/
theorem normS (x1 : FVec Ideal S128x4x4096 .f32) (x6 : FVec Ideal S4096 .f32) (x7 : FVec Ideal S4096x19680 .f32) (x9 : FVec Ideal S128 .f32) (b : Fin 128) (t : Fin 4) (n : Fin 12) (k : Fin 128) :
    val_main_v122 (F := Ideal) x1 x6 x7 x9 (ix4 b t n k) = rmsRow 1124073472#32 (fun d : Fin 128 => val_main_v107 (F := Ideal) x1 x6 x7 (ix5 b t 0 n d)) (fun d => x9 (ix1 d)) k := by
  unfold val_main_v122 val_main_v121 val_main_v120 val_main_v119 val_main_v118 val_main_v117 val_main_v116 val_main_v115 val_main_v114 val_main_v113 val_main_v112 val_main_v111 val_main_v110 val_main_v109 val_main_v108
  generalize val_main_v107 (F := Ideal) x1 x6 x7 = y
  unfold rmsRow
  pointwise [val_main_cst_10, val_main_cst_11, val_main_cst_12]

/-- The samples' positions' angles. -/
theorem angS (t : Fin 4) (i : Fin 16) : val_main_v134 (F := Ideal) (ix2 t i) = angle (2048 + t.val) i := by
  unfold angle frq
  unfold val_main_v134 val_main_v133 val_main_v132 val_main_v131 val_main_v130 val_main_v129
  generalize hp : val_main_v91 = p
  pointwise [val_main_v123, val_main_v124, val_main_v125, val_main_v126, val_main_v127, val_main_v128, val_main_cst_13, val_main_cst_14]
  rw [← hp]
  have e : ∀ k : Fin 4, (2048#32 + BitVec.ofNat 32 k.val : BitVec 32) = BitVec.ofNat 32 (2048 + k.val) := by decide
  exact congrArg (fun z => FloatOps.sitofp (F := Ideal) FTy.f32 z * _) (e t)

/-- The samples' keys, turned. -/
theorem keyS (x1 : FVec Ideal S128x4x4096 .f32) (x6 : FVec Ideal S4096 .f32) (x7 : FVec Ideal S4096x19680 .f32) (x9 : FVec Ideal S128 .f32) (b : Fin 128) (t : Fin 4) (n : Fin 12) (k : Fin 128) :
    val_main_v154 (F := Ideal) x1 x6 x7 x9 (ix4 b t n k)
      = rot (fun d => val_main_v122 (F := Ideal) x1 x6 x7 x9 (ix4 b t n d)) (fun i => Ideal.cos (angle (2048 + t.val) i)) (fun i => Ideal.sin (angle (2048 + t.val) i)) k := by
  unfold val_main_v154 val_main_v153 val_main_v152 val_main_v151 val_main_v150 val_main_v149 val_main_v148 val_main_v147 val_main_v146 val_main_v145 val_main_v144 val_main_v143 val_main_v142 val_main_v141 val_main_v140 val_main_v139 val_main_v138 val_main_v137 val_main_v136 val_main_v135
  generalize val_main_v122 (F := Ideal) x1 x6 x7 x9 = y
  have ha := angS t
  generalize val_main_v134 (F := Ideal) = w at ha ⊢
  refine Eq.trans ?_ (rot_of (fun d => y (ix4 b t n d)) _ _ k)
  pointwise
  simp only [ha]

/-- A sample's cache entry: the turned key, then the value. -/
theorem entryS (x1 : FVec Ideal S128x4x4096 .f32) (x6 : FVec Ideal S4096 .f32) (x7 : FVec Ideal S4096x19680 .f32) (x9 : FVec Ideal S128 .f32) (b : Fin 128) (t : Fin 4) (n : Fin 12) (q : Fin 2) (k : Fin 128) :
    (if q.val < 1 then val_main_v154 (F := Ideal) x1 x6 x7 x9 (ix4 b t n k) else val_main_v107 (F := Ideal) x1 x6 x7 (ix5 b t 1 n k))
      = entry (rmsRow 1166016512#32 (fun d : Fin 4096 => x1 (ix3 b t d)) (fun d => x6 (ix1 d))) (fun e j => x7 (ix2 e j)) (fun d => x9 (ix1 d)) (2048 + t.val) n q k := by
  unfold entry key value
  rw [keyS]
  simp only [normS, prodS, rowS]
  refine if_congr Iff.rfl ?_ ?_
  · simp only [Fin.val_zero, Nat.mul_zero, Nat.zero_add, ← Nat.add_assoc]
  · simp only [Fin.val_one, Nat.mul_one, ← Nat.add_assoc, Nat.reduceAdd]

end Cert.Reference4Ideal.Front
end
-- ==== Proof.FrontRes.lean ====
/- The reference's results, in plain functions of a row. -/
module

public import proofs.«01_k».proof.Proof.FrontRef

@[expose] public section

set_option maxRecDepth 16384
noncomputable section

namespace Cert.Reference4Ideal.Front

open Cert.Reference4Ideal Cert.Reference4Ideal.Gen Cert.Reference4Ideal.Read Cert.Front Idealize.ShloMosaic Idealize.ShloMosaic.TcCoe

/-- The twelve heads in three groups of four. -/
theorem groupedP (y : FVec Ideal S4x2048x12x128 .f32) (b : Fin 4) (t : Fin 2048) (g : Fin 3) (n : Fin 4) (k : Fin 128) :
    shapeCast S4x2048x3x4x128 y shapeCasts_S4x2048x12x128_S4x2048x3x4x128 (ix5 b t g n k) = y (ix4 b t ⟨4 * g.val + n.val, by omega⟩ k) := by
  pointwise
  simp only [Nat.mul_comm]

/-- The values among the two kinds of columns. -/
theorem kindP (y : FVec Ideal S4x2048x2x12x128 .f32) (b : Fin 4) (t : Fin 2048) (n : Fin 12) (k : Fin 128) :
    shapeCast S4x2048x12x128 (extractStridedSlice S4x2048x1x12x128 ![0, 0, 1, 0, 0] y slices_S4x2048x2x12x128_S4x2048x1x12x128_0_0_1_0_0) shapeCasts_S4x2048x1x12x128_S4x2048x12x128 (ix4 b t n k) = y (ix5 b t 1 n k) := by
  pointwise

/-- The twelve heads in three groups of four. -/
theorem groupedS (y : FVec Ideal S128x4x12x128 .f32) (b : Fin 128) (t : Fin 4) (g : Fin 3) (n : Fin 4) (k : Fin 128) :
    shapeCast S128x4x3x4x128 y shapeCasts_S128x4x12x128_S128x4x3x4x128 (ix5 b t g n k) = y (ix4 b t ⟨4 * g.val + n.val, by omega⟩ k) := by
  pointwise
  simp only [Nat.mul_comm]

/-- The values among the two kinds of columns. -/
theorem kindS (y : FVec Ideal S128x4x2x12x128 .f32) (b : Fin 128) (t : Fin 4) (n : Fin 12) (k : Fin 128) :
    shapeCast S128x4x12x128 (extractStridedSlice S128x4x1x12x128 ![0, 0, 1, 0, 0] y slices_S128x4x2x12x128_S128x4x1x12x128_0_0_1_0_0) shapeCasts_S128x4x1x12x128_S128x4x12x128 (ix4 b t n k) = y (ix5 b t 1 n k) := by
  pointwise

/-- Keys and values side by side. -/
theorem paired4_128 (y z : FVec Ideal S4x128x4x128 .f32) (b : Fin 4) (t : Fin 128) (q : Fin 2) (n : Fin 4) (k : Fin 128) :
    concatenate S4x128x2x4x128 2 [⟨S4x128x1x4x128, broadcastInDim S4x128x1x4x128 ![0, 1, 3, 4] bcast_S4x128x4x128_S4x128x1x4x128_0_1_3_4 y⟩,
        ⟨S4x128x1x4x128, broadcastInDim S4x128x1x4x128 ![0, 1, 3, 4] bcast_S4x128x4x128_S4x128x1x4x128_0_1_3_4 z⟩] concatenates_S4x128x1x4x128_S4x128x1x4x128_S4x128x2x4x128_d2 (ix5 b t q n k)
      = if q.val < 1 then y (ix4 b t n k) else z (ix4 b t n k) := by
  refine Eq.trans ?_ dite_eq_ite
  pointwise

/-- Keys and values side by side. -/
theorem paired4_512 (y z : FVec Ideal S4x512x4x128 .f32) (b : Fin 4) (t : Fin 512) (q : Fin 2) (n : Fin 4) (k : Fin 128) :
    concatenate S4x512x2x4x128 2 [⟨S4x512x1x4x128, broadcastInDim S4x512x1x4x128 ![0, 1, 3, 4] bcast_S4x512x4x128_S4x512x1x4x128_0_1_3_4 y⟩,
        ⟨S4x512x1x4x128, broadcastInDim S4x512x1x4x128 ![0, 1, 3, 4] bcast_S4x512x4x128_S4x512x1x4x128_0_1_3_4 z⟩] concatenates_S4x512x1x4x128_S4x512x1x4x128_S4x512x2x4x128_d2 (ix5 b t q n k)
      = if q.val < 1 then y (ix4 b t n k) else z (ix4 b t n k) := by
  refine Eq.trans ?_ dite_eq_ite
  pointwise

/-- Keys and values side by side. -/
theorem paired4_2048 (y z : FVec Ideal S4x2048x4x128 .f32) (b : Fin 4) (t : Fin 2048) (q : Fin 2) (n : Fin 4) (k : Fin 128) :
    concatenate S4x2048x2x4x128 2 [⟨S4x2048x1x4x128, broadcastInDim S4x2048x1x4x128 ![0, 1, 3, 4] bcast_S4x2048x4x128_S4x2048x1x4x128_0_1_3_4 y⟩,
        ⟨S4x2048x1x4x128, broadcastInDim S4x2048x1x4x128 ![0, 1, 3, 4] bcast_S4x2048x4x128_S4x2048x1x4x128_0_1_3_4 z⟩] concatenates_S4x2048x1x4x128_S4x2048x1x4x128_S4x2048x2x4x128_d2 (ix5 b t q n k)
      = if q.val < 1 then y (ix4 b t n k) else z (ix4 b t n k) := by
  refine Eq.trans ?_ dite_eq_ite
  pointwise

/-- Keys and values side by side. -/
theorem paired128_4 (y z : FVec Ideal S128x4x4x128 .f32) (b : Fin 128) (t : Fin 4) (q : Fin 2) (n : Fin 4) (k : Fin 128) :
    concatenate S128x4x2x4x128 2 [⟨S128x4x1x4x128, broadcastInDim S128x4x1x4x128 ![0, 1, 3, 4] bcast_S128x4x4x128_S128x4x1x4x128_0_1_3_4 y⟩,
        ⟨S128x4x1x4x128, broadcastInDim S128x4x1x4x128 ![0, 1, 3, 4] bcast_S128x4x4x128_S128x4x1x4x128_0_1_3_4 z⟩] concatenates_S128x4x1x4x128_S128x4x1x4x128_S128x4x2x4x128_d2 (ix5 b t q n k)
      = if q.val < 1 then y (ix4 b t n k) else z (ix4 b t n k) := by
  refine Eq.trans ?_ dite_eq_ite
  pointwise

/-- One group's heads at the positions kept. -/
theorem cut74 (y : FVec Ideal S4x2048x3x4x128 .f32) (b : Fin 4) (t : Fin 128) (n : Fin 4) (k : Fin 128) :
    shapeCast S4x128x4x128 (extractStridedSlice S4x128x1x4x128 ![0, 1920, 0, 0, 0] y slices_S4x2048x3x4x128_S4x128x1x4x128_0_1920_0_0_0) shapeCasts_S4x128x1x4x128_S4x128x4x128 (ix4 b t n k) = y (ix5 b ⟨1920 + t.val, by omega⟩ 0 n k) := by
  pointwise

/-- An entry of the prompts' cache rows of head group 0. -/
theorem res74 (x0 : FVec Ideal S4x2048x4096 .f32) (x6 : FVec Ideal S4096 .f32) (x7 : FVec Ideal S4096x19680 .f32) (x9 : FVec Ideal S128 .f32) (b : Fin 4) (t : Fin 128) (q : Fin 2) (n : Fin 4) (k : Fin 128) :
    val_main_v74 (F := Ideal) x0 x6 x7 x9 (ix5 b t q n k)
      = entry (rmsRow 1166016512#32 (fun d : Fin 4096 => x0 (ix3 b ⟨1920 + t.val, by omega⟩ d)) (fun d => x6 (ix1 d))) (fun e j => x7 (ix2 e j)) (fun d => x9 (ix1 d)) (1920 + t.val) ⟨0 + n.val, by omega⟩ q k := by
  refine Eq.trans ?_ (entryP x0 x6 x7 x9 b ⟨1920 + t.val, by omega⟩ ⟨0 + n.val, by omega⟩ q k)
  unfold val_main_v74 val_main_v73 val_main_v72
  refine (paired4_128 (val_main_v69 (F := Ideal) x0 x6 x7 x9) (val_main_v71 (F := Ideal) x0 x6 x7) b t q n k).trans (if_congr Iff.rfl ?_ ?_)
  · unfold val_main_v69 val_main_v68
    refine (cut74 (val_main_v66 (F := Ideal) x0 x6 x7 x9) b t n k).trans ?_
    unfold val_main_v66
    exact groupedP (val_main_v63 (F := Ideal) x0 x6 x7 x9) b ⟨1920 + t.val, by omega⟩ 0 n k
  · unfold val_main_v71 val_main_v70
    refine (cut74 (val_main_v67 (F := Ideal) x0 x6 x7) b t n k).trans ?_
    unfold val_main_v67
    refine (groupedP (val_main_v65 (F := Ideal) x0 x6 x7) b ⟨1920 + t.val, by omega⟩ 0 n k).trans ?_
    unfold val_main_v65 val_main_v64
    exact kindP (val_main_v16 (F := Ideal) x0 x6 x7) b ⟨1920 + t.val, by omega⟩ ⟨0 + n.val, by omega⟩ k

/-- One group's heads at the positions kept. -/
theorem cut81 (y : FVec Ideal S4x2048x3x4x128 .f32) (b : Fin 4) (t : Fin 512) (n : Fin 4) (k : Fin 128) :
    shapeCast S4x512x4x128 (extractStridedSlice S4x512x1x4x128 ![0, 1536, 1, 0, 0] y slices_S4x2048x3x4x128_S4x512x1x4x128_0_1536_1_0_0) shapeCasts_S4x512x1x4x128_S4x512x4x128 (ix4 b t n k) = y (ix5 b ⟨1536 + t.val, by omega⟩ 1 n k) := by
  pointwise

/-- An entry of the prompts' cache rows of head group 1. -/
theorem res81 (x0 : FVec Ideal S4x2048x4096 .f32) (x6 : FVec Ideal S4096 .f32) (x7 : FVec Ideal S4096x19680 .f32) (x9 : FVec Ideal S128 .f32) (b : Fin 4) (t : Fin 512) (q : Fin 2) (n : Fin 4) (k : Fin 128) :
    val_main_v81 (F := Ideal) x0 x6 x7 x9 (ix5 b t q n k)
      = entry (rmsRow 1166016512#32 (fun d : Fin 4096 => x0 (ix3 b ⟨1536 + t.val, by omega⟩ d)) (fun d => x6 (ix1 d))) (fun e j => x7 (ix2 e j)) (fun d => x9 (ix1 d)) (1536 + t.val) ⟨4 + n.val, by omega⟩ q k := by
  refine Eq.trans ?_ (entryP x0 x6 x7 x9 b ⟨1536 + t.val, by omega⟩ ⟨4 + n.val, by omega⟩ q k)
  unfold val_main_v81 val_main_v80 val_main_v79
  refine (paired4_512 (val_main_v76 (F := Ideal) x0 x6 x7 x9) (val_main_v78 (F := Ideal) x0 x6 x7) b t q n k).trans (if_congr Iff.rfl ?_ ?_)
  · unfold val_main_v76 val_main_v75
    refine (cut81 (val_main_v66 (F := Ideal) x0 x6 x7 x9) b t n k).trans ?_
    unfold val_main_v66
    exact groupedP (val_main_v63 (F := Ideal) x0 x6 x7 x9) b ⟨1536 + t.val, by omega⟩ 1 n k
  · unfold val_main_v78 val_main_v77
    refine (cut81 (val_main_v67 (F := Ideal) x0 x6 x7) b t n k).trans ?_
    unfold val_main_v67
    refine (groupedP (val_main_v65 (F := Ideal) x0 x6 x7) b ⟨1536 + t.val, by omega⟩ 1 n k).trans ?_
    unfold val_main_v65 val_main_v64
    exact kindP (val_main_v16 (F := Ideal) x0 x6 x7) b ⟨1536 + t.val, by omega⟩ ⟨4 + n.val, by omega⟩ k

/-- One group's heads at the positions kept. -/
theorem cut88 (y : FVec Ideal S4x2048x3x4x128 .f32) (b : Fin 4) (t : Fin 2048) (n : Fin 4) (k : Fin 128) :
    shapeCast S4x2048x4x128 (extractStridedSlice S4x2048x1x4x128 ![0, 0, 2, 0, 0] y slices_S4x2048x3x4x128_S4x2048x1x4x128_0_0_2_0_0) shapeCasts_S4x2048x1x4x128_S4x2048x4x128 (ix4 b t n k) = y (ix5 b t 2 n k) := by
  pointwise

/-- An entry of the prompts' cache rows of head group 2. -/
theorem res88 (x0 : FVec Ideal S4x2048x4096 .f32) (x6 : FVec Ideal S4096 .f32) (x7 : FVec Ideal S4096x19680 .f32) (x9 : FVec Ideal S128 .f32) (b : Fin 4) (t : Fin 2048) (q : Fin 2) (n : Fin 4) (k : Fin 128) :
    val_main_v88 (F := Ideal) x0 x6 x7 x9 (ix5 b t q n k)
      = entry (rmsRow 1166016512#32 (fun d : Fin 4096 => x0 (ix3 b t d)) (fun d => x6 (ix1 d))) (fun e j => x7 (ix2 e j)) (fun d => x9 (ix1 d)) t.val ⟨8 + n.val, by omega⟩ q k := by
  refine Eq.trans ?_ (entryP x0 x6 x7 x9 b t ⟨8 + n.val, by omega⟩ q k)
  unfold val_main_v88 val_main_v87 val_main_v86
  refine (paired4_2048 (val_main_v83 (F := Ideal) x0 x6 x7 x9) (val_main_v85 (F := Ideal) x0 x6 x7) b t q n k).trans (if_congr Iff.rfl ?_ ?_)
  · unfold val_main_v83 val_main_v82
    refine (cut88 (val_main_v66 (F := Ideal) x0 x6 x7 x9) b t n k).trans ?_
    unfold val_main_v66
    exact groupedP (val_main_v63 (F := Ideal) x0 x6 x7 x9) b t 2 n k
  · unfold val_main_v85 val_main_v84
    refine (cut88 (val_main_v67 (F := Ideal) x0 x6 x7) b t n k).trans ?_
    unfold val_main_v67
    refine (groupedP (val_main_v65 (F := Ideal) x0 x6 x7) b t 2 n k).trans ?_
    unfold val_main_v65 val_main_v64
    exact kindP (val_main_v16 (F := Ideal) x0 x6 x7) b t ⟨8 + n.val, by omega⟩ k

/-- One group's heads at the positions kept. -/
theorem cut165 (y : FVec Ideal S128x4x3x4x128 .f32) (b : Fin 128) (t : Fin 4) (n : Fin 4) (k : Fin 128) :
    shapeCast S128x4x4x128 (extractStridedSlice S128x4x1x4x128 ![0, 0, 0, 0, 0] y slices_S128x4x3x4x128_S128x4x1x4x128_0_0_0_0_0) shapeCasts_S128x4x1x4x128_S128x4x4x128 (ix4 b t n k) = y (ix5 b t 0 n k) := by
  pointwise

/-- An entry of the samples' cache rows of head group 0. -/
theorem res165 (x1 : FVec Ideal S128x4x4096 .f32) (x6 : FVec Ideal S4096 .f32) (x7 : FVec Ideal S4096x19680 .f32) (x9 : FVec Ideal S128 .f32) (b : Fin 128) (t : Fin 4) (q : Fin 2) (n : Fin 4) (k : Fin 128) :
    val_main_v165 (F := Ideal) x1 x6 x7 x9 (ix5 b t q n k)
      = entry (rmsRow 1166016512#32 (fun d : Fin 4096 => x1 (ix3 b t d)) (fun d => x6 (ix1 d))) (fun e j => x7 (ix2 e j)) (fun d => x9 (ix1 d)) (2048 + t.val) ⟨0 + n.val, by omega⟩ q k := by
  refine Eq.trans ?_ (entryS x1 x6 x7 x9 b t ⟨0 + n.val, by omega⟩ q k)
  unfold val_main_v165 val_main_v164 val_main_v163
  refine (paired128_4 (val_main_v160 (F := Ideal) x1 x6 x7 x9) (val_main_v162 (F := Ideal) x1 x6 x7) b t q n k).trans (if_congr Iff.rfl ?_ ?_)
  · unfold val_main_v160 val_main_v159
    refine (cut165 (val_main_v157 (F := Ideal) x1 x6 x7 x9) b t n k).trans ?_
    unfold val_main_v157
    exact groupedS (val_main_v154 (F := Ideal) x1 x6 x7 x9) b t 0 n k
  · unfold val_main_v162 val_main_v161
    refine (cut165 (val_main_v158 (F := Ideal) x1 x6 x7) b t n k).trans ?_
    unfold val_main_v158
    refine (groupedS (val_main_v156 (F := Ideal) x1 x6 x7) b t 0 n k).trans ?_
    unfold val_main_v156 val_main_v155
    exact kindS (val_main_v107 (F := Ideal) x1 x6 x7) b t ⟨0 + n.val, by omega⟩ k

/-- One group's heads at the positions kept. -/
theorem cut174 (y : FVec Ideal S128x4x3x4x128 .f32) (b : Fin 128) (t : Fin 4) (n : Fin 4) (k : Fin 128) :
    shapeCast S128x4x4x128 (extractStridedSlice S128x4x1x4x128 ![0, 0, 1, 0, 0] y slices_S128x4x3x4x128_S128x4x1x4x128_0_0_1_0_0) shapeCasts_S128x4x1x4x128_S128x4x4x128 (ix4 b t n k) = y (ix5 b t 1 n k) := by
  pointwise

/-- An entry of the samples' cache rows of head group 1. -/
theorem res174 (x1 : FVec Ideal S128x4x4096 .f32) (x6 : FVec Ideal S4096 .f32) (x7 : FVec Ideal S4096x19680 .f32) (x9 : FVec Ideal S128 .f32) (b : Fin 128) (t : Fin 4) (q : Fin 2) (n : Fin 4) (k : Fin 128) :
    val_main_v174 (F := Ideal) x1 x6 x7 x9 (ix5 b t q n k)
      = entry (rmsRow 1166016512#32 (fun d : Fin 4096 => x1 (ix3 b t d)) (fun d => x6 (ix1 d))) (fun e j => x7 (ix2 e j)) (fun d => x9 (ix1 d)) (2048 + t.val) ⟨4 + n.val, by omega⟩ q k := by
  refine Eq.trans ?_ (entryS x1 x6 x7 x9 b t ⟨4 + n.val, by omega⟩ q k)
  unfold val_main_v174 val_main_v173 val_main_v172
  refine (paired128_4 (val_main_v169 (F := Ideal) x1 x6 x7 x9) (val_main_v171 (F := Ideal) x1 x6 x7) b t q n k).trans (if_congr Iff.rfl ?_ ?_)
  · unfold val_main_v169 val_main_v168
    refine (cut174 (val_main_v157 (F := Ideal) x1 x6 x7 x9) b t n k).trans ?_
    unfold val_main_v157
    exact groupedS (val_main_v154 (F := Ideal) x1 x6 x7 x9) b t 1 n k
  · unfold val_main_v171 val_main_v170
    refine (cut174 (val_main_v158 (F := Ideal) x1 x6 x7) b t n k).trans ?_
    unfold val_main_v158
    refine (groupedS (val_main_v156 (F := Ideal) x1 x6 x7) b t 1 n k).trans ?_
    unfold val_main_v156 val_main_v155
    exact kindS (val_main_v107 (F := Ideal) x1 x6 x7) b t ⟨4 + n.val, by omega⟩ k

/-- One group's heads at the positions kept. -/
theorem cut183 (y : FVec Ideal S128x4x3x4x128 .f32) (b : Fin 128) (t : Fin 4) (n : Fin 4) (k : Fin 128) :
    shapeCast S128x4x4x128 (extractStridedSlice S128x4x1x4x128 ![0, 0, 2, 0, 0] y slices_S128x4x3x4x128_S128x4x1x4x128_0_0_2_0_0) shapeCasts_S128x4x1x4x128_S128x4x4x128 (ix4 b t n k) = y (ix5 b t 2 n k) := by
  pointwise

/-- An entry of the samples' cache rows of head group 2. -/
theorem res183 (x1 : FVec Ideal S128x4x4096 .f32) (x6 : FVec Ideal S4096 .f32) (x7 : FVec Ideal S4096x19680 .f32) (x9 : FVec Ideal S128 .f32) (b : Fin 128) (t : Fin 4) (q : Fin 2) (n : Fin 4) (k : Fin 128) :
    val_main_v183 (F := Ideal) x1 x6 x7 x9 (ix5 b t q n k)
      = entry (rmsRow 1166016512#32 (fun d : Fin 4096 => x1 (ix3 b t d)) (fun d => x6 (ix1 d))) (fun e j => x7 (ix2 e j)) (fun d => x9 (ix1 d)) (2048 + t.val) ⟨8 + n.val, by omega⟩ q k := by
  refine Eq.trans ?_ (entryS x1 x6 x7 x9 b t ⟨8 + n.val, by omega⟩ q k)
  unfold val_main_v183 val_main_v182 val_main_v181
  refine (paired128_4 (val_main_v178 (F := Ideal) x1 x6 x7 x9) (val_main_v180 (F := Ideal) x1 x6 x7) b t q n k).trans (if_congr Iff.rfl ?_ ?_)
  · unfold val_main_v178 val_main_v177
    refine (cut183 (val_main_v157 (F := Ideal) x1 x6 x7 x9) b t n k).trans ?_
    unfold val_main_v157
    exact groupedS (val_main_v154 (F := Ideal) x1 x6 x7 x9) b t 2 n k
  · unfold val_main_v180 val_main_v179
    refine (cut183 (val_main_v158 (F := Ideal) x1 x6 x7) b t n k).trans ?_
    unfold val_main_v158
    refine (groupedS (val_main_v156 (F := Ideal) x1 x6 x7) b t 2 n k).trans ?_
    unfold val_main_v156 val_main_v155
    exact kindS (val_main_v107 (F := Ideal) x1 x6 x7) b t ⟨8 + n.val, by omega⟩ k

/-- A cache and four more positions, the first four dropped. -/
theorem moved167 (x2 : FVec Ideal S128x128x2x4x128 .f32) (y : FVec Ideal S128x4x2x4x128 .f32) (b : Fin 128) (t : Fin 128) (q : Fin 2) (n : Fin 4) (k : Fin 128) :
    extractStridedSlice S128x128x2x4x128 ![0, 4, 0, 0, 0] (concatenate S128x132x2x4x128 1 [⟨S128x128x2x4x128, x2⟩, ⟨S128x4x2x4x128, y⟩] concatenates_S128x128x2x4x128_S128x4x2x4x128_S128x132x2x4x128_d1)
        slices_S128x132x2x4x128_S128x128x2x4x128_0_4_0_0_0 (ix5 b t q n k)
      = if h : 4 + t.val < 128 then x2 (ix5 b ⟨4 + t.val, h⟩ q n k) else y (ix5 b ⟨4 + t.val - 128, by omega⟩ q n k) := by
  pointwise

/-- A cache and four more positions, the first four dropped. -/
theorem moved176 (x3 : FVec Ideal S128x512x2x4x128 .f32) (y : FVec Ideal S128x4x2x4x128 .f32) (b : Fin 128) (t : Fin 512) (q : Fin 2) (n : Fin 4) (k : Fin 128) :
    extractStridedSlice S128x512x2x4x128 ![0, 4, 0, 0, 0] (concatenate S128x516x2x4x128 1 [⟨S128x512x2x4x128, x3⟩, ⟨S128x4x2x4x128, y⟩] concatenates_S128x512x2x4x128_S128x4x2x4x128_S128x516x2x4x128_d1)
        slices_S128x516x2x4x128_S128x512x2x4x128_0_4_0_0_0 (ix5 b t q n k)
      = if h : 4 + t.val < 512 then x3 (ix5 b ⟨4 + t.val, h⟩ q n k) else y (ix5 b ⟨4 + t.val - 512, by omega⟩ q n k) := by
  pointwise

/-- A cache and four more positions, the first four dropped. -/
theorem moved185 (x4 : FVec Ideal S128x2048x2x4x128 .f32) (y : FVec Ideal S128x4x2x4x128 .f32) (b : Fin 128) (t : Fin 2048) (q : Fin 2) (n : Fin 4) (k : Fin 128) :
    extractStridedSlice S128x2048x2x4x128 ![0, 4, 0, 0, 0] (concatenate S128x2052x2x4x128 1 [⟨S128x2048x2x4x128, x4⟩, ⟨S128x4x2x4x128, y⟩] concatenates_S128x2048x2x4x128_S128x4x2x4x128_S128x2052x2x4x128_d1)
        slices_S128x2052x2x4x128_S128x2048x2x4x128_0_4_0_0_0 (ix5 b t q n k)
      = if h : 4 + t.val < 2048 then x4 (ix5 b ⟨4 + t.val, h⟩ q n k) else y (ix5 b ⟨4 + t.val - 2048, by omega⟩ q n k) := by
  pointwise

/-- The last row of each. -/
theorem lastP (y : FVec Ideal S4x2048x4096 .f32) (b : Fin 4) (k : Fin 4096) :
    shapeCast S4x4096 (extractStridedSlice S4x1x4096 ![0, 2047, 0] y slices_S4x2048x4096_S4x1x4096_0_2047_0) shapeCasts_S4x1x4096_S4x4096 (ix2 b k) = y (ix3 b ⟨2047, by omega⟩ k) := by
  pointwise

/-- The last normalised row of each prompt. -/
theorem res187 (x0 : FVec Ideal S4x2048x4096 .f32) (x6 : FVec Ideal S4096 .f32) (b : Fin 4) (k : Fin 4096) :
    val_main_v187 (F := Ideal) x0 x6 (ix2 b k) = rmsRow 1166016512#32 (fun d : Fin 4096 => x0 (ix3 b ⟨2047, by omega⟩ d)) (fun d => x6 (ix1 d)) k := by
  refine Eq.trans ?_ (rowP x0 x6 b ⟨2047, by omega⟩ k)
  unfold val_main_v187 val_main_v186
  exact lastP (val_main_v13 (F := Ideal) x0 x6) b k

/-- The last row of each. -/
theorem lastS (y : FVec Ideal S128x4x4096 .f32) (b : Fin 128) (k : Fin 4096) :
    shapeCast S128x4096 (extractStridedSlice S128x1x4096 ![0, 3, 0] y slices_S128x4x4096_S128x1x4096_0_3_0) shapeCasts_S128x1x4096_S128x4096 (ix2 b k) = y (ix3 b ⟨3, by omega⟩ k) := by
  pointwise

/-- The last normalised row of each sample. -/
theorem res189 (x1 : FVec Ideal S128x4x4096 .f32) (x6 : FVec Ideal S4096 .f32) (b : Fin 128) (k : Fin 4096) :
    val_main_v189 (F := Ideal) x1 x6 (ix2 b k) = rmsRow 1166016512#32 (fun d : Fin 4096 => x1 (ix3 b ⟨3, by omega⟩ d)) (fun d => x6 (ix1 d)) k := by
  refine Eq.trans ?_ (rowS x1 x6 b ⟨3, by omega⟩ k)
  unfold val_main_v189 val_main_v188
  exact lastS (val_main_v104 (F := Ideal) x1 x6) b k

end Cert.Reference4Ideal.Front
end
-- ==== Proof.FrontOut.lean ====
/- The calls' arrays, entry by entry, are the reference's. -/
module

public import proofs.«01_k».proof.Proof.FrontArr
public import proofs.«01_k».proof.Proof.FrontRoll
public import proofs.«01_k».proof.Proof.FrontCut
public import proofs.«01_k».proof.Proof.FrontRes

@[expose] public section

set_option maxRecDepth 16384

noncomputable section

namespace Cert.Kernel4Ideal.Front

open Cert.Kernel4Ideal Cert.Kernel4Ideal.Gen Cert.Front Cert.Reference4Ideal.Read Idealize.ShloMosaic Idealize.ShloMosaic.TcCoe Idealize.SL Idealize.SL.Sem

/-- Every row of the prompts and the samples, normalised. -/
def hrows (p : FVec Ideal S4x2048x4096 .f32) (s : FVec Ideal S128x4x4096 .f32) (x6 : FVec Ideal S4096 .f32) : FVec Ideal S8704x4096 .f32 :=
  normed (rows p s) (shapeCast S1x4096 x6 shapeCasts_S4096_S1x4096)

/-- The gains as a row. -/
theorem gain_apply (x6 : FVec Ideal S4096 .f32) (k : Fin 4096) : shapeCast S1x4096 x6 shapeCasts_S4096_S1x4096 (ix2 0 k) = x6 (ix1 k) := by
  pointwise

/-- An entry of the normalised rows. -/
theorem hrows_apply (p : FVec Ideal S4x2048x4096 .f32) (s : FVec Ideal S128x4x4096 .f32) (x6 : FVec Ideal S4096 .f32) (r : Fin 8704) (k : Fin 4096) :
    hrows p s x6 (ix2 r k) = rmsRow 1166016512#32 (fun d : Fin 4096 => rows p s (ix2 r d)) (fun d => x6 (ix1 d)) k :=
  congrArg (fun g => rmsRow 1166016512#32 (fun d : Fin 4096 => rows p s (ix2 r d)) g k) (funext fun d => gain_apply x6 d)

/-- A prompt's normalised row. -/
theorem hrow_prompt (p : FVec Ideal S4x2048x4096 .f32) (s : FVec Ideal S128x4x4096 .f32) (x6 : FVec Ideal S4096 .f32) (b : Fin 4) (t : Fin 2048) (k : Fin 4096) :
    hrows p s x6 (ix2 ⟨2048 * b.val + t.val, by omega⟩ k) = rmsRow 1166016512#32 (fun d : Fin 4096 => p (ix3 b t d)) (fun d => x6 (ix1 d)) k :=
  (hrows_apply p s x6 _ k).trans (congrArg (fun x => rmsRow 1166016512#32 x (fun d => x6 (ix1 d)) k) (funext fun d => rows_prompt p s b t d))

/-- A sample's normalised row. -/
theorem hrow_sample (p : FVec Ideal S4x2048x4096 .f32) (s : FVec Ideal S128x4x4096 .f32) (x6 : FVec Ideal S4096 .f32) (b : Fin 128) (t : Fin 4) (k : Fin 4096) :
    hrows p s x6 (ix2 ⟨8192 + (4 * b.val + t.val), by omega⟩ k) = rmsRow 1166016512#32 (fun d : Fin 4096 => s (ix3 b t d)) (fun d => x6 (ix1 d)) k :=
  (hrows_apply p s x6 _ k).trans (congrArg (fun x => rmsRow 1166016512#32 x (fun d => x6 (ix1 d)) k) (funext fun d => rows_sample p s b t d))

/-- The queries' and keys' heads of all rows. -/
def heads (p : FVec Ideal S4x2048x4096 .f32) (s : FVec Ideal S128x4x4096 .f32) (x6 : FVec Ideal S4096 .f32) (x7 : FVec Ideal S4096x19680 .f32) (x8 x9 : FVec Ideal S128 .f32) : FVec Ideal S8704x3072 .f32 :=
  headed (handed (hrows p s x6)) (wrows x7) (gains x8 x9) tabC tabA tabB

/-- The values of all rows. -/
def vals (p : FVec Ideal S4x2048x4096 .f32) (s : FVec Ideal S128x4x4096 .f32) (x6 : FVec Ideal S4096 .f32) (x7 : FVec Ideal S4096x19680 .f32) : FVec Ideal S8704x1536 .f32 :=
  valued (handed (hrows p s x6)) (wrows x7)

/-- A key's head among them. -/
theorem heads_apply (p : FVec Ideal S4x2048x4096 .f32) (s : FVec Ideal S128x4x4096 .f32) (x6 : FVec Ideal S4096 .f32) (x7 : FVec Ideal S4096x19680 .f32) (x8 x9 : FVec Ideal S128 .f32) (r : Fin 8704) (n : Fin 12) (k : Fin 128) :
    heads p s x6 x7 x8 x9 (ix2 r ⟨1536 + (128 * n.val + k.val), by omega⟩)
      = key (fun e => hrows p s x6 (ix2 r e)) (fun e j => x7 (ix2 e j)) (fun d => x9 (ix1 d)) (posn r) n k := by
  have e : heads p s x6 x7 x8 x9 (ix2 r ⟨1536 + (128 * n.val + k.val), by omega⟩)
      = headAt (handed (hrows p s x6)) (wrows x7) (gains x8 x9) tabC tabA tabB r (1536 + 128 * n.val) (by omega) 1 k :=
    headAt_congr _ _ _ _ _ _ r (by show 128 * ((1536 + (128 * n.val + k.val)) / 128) + 128 ≤ 4608; omega) (by omega) (by show 128 * ((1536 + (128 * n.val + k.val)) / 128) = 1536 + 128 * n.val; omega)
      (Fin.ext (by show (1536 + (128 * n.val + k.val)) / 1536 = 1; omega)) (Fin.ext (by show (1536 + (128 * n.val + k.val)) % 128 = k.val; omega))
  rw [e]
  unfold headAt key
  refine (turn_eq _ (fun i => Ideal.cos (angle (posn r) i)) (fun i => Ideal.sin (angle (posn r) i)) _ _ _ (fun k => tabC_apply r k) (fun k => tabA_apply r k) (fun k => tabB_apply r k) k).trans ?_
  simp only [wrows_apply, gains_apply]
  rfl

/-- A value among them. -/
theorem vals_apply (p : FVec Ideal S4x2048x4096 .f32) (s : FVec Ideal S128x4x4096 .f32) (x6 : FVec Ideal S4096 .f32) (x7 : FVec Ideal S4096x19680 .f32) (r : Fin 8704) (n : Fin 12) (k : Fin 128) :
    vals p s x6 x7 (ix2 r ⟨128 * n.val + k.val, by omega⟩) = value (fun e => hrows p s x6 (ix2 r e)) (fun e j => x7 (ix2 e j)) n k := by
  unfold value
  have e : vals p s x6 x7 (ix2 r ⟨128 * n.val + k.val, by omega⟩)
      = ∑ e : Fin 4096, hrows p s x6 (ix2 r e) * wrows x7 (ix2 ⟨3072 + (128 * n.val + k.val), by omega⟩ e) := rfl
  rw [e]
  refine Finset.sum_congr rfl fun e _ => congrArg (hrows p s x6 (ix2 r e) * ·) ?_
  refine (wrows_apply x7 _ e).trans (congrArg (fun j => x7 (ix2 e j)) (Fin.ext ?_))
  show 3072 + (128 * n.val + k.val) = 3072 + 128 * n.val + k.val
  omega

/-- A row's key and value at a head. -/
theorem kv_apply (p : FVec Ideal S4x2048x4096 .f32) (s : FVec Ideal S128x4x4096 .f32) (x6 : FVec Ideal S4096 .f32) (x7 : FVec Ideal S4096x19680 .f32) (x8 x9 : FVec Ideal S128 .f32) (r : Fin 8704) (n : Fin 12) (q : Fin 2) (k : Fin 128) :
    (if q.val < 1 then heads p s x6 x7 x8 x9 (ix2 r ⟨1536 + (128 * n.val + k.val), by omega⟩) else vals p s x6 x7 (ix2 r ⟨128 * n.val + k.val, by omega⟩))
      = entry (fun e => hrows p s x6 (ix2 r e)) (fun e j => x7 (ix2 e j)) (fun d => x9 (ix1 d)) (posn r) n q k :=
  if_congr Iff.rfl (heads_apply p s x6 x7 x8 x9 r n k) (vals_apply p s x6 x7 r n k)

/-- A prompt row's position is its place in the prompt. -/
theorem posn_prompt (b : Fin 4) (t : Fin 2048) : posn ⟨2048 * b.val + t.val, by omega⟩ = t.val := by
  unfold posn
  rw [if_pos (show 2048 * b.val + t.val < 8192 by omega)]
  show (2048 * b.val + t.val) % 2048 = t.val
  omega

/-- A sample row's position follows the cache. -/
theorem posn_sample (b : Fin 128) (t : Fin 4) : posn ⟨8192 + (4 * b.val + t.val), by omega⟩ = 2048 + t.val := by
  unfold posn
  rw [if_neg (show ¬ 8192 + (4 * b.val + t.val) < 8192 by omega)]
  show 2048 + (8192 + (4 * b.val + t.val) - 8192) % 4 = 2048 + t.val
  omega

/-- A prompt's key and value. -/
theorem kv_prompt (p : FVec Ideal S4x2048x4096 .f32) (s : FVec Ideal S128x4x4096 .f32) (x6 : FVec Ideal S4096 .f32) (x7 : FVec Ideal S4096x19680 .f32) (x8 x9 : FVec Ideal S128 .f32) (b : Fin 4) (t : Fin 2048) (n : Fin 12) (q : Fin 2) (k : Fin 128) :
    (if q.val < 1 then heads p s x6 x7 x8 x9 (ix2 ⟨2048 * b.val + t.val, by omega⟩ ⟨1536 + (128 * n.val + k.val), by omega⟩) else vals p s x6 x7 (ix2 ⟨2048 * b.val + t.val, by omega⟩ ⟨128 * n.val + k.val, by omega⟩))
      = entry (rmsRow 1166016512#32 (fun d : Fin 4096 => p (ix3 b t d)) (fun d => x6 (ix1 d))) (fun e j => x7 (ix2 e j)) (fun d => x9 (ix1 d)) t.val n q k := by
  refine (kv_apply p s x6 x7 x8 x9 _ n q k).trans ?_
  have e : (fun e => hrows p s x6 (ix2 ⟨2048 * b.val + t.val, by omega⟩ e)) = rmsRow 1166016512#32 (fun d : Fin 4096 => p (ix3 b t d)) (fun d => x6 (ix1 d)) :=
    funext fun e => hrow_prompt p s x6 b t e
  rw [e, posn_prompt]

/-- A sample's key and value. -/
theorem kv_sample (p : FVec Ideal S4x2048x4096 .f32) (s : FVec Ideal S128x4x4096 .f32) (x6 : FVec Ideal S4096 .f32) (x7 : FVec Ideal S4096x19680 .f32) (x8 x9 : FVec Ideal S128 .f32) (b : Fin 128) (t : Fin 4) (n : Fin 12) (q : Fin 2) (k : Fin 128) :
    (if q.val < 1 then heads p s x6 x7 x8 x9 (ix2 ⟨8192 + (4 * b.val + t.val), by omega⟩ ⟨1536 + (128 * n.val + k.val), by omega⟩) else vals p s x6 x7 (ix2 ⟨8192 + (4 * b.val + t.val), by omega⟩ ⟨128 * n.val + k.val, by omega⟩))
      = entry (rmsRow 1166016512#32 (fun d : Fin 4096 => s (ix3 b t d)) (fun d => x6 (ix1 d))) (fun e j => x7 (ix2 e j)) (fun d => x9 (ix1 d)) (2048 + t.val) n q k := by
  refine (kv_apply p s x6 x7 x8 x9 _ n q k).trans ?_
  have e : (fun e => hrows p s x6 (ix2 ⟨8192 + (4 * b.val + t.val), by omega⟩ e)) = rmsRow 1166016512#32 (fun d : Fin 4096 => s (ix3 b t d)) (fun d => x6 (ix1 d)) :=
    funext fun e => hrow_sample p s x6 b t e
  rw [e, posn_sample]

/-- One of the caches of the prompts is the reference's. -/
theorem out60_eq (p : FVec Ideal S4x2048x4096 .f32) (s : FVec Ideal S128x4x4096 .f32) (x6 : FVec Ideal S4096 .f32) (x7 : FVec Ideal S4096x19680 .f32) (x8 x9 : FVec Ideal S128 .f32) :
    out60 (heads p s x6 x7 x8 x9) (vals p s x6 x7) = val_main_v74 (F := Ideal) p x6 x7 x9 := by
  funext i
  obtain ⟨b, t, q, n, k, rfl⟩ : ∃ (b : Fin 4) (t : Fin 128) (q : Fin 2) (n : Fin 4) (k : Fin 128), i = ix5 b t q n k := ⟨i 0, i 1, i 2, i 3, i 4, eq_ix5 i⟩
  exact (out60_apply _ _ b t q n k).trans ((kv_prompt p s x6 x7 x8 x9 b ⟨1920 + t.val, by omega⟩ ⟨0 + n.val, by omega⟩ q k).trans (Cert.Reference4Ideal.Front.res74 p x6 x7 x9 b t q n k).symm)

/-- One of the caches of the prompts is the reference's. -/
theorem out69_eq (p : FVec Ideal S4x2048x4096 .f32) (s : FVec Ideal S128x4x4096 .f32) (x6 : FVec Ideal S4096 .f32) (x7 : FVec Ideal S4096x19680 .f32) (x8 x9 : FVec Ideal S128 .f32) :
    out69 (heads p s x6 x7 x8 x9) (vals p s x6 x7) = val_main_v81 (F := Ideal) p x6 x7 x9 := by
  funext i
  obtain ⟨b, t, q, n, k, rfl⟩ : ∃ (b : Fin 4) (t : Fin 512) (q : Fin 2) (n : Fin 4) (k : Fin 128), i = ix5 b t q n k := ⟨i 0, i 1, i 2, i 3, i 4, eq_ix5 i⟩
  exact (out69_apply _ _ b t q n k).trans ((kv_prompt p s x6 x7 x8 x9 b ⟨1536 + t.val, by omega⟩ ⟨4 + n.val, by omega⟩ q k).trans (Cert.Reference4Ideal.Front.res81 p x6 x7 x9 b t q n k).symm)

/-- One of the caches of the prompts is the reference's. -/
theorem out77_eq (p : FVec Ideal S4x2048x4096 .f32) (s : FVec Ideal S128x4x4096 .f32) (x6 : FVec Ideal S4096 .f32) (x7 : FVec Ideal S4096x19680 .f32) (x8 x9 : FVec Ideal S128 .f32) :
    out77 (heads p s x6 x7 x8 x9) (vals p s x6 x7) = val_main_v88 (F := Ideal) p x6 x7 x9 := by
  funext i
  obtain ⟨b, t, q, n, k, rfl⟩ : ∃ (b : Fin 4) (t : Fin 2048) (q : Fin 2) (n : Fin 4) (k : Fin 128), i = ix5 b t q n k := ⟨i 0, i 1, i 2, i 3, i 4, eq_ix5 i⟩
  exact (out77_apply _ _ b t q n k).trans ((kv_prompt p s x6 x7 x8 x9 b t ⟨8 + n.val, by omega⟩ q k).trans (Cert.Reference4Ideal.Front.res88 p x6 x7 x9 b t q n k).symm)

/-- One of the samples' new cache rows is the reference's. -/
theorem out85_eq (p : FVec Ideal S4x2048x4096 .f32) (s : FVec Ideal S128x4x4096 .f32) (x6 : FVec Ideal S4096 .f32) (x7 : FVec Ideal S4096x19680 .f32) (x8 x9 : FVec Ideal S128 .f32) :
    out85 (heads p s x6 x7 x8 x9) (vals p s x6 x7) = val_main_v165 (F := Ideal) s x6 x7 x9 := by
  funext i
  obtain ⟨b, t, q, n, k, rfl⟩ : ∃ (b : Fin 128) (t : Fin 4) (q : Fin 2) (n : Fin 4) (k : Fin 128), i = ix5 b t q n k := ⟨i 0, i 1, i 2, i 3, i 4, eq_ix5 i⟩
  exact (out85_apply _ _ b t q n k).trans ((kv_sample p s x6 x7 x8 x9 b t ⟨0 + n.val, by omega⟩ q k).trans (Cert.Reference4Ideal.Front.res165 s x6 x7 x9 b t q n k).symm)

/-- One of the samples' new cache rows is the reference's. -/
theorem out93_eq (p : FVec Ideal S4x2048x4096 .f32) (s : FVec Ideal S128x4x4096 .f32) (x6 : FVec Ideal S4096 .f32) (x7 : FVec Ideal S4096x19680 .f32) (x8 x9 : FVec Ideal S128 .f32) :
    out93 (heads p s x6 x7 x8 x9) (vals p s x6 x7) = val_main_v174 (F := Ideal) s x6 x7 x9 := by
  funext i
  obtain ⟨b, t, q, n, k, rfl⟩ : ∃ (b : Fin 128) (t : Fin 4) (q : Fin 2) (n : Fin 4) (k : Fin 128), i = ix5 b t q n k := ⟨i 0, i 1, i 2, i 3, i 4, eq_ix5 i⟩
  exact (out93_apply _ _ b t q n k).trans ((kv_sample p s x6 x7 x8 x9 b t ⟨4 + n.val, by omega⟩ q k).trans (Cert.Reference4Ideal.Front.res174 s x6 x7 x9 b t q n k).symm)

/-- One of the samples' new cache rows is the reference's. -/
theorem out101_eq (p : FVec Ideal S4x2048x4096 .f32) (s : FVec Ideal S128x4x4096 .f32) (x6 : FVec Ideal S4096 .f32) (x7 : FVec Ideal S4096x19680 .f32) (x8 x9 : FVec Ideal S128 .f32) :
    out101 (heads p s x6 x7 x8 x9) (vals p s x6 x7) = val_main_v183 (F := Ideal) s x6 x7 x9 := by
  funext i
  obtain ⟨b, t, q, n, k, rfl⟩ : ∃ (b : Fin 128) (t : Fin 4) (q : Fin 2) (n : Fin 4) (k : Fin 128), i = ix5 b t q n k := ⟨i 0, i 1, i 2, i 3, i 4, eq_ix5 i⟩
  exact (out101_apply _ _ b t q n k).trans ((kv_sample p s x6 x7 x8 x9 b t ⟨8 + n.val, by omega⟩ q k).trans (Cert.Reference4Ideal.Front.res183 s x6 x7 x9 b t q n k).symm)

/-- A sample cache moved on by the reference's new rows is the reference's. -/
theorem rolled167_eq (s : FVec Ideal S128x4x4096 .f32) (x : FVec Ideal S128x128x2x4x128 .f32) (x6 : FVec Ideal S4096 .f32) (x7 : FVec Ideal S4096x19680 .f32) (x9 : FVec Ideal S128 .f32) :
    rolled (n := 128) (by omega) x (val_main_v165 (F := Ideal) s x6 x7 x9) = val_main_v167 (F := Ideal) s x x6 x7 x9 := by
  funext i
  obtain ⟨b, t, q, n, k, rfl⟩ : ∃ (b : Fin 128) (t : Fin 128) (q : Fin 2) (n : Fin 4) (k : Fin 128), i = ix5 b t q n k := ⟨i 0, i 1, i 2, i 3, i 4, eq_ix5 i⟩
  unfold val_main_v167 val_main_v166
  generalize val_main_v165 (F := Ideal) s x6 x7 x9 = y
  refine Eq.trans ?_ (Cert.Reference4Ideal.Front.moved167 x y b t q n k).symm
  by_cases h : 4 + t.val < 128
  · rw [dif_pos h]
    exact (rolled_old _ x y b t ⟨4 + t.val, h⟩ q n k (by show 4 + t.val = t.val + 4; omega)).symm
  · rw [dif_neg h]
    exact (rolled_new _ x y b t ⟨4 + t.val - 128, by omega⟩ q n k (by show t.val + 4 = 128 + (4 + t.val - 128); omega)).symm

/-- A sample cache moved on by the reference's new rows is the reference's. -/
theorem rolled176_eq (s : FVec Ideal S128x4x4096 .f32) (x : FVec Ideal S128x512x2x4x128 .f32) (x6 : FVec Ideal S4096 .f32) (x7 : FVec Ideal S4096x19680 .f32) (x9 : FVec Ideal S128 .f32) :
    rolled (n := 512) (by omega) x (val_main_v174 (F := Ideal) s x6 x7 x9) = val_main_v176 (F := Ideal) s x x6 x7 x9 := by
  funext i
  obtain ⟨b, t, q, n, k, rfl⟩ : ∃ (b : Fin 128) (t : Fin 512) (q : Fin 2) (n : Fin 4) (k : Fin 128), i = ix5 b t q n k := ⟨i 0, i 1, i 2, i 3, i 4, eq_ix5 i⟩
  unfold val_main_v176 val_main_v175
  generalize val_main_v174 (F := Ideal) s x6 x7 x9 = y
  refine Eq.trans ?_ (Cert.Reference4Ideal.Front.moved176 x y b t q n k).symm
  by_cases h : 4 + t.val < 512
  · rw [dif_pos h]
    exact (rolled_old _ x y b t ⟨4 + t.val, h⟩ q n k (by show 4 + t.val = t.val + 4; omega)).symm
  · rw [dif_neg h]
    exact (rolled_new _ x y b t ⟨4 + t.val - 512, by omega⟩ q n k (by show t.val + 4 = 512 + (4 + t.val - 512); omega)).symm

/-- A sample cache moved on by the reference's new rows is the reference's. -/
theorem rolled185_eq (s : FVec Ideal S128x4x4096 .f32) (x : FVec Ideal S128x2048x2x4x128 .f32) (x6 : FVec Ideal S4096 .f32) (x7 : FVec Ideal S4096x19680 .f32) (x9 : FVec Ideal S128 .f32) :
    rolled (n := 2048) (by omega) x (val_main_v183 (F := Ideal) s x6 x7 x9) = val_main_v185 (F := Ideal) s x x6 x7 x9 := by
  funext i
  obtain ⟨b, t, q, n, k, rfl⟩ : ∃ (b : Fin 128) (t : Fin 2048) (q : Fin 2) (n : Fin 4) (k : Fin 128), i = ix5 b t q n k := ⟨i 0, i 1, i 2, i 3, i 4, eq_ix5 i⟩
  unfold val_main_v185 val_main_v184
  generalize val_main_v183 (F := Ideal) s x6 x7 x9 = y
  refine Eq.trans ?_ (Cert.Reference4Ideal.Front.moved185 x y b t q n k).symm
  by_cases h : 4 + t.val < 2048
  · rw [dif_pos h]
    exact (rolled_old _ x y b t ⟨4 + t.val, h⟩ q n k (by show 4 + t.val = t.val + 4; omega)).symm
  · rw [dif_neg h]
    exact (rolled_new _ x y b t ⟨4 + t.val - 2048, by omega⟩ q n k (by show t.val + 4 = 2048 + (4 + t.val - 2048); omega)).symm

end Cert.Kernel4Ideal.Front
end
-- ==== Proof.FrontQref.lean ====
/- The reference's queries and keys, in plain functions of a row. -/
module

public import proofs.«01_k».proof.Proof.FrontRes

@[expose] public section

set_option maxRecDepth 16384
noncomputable section

namespace Cert.Reference4Ideal.Front

open Cert.Reference4Ideal Cert.Reference4Ideal.Gen Cert.Reference4Ideal.Read Cert.Front Idealize.ShloMosaic Idealize.ShloMosaic.TcCoe

/-- A query: the normalised row's product with the head's columns, normalised, turned by the position's angles. -/
def query (h : Fin 4096 → EReal) (w : Fin 4096 → Fin 19680 → EReal) (g : Fin 128 → EReal) (p : Nat) (n : Fin 12) (k : Fin 128) : EReal :=
  rot (rmsRow 1124073472#32 (fun d : Fin 128 => ∑ e, h e * w e ⟨128 * n.val + d.val, by omega⟩) g)
    (fun i => Ideal.cos (angle p i)) (fun i => Ideal.sin (angle p i)) k

/-- The prompts' products with the first 1536 columns, head by head. -/
theorem qprodP (x0 : FVec Ideal S4x2048x4096 .f32) (x6 : FVec Ideal S4096 .f32) (x7 : FVec Ideal S4096x19680 .f32) (b : Fin 4) (t : Fin 2048) (n : Fin 12) (k : Fin 128) :
    val_main_v193 (F := Ideal) x0 x6 x7 (ix4 b t n k) = ∑ e : Fin 4096, val_main_v13 (F := Ideal) x0 x6 (ix3 b t e) * x7 (ix2 e ⟨128 * n.val + k.val, by omega⟩) := by
  have f : ∀ (z : FVec Ideal S4x2048x4096 .f32) (y : FVec Ideal S4096x1536 .f32), shapeCast S4x2048x12x128 (Host.dotGeneral dot_S4x2048x4096_S4096x1536_S4x2048x1536_2_0_01_1_n_n none z y : FVec Ideal S4x2048x1536 .f32) shapeCasts_S4x2048x1536_S4x2048x12x128 (ix4 b t n k)
      = ∑ e : Fin 4096, z (ix3 b t e) * y (ix2 e ⟨128 * n.val + k.val, by omega⟩) := fun z y => by
    pointwise
    simp only [Nat.mul_comm]
  refine (f _ _).trans (Finset.sum_congr rfl fun e _ => congrArg _ ?_)
  pointwise [val_main_v191]

/-- The prompts' normalised queries. -/
theorem qnormP (x0 : FVec Ideal S4x2048x4096 .f32) (x6 : FVec Ideal S4096 .f32) (x7 : FVec Ideal S4096x19680 .f32) (x8 : FVec Ideal S128 .f32) (b : Fin 4) (t : Fin 2048) (n : Fin 12) (k : Fin 128) :
    val_main_v206 (F := Ideal) x0 x6 x7 x8 (ix4 b t n k) = rmsRow 1124073472#32 (fun d : Fin 128 => val_main_v193 (F := Ideal) x0 x6 x7 (ix4 b t n d)) (fun d => x8 (ix1 d)) k := by
  unfold val_main_v206 val_main_v205 val_main_v204 val_main_v203 val_main_v202 val_main_v201 val_main_v200 val_main_v199 val_main_v198 val_main_v197 val_main_v196 val_main_v195 val_main_v194
  generalize val_main_v193 (F := Ideal) x0 x6 x7 = y
  unfold rmsRow
  pointwise [val_main_cst_15, val_main_cst_16, val_main_cst_17]

/-- The prompts' positions' angles, as the queries take them. -/
theorem qangP (t : Fin 2048) (i : Fin 16) : val_main_v218 (F := Ideal) (ix2 t i) = angle t.val i := by
  unfold angle frq
  pointwise [val_main_v207, val_main_v208, val_main_v209, val_main_v210, val_main_v211, val_main_v212, val_main_v213, val_main_v214, val_main_v215, val_main_v216, val_main_v217, val_main_v218, val_main_v190, val_main_cst_18, val_main_cst_19]

/-- The prompts' queries, turned. -/
theorem queryP (x0 : FVec Ideal S4x2048x4096 .f32) (x6 : FVec Ideal S4096 .f32) (x7 : FVec Ideal S4096x19680 .f32) (x8 : FVec Ideal S128 .f32) (b : Fin 4) (t : Fin 2048) (n : Fin 12) (k : Fin 128) :
    val_main_v238 (F := Ideal) x0 x6 x7 x8 (ix4 b t n k) = query (rmsRow 1166016512#32 (fun d : Fin 4096 => x0 (ix3 b t d)) (fun d => x6 (ix1 d))) (fun e j => x7 (ix2 e j)) (fun d => x8 (ix1 d)) t.val n k := by
  refine Eq.trans (b := rot (fun d => val_main_v206 (F := Ideal) x0 x6 x7 x8 (ix4 b t n d)) (fun i => Ideal.cos (angle t.val i)) (fun i => Ideal.sin (angle t.val i)) k) ?_ ?_
  · unfold val_main_v238 val_main_v237 val_main_v236 val_main_v235 val_main_v234 val_main_v233 val_main_v232 val_main_v231 val_main_v230 val_main_v229 val_main_v228 val_main_v227 val_main_v226 val_main_v225 val_main_v224 val_main_v223 val_main_v222 val_main_v221 val_main_v220 val_main_v219
    generalize val_main_v206 (F := Ideal) x0 x6 x7 x8 = y
    have ha := qangP t
    generalize val_main_v218 (F := Ideal) = w at ha ⊢
    refine Eq.trans ?_ (rot_of (fun d => y (ix4 b t n d)) _ _ k)
    pointwise
    simp only [ha]
  · unfold query
    simp only [qnormP, qprodP, rowP]

/-- The prompts' heads as rows. -/
theorem flatP (y : FVec Ideal S4x2048x12x128 .f32) (r : Fin 8192) (j : Fin 1536) :
    shapeCast S8192x1536 y shapeCasts_S4x2048x12x128_S8192x1536 (ix2 r j) = y (ix4 ⟨r.val / 2048, by omega⟩ ⟨r.val % 2048, by omega⟩ ⟨j.val / 128, by omega⟩ ⟨j.val % 128, by omega⟩) := by
  pointwise

/-- The prompts' grouped heads as rows. -/
theorem flat3P (y : FVec Ideal S4x2048x12x128 .f32) (r : Fin 8192) (j : Fin 1536) :
    shapeCast S8192x1536 (shapeCast S4x2048x3x4x128 y shapeCasts_S4x2048x12x128_S4x2048x3x4x128) shapeCasts_S4x2048x3x4x128_S8192x1536 (ix2 r j) = y (ix4 ⟨r.val / 2048, by omega⟩ ⟨r.val % 2048, by omega⟩ ⟨j.val / 128, by omega⟩ ⟨j.val % 128, by omega⟩) := by
  pointwise

/-- Queries beside keys. -/
theorem besideP (y z : FVec Ideal S8192x1536 .f32) (r : Fin 8192) (j : Fin 3072) :
    concatenate S8192x3072 1 [⟨S8192x1536, y⟩, ⟨S8192x1536, z⟩] concatenates_S8192x1536_S8192x1536_S8192x3072_d1 (ix2 r j) = if h : j.val < 1536 then y (ix2 r ⟨j.val, h⟩) else z (ix2 r ⟨j.val - 1536, by omega⟩) := by
  pointwise

/-- The prompts' queries and keys. -/
theorem qkP (x0 : FVec Ideal S4x2048x4096 .f32) (x6 : FVec Ideal S4096 .f32) (x7 : FVec Ideal S4096x19680 .f32) (x8 x9 : FVec Ideal S128 .f32) (r : Fin 8192) (j : Fin 3072) :
    val_main_v292 (F := Ideal) x0 x6 x7 x8 x9 (ix2 r j)
      = if h : j.val < 1536 then query (rmsRow 1166016512#32 (fun d : Fin 4096 => x0 (ix3 ⟨r.val / 2048, by omega⟩ ⟨r.val % 2048, by omega⟩ d)) (fun d => x6 (ix1 d))) (fun e j => x7 (ix2 e j)) (fun d => x8 (ix1 d)) (r.val % 2048) ⟨j.val / 128, by omega⟩ ⟨j.val % 128, by omega⟩
        else key (rmsRow 1166016512#32 (fun d : Fin 4096 => x0 (ix3 ⟨r.val / 2048, by omega⟩ ⟨r.val % 2048, by omega⟩ d)) (fun d => x6 (ix1 d))) (fun e j => x7 (ix2 e j)) (fun d => x9 (ix1 d)) (r.val % 2048) ⟨(j.val - 1536) / 128, by omega⟩ ⟨(j.val - 1536) % 128, by omega⟩ := by
  unfold val_main_v292
  refine (besideP _ _ r j).trans ?_
  by_cases h : j.val < 1536
  · rw [dif_pos h, dif_pos h]
    exact (flatP _ r ⟨j.val, h⟩).trans (queryP x0 x6 x7 x8 _ _ _ _)
  · rw [dif_neg h, dif_neg h]
    refine (flat3P _ r ⟨j.val - 1536, by omega⟩).trans ?_
    refine Eq.trans (b := val_main_v63 (F := Ideal) x0 x6 x7 x9 (ix4 ⟨r.val / 2048, by omega⟩ ⟨r.val % 2048, by omega⟩ ⟨(j.val - 1536) / 128, by omega⟩ ⟨(j.val - 1536) % 128, by omega⟩)) rfl ?_
    rw [keyP]
    unfold key
    simp only [normP, prodP, rowP]
    simp only [Fin.val_zero, Nat.mul_zero, Nat.zero_add, ← Nat.add_assoc]

/-- The samples' products with the first 1536 columns, head by head. -/
theorem qprodS (x1 : FVec Ideal S128x4x4096 .f32) (x6 : FVec Ideal S4096 .f32) (x7 : FVec Ideal S4096x19680 .f32) (b : Fin 128) (t : Fin 4) (n : Fin 12) (k : Fin 128) :
    val_main_v244 (F := Ideal) x1 x6 x7 (ix4 b t n k) = ∑ e : Fin 4096, val_main_v104 (F := Ideal) x1 x6 (ix3 b t e) * x7 (ix2 e ⟨128 * n.val + k.val, by omega⟩) := by
  have f : ∀ (z : FVec Ideal S128x4x4096 .f32) (y : FVec Ideal S4096x1536 .f32), shapeCast S128x4x12x128 (Host.dotGeneral dot_S128x4x4096_S4096x1536_S128x4x1536_2_0_01_1_n_n none z y : FVec Ideal S128x4x1536 .f32) shapeCasts_S128x4x1536_S128x4x12x128 (ix4 b t n k)
      = ∑ e : Fin 4096, z (ix3 b t e) * y (ix2 e ⟨128 * n.val + k.val, by omega⟩) := fun z y => by
    pointwise
    simp only [Nat.mul_comm]
  refine (f _ _).trans (Finset.sum_congr rfl fun e _ => congrArg _ ?_)
  pointwise [val_main_v242]

/-- The samples' normalised queries. -/
theorem qnormS (x1 : FVec Ideal S128x4x4096 .f32) (x6 : FVec Ideal S4096 .f32) (x7 : FVec Ideal S4096x19680 .f32) (x8 : FVec Ideal S128 .f32) (b : Fin 128) (t : Fin 4) (n : Fin 12) (k : Fin 128) :
    val_main_v257 (F := Ideal) x1 x6 x7 x8 (ix4 b t n k) = rmsRow 1124073472#32 (fun d : Fin 128 => val_main_v244 (F := Ideal) x1 x6 x7 (ix4 b t n d)) (fun d => x8 (ix1 d)) k := by
  unfold val_main_v257 val_main_v256 val_main_v255 val_main_v254 val_main_v253 val_main_v252 val_main_v251 val_main_v250 val_main_v249 val_main_v248 val_main_v247 val_main_v246 val_main_v245
  generalize val_main_v244 (F := Ideal) x1 x6 x7 = y
  unfold rmsRow
  pointwise [val_main_cst_21, val_main_cst_22, val_main_cst_23]

/-- The samples' positions' angles, as the queries take them. -/
theorem qangS (t : Fin 4) (i : Fin 16) : val_main_v269 (F := Ideal) (ix2 t i) = angle (2048 + t.val) i := by
  unfold angle frq
  unfold val_main_v269 val_main_v268 val_main_v267 val_main_v266 val_main_v265 val_main_v264
  generalize hp : val_main_v241 = p
  pointwise [val_main_v258, val_main_v259, val_main_v260, val_main_v261, val_main_v262, val_main_v263, val_main_cst_24, val_main_cst_25]
  rw [← hp]
  have e : ∀ k : Fin 4, (2048#32 + BitVec.ofNat 32 k.val : BitVec 32) = BitVec.ofNat 32 (2048 + k.val) := by decide
  exact congrArg (fun z => FloatOps.sitofp (F := Ideal) FTy.f32 z * _) (e t)

/-- The samples' queries, turned. -/
theorem queryS (x1 : FVec Ideal S128x4x4096 .f32) (x6 : FVec Ideal S4096 .f32) (x7 : FVec Ideal S4096x19680 .f32) (x8 : FVec Ideal S128 .f32) (b : Fin 128) (t : Fin 4) (n : Fin 12) (k : Fin 128) :
    val_main_v289 (F := Ideal) x1 x6 x7 x8 (ix4 b t n k) = query (rmsRow 1166016512#32 (fun d : Fin 4096 => x1 (ix3 b t d)) (fun d => x6 (ix1 d))) (fun e j => x7 (ix2 e j)) (fun d => x8 (ix1 d)) (2048 + t.val) n k := by
  refine Eq.trans (b := rot (fun d => val_main_v257 (F := Ideal) x1 x6 x7 x8 (ix4 b t n d)) (fun i => Ideal.cos (angle (2048 + t.val) i)) (fun i => Ideal.sin (angle (2048 + t.val) i)) k) ?_ ?_
  · unfold val_main_v289 val_main_v288 val_main_v287 val_main_v286 val_main_v285 val_main_v284 val_main_v283 val_main_v282 val_main_v281 val_main_v280 val_main_v279 val_main_v278 val_main_v277 val_main_v276 val_main_v275 val_main_v274 val_main_v273 val_main_v272 val_main_v271 val_main_v270
    generalize val_main_v257 (F := Ideal) x1 x6 x7 x8 = y
    have ha := qangS t
    generalize val_main_v269 (F := Ideal) = w at ha ⊢
    refine Eq.trans ?_ (rot_of (fun d => y (ix4 b t n d)) _ _ k)
    pointwise
    simp only [ha]
  · unfold query
    simp only [qnormS, qprodS, rowS]

/-- The samples' heads as rows. -/
theorem flatS (y : FVec Ideal S128x4x12x128 .f32) (r : Fin 512) (j : Fin 1536) :
    shapeCast S512x1536 y shapeCasts_S128x4x12x128_S512x1536 (ix2 r j) = y (ix4 ⟨r.val / 4, by omega⟩ ⟨r.val % 4, by omega⟩ ⟨j.val / 128, by omega⟩ ⟨j.val % 128, by omega⟩) := by
  pointwise

/-- The samples' grouped heads as rows. -/
theorem flat3S (y : FVec Ideal S128x4x12x128 .f32) (r : Fin 512) (j : Fin 1536) :
    shapeCast S512x1536 (shapeCast S128x4x3x4x128 y shapeCasts_S128x4x12x128_S128x4x3x4x128) shapeCasts_S128x4x3x4x128_S512x1536 (ix2 r j) = y (ix4 ⟨r.val / 4, by omega⟩ ⟨r.val % 4, by omega⟩ ⟨j.val / 128, by omega⟩ ⟨j.val % 128, by omega⟩) := by
  pointwise

/-- Queries beside keys. -/
theorem besideS (y z : FVec Ideal S512x1536 .f32) (r : Fin 512) (j : Fin 3072) :
    concatenate S512x3072 1 [⟨S512x1536, y⟩, ⟨S512x1536, z⟩] concatenates_S512x1536_S512x1536_S512x3072_d1 (ix2 r j) = if h : j.val < 1536 then y (ix2 r ⟨j.val, h⟩) else z (ix2 r ⟨j.val - 1536, by omega⟩) := by
  pointwise

/-- The samples' queries and keys. -/
theorem qkS (x1 : FVec Ideal S128x4x4096 .f32) (x6 : FVec Ideal S4096 .f32) (x7 : FVec Ideal S4096x19680 .f32) (x8 x9 : FVec Ideal S128 .f32) (r : Fin 512) (j : Fin 3072) :
    val_main_v295 (F := Ideal) x1 x6 x7 x8 x9 (ix2 r j)
      = if h : j.val < 1536 then query (rmsRow 1166016512#32 (fun d : Fin 4096 => x1 (ix3 ⟨r.val / 4, by omega⟩ ⟨r.val % 4, by omega⟩ d)) (fun d => x6 (ix1 d))) (fun e j => x7 (ix2 e j)) (fun d => x8 (ix1 d)) (2048 + r.val % 4) ⟨j.val / 128, by omega⟩ ⟨j.val % 128, by omega⟩
        else key (rmsRow 1166016512#32 (fun d : Fin 4096 => x1 (ix3 ⟨r.val / 4, by omega⟩ ⟨r.val % 4, by omega⟩ d)) (fun d => x6 (ix1 d))) (fun e j => x7 (ix2 e j)) (fun d => x9 (ix1 d)) (2048 + r.val % 4) ⟨(j.val - 1536) / 128, by omega⟩ ⟨(j.val - 1536) % 128, by omega⟩ := by
  unfold val_main_v295
  refine (besideS _ _ r j).trans ?_
  by_cases h : j.val < 1536
  · rw [dif_pos h, dif_pos h]
    exact (flatS _ r ⟨j.val, h⟩).trans (queryS x1 x6 x7 x8 _ _ _ _)
  · rw [dif_neg h, dif_neg h]
    refine (flat3S _ r ⟨j.val - 1536, by omega⟩).trans ?_
    refine Eq.trans (b := val_main_v154 (F := Ideal) x1 x6 x7 x9 (ix4 ⟨r.val / 4, by omega⟩ ⟨r.val % 4, by omega⟩ ⟨(j.val - 1536) / 128, by omega⟩ ⟨(j.val - 1536) % 128, by omega⟩)) rfl ?_
    rw [keyS]
    unfold key
    simp only [normS, prodS, rowS]
    simp only [Fin.val_zero, Nat.mul_zero, Nat.zero_add, ← Nat.add_assoc]

/-- The prompts' rows above the samples'. -/
theorem above (y : FVec Ideal S8192x3072 .f32) (z : FVec Ideal S512x3072 .f32) (r : Fin 8704) (j : Fin 3072) :
    concatenate S8704x3072 0 [⟨S8192x3072, y⟩, ⟨S512x3072, z⟩] concatenates_S8192x3072_S512x3072_S8704x3072_d0 (ix2 r j) = if h : r.val < 8192 then y (ix2 ⟨r.val, h⟩ j) else z (ix2 ⟨r.val - 8192, by omega⟩ j) := by
  pointwise

end Cert.Reference4Ideal.Front
end
-- ==== Proof.FrontQ.lean ====
/- The queries and keys the kernel leaves are the reference's. -/
module

public import proofs.«01_k».proof.Proof.FrontOut
public import proofs.«01_k».proof.Proof.FrontQref

@[expose] public section

set_option maxRecDepth 16384

noncomputable section

namespace Cert.Kernel4Ideal.Front

open Cert.Kernel4Ideal Cert.Kernel4Ideal.Gen Cert.Front Cert.Reference4Ideal.Read Idealize.ShloMosaic Idealize.ShloMosaic.TcCoe Idealize.SL Idealize.SL.Sem

/-- The first gains are the queries'. -/
theorem gains_first (x8 x9 : FVec Ideal S128 .f32) (d : Fin 128) : gains x8 x9 (ix3 0 0 d) = x8 (ix1 d) := by
  pointwise [gains]

/-- A query's head among the heads. -/
theorem heads_query (p : FVec Ideal S4x2048x4096 .f32) (s : FVec Ideal S128x4x4096 .f32) (x6 : FVec Ideal S4096 .f32) (x7 : FVec Ideal S4096x19680 .f32) (x8 x9 : FVec Ideal S128 .f32) (r : Fin 8704) (j : Fin 3072) (h : j.val < 1536) :
    heads p s x6 x7 x8 x9 (ix2 r j)
      = Cert.Reference4Ideal.Front.query (fun e => hrows p s x6 (ix2 r e)) (fun e j => x7 (ix2 e j)) (fun d => x8 (ix1 d)) (posn r) ⟨j.val / 128, by omega⟩ ⟨j.val % 128, by omega⟩ := by
  have e : heads p s x6 x7 x8 x9 (ix2 r j)
      = headAt (handed (hrows p s x6)) (wrows x7) (gains x8 x9) tabC tabA tabB r (128 * (j.val / 128)) (by omega) 0 ⟨j.val % 128, by omega⟩ :=
    headAt_congr _ _ _ _ _ _ r (by show 128 * (j.val / 128) + 128 ≤ 4608; omega) (by omega) rfl (Fin.ext (by show j.val / 1536 = 0; omega)) rfl
  rw [e]
  unfold headAt Cert.Reference4Ideal.Front.query
  refine (turn_eq _ (fun i => Ideal.cos (angle (posn r) i)) (fun i => Ideal.sin (angle (posn r) i)) _ _ _ (fun k => tabC_apply r k) (fun k => tabA_apply r k) (fun k => tabB_apply r k) _).trans ?_
  simp only [wrows_apply, gains_first]
  rfl

/-- A key's head among them, by its column. -/
theorem heads_key (p : FVec Ideal S4x2048x4096 .f32) (s : FVec Ideal S128x4x4096 .f32) (x6 : FVec Ideal S4096 .f32) (x7 : FVec Ideal S4096x19680 .f32) (x8 x9 : FVec Ideal S128 .f32) (r : Fin 8704) (j : Fin 3072) (h : ¬ j.val < 1536) :
    heads p s x6 x7 x8 x9 (ix2 r j)
      = key (fun e => hrows p s x6 (ix2 r e)) (fun e j => x7 (ix2 e j)) (fun d => x9 (ix1 d)) (posn r) ⟨(j.val - 1536) / 128, by omega⟩ ⟨(j.val - 1536) % 128, by omega⟩ :=
  (congrArg (fun j => heads p s x6 x7 x8 x9 (ix2 r j)) (Fin.ext (by show j.val = 1536 + (128 * ((j.val - 1536) / 128) + (j.val - 1536) % 128); omega))).trans
    (heads_apply p s x6 x7 x8 x9 r ⟨(j.val - 1536) / 128, by omega⟩ ⟨(j.val - 1536) % 128, by omega⟩)

/-- A row of the upper part is a prompt's. -/
theorem hrow_upper (p : FVec Ideal S4x2048x4096 .f32) (s : FVec Ideal S128x4x4096 .f32) (x6 : FVec Ideal S4096 .f32) (r : Fin 8704) (h : r.val < 8192) :
    (fun e => hrows p s x6 (ix2 r e)) = rmsRow 1166016512#32 (fun d : Fin 4096 => p (ix3 ⟨r.val / 2048, by omega⟩ ⟨r.val % 2048, by omega⟩ d)) (fun d => x6 (ix1 d)) :=
  funext fun e => (congrArg (fun r => hrows p s x6 (ix2 r e)) (Fin.ext (by show r.val = 2048 * (r.val / 2048) + r.val % 2048; omega))).trans
    (hrow_prompt p s x6 ⟨r.val / 2048, by omega⟩ ⟨r.val % 2048, by omega⟩ e)

/-- A row of the lower part is a sample's. -/
theorem hrow_lower (p : FVec Ideal S4x2048x4096 .f32) (s : FVec Ideal S128x4x4096 .f32) (x6 : FVec Ideal S4096 .f32) (r : Fin 8704) (h : ¬ r.val < 8192) :
    (fun e => hrows p s x6 (ix2 r e)) = rmsRow 1166016512#32 (fun d : Fin 4096 => s (ix3 ⟨(r.val - 8192) / 4, by omega⟩ ⟨(r.val - 8192) % 4, by omega⟩ d)) (fun d => x6 (ix1 d)) :=
  funext fun e => (congrArg (fun r => hrows p s x6 (ix2 r e)) (Fin.ext (by show r.val = 8192 + (4 * ((r.val - 8192) / 4) + (r.val - 8192) % 4); omega))).trans
    (hrow_sample p s x6 ⟨(r.val - 8192) / 4, by omega⟩ ⟨(r.val - 8192) % 4, by omega⟩ e)

/-- The heads are the reference's queries and keys. -/
theorem heads_eq (p : FVec Ideal S4x2048x4096 .f32) (s : FVec Ideal S128x4x4096 .f32) (x6 : FVec Ideal S4096 .f32) (x7 : FVec Ideal S4096x19680 .f32) (x8 x9 : FVec Ideal S128 .f32) : heads p s x6 x7 x8 x9 = val_main_v296 (F := Ideal) p s x6 x7 x8 x9 := by
  funext i
  obtain ⟨r, j, rfl⟩ : ∃ (r : Fin 8704) (j : Fin 3072), i = ix2 r j := ⟨i 0, i 1, eq_ix2 i⟩
  unfold val_main_v296
  refine Eq.trans ?_ (Cert.Reference4Ideal.Front.above _ _ r j).symm
  by_cases hr : r.val < 8192
  · rw [dif_pos hr]
    refine Eq.trans ?_ (Cert.Reference4Ideal.Front.qkP p x6 x7 x8 x9 ⟨r.val, hr⟩ j).symm
    have hp : posn r = r.val % 2048 := if_pos hr
    by_cases h : j.val < 1536
    · rw [dif_pos h, heads_query p s x6 x7 x8 x9 r j h, hrow_upper p s x6 r hr, hp]
    · rw [dif_neg h, heads_key p s x6 x7 x8 x9 r j h, hrow_upper p s x6 r hr, hp]
  · rw [dif_neg hr]
    refine Eq.trans ?_ (Cert.Reference4Ideal.Front.qkS s x6 x7 x8 x9 ⟨r.val - 8192, by omega⟩ j).symm
    have hp : posn r = 2048 + (r.val - 8192) % 4 := if_neg hr
    by_cases h : j.val < 1536
    · rw [dif_pos h, heads_query p s x6 x7 x8 x9 r j h, hrow_lower p s x6 r hr, hp]
    · rw [dif_neg h, heads_key p s x6 x7 x8 x9 r j h, hrow_lower p s x6 r hr, hp]

end Cert.Kernel4Ideal.Front
end
-- ==== Proof.FrontFinal.lean ====
/- The whole run of the front: every result buffer ends at the reference's result of the arguments. -/
module

public import proofs.«01_k».proof.Proof.FrontQ

@[expose] public section

set_option maxRecDepth 16384

noncomputable section

namespace Cert.Kernel4Ideal.Front

open Cert.Kernel4Ideal Cert.Kernel4Ideal.Gen Cert.Front Cert.Reference4Ideal.Read Idealize.ShloMosaic Idealize.ShloMosaic.TcCoe Idealize.SL Idealize.SL.Sem

variable (m : (ℓ : Loc nD τ sig) → Buf (Elt Ideal) ℓ) (ρ : Dev nD → PrngReg) (c : Dev nD)

/-- The normalised rows of the arguments. -/
abbrev hOf : FVec Ideal S8704x4096 .f32 := hrows (m ((c : Thread nD τ).loc main_arg0)) (m ((c : Thread nD τ).loc main_arg1)) (m ((c : Thread nD τ).loc main_arg6))
/-- Their queries' and keys' heads. -/
abbrev headsOf : FVec Ideal S8704x3072 .f32 := heads (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9))
/-- Their values. -/
abbrev valsOf : FVec Ideal S8704x1536 .f32 := vals (m ((c : Thread nD τ).loc main_arg0)) (m ((c : Thread nD τ).loc main_arg1)) (m ((c : Thread nD τ).loc main_arg6)) (m ((c : Thread nD τ).loc main_arg7))

/-- The first call leaves the normalised rows. -/
theorem at2 : W2 m ρ c (Proc.devRef .tc main_v4) = hOf m c := by
  refine (W2_arr m ρ c 2).trans ((arr0 (V1 m ρ) c).trans ?_)
  have h0 : V1 m ρ c main_v2 = rows (m ((c : Thread nD τ).loc main_arg0)) (m ((c : Thread nD τ).loc main_arg1)) := after_rows (W0 m ρ c)
  have h1 : V1 m ρ c main_v3 = shapeCast S1x4096 ((m ((c : Thread nD τ).loc main_arg6)) : FVec Ideal S4096 .f32) shapeCasts_S4096_S1x4096 := after_gain (W0 m ρ c)
  rw [h0, h1]
  rfl

/-- The second call hands them on. -/
theorem at5 : W5 m ρ c (Proc.devRef .tc main_v10_0) = handed (hOf m c) := by
  refine (W5_of m ρ c main_v10_0 (by decide)).trans ((W4_arr m ρ c 4).trans ((arr1 (V3 m ρ) c).trans ?_))
  have h0 : V3 m ρ c main_v4 = hOf m c := (W3_of m ρ c main_v4 (by decide)).trans (at2 m ρ c)
  rw [h0]

/-- The weights' rows the host leaves. -/
theorem at5w : W5 m ρ c (Proc.devRef .tc main_v49) = wrows (m ((c : Thread nD τ).loc main_arg7)) :=
  (after_wrows (W4 m ρ c)).trans (congrArg wrows (W4_args m ρ c main_arg7 (by decide)))

/-- The gains the host leaves. -/
theorem at5g : W5 m ρ c (Proc.devRef .tc main_v47) = gains (m ((c : Thread nD τ).loc main_arg8)) (m ((c : Thread nD τ).loc main_arg9)) :=
  (after_gains (W4 m ρ c)).trans (congrArg₂ gains (W4_args m ρ c main_arg8 (by decide)) (W4_args m ρ c main_arg9 (by decide)))

/-- The third call leaves the heads. -/
theorem at7h : W7 m ρ c (Proc.devRef .tc main_v50) = headsOf m c := by
  refine (W7_of m ρ c main_v50 (by decide)).trans ((W6_arr m ρ c 6).trans ((arr2 (V5 m ρ) c).trans ?_))
  have h0 : V5 m ρ c main_v10_0 = handed (hOf m c) := at5 m ρ c
  have h1 : V5 m ρ c main_v49 = wrows (m ((c : Thread nD τ).loc main_arg7)) := at5w m ρ c
  have h2 : V5 m ρ c main_v47 = gains (m ((c : Thread nD τ).loc main_arg8)) (m ((c : Thread nD τ).loc main_arg9)) := at5g m ρ c
  have h3 : V5 m ρ c main_v37 = tabC := after_tabC (W4 m ρ c)
  have h4 : V5 m ρ c main_v40 = tabA := after_tabA (W4 m ρ c)
  have h5 : V5 m ρ c main_v43 = tabB := after_tabB (W4 m ρ c)
  rw [h0, h1, h2, h3, h4, h5]
  rfl

/-- The fourth leaves the values. -/
theorem at7v : W7 m ρ c (Proc.devRef .tc main_v51) = valsOf m c := by
  refine (W7_arr m ρ c 2).trans ((arr3 (V6 m ρ) c).trans ?_)
  have h0 : V6 m ρ c main_v10_0 = handed (hOf m c) := (W6_of m ρ c main_v10_0 (by decide)).trans (at5 m ρ c)
  have h1 : V6 m ρ c main_v49 = wrows (m ((c : Thread nD τ).loc main_arg7)) := (W6_of m ρ c main_v49 (by decide)).trans (at5w m ρ c)
  rw [h0, h1]
  rfl

/-- Buffer 60 after the host's last run is the reference's. -/
theorem at8_60 : W8 m ρ c (Proc.devRef .tc main_v60) = val_main_v74 (F := Ideal) (m ((c : Thread nD τ).loc main_arg0)) (m ((c : Thread nD τ).loc main_arg6)) (m ((c : Thread nD τ).loc main_arg7)) (m ((c : Thread nD τ).loc main_arg9)) :=
  (after_60 (W7 m ρ c)).trans ((congrArg₂ out60 (at7h m ρ c) (at7v m ρ c)).trans (out60_eq (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9))))

/-- Buffer 69 after the host's last run is the reference's. -/
theorem at8_69 : W8 m ρ c (Proc.devRef .tc main_v69) = val_main_v81 (F := Ideal) (m ((c : Thread nD τ).loc main_arg0)) (m ((c : Thread nD τ).loc main_arg6)) (m ((c : Thread nD τ).loc main_arg7)) (m ((c : Thread nD τ).loc main_arg9)) :=
  (after_69 (W7 m ρ c)).trans ((congrArg₂ out69 (at7h m ρ c) (at7v m ρ c)).trans (out69_eq (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9))))

/-- Buffer 77 after the host's last run is the reference's. -/
theorem at8_77 : W8 m ρ c (Proc.devRef .tc main_v77) = val_main_v88 (F := Ideal) (m ((c : Thread nD τ).loc main_arg0)) (m ((c : Thread nD τ).loc main_arg6)) (m ((c : Thread nD τ).loc main_arg7)) (m ((c : Thread nD τ).loc main_arg9)) :=
  (after_77 (W7 m ρ c)).trans ((congrArg₂ out77 (at7h m ρ c) (at7v m ρ c)).trans (out77_eq (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9))))

/-- Buffer 85 after the host's last run is the reference's. -/
theorem at8_85 : W8 m ρ c (Proc.devRef .tc main_v85) = val_main_v165 (F := Ideal) (m ((c : Thread nD τ).loc main_arg1)) (m ((c : Thread nD τ).loc main_arg6)) (m ((c : Thread nD τ).loc main_arg7)) (m ((c : Thread nD τ).loc main_arg9)) :=
  (after_85 (W7 m ρ c)).trans ((congrArg₂ out85 (at7h m ρ c) (at7v m ρ c)).trans (out85_eq (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9))))

/-- Buffer 93 after the host's last run is the reference's. -/
theorem at8_93 : W8 m ρ c (Proc.devRef .tc main_v93) = val_main_v174 (F := Ideal) (m ((c : Thread nD τ).loc main_arg1)) (m ((c : Thread nD τ).loc main_arg6)) (m ((c : Thread nD τ).loc main_arg7)) (m ((c : Thread nD τ).loc main_arg9)) :=
  (after_93 (W7 m ρ c)).trans ((congrArg₂ out93 (at7h m ρ c) (at7v m ρ c)).trans (out93_eq (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9))))

/-- Buffer 101 after the host's last run is the reference's. -/
theorem at8_101 : W8 m ρ c (Proc.devRef .tc main_v101) = val_main_v183 (F := Ideal) (m ((c : Thread nD τ).loc main_arg1)) (m ((c : Thread nD τ).loc main_arg6)) (m ((c : Thread nD τ).loc main_arg7)) (m ((c : Thread nD τ).loc main_arg9)) :=
  (after_101 (W7 m ρ c)).trans ((congrArg₂ out101 (at7h m ρ c) (at7v m ρ c)).trans (out101_eq (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9))))

/-- Result 60 at the end of the run. -/
theorem final60 : W11 m ρ c (Proc.devRef .tc main_v60) = val_main_v74 (F := Ideal) (m ((c : Thread nD τ).loc main_arg0)) (m ((c : Thread nD τ).loc main_arg6)) (m ((c : Thread nD τ).loc main_arg7)) (m ((c : Thread nD τ).loc main_arg9)) :=
  (W11_of m ρ c main_v60 (by decide)).trans ((W10_of m ρ c main_v60 (by decide)).trans ((W9_of m ρ c main_v60 (by decide)).trans (at8_60 m ρ c)))

/-- Result 69 at the end of the run. -/
theorem final69 : W11 m ρ c (Proc.devRef .tc main_v69) = val_main_v81 (F := Ideal) (m ((c : Thread nD τ).loc main_arg0)) (m ((c : Thread nD τ).loc main_arg6)) (m ((c : Thread nD τ).loc main_arg7)) (m ((c : Thread nD τ).loc main_arg9)) :=
  (W11_of m ρ c main_v69 (by decide)).trans ((W10_of m ρ c main_v69 (by decide)).trans ((W9_of m ρ c main_v69 (by decide)).trans (at8_69 m ρ c)))

/-- Result 77 at the end of the run. -/
theorem final77 : W11 m ρ c (Proc.devRef .tc main_v77) = val_main_v88 (F := Ideal) (m ((c : Thread nD τ).loc main_arg0)) (m ((c : Thread nD τ).loc main_arg6)) (m ((c : Thread nD τ).loc main_arg7)) (m ((c : Thread nD τ).loc main_arg9)) :=
  (W11_of m ρ c main_v77 (by decide)).trans ((W10_of m ρ c main_v77 (by decide)).trans ((W9_of m ρ c main_v77 (by decide)).trans (at8_77 m ρ c)))

/-- Result 5 at the end of the run. -/
theorem final5 : W11 m ρ c (Proc.devRef .tc main_v5) = val_main_v187 (F := Ideal) (m ((c : Thread nD τ).loc main_arg0)) (m ((c : Thread nD τ).loc main_arg6)) := by
  refine (W11_of m ρ c main_v5 (by decide)).trans ((W10_of m ρ c main_v5 (by decide)).trans ((W9_of m ρ c main_v5 (by decide)).trans ((W8_of m ρ c main_v5 (by decide)).trans ((W7_of m ρ c main_v5 (by decide)).trans ((W6_of m ρ c main_v5 (by decide)).trans ((W5_of m ρ c main_v5 (by decide)).trans ((W4_of m ρ c main_v5 (by decide)).trans (funext fun i => ?_))))))))
  obtain ⟨b, k, rfl⟩ : ∃ (b : Fin 4) (k : Fin 4096), i = ix2 b k := ⟨i 0, i 1, eq_ix2 i⟩
  refine (after_5 (W2 m ρ c) b k).trans ?_
  rw [at2]
  exact (hrow_prompt (m ((c : Thread nD τ).loc main_arg0)) (m ((c : Thread nD τ).loc main_arg1)) (m ((c : Thread nD τ).loc main_arg6)) b ⟨2047, by omega⟩ k).trans (Cert.Reference4Ideal.Front.res187 (m ((c : Thread nD τ).loc main_arg0)) (m ((c : Thread nD τ).loc main_arg6)) b k).symm

/-- Result 6 at the end of the run. -/
theorem final6 : W11 m ρ c (Proc.devRef .tc main_v6) = val_main_v189 (F := Ideal) (m ((c : Thread nD τ).loc main_arg1)) (m ((c : Thread nD τ).loc main_arg6)) := by
  refine (W11_of m ρ c main_v6 (by decide)).trans ((W10_of m ρ c main_v6 (by decide)).trans ((W9_of m ρ c main_v6 (by decide)).trans ((W8_of m ρ c main_v6 (by decide)).trans ((W7_of m ρ c main_v6 (by decide)).trans ((W6_of m ρ c main_v6 (by decide)).trans ((W5_of m ρ c main_v6 (by decide)).trans ((W4_of m ρ c main_v6 (by decide)).trans (funext fun i => ?_))))))))
  obtain ⟨b, k, rfl⟩ : ∃ (b : Fin 128) (k : Fin 4096), i = ix2 b k := ⟨i 0, i 1, eq_ix2 i⟩
  refine (after_6 (W2 m ρ c) b k).trans ?_
  rw [at2]
  exact (hrow_sample (m ((c : Thread nD τ).loc main_arg0)) (m ((c : Thread nD τ).loc main_arg1)) (m ((c : Thread nD τ).loc main_arg6)) b ⟨3, by omega⟩ k).trans (Cert.Reference4Ideal.Front.res189 (m ((c : Thread nD τ).loc main_arg1)) (m ((c : Thread nD τ).loc main_arg6)) b k).symm

/-- Result 102 at the end of the run. -/
theorem final102 : W11 m ρ c (Proc.devRef .tc main_v102) = val_main_v167 (F := Ideal) (m ((c : Thread nD τ).loc main_arg1)) (m ((c : Thread nD τ).loc main_arg2)) (m ((c : Thread nD τ).loc main_arg6)) (m ((c : Thread nD τ).loc main_arg7)) (m ((c : Thread nD τ).loc main_arg9)) := by
  refine (W11_of m ρ c main_v102 (by decide)).trans ((W10_of m ρ c main_v102 (by decide)).trans ((W9_arr m ρ c 2).trans ((arr4 (V8 m ρ) c).trans ?_)))
  have h0 : V8 m ρ c main_v85 = val_main_v165 (F := Ideal) (m ((c : Thread nD τ).loc main_arg1)) (m ((c : Thread nD τ).loc main_arg6)) (m ((c : Thread nD τ).loc main_arg7)) (m ((c : Thread nD τ).loc main_arg9)) := at8_85 m ρ c
  have h1 : V8 m ρ c main_arg2 = m ((c : Thread nD τ).loc main_arg2) := W8_args m ρ c main_arg2 (by decide)
  rw [h0, h1]
  exact rolled167_eq (m ((c : Thread nD τ).loc main_arg1)) (m ((c : Thread nD τ).loc main_arg2)) (m ((c : Thread nD τ).loc main_arg6)) (m ((c : Thread nD τ).loc main_arg7)) (m ((c : Thread nD τ).loc main_arg9))

/-- Result 103 at the end of the run. -/
theorem final103 : W11 m ρ c (Proc.devRef .tc main_v103) = val_main_v176 (F := Ideal) (m ((c : Thread nD τ).loc main_arg1)) (m ((c : Thread nD τ).loc main_arg3)) (m ((c : Thread nD τ).loc main_arg6)) (m ((c : Thread nD τ).loc main_arg7)) (m ((c : Thread nD τ).loc main_arg9)) := by
  refine (W11_of m ρ c main_v103 (by decide)).trans ((W10_arr m ρ c 2).trans ((arr5 (V9 m ρ) c).trans ?_))
  have h0 : V9 m ρ c main_v93 = val_main_v174 (F := Ideal) (m ((c : Thread nD τ).loc main_arg1)) (m ((c : Thread nD τ).loc main_arg6)) (m ((c : Thread nD τ).loc main_arg7)) (m ((c : Thread nD τ).loc main_arg9)) := (W9_of m ρ c main_v93 (by decide)).trans (at8_93 m ρ c)
  have h1 : V9 m ρ c main_arg3 = m ((c : Thread nD τ).loc main_arg3) := W9_args m ρ c main_arg3 (by decide)
  rw [h0, h1]
  exact rolled176_eq (m ((c : Thread nD τ).loc main_arg1)) (m ((c : Thread nD τ).loc main_arg3)) (m ((c : Thread nD τ).loc main_arg6)) (m ((c : Thread nD τ).loc main_arg7)) (m ((c : Thread nD τ).loc main_arg9))

/-- Result 104 at the end of the run. -/
theorem final104 : W11 m ρ c (Proc.devRef .tc main_v104) = val_main_v185 (F := Ideal) (m ((c : Thread nD τ).loc main_arg1)) (m ((c : Thread nD τ).loc main_arg4)) (m ((c : Thread nD τ).loc main_arg6)) (m ((c : Thread nD τ).loc main_arg7)) (m ((c : Thread nD τ).loc main_arg9)) := by
  refine (W11_arr m ρ c 2).trans ((arr6 (V10 m ρ) c).trans ?_)
  have h0 : V10 m ρ c main_v101 = val_main_v183 (F := Ideal) (m ((c : Thread nD τ).loc main_arg1)) (m ((c : Thread nD τ).loc main_arg6)) (m ((c : Thread nD τ).loc main_arg7)) (m ((c : Thread nD τ).loc main_arg9)) := (W10_of m ρ c main_v101 (by decide)).trans ((W9_of m ρ c main_v101 (by decide)).trans (at8_101 m ρ c))
  have h1 : V10 m ρ c main_arg4 = m ((c : Thread nD τ).loc main_arg4) := W10_args m ρ c main_arg4 (by decide)
  rw [h0, h1]
  exact rolled185_eq (m ((c : Thread nD τ).loc main_arg1)) (m ((c : Thread nD τ).loc main_arg4)) (m ((c : Thread nD τ).loc main_arg6)) (m ((c : Thread nD τ).loc main_arg7)) (m ((c : Thread nD τ).loc main_arg9))

/-- The queries and keys at the end of the run. -/
theorem final50 : W11 m ρ c (Proc.devRef .tc main_v50) = val_main_v296 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) :=
  (W11_of m ρ c main_v50 (by decide)).trans ((W10_of m ρ c main_v50 (by decide)).trans ((W9_of m ρ c main_v50 (by decide)).trans ((W8_of m ρ c main_v50 (by decide)).trans ((at7h m ρ c).trans
    (heads_eq (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)))))))

end Cert.Kernel4Ideal.Front
end
-- ==== Proof.FrontRun.lean ====
/- The front's run, every buffer at its end. -/
module

public import proofs.«01_k».proof.Proof.Gen.Kernel4Ideal.Frame
public import Idealize.ShloMosaic.Lib.Pointwise

@[expose] public section

set_option maxRecDepth 16384

noncomputable section

namespace Cert.Kernel4Ideal.Front

open Cert.Kernel4Ideal Cert.Kernel4Ideal.Gen Idealize.ShloMosaic Idealize.ShloMosaic.TcCoe Idealize.SL Idealize.SL.Sem

variable (m : (ℓ : Loc nD τ sig) → Buf (Elt Ideal) ℓ) (ρ : Dev nD → PrngReg)

section Run
open Idealize.ShloMosaic.Tactic Idealize.SL.RA Idealize.SL.BI Idealize.SL.BI.BIBase Idealize.SL.BI.Laws Idealize.SL.ProofMode Idealize.ShloMosaic.Rounds
open scoped Idealize.SL.BI
open Idealize.ShloMosaic.Pipeline (Dat Cfg Window BodyObligation cellOf)

-- the launch theorem's implicit arguments are found by unifying its conclusion, which unfolds plain definitions in a metavariable's type
set_option backward.isDefEq.respectTransparency.types false in
/-- The run: every buffer the program keeps ends at what the chain of its calls leaves there. -/
theorem run : θ_run defs (onTc (τ := τ) (main (F := Ideal))) ⟨m, fun _ => 0, ρ⟩
    (fun r => ∀ c : Dev nD, ∀ b ∈ Pipeline.ucRefs τ sig, r.2.mem ((c : Thread nD τ).1, b) = W11 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h _ => h)
end Run

end Cert.Kernel4Ideal.Front
end
-- ==== Proof.FrontClaim.lean ====
/- The front's claims: its results are its reference's, and its reference's run. -/
module

public import proofs.«01_k».proof.Defs
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.FrontFinal
public import proofs.«01_k».proof.Proof.FrontRun

@[expose] public section

set_option maxRecDepth 16384
set_option maxHeartbeats 2000000

noncomputable section

namespace Cert.Kernel4Ideal.Front

open Idealize.ShloMosaic Idealize.ShloMosaic.TcCoe Idealize.SL Idealize.SL.Sem

/-- The front's result arrays end at its reference's results. -/
theorem algebraic4 : Cert.algebraic_Kernel4Ideal_Reference4Ideal := by
  intro m ρ m' ρ' _ hagree
  have h0 : ∀ c : Dev Cert.Kernel4Ideal.nD, Cert.Reference4Ideal.Read.val_main_v74 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg9))
      = Cert.Reference4Ideal.Read.val_main_v74 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg9)) := fun c => by
    obtain ⟨e0, _, _, _, _, _, e6, e7, _, e9, _⟩ := hagree c
    rw [e0, e6, e7, e9]
  have h1 : ∀ c : Dev Cert.Kernel4Ideal.nD, Cert.Reference4Ideal.Read.val_main_v81 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg9))
      = Cert.Reference4Ideal.Read.val_main_v81 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg9)) := fun c => by
    obtain ⟨e0, _, _, _, _, _, e6, e7, _, e9, _⟩ := hagree c
    rw [e0, e6, e7, e9]
  have h2 : ∀ c : Dev Cert.Kernel4Ideal.nD, Cert.Reference4Ideal.Read.val_main_v88 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg9))
      = Cert.Reference4Ideal.Read.val_main_v88 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg9)) := fun c => by
    obtain ⟨e0, _, _, _, _, _, e6, e7, _, e9, _⟩ := hagree c
    rw [e0, e6, e7, e9]
  have h3 : ∀ c : Dev Cert.Kernel4Ideal.nD, Cert.Reference4Ideal.Read.val_main_v187 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg6))
      = Cert.Reference4Ideal.Read.val_main_v187 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg6)) := fun c => by
    obtain ⟨e0, _, _, _, _, _, e6, _, _, _, _⟩ := hagree c
    rw [e0, e6]
  have h4 : ∀ c : Dev Cert.Kernel4Ideal.nD, Cert.Reference4Ideal.Read.val_main_v167 (F := Ideal) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg9))
      = Cert.Reference4Ideal.Read.val_main_v167 (F := Ideal) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg9)) := fun c => by
    obtain ⟨_, e1, e2, _, _, _, e6, e7, _, e9, _⟩ := hagree c
    rw [e1, e2, e6, e7, e9]
  have h5 : ∀ c : Dev Cert.Kernel4Ideal.nD, Cert.Reference4Ideal.Read.val_main_v176 (F := Ideal) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg9))
      = Cert.Reference4Ideal.Read.val_main_v176 (F := Ideal) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg9)) := fun c => by
    obtain ⟨_, e1, _, e3, _, _, e6, e7, _, e9, _⟩ := hagree c
    rw [e1, e3, e6, e7, e9]
  have h6 : ∀ c : Dev Cert.Kernel4Ideal.nD, Cert.Reference4Ideal.Read.val_main_v185 (F := Ideal) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg9))
      = Cert.Reference4Ideal.Read.val_main_v185 (F := Ideal) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg9)) := fun c => by
    obtain ⟨_, e1, _, _, e4, _, e6, e7, _, e9, _⟩ := hagree c
    rw [e1, e4, e6, e7, e9]
  have h7 : ∀ c : Dev Cert.Kernel4Ideal.nD, Cert.Reference4Ideal.Read.val_main_v189 (F := Ideal) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg6))
      = Cert.Reference4Ideal.Read.val_main_v189 (F := Ideal) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg6)) := fun c => by
    obtain ⟨_, e1, _, _, _, _, e6, _, _, _, _⟩ := hagree c
    rw [e1, e6]
  have h8 : ∀ c : Dev Cert.Kernel4Ideal.nD, Cert.Reference4Ideal.Read.val_main_v296 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9))
      = Cert.Reference4Ideal.Read.val_main_v296 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) := fun c => by
    obtain ⟨e0, e1, _, _, _, _, e6, e7, e8, e9, _⟩ := hagree c
    rw [e0, e1, e6, e7, e8, e9]
  refine ⟨fun c => Cert.Reference4Ideal.Read.val_main_v74 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg9)),
    fun c => Cert.Reference4Ideal.Read.val_main_v81 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg9)),
    fun c => Cert.Reference4Ideal.Read.val_main_v88 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg9)),
    fun c => Cert.Reference4Ideal.Read.val_main_v187 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg6)),
    fun c => Cert.Reference4Ideal.Read.val_main_v167 (F := Ideal) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg9)),
    fun c => Cert.Reference4Ideal.Read.val_main_v176 (F := Ideal) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg9)),
    fun c => Cert.Reference4Ideal.Read.val_main_v185 (F := Ideal) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg9)),
    fun c => Cert.Reference4Ideal.Read.val_main_v189 (F := Ideal) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg6)),
    fun c => Cert.Reference4Ideal.Read.val_main_v296 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)), ?_, ?_⟩
  · exact (θ_run Cert.Kernel4Ideal.defs _ _).mono (fun _ h c =>
      ⟨(h c _ (Cert.Kernel4Ideal.Gen.mem_uc Cert.Kernel4Ideal.main_v60 (by decide))).trans (Cert.Kernel4Ideal.Front.final60 m ρ c),
       (h c _ (Cert.Kernel4Ideal.Gen.mem_uc Cert.Kernel4Ideal.main_v69 (by decide))).trans (Cert.Kernel4Ideal.Front.final69 m ρ c),
       (h c _ (Cert.Kernel4Ideal.Gen.mem_uc Cert.Kernel4Ideal.main_v77 (by decide))).trans (Cert.Kernel4Ideal.Front.final77 m ρ c),
       (h c _ (Cert.Kernel4Ideal.Gen.mem_uc Cert.Kernel4Ideal.main_v5 (by decide))).trans (Cert.Kernel4Ideal.Front.final5 m ρ c),
       (h c _ (Cert.Kernel4Ideal.Gen.mem_uc Cert.Kernel4Ideal.main_v102 (by decide))).trans (Cert.Kernel4Ideal.Front.final102 m ρ c),
       (h c _ (Cert.Kernel4Ideal.Gen.mem_uc Cert.Kernel4Ideal.main_v103 (by decide))).trans (Cert.Kernel4Ideal.Front.final103 m ρ c),
       (h c _ (Cert.Kernel4Ideal.Gen.mem_uc Cert.Kernel4Ideal.main_v104 (by decide))).trans (Cert.Kernel4Ideal.Front.final104 m ρ c),
       (h c _ (Cert.Kernel4Ideal.Gen.mem_uc Cert.Kernel4Ideal.main_v6 (by decide))).trans (Cert.Kernel4Ideal.Front.final6 m ρ c),
       (h c _ (Cert.Kernel4Ideal.Gen.mem_uc Cert.Kernel4Ideal.main_v50 (by decide))).trans (Cert.Kernel4Ideal.Front.final50 m ρ c),
       (h c _ (Cert.Kernel4Ideal.Gen.mem_uc Cert.Kernel4Ideal.main_arg0 (by decide))).trans (Cert.Kernel4Ideal.Gen.W11_main_arg0 m ρ c),
       (h c _ (Cert.Kernel4Ideal.Gen.mem_uc Cert.Kernel4Ideal.main_arg1 (by decide))).trans (Cert.Kernel4Ideal.Gen.W11_main_arg1 m ρ c),
       (h c _ (Cert.Kernel4Ideal.Gen.mem_uc Cert.Kernel4Ideal.main_arg2 (by decide))).trans (Cert.Kernel4Ideal.Gen.W11_main_arg2 m ρ c),
       (h c _ (Cert.Kernel4Ideal.Gen.mem_uc Cert.Kernel4Ideal.main_arg3 (by decide))).trans (Cert.Kernel4Ideal.Gen.W11_main_arg3 m ρ c),
       (h c _ (Cert.Kernel4Ideal.Gen.mem_uc Cert.Kernel4Ideal.main_arg4 (by decide))).trans (Cert.Kernel4Ideal.Gen.W11_main_arg4 m ρ c),
       (h c _ (Cert.Kernel4Ideal.Gen.mem_uc Cert.Kernel4Ideal.main_arg5 (by decide))).trans (Cert.Kernel4Ideal.Gen.W11_main_arg5 m ρ c),
       (h c _ (Cert.Kernel4Ideal.Gen.mem_uc Cert.Kernel4Ideal.main_arg6 (by decide))).trans (Cert.Kernel4Ideal.Gen.W11_main_arg6 m ρ c),
       (h c _ (Cert.Kernel4Ideal.Gen.mem_uc Cert.Kernel4Ideal.main_arg7 (by decide))).trans (Cert.Kernel4Ideal.Gen.W11_main_arg7 m ρ c),
       (h c _ (Cert.Kernel4Ideal.Gen.mem_uc Cert.Kernel4Ideal.main_arg8 (by decide))).trans (Cert.Kernel4Ideal.Gen.W11_main_arg8 m ρ c),
       (h c _ (Cert.Kernel4Ideal.Gen.mem_uc Cert.Kernel4Ideal.main_arg9 (by decide))).trans (Cert.Kernel4Ideal.Gen.W11_main_arg9 m ρ c),
       (h c _ (Cert.Kernel4Ideal.Gen.mem_uc Cert.Kernel4Ideal.main_arg10 (by decide))).trans (Cert.Kernel4Ideal.Gen.W11_main_arg10 m ρ c)⟩)
      (Cert.Kernel4Ideal.Front.run m ρ)
  · exact (θ_run Cert.Reference4Ideal.defs _ _).mono (fun _ h c => by
      obtain ⟨r0, r1, r2, r3, r4, r5, r6, r7, r8, ha⟩ := h c
      exact ⟨r0.trans ((Cert.Reference4Ideal.Read.val_main_v74_eq (F := Ideal) (StableHlo.launchContents m' c)).trans (h0 c)),
        r1.trans ((Cert.Reference4Ideal.Read.val_main_v81_eq (F := Ideal) (StableHlo.launchContents m' c)).trans (h1 c)),
        r2.trans ((Cert.Reference4Ideal.Read.val_main_v88_eq (F := Ideal) (StableHlo.launchContents m' c)).trans (h2 c)),
        r3.trans ((Cert.Reference4Ideal.Read.val_main_v187_eq (F := Ideal) (StableHlo.launchContents m' c)).trans (h3 c)),
        r4.trans ((Cert.Reference4Ideal.Read.val_main_v167_eq (F := Ideal) (StableHlo.launchContents m' c)).trans (h4 c)),
        r5.trans ((Cert.Reference4Ideal.Read.val_main_v176_eq (F := Ideal) (StableHlo.launchContents m' c)).trans (h5 c)),
        r6.trans ((Cert.Reference4Ideal.Read.val_main_v185_eq (F := Ideal) (StableHlo.launchContents m' c)).trans (h6 c)),
        r7.trans ((Cert.Reference4Ideal.Read.val_main_v189_eq (F := Ideal) (StableHlo.launchContents m' c)).trans (h7 c)),
        r8.trans ((Cert.Reference4Ideal.Read.val_main_v296_eq (F := Ideal) (StableHlo.launchContents m' c)).trans (h8 c)), ha⟩)
      (Cert.Reference4Ideal.Value.run (F := Ideal) m' ρ')

/-- The front's reference ends with its arguments unchanged and no semaphore counted. -/
theorem frame_reference4 : Cert.quiescent_Reference4Ideal := fun m ρ _ =>
  (θ_run Cert.Reference4Ideal.defs _ _).mono (fun r h => ⟨fun c => (h c).2.2.2.2.2.2.2.2.2, Idealize.ShloMosaic.sem_eq_zero_of_no_sems (by decide) r.2⟩)
    (Cert.Reference4Ideal.Value.run (F := Ideal) m ρ)

end Cert.Kernel4Ideal.Front
end
-- ==== Proof.ProjV.lean ====
/- The time mixing's value: the projection's result array is the reference's. -/
module

public import proofs.«01_k».proof.Proof.Gen.Kernel7Ideal.Value
public import proofs.«01_k».proof.Proof.Gen.Reference7Ideal.Read
public import Idealize.ShloMosaic.Lib.Pointwise

@[expose] public section

set_option maxRecDepth 16384

noncomputable section

namespace Cert.Kernel7Ideal.Proj

open Cert.Kernel7Ideal Cert.Kernel7Ideal.Gen Idealize.ShloMosaic Idealize.ShloMosaic.TcCoe Idealize.SL.Sem

theorem hz : (![0, 0] : Fin 2 → Nat) = fun _ => 0 := funext fun a => by fin_cases a <;> rfl

theorem hz3 : (![0, 0, 0] : Fin 3 → Nat) = fun _ => 0 := funext fun a => by fin_cases a <;> rfl

/-- An entry of a block: the row's product with the column. -/
theorem pay_apply (x : Vec Ideal S1x1088x4096 .bf16) (w : Vec Ideal S512x4096 .f32) (r : Fin 1088) (k : Fin 512) :
    k0_pay1 x w (ix2 r k) = ∑ d : Fin 4096, x (ix3 0 r d) * w (ix2 k d) := by
  pointwise [k0_pay1]

/-- An entry of the reference's product. -/
theorem ref_apply (x : FVec Ideal S6x8704x4096 .bf16) (w : FVec Ideal S4096x19680 .f32) (r : Fin 8704) (k : Fin 2048) :
    Cert.Reference7Ideal.Read.val_main_v4 (F := Ideal) x w (ix2 r k) = ∑ d : Fin 4096, x (ix3 2 r d) * w (ix2 d ⟨16896 + k.val, by omega⟩) := by
  pointwise [Cert.Reference7Ideal.Read.val_main_v4, Cert.Reference7Ideal.Read.val_main_v3, Cert.Reference7Ideal.Read.val_main_v2, Cert.Reference7Ideal.Read.val_main_v1,
    Cert.Reference7Ideal.Read.val_main_v0]

variable (m : (ℓ : Loc nD τ sig) → Buf (Elt Ideal) ℓ) (c : Dev nD)

theorem n32 (t : Fin cfg0.N) : t.val < 32 := by have := t.isLt; have h : cfg0.N = 32 := N_0; omega

/-- The rows' block, of the value's mix. -/
theorem x_at (t : Fin cfg0.N) (r : Fin 1088) (d : Fin 4096) :
    (iblk m c 0 t : Vec Ideal S1x1088x4096 .bf16) (ix3 0 r d)
      = (m ((c : Thread nD τ).loc main_arg0) : FVec Ideal S6x8704x4096 .bf16) (ix3 2 ⟨1088 * (t.val % 8) + r.val, by omega⟩ d) := by
  rw [← V_main_arg0 m c]
  have e : ∀ t : Fin cfg0.N, win0_0.index t 0 * win0_0.size 0 = 2 ∧ win0_0.index t 1 * win0_0.size 1 = 1088 * (t.val % 8) ∧ win0_0.index t 2 * win0_0.size 2 = 0 := by
    decide +kernel
  refine congrArg (V m c main_arg0) (funext fun a => Fin.ext ?_)
  match a with
  | ⟨0, _⟩ => show win0_0.index t 0 * win0_0.size 0 + 1 * 0 = _; rw [(e t).1]; rfl
  | ⟨1, _⟩ => show win0_0.index t 1 * win0_0.size 1 + 1 * r.val = _; rw [(e t).2.1]; show _ = 1088 * (t.val % 8) + r.val; omega
  | ⟨2, _⟩ => show win0_0.index t 2 * win0_0.size 2 + 1 * d.val = _; rw [(e t).2.2]; show _ = d.val; omega

theorem V_v0 : (V m c main_v0 : FVec Ideal S19680x4096 .f32)
    = transpose S19680x4096 [1, 0] (m ((c : Thread nD τ).loc main_arg1) : FVec Ideal S4096x19680 .f32) transposes_S4096x19680_S19680x4096_1_0 := by
  rfl

/-- The columns' block, of the transposed weights: the value's columns begin at 16896. -/
theorem w_at (t : Fin cfg0.N) (k : Fin 512) (d : Fin 4096) :
    (X0_1 m c t : Vec Ideal S512x4096 .f32) (ix2 k d)
      = (m ((c : Thread nD τ).loc main_arg1) : FVec Ideal S4096x19680 .f32) (ix2 d ⟨16896 + (512 * (t.val / 8) + k.val), by have := n32 t; omega⟩) := by
  have hn := n32 t
  have e : ∀ t : Fin cfg0.N, win0_1.index t 0 * win0_1.size 0 = 16896 + 512 * (t.val / 8) ∧ win0_1.index t 1 * win0_1.size 1 = 0 := by decide +kernel
  have h : ∀ (i : S512x4096.Idx) (j : S19680x4096.Idx), (j 0).val = 16896 + (512 * (t.val / 8) + (i 0).val) → (j 1).val = (i 1).val →
      (X0_1 m c t : Vec Ideal S512x4096 .f32) i = V m c main_v0 j := fun i j h0 h1 => by
    unfold X0_1 Pipeline.Window.fill
    rw [dif_pos (moved0_1 t i)]
    refine congrArg (V m c main_v0) (funext fun a => Fin.ext ?_)
    match a with
    | ⟨0, _⟩ => show win0_1.index t 0 * win0_1.size 0 + 1 * (i 0).val = _; rw [(e t).1]; show _ = (j 0).val; omega
    | ⟨1, _⟩ => show win0_1.index t 1 * win0_1.size 1 + 1 * (i 1).val = _; rw [(e t).2]; show _ = (j 1).val; omega
  refine (h _ (ix2 ⟨16896 + (512 * (t.val / 8) + k.val), by omega⟩ d) rfl rfl).trans ?_
  rw [V_v0]
  generalize (m ((c : Thread nD τ).loc main_arg1) : FVec Ideal S4096x19680 .f32) = y
  pointwise

/-- What the body leaves in the output's buffer is its one store's payload. -/
theorem out_eq (i : grid0.Coords) (a2 : Memref sig .tc .vmem S1x1088x4096 .bf16) (h2 : a2.IsWhole) (a3 : Memref sig .tc .vmem S512x4096 .f32) (h3 : a3.IsWhole)
    (a4 : Memref sig .tc .vmem S1088x512 .f32) (h4 : a4.IsWhole) (x : Vec Ideal S1x1088x4096 .bf16) (w : Vec Ideal S512x4096 .f32) :
    out0_A_2 c i a2 h2 a3 h3 a4 h4 x w = k0_pay1 x w := by
  unfold out0_A_2
  rw [View.read_writes_junk_eq_canon]
  show View.canon ([⟨Rect.unit ![0, 0] S1088x512.size inb_S1088x512_S1088x512_0_0,
      k0_pay1
        (View.readAt (Elt Ideal) a2.view (Rect.unit (s := S1x1088x4096) ![0, 0, 0] S1x1088x4096.size inb_S1x1088x4096_S1x1088x4096_0_0_0).toLoadRect (h2.unread x))
        (View.readAt (Elt Ideal) a3.view (Rect.unit (s := S512x4096) ![0, 0] S512x4096.size inb_S512x4096_S512x4096_0_0).toLoadRect (h3.unread w))⟩] :
      List (View.Piece (Elt Ideal) S1088x512 .f32)) = _
  rw [View.canon_unit_zero hz, View.readAt_eq_ld, View.readAt_eq_ld, h2.read_unread, h3.read_unread, View.ld_unit_zero hz3, View.ld_unit_zero hz]

/-- The reference's result of the call's arguments. -/
abbrev want : FVec Ideal S8704x2048 .f32 :=
  Cert.Reference7Ideal.Read.val_main_v4 (F := Ideal) (m ((c : Thread nD τ).loc main_arg0)) (m ((c : Thread nD τ).loc main_arg1))

/-- What a point writes back is its block of the reference's result. -/
theorem flushed_eq (t : Fin cfg0.N) : (dats m 0 c).flushed 2 t = ((cfg0.win 2).blk t).view.read (Elt Ideal) (want m c) := by
  have hn := n32 t
  rw [Cert.Kernel7Ideal.Value.flushed2_A, out_eq]
  funext i
  obtain ⟨r, k, rfl⟩ : ∃ (r : Fin 1088) (k : Fin 512), i = ix2 r k := ⟨i 0, i 1, funext fun a => by match a with | ⟨0, _⟩ => rfl | ⟨1, _⟩ => rfl⟩
  have z : ∀ t : Fin cfg0.N, win0_2.index t 0 * win0_2.size 0 = 1088 * (t.val % 8) ∧ win0_2.index t 1 * win0_2.size 1 = 512 * (t.val / 8) := by decide +kernel
  have e : ((cfg0.win 2).blk t).view.read (Elt Ideal) (want m c) (ix2 r k)
      = want m c (ix2 ⟨1088 * (t.val % 8) + r.val, by omega⟩ ⟨512 * (t.val / 8) + k.val, by omega⟩) := by
    refine congrArg (want m c) (funext fun a => Fin.ext ?_)
    match a with
    | ⟨0, _⟩ => show win0_2.index t 0 * win0_2.size 0 + 1 * r.val = _; rw [(z t).1]; show _ = 1088 * (t.val % 8) + r.val; omega
    | ⟨1, _⟩ => show win0_2.index t 1 * win0_2.size 1 + 1 * k.val = _; rw [(z t).2]; show _ = 512 * (t.val / 8) + k.val; omega
  rw [e]
  show k0_pay1 (iblk m c 0 t) (X0_1 m c t) (ix2 r k) = _
  rw [pay_apply]
  refine Eq.trans ?_ (ref_apply _ _ _ _).symm
  simp only [x_at, w_at]

/-- The blocks tile the result. -/
theorem cover (i : S8704x2048.Idx) : ∃ t : Fin cfg0.N, (cfg0.win 2).flush t = true ∧ i ∈ ((cfg0.win 2).blk t).view.set := by
  have h0 : (i 0 : Nat) < 8704 := (i 0).isLt
  have h1 : (i 1 : Nat) < 2048 := (i 1).isLt
  have hN : cfg0.N = 32 := N_0
  obtain ⟨t, ht⟩ : ∃ t : Fin cfg0.N, t.val = 8 * ((i 1 : Nat) / 512) + (i 0 : Nat) / 1088 := ⟨⟨8 * ((i 1 : Nat) / 512) + (i 0 : Nat) / 1088, by omega⟩, rfl⟩
  refine ⟨t, flush0_2 t, ?_⟩
  show i ∈ ((View.whole main_v1).slice (win0_2.rect t)).set
  rw [View.set_slice_whole, Rect.mem_set_unit]
  have z : ∀ t : Fin cfg0.N, win0_2.index t 0 * win0_2.size 0 = 1088 * (t.val % 8) ∧ win0_2.xsize (grid0.coords t) 0 = 1088
      ∧ win0_2.index t 1 * win0_2.size 1 = 512 * (t.val / 8) ∧ win0_2.xsize (grid0.coords t) 1 = 512 := by decide +kernel
  obtain ⟨z1, z2, z3, z4⟩ := z t
  intro a
  match a with
  | ⟨0, _⟩ =>
    show win0_2.index t 0 * win0_2.size 0 ≤ (i 0 : Nat) ∧ (i 0 : Nat) < win0_2.index t 0 * win0_2.size 0 + win0_2.xsize (grid0.coords t) 0
    rw [z1, z2]
    omega
  | ⟨1, _⟩ =>
    show win0_2.index t 1 * win0_2.size 1 ≤ (i 1 : Nat) ∧ (i 1 : Nat) < win0_2.index t 1 * win0_2.size 1 + win0_2.xsize (grid0.coords t) 1
    rw [z3, z4]
    omega

/-- So the result array ends at the reference's result. -/
theorem final : (dats m 0 c).arrAt 2 cfg0.N = want m c :=
  (dats m 0 c).arrAt_eq_of_cover 2 (want m c) (fun t _ => flushed_eq m c t) cover

end Cert.Kernel7Ideal.Proj

end
-- ==== Proof.ProjGate.lean ====
/- The time mixing's gate: the projection's result array is the reference's. -/
module

public import proofs.«01_k».proof.Proof.Gen.Kernel8Ideal.Value
public import proofs.«01_k».proof.Proof.Gen.Reference8Ideal.Read
public import Idealize.ShloMosaic.Lib.Pointwise
public import Idealize.ShloMosaic.Lib.StableHlo.RunRead

@[expose] public section

set_option maxRecDepth 16384

noncomputable section

namespace Cert.Kernel8Ideal.Proj

open Cert.Kernel8Ideal Cert.Kernel8Ideal.Gen Idealize.ShloMosaic Idealize.ShloMosaic.TcCoe Idealize.SL.Sem

theorem hz : (![0, 0] : Fin 2 → Nat) = fun _ => 0 := funext fun a => by fin_cases a <;> rfl

theorem hz3 : (![0, 0, 0] : Fin 3 → Nat) = fun _ => 0 := funext fun a => by fin_cases a <;> rfl

/-- The test of a column against 480, in words. -/
theorem word (j : Fin 4) (k : Fin 128) :
    IntOp.cmpi .slt (BitVec.ofNat 32 j.val * 128#32 + BitVec.ofNat 32 k.val) 480#32 = if 128 * j.val + k.val < 480 then 1#1 else 0#1 := by
  revert j k
  decide +kernel

/-- An entry of a block: the row's product with the column, or zero from column 480 on. -/
theorem pay_apply (i : grid0.Coords) (x : Vec Ideal S1x1088x4096 .bf16) (w : Vec Ideal S128x4096 .f32) (r : Fin 1088) (k : Fin 128) :
    k0_pay1 i x w (ix2 r k) = if 128 * (i 0).val + k.val < 480 then ∑ d : Fin 4096, x (ix3 0 r d) * w (ix2 k d) else 0 := by
  have h := word (i 0) k
  pointwise [k0_pay1]
  refine (congrArg (fun b => Scalar.select b _ _) h).trans ?_
  by_cases hk : 128 * (i 0).val + k.val < 480
  · rw [if_pos hk, if_pos hk]
    rfl
  · rw [if_neg hk, if_neg hk]
    rfl

/-- An entry of the reference's product. -/
theorem ref_apply (x : FVec Ideal S6x8704x4096 .bf16) (w : FVec Ideal S4096x19680 .f32) (r : Fin 8704) (k : Fin 512) :
    Cert.Reference8Ideal.Read.val_main_v6 (F := Ideal) x w (ix2 r k) = if h : k.val < 480 then ∑ d : Fin 4096, x (ix3 5 r d) * w (ix2 d ⟨19200 + k.val, by omega⟩) else 0 := by
  pointwise [Cert.Reference8Ideal.Read.val_main_v6, Cert.Reference8Ideal.Read.val_main_v5, Cert.Reference8Ideal.Read.val_main_cst, Cert.Reference8Ideal.Read.val_main_v4, Cert.Reference8Ideal.Read.val_main_v3, Cert.Reference8Ideal.Read.val_main_v2, Cert.Reference8Ideal.Read.val_main_v1,
    Cert.Reference8Ideal.Read.val_main_v0]

variable (m : (ℓ : Loc nD τ sig) → Buf (Elt Ideal) ℓ) (c : Dev nD)

theorem n32 (t : Fin cfg0.N) : t.val < 32 := by have := t.isLt; have h : cfg0.N = 32 := N_0; omega

/-- The rows' block, of its mix. -/
theorem x_at (t : Fin cfg0.N) (r : Fin 1088) (d : Fin 4096) :
    (iblk m c 0 t : Vec Ideal S1x1088x4096 .bf16) (ix3 0 r d)
      = (m ((c : Thread nD τ).loc main_arg0) : FVec Ideal S6x8704x4096 .bf16) (ix3 5 ⟨1088 * (t.val % 8) + r.val, by omega⟩ d) := by
  rw [← V_main_arg0 m c]
  have e : ∀ t : Fin cfg0.N, win0_0.index t 0 * win0_0.size 0 = 5 ∧ win0_0.index t 1 * win0_0.size 1 = 1088 * (t.val % 8) ∧ win0_0.index t 2 * win0_0.size 2 = 0 := by
    decide +kernel
  refine congrArg (V m c main_arg0) (funext fun a => Fin.ext ?_)
  match a with
  | ⟨0, _⟩ => show win0_0.index t 0 * win0_0.size 0 + 1 * 0 = _; rw [(e t).1]; rfl
  | ⟨1, _⟩ => show win0_0.index t 1 * win0_0.size 1 + 1 * r.val = _; rw [(e t).2.1]; show _ = 1088 * (t.val % 8) + r.val; omega
  | ⟨2, _⟩ => show win0_0.index t 2 * win0_0.size 2 + 1 * d.val = _; rw [(e t).2.2]; show _ = d.val; omega

/-- The weights the host leaves: the last 480 columns and 32 of zeros, transposed. -/
def padded (w : FVec Ideal S4096x19680 .f32) : FVec Ideal S512x4096 .f32 :=
  transpose S512x4096 [1, 0] (pad S4096x512 ![0, 0] ![0, 32] ![0, 0] (extractStridedSlice S4096x480 ![0, 19200] w slices_S4096x19680_S4096x480_0_19200)
    (sitofp (F := Ideal) .f32 (constantI S_ 32 0#32)) pads_S4096x480_S4096x512_000_0320 h_S_) transposes_S4096x512_S512x4096_1_0

theorem V_v2 : (V m c main_v2 : FVec Ideal S512x4096 .f32) = padded (m ((c : Thread nD τ).loc main_arg1)) := by
  show StableHlo.after (hostOps0 ++ (hostOps0_1 ++ hostOps0_2)) _ _ = _
  simp only [List.cons_append, List.nil_append]
  after_reads_simp
  rfl

/-- A row of them below 480. -/
theorem padded_apply (w : FVec Ideal S4096x19680 .f32) (j : Fin 512) (d : Fin 4096) (h : j.val < 480) : padded w (ix2 j d) = w (ix2 d ⟨19200 + j.val, by omega⟩) := by
  unfold padded
  pointwise
  exact dif_pos h

/-- The weights' block. -/
theorem w_at (t : Fin cfg0.N) (k : Fin 128) (d : Fin 4096) :
    (iblk m c 1 t : Vec Ideal S128x4096 .f32) (ix2 k d) = (V m c main_v2 : FVec Ideal S512x4096 .f32) (ix2 ⟨128 * (t.val / 8) + k.val, by have := n32 t; omega⟩ d) := by
  have e : ∀ t : Fin cfg0.N, win0_1.index t 0 * win0_1.size 0 = 128 * (t.val / 8) ∧ win0_1.index t 1 * win0_1.size 1 = 0 := by decide +kernel
  refine congrArg (V m c main_v2) (funext fun a => Fin.ext ?_)
  match a with
  | ⟨0, _⟩ => show win0_1.index t 0 * win0_1.size 0 + 1 * k.val = _; rw [(e t).1]; show _ = 128 * (t.val / 8) + k.val; omega
  | ⟨1, _⟩ => show win0_1.index t 1 * win0_1.size 1 + 1 * d.val = _; rw [(e t).2]; show _ = d.val; omega

/-- The reference's result of the call's arguments. -/
abbrev want : FVec Ideal S8704x512 .f32 :=
  Cert.Reference8Ideal.Read.val_main_v6 (F := Ideal) (m ((c : Thread nD τ).loc main_arg0)) (m ((c : Thread nD τ).loc main_arg1))

/-- What a point writes back is its block of the reference's result. -/
theorem flushed_eq (t : Fin cfg0.N) : (dats m 0 c).flushed 2 t = ((cfg0.win 2).blk t).view.read (Elt Ideal) (want m c) := by
  have hn := n32 t
  rw [Cert.Kernel8Ideal.Value.flushed2]
  unfold out0_2
  rw [View.canon_unit_zero hz, View.ld_unit_zero hz3, View.ld_unit_zero hz]
  funext i
  obtain ⟨r, k, rfl⟩ : ∃ (r : Fin 1088) (k : Fin 128), i = ix2 r k := ⟨i 0, i 1, funext fun a => by match a with | ⟨0, _⟩ => rfl | ⟨1, _⟩ => rfl⟩
  have z : ∀ t : Fin cfg0.N, win0_2.index t 0 * win0_2.size 0 = 1088 * (t.val % 8) ∧ win0_2.index t 1 * win0_2.size 1 = 128 * (t.val / 8) := by decide +kernel
  have e : ((cfg0.win 2).blk t).view.read (Elt Ideal) (want m c) (ix2 r k)
      = want m c (ix2 ⟨1088 * (t.val % 8) + r.val, by omega⟩ ⟨128 * (t.val / 8) + k.val, by omega⟩) := by
    refine congrArg (want m c) (funext fun a => Fin.ext ?_)
    match a with
    | ⟨0, _⟩ => show win0_2.index t 0 * win0_2.size 0 + 1 * r.val = _; rw [(z t).1]; show _ = 1088 * (t.val % 8) + r.val; omega
    | ⟨1, _⟩ => show win0_2.index t 1 * win0_2.size 1 + 1 * k.val = _; rw [(z t).2]; show _ = 128 * (t.val / 8) + k.val; omega
  rw [e]
  show k0_pay1 (grid0.coords t) (iblk m c 0 t) (iblk m c 1 t) (ix2 r k) = _
  have g : ∀ t : Fin cfg0.N, (grid0.coords t 0).val = t.val / 8 := by decide +kernel
  rw [pay_apply, g t]
  refine Eq.trans ?_ (ref_apply _ _ _ _).symm
  by_cases h : 128 * (t.val / 8) + k.val < 480
  · rw [if_pos h, dif_pos h]
    refine Finset.sum_congr rfl fun d _ => ?_
    rw [x_at, w_at, V_v2, padded_apply _ _ _ h]
  · rw [if_neg h, dif_neg h]

/-- The blocks tile the result. -/
theorem cover (i : S8704x512.Idx) : ∃ t : Fin cfg0.N, (cfg0.win 2).flush t = true ∧ i ∈ ((cfg0.win 2).blk t).view.set := by
  have h0 : (i 0 : Nat) < 8704 := (i 0).isLt
  have h1 : (i 1 : Nat) < 512 := (i 1).isLt
  have hN : cfg0.N = 32 := N_0
  obtain ⟨t, ht⟩ : ∃ t : Fin cfg0.N, t.val = 8 * ((i 1 : Nat) / 128) + (i 0 : Nat) / 1088 := ⟨⟨8 * ((i 1 : Nat) / 128) + (i 0 : Nat) / 1088, by omega⟩, rfl⟩
  refine ⟨t, flush0_2 t, ?_⟩
  show i ∈ ((View.whole main_v3).slice (win0_2.rect t)).set
  rw [View.set_slice_whole, Rect.mem_set_unit]
  have z : ∀ t : Fin cfg0.N, win0_2.index t 0 * win0_2.size 0 = 1088 * (t.val % 8) ∧ win0_2.xsize (grid0.coords t) 0 = 1088
      ∧ win0_2.index t 1 * win0_2.size 1 = 128 * (t.val / 8) ∧ win0_2.xsize (grid0.coords t) 1 = 128 := by decide +kernel
  obtain ⟨z1, z2, z3, z4⟩ := z t
  intro a
  match a with
  | ⟨0, _⟩ =>
    show win0_2.index t 0 * win0_2.size 0 ≤ (i 0 : Nat) ∧ (i 0 : Nat) < win0_2.index t 0 * win0_2.size 0 + win0_2.xsize (grid0.coords t) 0
    rw [z1, z2]
    omega
  | ⟨1, _⟩ =>
    show win0_2.index t 1 * win0_2.size 1 ≤ (i 1 : Nat) ∧ (i 1 : Nat) < win0_2.index t 1 * win0_2.size 1 + win0_2.xsize (grid0.coords t) 1
    rw [z3, z4]
    omega

/-- So the result array ends at the reference's result. -/
theorem final : (dats m 0 c).arrAt 2 cfg0.N = want m c :=
  (dats m 0 c).arrAt_eq_of_cover 2 (want m c) (fun t _ => flushed_eq m c t) cover

end Cert.Kernel8Ideal.Proj

end
-- ==== Proof.ProjDecay.lean ====
/- The time mixing's decay: the projection's result array is the reference's. -/
module

public import proofs.«01_k».proof.Proof.Gen.Kernel9Ideal.Value
public import proofs.«01_k».proof.Proof.Gen.Reference9Ideal.Read
public import Idealize.ShloMosaic.Lib.Pointwise

@[expose] public section

set_option maxRecDepth 16384

noncomputable section

namespace Cert.Kernel9Ideal.Proj

open Cert.Kernel9Ideal Cert.Kernel9Ideal.Gen Idealize.ShloMosaic Idealize.ShloMosaic.TcCoe Idealize.SL.Sem

theorem hz : (![0, 0] : Fin 2 → Nat) = fun _ => 0 := funext fun a => by fin_cases a <;> rfl

theorem hz3 : (![0, 0, 0] : Fin 3 → Nat) = fun _ => 0 := funext fun a => by fin_cases a <;> rfl

/-- An entry of a block: the row's product with the column. -/
theorem pay_apply (x : Vec Ideal S1x1088x4096 .bf16) (w : Vec Ideal S128x4096 .f32) (r : Fin 1088) (k : Fin 128) :
    k0_pay1 x w (ix2 r k) = ∑ d : Fin 4096, x (ix3 0 r d) * w (ix2 k d) := by
  pointwise [k0_pay1]

/-- An entry of the reference's product. -/
theorem ref_apply (x : FVec Ideal S6x8704x4096 .bf16) (w : FVec Ideal S4096x19680 .f32) (r : Fin 8704) (k : Fin 128) :
    Cert.Reference9Ideal.Read.val_main_v4 (F := Ideal) x w (ix2 r k) = ∑ d : Fin 4096, x (ix3 3 r d) * w (ix2 d ⟨18944 + k.val, by omega⟩) := by
  pointwise [Cert.Reference9Ideal.Read.val_main_v4, Cert.Reference9Ideal.Read.val_main_v3, Cert.Reference9Ideal.Read.val_main_v2, Cert.Reference9Ideal.Read.val_main_v1,
    Cert.Reference9Ideal.Read.val_main_v0]

variable (m : (ℓ : Loc nD τ sig) → Buf (Elt Ideal) ℓ) (c : Dev nD)

theorem n8 (t : Fin cfg0.N) : t.val < 8 := by have := t.isLt; have h : cfg0.N = 8 := N_0; omega

/-- The rows' block, of its mix. -/
theorem x_at (t : Fin cfg0.N) (r : Fin 1088) (d : Fin 4096) :
    (iblk m c 0 t : Vec Ideal S1x1088x4096 .bf16) (ix3 0 r d)
      = (m ((c : Thread nD τ).loc main_arg0) : FVec Ideal S6x8704x4096 .bf16) (ix3 3 ⟨1088 * (t.val % 8) + r.val, by omega⟩ d) := by
  rw [← V_main_arg0 m c]
  have e : ∀ t : Fin cfg0.N, win0_0.index t 0 * win0_0.size 0 = 3 ∧ win0_0.index t 1 * win0_0.size 1 = 1088 * (t.val % 8) ∧ win0_0.index t 2 * win0_0.size 2 = 0 := by
    decide +kernel
  refine congrArg (V m c main_arg0) (funext fun a => Fin.ext ?_)
  match a with
  | ⟨0, _⟩ => show win0_0.index t 0 * win0_0.size 0 + 1 * 0 = _; rw [(e t).1]; rfl
  | ⟨1, _⟩ => show win0_0.index t 1 * win0_0.size 1 + 1 * r.val = _; rw [(e t).2.1]; show _ = 1088 * (t.val % 8) + r.val; omega
  | ⟨2, _⟩ => show win0_0.index t 2 * win0_0.size 2 + 1 * d.val = _; rw [(e t).2.2]; show _ = d.val; omega

theorem V_v0 : (V m c main_v0 : FVec Ideal S19680x4096 .f32)
    = transpose S19680x4096 [1, 0] (m ((c : Thread nD τ).loc main_arg1) : FVec Ideal S4096x19680 .f32) transposes_S4096x19680_S19680x4096_1_0 := by
  rfl

/-- The columns' block, of the transposed weights: its columns begin at 18944. -/
theorem w_at (t : Fin cfg0.N) (k : Fin 128) (d : Fin 4096) :
    (X0_1 m c t : Vec Ideal S128x4096 .f32) (ix2 k d)
      = (m ((c : Thread nD τ).loc main_arg1) : FVec Ideal S4096x19680 .f32) (ix2 d ⟨18944 + (128 * (t.val / 8) + k.val), by have := n8 t; omega⟩) := by
  have hn := n8 t
  have e : ∀ t : Fin cfg0.N, win0_1.index t 0 * win0_1.size 0 = 18944 + 128 * (t.val / 8) ∧ win0_1.index t 1 * win0_1.size 1 = 0 := by decide +kernel
  have h : ∀ (i : S128x4096.Idx) (j : S19680x4096.Idx), (j 0).val = 18944 + (128 * (t.val / 8) + (i 0).val) → (j 1).val = (i 1).val →
      (X0_1 m c t : Vec Ideal S128x4096 .f32) i = V m c main_v0 j := fun i j h0 h1 => by
    unfold X0_1 Pipeline.Window.fill
    rw [dif_pos (moved0_1 t i)]
    refine congrArg (V m c main_v0) (funext fun a => Fin.ext ?_)
    match a with
    | ⟨0, _⟩ => show win0_1.index t 0 * win0_1.size 0 + 1 * (i 0).val = _; rw [(e t).1]; show _ = (j 0).val; omega
    | ⟨1, _⟩ => show win0_1.index t 1 * win0_1.size 1 + 1 * (i 1).val = _; rw [(e t).2]; show _ = (j 1).val; omega
  refine (h _ (ix2 ⟨18944 + (128 * (t.val / 8) + k.val), by omega⟩ d) rfl rfl).trans ?_
  rw [V_v0]
  generalize (m ((c : Thread nD τ).loc main_arg1) : FVec Ideal S4096x19680 .f32) = y
  pointwise

/-- What the body leaves in the output's buffer is its one store's payload. -/
theorem out_eq (i : grid0.Coords) (a2 : Memref sig .tc .vmem S1x1088x4096 .bf16) (h2 : a2.IsWhole) (a3 : Memref sig .tc .vmem S128x4096 .f32) (h3 : a3.IsWhole)
    (a4 : Memref sig .tc .vmem S1088x128 .f32) (h4 : a4.IsWhole) (x : Vec Ideal S1x1088x4096 .bf16) (w : Vec Ideal S128x4096 .f32) :
    out0_A_2 c i a2 h2 a3 h3 a4 h4 x w = k0_pay1 x w := by
  unfold out0_A_2
  rw [View.read_writes_junk_eq_canon]
  show View.canon ([⟨Rect.unit ![0, 0] S1088x128.size inb_S1088x128_S1088x128_0_0,
      k0_pay1
        (View.readAt (Elt Ideal) a2.view (Rect.unit (s := S1x1088x4096) ![0, 0, 0] S1x1088x4096.size inb_S1x1088x4096_S1x1088x4096_0_0_0).toLoadRect (h2.unread x))
        (View.readAt (Elt Ideal) a3.view (Rect.unit (s := S128x4096) ![0, 0] S128x4096.size inb_S128x4096_S128x4096_0_0).toLoadRect (h3.unread w))⟩] :
      List (View.Piece (Elt Ideal) S1088x128 .f32)) = _
  rw [View.canon_unit_zero hz, View.readAt_eq_ld, View.readAt_eq_ld, h2.read_unread, h3.read_unread, View.ld_unit_zero hz3, View.ld_unit_zero hz]

/-- The reference's result of the call's arguments. -/
abbrev want : FVec Ideal S8704x128 .f32 :=
  Cert.Reference9Ideal.Read.val_main_v4 (F := Ideal) (m ((c : Thread nD τ).loc main_arg0)) (m ((c : Thread nD τ).loc main_arg1))

/-- What a point writes back is its block of the reference's result. -/
theorem flushed_eq (t : Fin cfg0.N) : (dats m 0 c).flushed 2 t = ((cfg0.win 2).blk t).view.read (Elt Ideal) (want m c) := by
  have hn := n8 t
  rw [Cert.Kernel9Ideal.Value.flushed2_A, out_eq]
  funext i
  obtain ⟨r, k, rfl⟩ : ∃ (r : Fin 1088) (k : Fin 128), i = ix2 r k := ⟨i 0, i 1, funext fun a => by match a with | ⟨0, _⟩ => rfl | ⟨1, _⟩ => rfl⟩
  have z : ∀ t : Fin cfg0.N, win0_2.index t 0 * win0_2.size 0 = 1088 * (t.val % 8) ∧ win0_2.index t 1 * win0_2.size 1 = 128 * (t.val / 8) := by decide +kernel
  have e : ((cfg0.win 2).blk t).view.read (Elt Ideal) (want m c) (ix2 r k)
      = want m c (ix2 ⟨1088 * (t.val % 8) + r.val, by omega⟩ ⟨128 * (t.val / 8) + k.val, by omega⟩) := by
    refine congrArg (want m c) (funext fun a => Fin.ext ?_)
    match a with
    | ⟨0, _⟩ => show win0_2.index t 0 * win0_2.size 0 + 1 * r.val = _; rw [(z t).1]; show _ = 1088 * (t.val % 8) + r.val; omega
    | ⟨1, _⟩ => show win0_2.index t 1 * win0_2.size 1 + 1 * k.val = _; rw [(z t).2]; show _ = 128 * (t.val / 8) + k.val; omega
  rw [e]
  show k0_pay1 (iblk m c 0 t) (X0_1 m c t) (ix2 r k) = _
  rw [pay_apply]
  refine Eq.trans ?_ (ref_apply _ _ _ _).symm
  simp only [x_at, w_at]

/-- The blocks tile the result. -/
theorem cover (i : S8704x128.Idx) : ∃ t : Fin cfg0.N, (cfg0.win 2).flush t = true ∧ i ∈ ((cfg0.win 2).blk t).view.set := by
  have h0 : (i 0 : Nat) < 8704 := (i 0).isLt
  have h1 : (i 1 : Nat) < 128 := (i 1).isLt
  have hN : cfg0.N = 8 := N_0
  obtain ⟨t, ht⟩ : ∃ t : Fin cfg0.N, t.val = 8 * ((i 1 : Nat) / 128) + (i 0 : Nat) / 1088 := ⟨⟨8 * ((i 1 : Nat) / 128) + (i 0 : Nat) / 1088, by omega⟩, rfl⟩
  refine ⟨t, flush0_2 t, ?_⟩
  show i ∈ ((View.whole main_v1).slice (win0_2.rect t)).set
  rw [View.set_slice_whole, Rect.mem_set_unit]
  have z : ∀ t : Fin cfg0.N, win0_2.index t 0 * win0_2.size 0 = 1088 * (t.val % 8) ∧ win0_2.xsize (grid0.coords t) 0 = 1088
      ∧ win0_2.index t 1 * win0_2.size 1 = 128 * (t.val / 8) ∧ win0_2.xsize (grid0.coords t) 1 = 128 := by decide +kernel
  obtain ⟨z1, z2, z3, z4⟩ := z t
  intro a
  match a with
  | ⟨0, _⟩ =>
    show win0_2.index t 0 * win0_2.size 0 ≤ (i 0 : Nat) ∧ (i 0 : Nat) < win0_2.index t 0 * win0_2.size 0 + win0_2.xsize (grid0.coords t) 0
    rw [z1, z2]
    omega
  | ⟨1, _⟩ =>
    show win0_2.index t 1 * win0_2.size 1 ≤ (i 1 : Nat) ∧ (i 1 : Nat) < win0_2.index t 1 * win0_2.size 1 + win0_2.xsize (grid0.coords t) 1
    rw [z3, z4]
    omega

/-- So the result array ends at the reference's result. -/
theorem final : (dats m 0 c).arrAt 2 cfg0.N = want m c :=
  (dats m 0 c).arrAt_eq_of_cover 2 (want m c) (fun t _ => flushed_eq m c t) cover

end Cert.Kernel9Ideal.Proj

end
-- ==== Proof.ProjRate.lean ====
/- The time mixing's rate: the projection's result array is the reference's. -/
module

public import proofs.«01_k».proof.Proof.Gen.Kernel10Ideal.Value
public import proofs.«01_k».proof.Proof.Gen.Reference10Ideal.Read
public import Idealize.ShloMosaic.Lib.Pointwise

@[expose] public section

set_option maxRecDepth 16384

noncomputable section

namespace Cert.Kernel10Ideal.Proj

open Cert.Kernel10Ideal Cert.Kernel10Ideal.Gen Idealize.ShloMosaic Idealize.ShloMosaic.TcCoe Idealize.SL.Sem

theorem hz : (![0, 0] : Fin 2 → Nat) = fun _ => 0 := funext fun a => by fin_cases a <;> rfl

theorem hz3 : (![0, 0, 0] : Fin 3 → Nat) = fun _ => 0 := funext fun a => by fin_cases a <;> rfl

/-- An entry of a block: the row's product with the column. -/
theorem pay_apply (x : Vec Ideal S1x1088x4096 .bf16) (w : Vec Ideal S128x4096 .f32) (r : Fin 1088) (k : Fin 128) :
    k0_pay1 x w (ix2 r k) = ∑ d : Fin 4096, x (ix3 0 r d) * w (ix2 k d) := by
  pointwise [k0_pay1]

/-- An entry of the reference's product. -/
theorem ref_apply (x : FVec Ideal S6x8704x4096 .bf16) (w : FVec Ideal S4096x19680 .f32) (r : Fin 8704) (k : Fin 128) :
    Cert.Reference10Ideal.Read.val_main_v4 (F := Ideal) x w (ix2 r k) = ∑ d : Fin 4096, x (ix3 4 r d) * w (ix2 d ⟨19072 + k.val, by omega⟩) := by
  pointwise [Cert.Reference10Ideal.Read.val_main_v4, Cert.Reference10Ideal.Read.val_main_v3, Cert.Reference10Ideal.Read.val_main_v2, Cert.Reference10Ideal.Read.val_main_v1,
    Cert.Reference10Ideal.Read.val_main_v0]

variable (m : (ℓ : Loc nD τ sig) → Buf (Elt Ideal) ℓ) (c : Dev nD)

theorem n8 (t : Fin cfg0.N) : t.val < 8 := by have := t.isLt; have h : cfg0.N = 8 := N_0; omega

/-- The rows' block, of its mix. -/
theorem x_at (t : Fin cfg0.N) (r : Fin 1088) (d : Fin 4096) :
    (iblk m c 0 t : Vec Ideal S1x1088x4096 .bf16) (ix3 0 r d)
      = (m ((c : Thread nD τ).loc main_arg0) : FVec Ideal S6x8704x4096 .bf16) (ix3 4 ⟨1088 * (t.val % 8) + r.val, by omega⟩ d) := by
  rw [← V_main_arg0 m c]
  have e : ∀ t : Fin cfg0.N, win0_0.index t 0 * win0_0.size 0 = 4 ∧ win0_0.index t 1 * win0_0.size 1 = 1088 * (t.val % 8) ∧ win0_0.index t 2 * win0_0.size 2 = 0 := by
    decide +kernel
  refine congrArg (V m c main_arg0) (funext fun a => Fin.ext ?_)
  match a with
  | ⟨0, _⟩ => show win0_0.index t 0 * win0_0.size 0 + 1 * 0 = _; rw [(e t).1]; rfl
  | ⟨1, _⟩ => show win0_0.index t 1 * win0_0.size 1 + 1 * r.val = _; rw [(e t).2.1]; show _ = 1088 * (t.val % 8) + r.val; omega
  | ⟨2, _⟩ => show win0_0.index t 2 * win0_0.size 2 + 1 * d.val = _; rw [(e t).2.2]; show _ = d.val; omega

theorem V_v0 : (V m c main_v0 : FVec Ideal S19680x4096 .f32)
    = transpose S19680x4096 [1, 0] (m ((c : Thread nD τ).loc main_arg1) : FVec Ideal S4096x19680 .f32) transposes_S4096x19680_S19680x4096_1_0 := by
  rfl

/-- The columns' block, of the transposed weights: its columns begin at 19072. -/
theorem w_at (t : Fin cfg0.N) (k : Fin 128) (d : Fin 4096) :
    (X0_1 m c t : Vec Ideal S128x4096 .f32) (ix2 k d)
      = (m ((c : Thread nD τ).loc main_arg1) : FVec Ideal S4096x19680 .f32) (ix2 d ⟨19072 + (128 * (t.val / 8) + k.val), by have := n8 t; omega⟩) := by
  have hn := n8 t
  have e : ∀ t : Fin cfg0.N, win0_1.index t 0 * win0_1.size 0 = 19072 + 128 * (t.val / 8) ∧ win0_1.index t 1 * win0_1.size 1 = 0 := by decide +kernel
  have h : ∀ (i : S128x4096.Idx) (j : S19680x4096.Idx), (j 0).val = 19072 + (128 * (t.val / 8) + (i 0).val) → (j 1).val = (i 1).val →
      (X0_1 m c t : Vec Ideal S128x4096 .f32) i = V m c main_v0 j := fun i j h0 h1 => by
    unfold X0_1 Pipeline.Window.fill
    rw [dif_pos (moved0_1 t i)]
    refine congrArg (V m c main_v0) (funext fun a => Fin.ext ?_)
    match a with
    | ⟨0, _⟩ => show win0_1.index t 0 * win0_1.size 0 + 1 * (i 0).val = _; rw [(e t).1]; show _ = (j 0).val; omega
    | ⟨1, _⟩ => show win0_1.index t 1 * win0_1.size 1 + 1 * (i 1).val = _; rw [(e t).2]; show _ = (j 1).val; omega
  refine (h _ (ix2 ⟨19072 + (128 * (t.val / 8) + k.val), by omega⟩ d) rfl rfl).trans ?_
  rw [V_v0]
  generalize (m ((c : Thread nD τ).loc main_arg1) : FVec Ideal S4096x19680 .f32) = y
  pointwise

/-- What the body leaves in the output's buffer is its one store's payload. -/
theorem out_eq (i : grid0.Coords) (a2 : Memref sig .tc .vmem S1x1088x4096 .bf16) (h2 : a2.IsWhole) (a3 : Memref sig .tc .vmem S128x4096 .f32) (h3 : a3.IsWhole)
    (a4 : Memref sig .tc .vmem S1088x128 .f32) (h4 : a4.IsWhole) (x : Vec Ideal S1x1088x4096 .bf16) (w : Vec Ideal S128x4096 .f32) :
    out0_A_2 c i a2 h2 a3 h3 a4 h4 x w = k0_pay1 x w := by
  unfold out0_A_2
  rw [View.read_writes_junk_eq_canon]
  show View.canon ([⟨Rect.unit ![0, 0] S1088x128.size inb_S1088x128_S1088x128_0_0,
      k0_pay1
        (View.readAt (Elt Ideal) a2.view (Rect.unit (s := S1x1088x4096) ![0, 0, 0] S1x1088x4096.size inb_S1x1088x4096_S1x1088x4096_0_0_0).toLoadRect (h2.unread x))
        (View.readAt (Elt Ideal) a3.view (Rect.unit (s := S128x4096) ![0, 0] S128x4096.size inb_S128x4096_S128x4096_0_0).toLoadRect (h3.unread w))⟩] :
      List (View.Piece (Elt Ideal) S1088x128 .f32)) = _
  rw [View.canon_unit_zero hz, View.readAt_eq_ld, View.readAt_eq_ld, h2.read_unread, h3.read_unread, View.ld_unit_zero hz3, View.ld_unit_zero hz]

/-- The reference's result of the call's arguments. -/
abbrev want : FVec Ideal S8704x128 .f32 :=
  Cert.Reference10Ideal.Read.val_main_v4 (F := Ideal) (m ((c : Thread nD τ).loc main_arg0)) (m ((c : Thread nD τ).loc main_arg1))

/-- What a point writes back is its block of the reference's result. -/
theorem flushed_eq (t : Fin cfg0.N) : (dats m 0 c).flushed 2 t = ((cfg0.win 2).blk t).view.read (Elt Ideal) (want m c) := by
  have hn := n8 t
  rw [Cert.Kernel10Ideal.Value.flushed2_A, out_eq]
  funext i
  obtain ⟨r, k, rfl⟩ : ∃ (r : Fin 1088) (k : Fin 128), i = ix2 r k := ⟨i 0, i 1, funext fun a => by match a with | ⟨0, _⟩ => rfl | ⟨1, _⟩ => rfl⟩
  have z : ∀ t : Fin cfg0.N, win0_2.index t 0 * win0_2.size 0 = 1088 * (t.val % 8) ∧ win0_2.index t 1 * win0_2.size 1 = 128 * (t.val / 8) := by decide +kernel
  have e : ((cfg0.win 2).blk t).view.read (Elt Ideal) (want m c) (ix2 r k)
      = want m c (ix2 ⟨1088 * (t.val % 8) + r.val, by omega⟩ ⟨128 * (t.val / 8) + k.val, by omega⟩) := by
    refine congrArg (want m c) (funext fun a => Fin.ext ?_)
    match a with
    | ⟨0, _⟩ => show win0_2.index t 0 * win0_2.size 0 + 1 * r.val = _; rw [(z t).1]; show _ = 1088 * (t.val % 8) + r.val; omega
    | ⟨1, _⟩ => show win0_2.index t 1 * win0_2.size 1 + 1 * k.val = _; rw [(z t).2]; show _ = 128 * (t.val / 8) + k.val; omega
  rw [e]
  show k0_pay1 (iblk m c 0 t) (X0_1 m c t) (ix2 r k) = _
  rw [pay_apply]
  refine Eq.trans ?_ (ref_apply _ _ _ _).symm
  simp only [x_at, w_at]

/-- The blocks tile the result. -/
theorem cover (i : S8704x128.Idx) : ∃ t : Fin cfg0.N, (cfg0.win 2).flush t = true ∧ i ∈ ((cfg0.win 2).blk t).view.set := by
  have h0 : (i 0 : Nat) < 8704 := (i 0).isLt
  have h1 : (i 1 : Nat) < 128 := (i 1).isLt
  have hN : cfg0.N = 8 := N_0
  obtain ⟨t, ht⟩ : ∃ t : Fin cfg0.N, t.val = 8 * ((i 1 : Nat) / 128) + (i 0 : Nat) / 1088 := ⟨⟨8 * ((i 1 : Nat) / 128) + (i 0 : Nat) / 1088, by omega⟩, rfl⟩
  refine ⟨t, flush0_2 t, ?_⟩
  show i ∈ ((View.whole main_v1).slice (win0_2.rect t)).set
  rw [View.set_slice_whole, Rect.mem_set_unit]
  have z : ∀ t : Fin cfg0.N, win0_2.index t 0 * win0_2.size 0 = 1088 * (t.val % 8) ∧ win0_2.xsize (grid0.coords t) 0 = 1088
      ∧ win0_2.index t 1 * win0_2.size 1 = 128 * (t.val / 8) ∧ win0_2.xsize (grid0.coords t) 1 = 128 := by decide +kernel
  obtain ⟨z1, z2, z3, z4⟩ := z t
  intro a
  match a with
  | ⟨0, _⟩ =>
    show win0_2.index t 0 * win0_2.size 0 ≤ (i 0 : Nat) ∧ (i 0 : Nat) < win0_2.index t 0 * win0_2.size 0 + win0_2.xsize (grid0.coords t) 0
    rw [z1, z2]
    omega
  | ⟨1, _⟩ =>
    show win0_2.index t 1 * win0_2.size 1 ≤ (i 1 : Nat) ∧ (i 1 : Nat) < win0_2.index t 1 * win0_2.size 1 + win0_2.xsize (grid0.coords t) 1
    rw [z3, z4]
    omega

/-- So the result array ends at the reference's result. -/
theorem final : (dats m 0 c).arrAt 2 cfg0.N = want m c :=
  (dats m 0 c).arrAt_eq_of_cover 2 (want m c) (fun t _ => flushed_eq m c t) cover

end Cert.Kernel10Ideal.Proj

end
-- ==== Proof.ProjK.lean ====
/- The time mixing's key: the projection's result array is the reference's. -/
module

public import proofs.«01_k».proof.Proof.Gen.Kernel6Ideal.Value
public import proofs.«01_k».proof.Proof.Gen.Reference6Ideal.Read
public import Idealize.ShloMosaic.Lib.Pointwise

@[expose] public section

set_option maxRecDepth 16384

noncomputable section

namespace Cert.Kernel6Ideal.Proj

open Cert.Kernel6Ideal Cert.Kernel6Ideal.Gen Idealize.ShloMosaic Idealize.ShloMosaic.TcCoe Idealize.SL.Sem

theorem hz : (![0, 0] : Fin 2 → Nat) = fun _ => 0 := funext fun a => by fin_cases a <;> rfl

theorem hz3 : (![0, 0, 0] : Fin 3 → Nat) = fun _ => 0 := funext fun a => by fin_cases a <;> rfl

/-- An entry of a block: the row's product with the column. -/
theorem pay_apply (x : Vec Ideal S1x1088x4096 .bf16) (w : Vec Ideal S512x4096 .f32) (r : Fin 1088) (k : Fin 512) :
    k0_pay1 x w (ix2 r k) = ∑ d : Fin 4096, x (ix3 0 r d) * w (ix2 k d) := by
  pointwise [k0_pay1]

/-- An entry of the reference's product. -/
theorem ref_apply (x : FVec Ideal S6x8704x4096 .bf16) (w : FVec Ideal S4096x19680 .f32) (r : Fin 8704) (k : Fin 2048) :
    Cert.Reference6Ideal.Read.val_main_v4 (F := Ideal) x w (ix2 r k) = ∑ d : Fin 4096, x (ix3 1 r d) * w (ix2 d ⟨14848 + k.val, by omega⟩) := by
  pointwise [Cert.Reference6Ideal.Read.val_main_v4, Cert.Reference6Ideal.Read.val_main_v3, Cert.Reference6Ideal.Read.val_main_v2, Cert.Reference6Ideal.Read.val_main_v1,
    Cert.Reference6Ideal.Read.val_main_v0]

variable (m : (ℓ : Loc nD τ sig) → Buf (Elt Ideal) ℓ) (c : Dev nD)

theorem n32 (t : Fin cfg0.N) : t.val < 32 := by have := t.isLt; have h : cfg0.N = 32 := N_0; omega

/-- The rows' block, of the key's mix. -/
theorem x_at (t : Fin cfg0.N) (r : Fin 1088) (d : Fin 4096) :
    (iblk m c 0 t : Vec Ideal S1x1088x4096 .bf16) (ix3 0 r d)
      = (m ((c : Thread nD τ).loc main_arg0) : FVec Ideal S6x8704x4096 .bf16) (ix3 1 ⟨1088 * (t.val % 8) + r.val, by omega⟩ d) := by
  rw [← V_main_arg0 m c]
  have e : ∀ t : Fin cfg0.N, win0_0.index t 0 * win0_0.size 0 = 1 ∧ win0_0.index t 1 * win0_0.size 1 = 1088 * (t.val % 8) ∧ win0_0.index t 2 * win0_0.size 2 = 0 := by
    decide +kernel
  refine congrArg (V m c main_arg0) (funext fun a => Fin.ext ?_)
  match a with
  | ⟨0, _⟩ => show win0_0.index t 0 * win0_0.size 0 + 1 * 0 = _; rw [(e t).1]; rfl
  | ⟨1, _⟩ => show win0_0.index t 1 * win0_0.size 1 + 1 * r.val = _; rw [(e t).2.1]; show _ = 1088 * (t.val % 8) + r.val; omega
  | ⟨2, _⟩ => show win0_0.index t 2 * win0_0.size 2 + 1 * d.val = _; rw [(e t).2.2]; show _ = d.val; omega

theorem V_v0 : (V m c main_v0 : FVec Ideal S19680x4096 .f32)
    = transpose S19680x4096 [1, 0] (m ((c : Thread nD τ).loc main_arg1) : FVec Ideal S4096x19680 .f32) transposes_S4096x19680_S19680x4096_1_0 := by
  rfl

/-- The columns' block, of the transposed weights: the key's columns begin at 14848. -/
theorem w_at (t : Fin cfg0.N) (k : Fin 512) (d : Fin 4096) :
    (X0_1 m c t : Vec Ideal S512x4096 .f32) (ix2 k d)
      = (m ((c : Thread nD τ).loc main_arg1) : FVec Ideal S4096x19680 .f32) (ix2 d ⟨14848 + (512 * (t.val / 8) + k.val), by have := n32 t; omega⟩) := by
  have hn := n32 t
  have e : ∀ t : Fin cfg0.N, win0_1.index t 0 * win0_1.size 0 = 14848 + 512 * (t.val / 8) ∧ win0_1.index t 1 * win0_1.size 1 = 0 := by decide +kernel
  have h : ∀ (i : S512x4096.Idx) (j : S19680x4096.Idx), (j 0).val = 14848 + (512 * (t.val / 8) + (i 0).val) → (j 1).val = (i 1).val →
      (X0_1 m c t : Vec Ideal S512x4096 .f32) i = V m c main_v0 j := fun i j h0 h1 => by
    unfold X0_1 Pipeline.Window.fill
    rw [dif_pos (moved0_1 t i)]
    refine congrArg (V m c main_v0) (funext fun a => Fin.ext ?_)
    match a with
    | ⟨0, _⟩ => show win0_1.index t 0 * win0_1.size 0 + 1 * (i 0).val = _; rw [(e t).1]; show _ = (j 0).val; omega
    | ⟨1, _⟩ => show win0_1.index t 1 * win0_1.size 1 + 1 * (i 1).val = _; rw [(e t).2]; show _ = (j 1).val; omega
  refine (h _ (ix2 ⟨14848 + (512 * (t.val / 8) + k.val), by omega⟩ d) rfl rfl).trans ?_
  rw [V_v0]
  generalize (m ((c : Thread nD τ).loc main_arg1) : FVec Ideal S4096x19680 .f32) = y
  pointwise

/-- What the body leaves in the output's buffer is its one store's payload. -/
theorem out_eq (i : grid0.Coords) (a2 : Memref sig .tc .vmem S1x1088x4096 .bf16) (h2 : a2.IsWhole) (a3 : Memref sig .tc .vmem S512x4096 .f32) (h3 : a3.IsWhole)
    (a4 : Memref sig .tc .vmem S1088x512 .f32) (h4 : a4.IsWhole) (x : Vec Ideal S1x1088x4096 .bf16) (w : Vec Ideal S512x4096 .f32) :
    out0_A_2 c i a2 h2 a3 h3 a4 h4 x w = k0_pay1 x w := by
  unfold out0_A_2
  rw [View.read_writes_junk_eq_canon]
  show View.canon ([⟨Rect.unit ![0, 0] S1088x512.size inb_S1088x512_S1088x512_0_0,
      k0_pay1
        (View.readAt (Elt Ideal) a2.view (Rect.unit (s := S1x1088x4096) ![0, 0, 0] S1x1088x4096.size inb_S1x1088x4096_S1x1088x4096_0_0_0).toLoadRect (h2.unread x))
        (View.readAt (Elt Ideal) a3.view (Rect.unit (s := S512x4096) ![0, 0] S512x4096.size inb_S512x4096_S512x4096_0_0).toLoadRect (h3.unread w))⟩] :
      List (View.Piece (Elt Ideal) S1088x512 .f32)) = _
  rw [View.canon_unit_zero hz, View.readAt_eq_ld, View.readAt_eq_ld, h2.read_unread, h3.read_unread, View.ld_unit_zero hz3, View.ld_unit_zero hz]

/-- The reference's result of the call's arguments. -/
abbrev want : FVec Ideal S8704x2048 .f32 :=
  Cert.Reference6Ideal.Read.val_main_v4 (F := Ideal) (m ((c : Thread nD τ).loc main_arg0)) (m ((c : Thread nD τ).loc main_arg1))

/-- What a point writes back is its block of the reference's result. -/
theorem flushed_eq (t : Fin cfg0.N) : (dats m 0 c).flushed 2 t = ((cfg0.win 2).blk t).view.read (Elt Ideal) (want m c) := by
  have hn := n32 t
  rw [Cert.Kernel6Ideal.Value.flushed2_A, out_eq]
  funext i
  obtain ⟨r, k, rfl⟩ : ∃ (r : Fin 1088) (k : Fin 512), i = ix2 r k := ⟨i 0, i 1, funext fun a => by match a with | ⟨0, _⟩ => rfl | ⟨1, _⟩ => rfl⟩
  have z : ∀ t : Fin cfg0.N, win0_2.index t 0 * win0_2.size 0 = 1088 * (t.val % 8) ∧ win0_2.index t 1 * win0_2.size 1 = 512 * (t.val / 8) := by decide +kernel
  have e : ((cfg0.win 2).blk t).view.read (Elt Ideal) (want m c) (ix2 r k)
      = want m c (ix2 ⟨1088 * (t.val % 8) + r.val, by omega⟩ ⟨512 * (t.val / 8) + k.val, by omega⟩) := by
    refine congrArg (want m c) (funext fun a => Fin.ext ?_)
    match a with
    | ⟨0, _⟩ => show win0_2.index t 0 * win0_2.size 0 + 1 * r.val = _; rw [(z t).1]; show _ = 1088 * (t.val % 8) + r.val; omega
    | ⟨1, _⟩ => show win0_2.index t 1 * win0_2.size 1 + 1 * k.val = _; rw [(z t).2]; show _ = 512 * (t.val / 8) + k.val; omega
  rw [e]
  show k0_pay1 (iblk m c 0 t) (X0_1 m c t) (ix2 r k) = _
  rw [pay_apply]
  refine Eq.trans ?_ (ref_apply _ _ _ _).symm
  simp only [x_at, w_at]

/-- The blocks tile the result. -/
theorem cover (i : S8704x2048.Idx) : ∃ t : Fin cfg0.N, (cfg0.win 2).flush t = true ∧ i ∈ ((cfg0.win 2).blk t).view.set := by
  have h0 : (i 0 : Nat) < 8704 := (i 0).isLt
  have h1 : (i 1 : Nat) < 2048 := (i 1).isLt
  have hN : cfg0.N = 32 := N_0
  obtain ⟨t, ht⟩ : ∃ t : Fin cfg0.N, t.val = 8 * ((i 1 : Nat) / 512) + (i 0 : Nat) / 1088 := ⟨⟨8 * ((i 1 : Nat) / 512) + (i 0 : Nat) / 1088, by omega⟩, rfl⟩
  refine ⟨t, flush0_2 t, ?_⟩
  show i ∈ ((View.whole main_v1).slice (win0_2.rect t)).set
  rw [View.set_slice_whole, Rect.mem_set_unit]
  have z : ∀ t : Fin cfg0.N, win0_2.index t 0 * win0_2.size 0 = 1088 * (t.val % 8) ∧ win0_2.xsize (grid0.coords t) 0 = 1088
      ∧ win0_2.index t 1 * win0_2.size 1 = 512 * (t.val / 8) ∧ win0_2.xsize (grid0.coords t) 1 = 512 := by decide +kernel
  obtain ⟨z1, z2, z3, z4⟩ := z t
  intro a
  match a with
  | ⟨0, _⟩ =>
    show win0_2.index t 0 * win0_2.size 0 ≤ (i 0 : Nat) ∧ (i 0 : Nat) < win0_2.index t 0 * win0_2.size 0 + win0_2.xsize (grid0.coords t) 0
    rw [z1, z2]
    omega
  | ⟨1, _⟩ =>
    show win0_2.index t 1 * win0_2.size 1 ≤ (i 1 : Nat) ∧ (i 1 : Nat) < win0_2.index t 1 * win0_2.size 1 + win0_2.xsize (grid0.coords t) 1
    rw [z3, z4]
    omega

/-- So the result array ends at the reference's result. -/
theorem final : (dats m 0 c).arrAt 2 cfg0.N = want m c :=
  (dats m 0 c).arrAt_eq_of_cover 2 (want m c) (fun t _ => flushed_eq m c t) cover

end Cert.Kernel6Ideal.Proj

end
-- ==== Proof.ProjR.lean ====
/- The time mixing's receptance: the projection's result array is the reference's. -/
module

public import proofs.«01_k».proof.Proof.Gen.Kernel5Ideal.Value
public import proofs.«01_k».proof.Proof.Gen.Reference5Ideal.Read
public import Idealize.ShloMosaic.Lib.Pointwise

@[expose] public section

set_option maxRecDepth 16384

noncomputable section

namespace Cert.Kernel5Ideal.Proj

open Cert.Kernel5Ideal Cert.Kernel5Ideal.Gen Idealize.ShloMosaic Idealize.ShloMosaic.TcCoe Idealize.SL.Sem

theorem hz : (![0, 0] : Fin 2 → Nat) = fun _ => 0 := funext fun a => by fin_cases a <;> rfl

theorem hz3 : (![0, 0, 0] : Fin 3 → Nat) = fun _ => 0 := funext fun a => by fin_cases a <;> rfl

/-- An entry of a block: the row's product with the column. -/
theorem pay_apply (x : Vec Ideal S1x1088x4096 .bf16) (w : Vec Ideal S512x4096 .f32) (r : Fin 1088) (k : Fin 512) :
    k0_pay1 x w (ix2 r k) = ∑ d : Fin 4096, x (ix3 0 r d) * w (ix2 k d) := by
  pointwise [k0_pay1]

/-- An entry of the reference's product. -/
theorem ref_apply (x : FVec Ideal S6x8704x4096 .bf16) (w : FVec Ideal S4096x19680 .f32) (r : Fin 8704) (k : Fin 2048) :
    Cert.Reference5Ideal.Read.val_main_v4 (F := Ideal) x w (ix2 r k) = ∑ d : Fin 4096, x (ix3 0 r d) * w (ix2 d ⟨12800 + k.val, by omega⟩) := by
  pointwise [Cert.Reference5Ideal.Read.val_main_v4, Cert.Reference5Ideal.Read.val_main_v3, Cert.Reference5Ideal.Read.val_main_v2, Cert.Reference5Ideal.Read.val_main_v1,
    Cert.Reference5Ideal.Read.val_main_v0]

variable (m : (ℓ : Loc nD τ sig) → Buf (Elt Ideal) ℓ) (c : Dev nD)

theorem n32 (t : Fin cfg0.N) : t.val < 32 := by have := t.isLt; have h : cfg0.N = 32 := N_0; omega

/-- The rows' block, of the receptance's mix. -/
theorem x_at (t : Fin cfg0.N) (r : Fin 1088) (d : Fin 4096) :
    (iblk m c 0 t : Vec Ideal S1x1088x4096 .bf16) (ix3 0 r d)
      = (m ((c : Thread nD τ).loc main_arg0) : FVec Ideal S6x8704x4096 .bf16) (ix3 0 ⟨1088 * (t.val % 8) + r.val, by omega⟩ d) := by
  rw [← V_main_arg0 m c]
  have e : ∀ t : Fin cfg0.N, win0_0.index t 0 * win0_0.size 0 = 0 ∧ win0_0.index t 1 * win0_0.size 1 = 1088 * (t.val % 8) ∧ win0_0.index t 2 * win0_0.size 2 = 0 := by
    decide +kernel
  refine congrArg (V m c main_arg0) (funext fun a => Fin.ext ?_)
  match a with
  | ⟨0, _⟩ => show win0_0.index t 0 * win0_0.size 0 + 1 * 0 = _; rw [(e t).1]; rfl
  | ⟨1, _⟩ => show win0_0.index t 1 * win0_0.size 1 + 1 * r.val = _; rw [(e t).2.1]; show _ = 1088 * (t.val % 8) + r.val; omega
  | ⟨2, _⟩ => show win0_0.index t 2 * win0_0.size 2 + 1 * d.val = _; rw [(e t).2.2]; show _ = d.val; omega

theorem V_v0 : (V m c main_v0 : FVec Ideal S19680x4096 .f32)
    = transpose S19680x4096 [1, 0] (m ((c : Thread nD τ).loc main_arg1) : FVec Ideal S4096x19680 .f32) transposes_S4096x19680_S19680x4096_1_0 := by
  rfl

/-- The columns' block, of the transposed weights: the receptance's columns begin at 12800. -/
theorem w_at (t : Fin cfg0.N) (k : Fin 512) (d : Fin 4096) :
    (X0_1 m c t : Vec Ideal S512x4096 .f32) (ix2 k d)
      = (m ((c : Thread nD τ).loc main_arg1) : FVec Ideal S4096x19680 .f32) (ix2 d ⟨12800 + (512 * (t.val / 8) + k.val), by have := n32 t; omega⟩) := by
  have hn := n32 t
  have e : ∀ t : Fin cfg0.N, win0_1.index t 0 * win0_1.size 0 = 12800 + 512 * (t.val / 8) ∧ win0_1.index t 1 * win0_1.size 1 = 0 := by decide +kernel
  have h : ∀ (i : S512x4096.Idx) (j : S19680x4096.Idx), (j 0).val = 12800 + (512 * (t.val / 8) + (i 0).val) → (j 1).val = (i 1).val →
      (X0_1 m c t : Vec Ideal S512x4096 .f32) i = V m c main_v0 j := fun i j h0 h1 => by
    unfold X0_1 Pipeline.Window.fill
    rw [dif_pos (moved0_1 t i)]
    refine congrArg (V m c main_v0) (funext fun a => Fin.ext ?_)
    match a with
    | ⟨0, _⟩ => show win0_1.index t 0 * win0_1.size 0 + 1 * (i 0).val = _; rw [(e t).1]; show _ = (j 0).val; omega
    | ⟨1, _⟩ => show win0_1.index t 1 * win0_1.size 1 + 1 * (i 1).val = _; rw [(e t).2]; show _ = (j 1).val; omega
  refine (h _ (ix2 ⟨12800 + (512 * (t.val / 8) + k.val), by omega⟩ d) rfl rfl).trans ?_
  rw [V_v0]
  generalize (m ((c : Thread nD τ).loc main_arg1) : FVec Ideal S4096x19680 .f32) = y
  pointwise

/-- What the body leaves in the output's buffer is its one store's payload. -/
theorem out_eq (i : grid0.Coords) (a2 : Memref sig .tc .vmem S1x1088x4096 .bf16) (h2 : a2.IsWhole) (a3 : Memref sig .tc .vmem S512x4096 .f32) (h3 : a3.IsWhole)
    (a4 : Memref sig .tc .vmem S1088x512 .f32) (h4 : a4.IsWhole) (x : Vec Ideal S1x1088x4096 .bf16) (w : Vec Ideal S512x4096 .f32) :
    out0_A_2 c i a2 h2 a3 h3 a4 h4 x w = k0_pay1 x w := by
  unfold out0_A_2
  rw [View.read_writes_junk_eq_canon]
  show View.canon ([⟨Rect.unit ![0, 0] S1088x512.size inb_S1088x512_S1088x512_0_0,
      k0_pay1
        (View.readAt (Elt Ideal) a2.view (Rect.unit (s := S1x1088x4096) ![0, 0, 0] S1x1088x4096.size inb_S1x1088x4096_S1x1088x4096_0_0_0).toLoadRect (h2.unread x))
        (View.readAt (Elt Ideal) a3.view (Rect.unit (s := S512x4096) ![0, 0] S512x4096.size inb_S512x4096_S512x4096_0_0).toLoadRect (h3.unread w))⟩] :
      List (View.Piece (Elt Ideal) S1088x512 .f32)) = _
  rw [View.canon_unit_zero hz, View.readAt_eq_ld, View.readAt_eq_ld, h2.read_unread, h3.read_unread, View.ld_unit_zero hz3, View.ld_unit_zero hz]

/-- The reference's result of the call's arguments. -/
abbrev want : FVec Ideal S8704x2048 .f32 :=
  Cert.Reference5Ideal.Read.val_main_v4 (F := Ideal) (m ((c : Thread nD τ).loc main_arg0)) (m ((c : Thread nD τ).loc main_arg1))

/-- What a point writes back is its block of the reference's result. -/
theorem flushed_eq (t : Fin cfg0.N) : (dats m 0 c).flushed 2 t = ((cfg0.win 2).blk t).view.read (Elt Ideal) (want m c) := by
  have hn := n32 t
  rw [Cert.Kernel5Ideal.Value.flushed2_A, out_eq]
  funext i
  obtain ⟨r, k, rfl⟩ : ∃ (r : Fin 1088) (k : Fin 512), i = ix2 r k := ⟨i 0, i 1, funext fun a => by match a with | ⟨0, _⟩ => rfl | ⟨1, _⟩ => rfl⟩
  have z : ∀ t : Fin cfg0.N, win0_2.index t 0 * win0_2.size 0 = 1088 * (t.val % 8) ∧ win0_2.index t 1 * win0_2.size 1 = 512 * (t.val / 8) := by decide +kernel
  have e : ((cfg0.win 2).blk t).view.read (Elt Ideal) (want m c) (ix2 r k)
      = want m c (ix2 ⟨1088 * (t.val % 8) + r.val, by omega⟩ ⟨512 * (t.val / 8) + k.val, by omega⟩) := by
    refine congrArg (want m c) (funext fun a => Fin.ext ?_)
    match a with
    | ⟨0, _⟩ => show win0_2.index t 0 * win0_2.size 0 + 1 * r.val = _; rw [(z t).1]; show _ = 1088 * (t.val % 8) + r.val; omega
    | ⟨1, _⟩ => show win0_2.index t 1 * win0_2.size 1 + 1 * k.val = _; rw [(z t).2]; show _ = 512 * (t.val / 8) + k.val; omega
  rw [e]
  show k0_pay1 (iblk m c 0 t) (X0_1 m c t) (ix2 r k) = _
  rw [pay_apply]
  refine Eq.trans ?_ (ref_apply _ _ _ _).symm
  simp only [x_at, w_at]

/-- The blocks tile the result. -/
theorem cover (i : S8704x2048.Idx) : ∃ t : Fin cfg0.N, (cfg0.win 2).flush t = true ∧ i ∈ ((cfg0.win 2).blk t).view.set := by
  have h0 : (i 0 : Nat) < 8704 := (i 0).isLt
  have h1 : (i 1 : Nat) < 2048 := (i 1).isLt
  have hN : cfg0.N = 32 := N_0
  obtain ⟨t, ht⟩ : ∃ t : Fin cfg0.N, t.val = 8 * ((i 1 : Nat) / 512) + (i 0 : Nat) / 1088 := ⟨⟨8 * ((i 1 : Nat) / 512) + (i 0 : Nat) / 1088, by omega⟩, rfl⟩
  refine ⟨t, flush0_2 t, ?_⟩
  show i ∈ ((View.whole main_v1).slice (win0_2.rect t)).set
  rw [View.set_slice_whole, Rect.mem_set_unit]
  have z : ∀ t : Fin cfg0.N, win0_2.index t 0 * win0_2.size 0 = 1088 * (t.val % 8) ∧ win0_2.xsize (grid0.coords t) 0 = 1088
      ∧ win0_2.index t 1 * win0_2.size 1 = 512 * (t.val / 8) ∧ win0_2.xsize (grid0.coords t) 1 = 512 := by decide +kernel
  obtain ⟨z1, z2, z3, z4⟩ := z t
  intro a
  match a with
  | ⟨0, _⟩ =>
    show win0_2.index t 0 * win0_2.size 0 ≤ (i 0 : Nat) ∧ (i 0 : Nat) < win0_2.index t 0 * win0_2.size 0 + win0_2.xsize (grid0.coords t) 0
    rw [z1, z2]
    omega
  | ⟨1, _⟩ =>
    show win0_2.index t 1 * win0_2.size 1 ≤ (i 1 : Nat) ∧ (i 1 : Nat) < win0_2.index t 1 * win0_2.size 1 + win0_2.xsize (grid0.coords t) 1
    rw [z3, z4]
    omega

/-- So the result array ends at the reference's result. -/
theorem final : (dats m 0 c).arrAt 2 cfg0.N = want m c :=
  (dats m 0 c).arrAt_eq_of_cover 2 (want m c) (fun t _ => flushed_eq m c t) cover

end Cert.Kernel5Ideal.Proj

end
-- ==== Proof.ReadOut.lean ====
/- The gated read-out and the output projection, one call after the other: the result array is the reference's. -/
module

public import proofs.«01_k».proof.Proof.Gen.Kernel3Ideal.Frame
public import proofs.«01_k».proof.Proof.Gen.Reference3Ideal.Read
public import Idealize.ShloMosaic.Lib.Pointwise

@[expose] public section

set_option maxRecDepth 16384

noncomputable section

namespace Cert.Kernel3Ideal.ReadOut

open Cert.Kernel3Ideal Cert.Kernel3Ideal.Gen Idealize.ShloMosaic Idealize.ShloMosaic.TcCoe Idealize.SL Idealize.SL.Sem

theorem hz : (![0, 0] : Fin 2 → Nat) = fun _ => 0 := funext fun a => by fin_cases a <;> rfl

/-- An entry of a merged block: each branch's read-out times its gate, added. -/
theorem pay0_apply (a : Vec Ideal S1088x512 .bf16) (wa : Vec Ideal S512x512 .f32) (b : Vec Ideal S1088x2048 .bf16) (wb : Vec Ideal S2048x512 .f32)
    (ga gb : Vec Ideal S1088x512 .f32) (r : Fin 1088) (k : Fin 512) :
    k0_pay1 a wa b wb ga gb (ix2 r k)
      = ga (ix2 r k) * (∑ d : Fin 512, a (ix2 r d) * wa (ix2 d k)) + gb (ix2 r k) * (∑ d : Fin 2048, b (ix2 r d) * wb (ix2 d k)) := by
  pointwise [k0_pay1]

/-- An entry of a projected block: the residual plus the row's product with the column. -/
theorem pay1_apply (y : Vec Ideal S1088x4096 .bf16) (w : Vec Ideal S4096x512 .f32) (x : Vec Ideal S1088x512 .f32) (r : Fin 1088) (k : Fin 512) :
    k1_pay1 y w x (ix2 r k) = x (ix2 r k) + ∑ d : Fin 4096, y (ix2 r d) * w (ix2 d k) := by
  pointwise [k1_pay1]

section Ref
open Cert.Reference3Ideal.Read

/-- An entry of the reference's merged array. -/
theorem refmid_apply (a : FVec Ideal S8704x512 .bf16) (b : FVec Ideal S8704x2048 .bf16) (g : FVec Ideal S8704x8192 .f32)
    (wa : FVec Ideal S512x4096 .f32) (wb : FVec Ideal S2048x4096 .f32) (r : Fin 8704) (k : Fin 4096) :
    val_main_v8 (F := Ideal) a b g wa wb (ix2 r k)
      = g (ix2 r ⟨k.val, by omega⟩) * (∑ d : Fin 512, a (ix2 r d) * wa (ix2 d k)) + g (ix2 r ⟨4096 + k.val, by omega⟩) * (∑ d : Fin 2048, b (ix2 r d) * wb (ix2 d k)) := by
  pointwise [val_main_v8, val_main_v7, val_main_v6, val_main_v5, val_main_v4, val_main_v3, val_main_v2, val_main_v1, val_main_v0]

/-- An entry of the reference's result, of its merged array. -/
theorem ref_apply (x : FVec Ideal S8704x4096 .f32) (a : FVec Ideal S8704x512 .bf16) (b : FVec Ideal S8704x2048 .bf16) (g : FVec Ideal S8704x8192 .f32)
    (wa : FVec Ideal S512x4096 .f32) (wb : FVec Ideal S2048x4096 .f32) (wo : FVec Ideal S4096x4096 .f32) (r : Fin 8704) (k : Fin 4096) :
    val_main_v10 (F := Ideal) x a b g wa wb wo (ix2 r k)
      = x (ix2 r k) + ∑ d : Fin 4096, val_main_v8 (F := Ideal) a b g wa wb (ix2 r d) * wo (ix2 d k) := by
  unfold val_main_v10 val_main_v9
  generalize val_main_v8 (F := Ideal) a b g wa wb = y
  pointwise
end Ref

variable (V : (c : Dev nD) → (b : Ref sig .tc) → Buf (Elt Ideal) ((c : Thread nD τ).loc b)) (c : Dev nD)

theorem n64_0 (t : Fin cfg0.N) : t.val < 64 := by have := t.isLt; have h : cfg0.N = 64 := N_0; omega
theorem n64_1 (t : Fin cfg1.N) : t.val < 64 := by have := t.isLt; have h : cfg1.N = 64 := N_1; omega

/-- The attention rows' block. -/
theorem b0_0 (t : Fin cfg0.N) (r : Fin 1088) (d : Fin 512) :
    (iblk0 V c 0 t : Vec Ideal S1088x512 .bf16) (ix2 r d) = (V c main_arg1 : FVec Ideal S8704x512 .bf16) (ix2 ⟨1088 * (t.val % 8) + r.val, by have := n64_0 t; omega⟩ d) := by
  have e : ∀ t : Fin cfg0.N, win0_0.index t 0 * win0_0.size 0 = 1088 * (t.val % 8) ∧ win0_0.index t 1 * win0_0.size 1 = 0 := by decide +kernel
  refine congrArg (V c main_arg1) (funext fun a => Fin.ext ?_)
  match a with
  | ⟨0, _⟩ => show win0_0.index t 0 * win0_0.size 0 + 1 * r.val = _; rw [(e t).1]; show _ = 1088 * (t.val % 8) + r.val; omega
  | ⟨1, _⟩ => show win0_0.index t 1 * win0_0.size 1 + 1 * d.val = _; rw [(e t).2]; show _ = d.val; omega

/-- The recurrence rows' block. -/
theorem b0_1 (t : Fin cfg0.N) (r : Fin 1088) (d : Fin 2048) :
    (iblk0 V c 1 t : Vec Ideal S1088x2048 .bf16) (ix2 r d) = (V c main_arg2 : FVec Ideal S8704x2048 .bf16) (ix2 ⟨1088 * (t.val % 8) + r.val, by have := n64_0 t; omega⟩ d) := by
  have e : ∀ t : Fin cfg0.N, win0_1.index t 0 * win0_1.size 0 = 1088 * (t.val % 8) ∧ win0_1.index t 1 * win0_1.size 1 = 0 := by decide +kernel
  refine congrArg (V c main_arg2) (funext fun a => Fin.ext ?_)
  match a with
  | ⟨0, _⟩ => show win0_1.index t 0 * win0_1.size 0 + 1 * r.val = _; rw [(e t).1]; show _ = 1088 * (t.val % 8) + r.val; omega
  | ⟨1, _⟩ => show win0_1.index t 1 * win0_1.size 1 + 1 * d.val = _; rw [(e t).2]; show _ = d.val; omega

/-- The attention read-out weights' block. -/
theorem b0_2 (t : Fin cfg0.N) (r : Fin 512) (d : Fin 512) :
    (iblk0 V c 2 t : Vec Ideal S512x512 .f32) (ix2 r d) = (V c main_arg4 : FVec Ideal S512x4096 .f32) (ix2 r ⟨512 * (t.val / 8) + d.val, by have := n64_0 t; omega⟩) := by
  have e : ∀ t : Fin cfg0.N, win0_2.index t 0 * win0_2.size 0 = 0 ∧ win0_2.index t 1 * win0_2.size 1 = 512 * (t.val / 8) := by decide +kernel
  refine congrArg (V c main_arg4) (funext fun a => Fin.ext ?_)
  match a with
  | ⟨0, _⟩ => show win0_2.index t 0 * win0_2.size 0 + 1 * r.val = _; rw [(e t).1]; show _ = r.val; omega
  | ⟨1, _⟩ => show win0_2.index t 1 * win0_2.size 1 + 1 * d.val = _; rw [(e t).2]; show _ = 512 * (t.val / 8) + d.val; omega

/-- The recurrence read-out weights' block. -/
theorem b0_3 (t : Fin cfg0.N) (r : Fin 2048) (d : Fin 512) :
    (iblk0 V c 3 t : Vec Ideal S2048x512 .f32) (ix2 r d) = (V c main_arg5 : FVec Ideal S2048x4096 .f32) (ix2 r ⟨512 * (t.val / 8) + d.val, by have := n64_0 t; omega⟩) := by
  have e : ∀ t : Fin cfg0.N, win0_3.index t 0 * win0_3.size 0 = 0 ∧ win0_3.index t 1 * win0_3.size 1 = 512 * (t.val / 8) := by decide +kernel
  refine congrArg (V c main_arg5) (funext fun a => Fin.ext ?_)
  match a with
  | ⟨0, _⟩ => show win0_3.index t 0 * win0_3.size 0 + 1 * r.val = _; rw [(e t).1]; show _ = r.val; omega
  | ⟨1, _⟩ => show win0_3.index t 1 * win0_3.size 1 + 1 * d.val = _; rw [(e t).2]; show _ = 512 * (t.val / 8) + d.val; omega

/-- The attention gates' block. -/
theorem b0_4 (t : Fin cfg0.N) (r : Fin 1088) (d : Fin 512) :
    (iblk0 V c 4 t : Vec Ideal S1088x512 .f32) (ix2 r d) = (V c main_arg3 : FVec Ideal S8704x8192 .f32) (ix2 ⟨1088 * (t.val % 8) + r.val, by have := n64_0 t; omega⟩ ⟨512 * (t.val / 8) + d.val, by have := n64_0 t; omega⟩) := by
  have e : ∀ t : Fin cfg0.N, win0_4.index t 0 * win0_4.size 0 = 1088 * (t.val % 8) ∧ win0_4.index t 1 * win0_4.size 1 = 512 * (t.val / 8) := by decide +kernel
  refine congrArg (V c main_arg3) (funext fun a => Fin.ext ?_)
  match a with
  | ⟨0, _⟩ => show win0_4.index t 0 * win0_4.size 0 + 1 * r.val = _; rw [(e t).1]; show _ = 1088 * (t.val % 8) + r.val; omega
  | ⟨1, _⟩ => show win0_4.index t 1 * win0_4.size 1 + 1 * d.val = _; rw [(e t).2]; show _ = 512 * (t.val / 8) + d.val; omega

/-- The recurrence gates' block. -/
theorem b0_5 (t : Fin cfg0.N) (r : Fin 1088) (d : Fin 512) :
    (iblk0 V c 5 t : Vec Ideal S1088x512 .f32) (ix2 r d) = (V c main_arg3 : FVec Ideal S8704x8192 .f32) (ix2 ⟨1088 * (t.val % 8) + r.val, by have := n64_0 t; omega⟩ ⟨4096 + 512 * (t.val / 8) + d.val, by have := n64_0 t; omega⟩) := by
  have e : ∀ t : Fin cfg0.N, win0_5.index t 0 * win0_5.size 0 = 1088 * (t.val % 8) ∧ win0_5.index t 1 * win0_5.size 1 = 4096 + 512 * (t.val / 8) := by decide +kernel
  refine congrArg (V c main_arg3) (funext fun a => Fin.ext ?_)
  match a with
  | ⟨0, _⟩ => show win0_5.index t 0 * win0_5.size 0 + 1 * r.val = _; rw [(e t).1]; show _ = 1088 * (t.val % 8) + r.val; omega
  | ⟨1, _⟩ => show win0_5.index t 1 * win0_5.size 1 + 1 * d.val = _; rw [(e t).2]; show _ = 4096 + 512 * (t.val / 8) + d.val; omega

/-- The merged rows' block. -/
theorem b1_0 (t : Fin cfg1.N) (r : Fin 1088) (d : Fin 4096) :
    (iblk1 V c 0 t : Vec Ideal S1088x4096 .bf16) (ix2 r d) = (V c main_v0 : FVec Ideal S8704x4096 .bf16) (ix2 ⟨1088 * (t.val % 8) + r.val, by have := n64_1 t; omega⟩ d) := by
  have e : ∀ t : Fin cfg1.N, win1_0.index t 0 * win1_0.size 0 = 1088 * (t.val % 8) ∧ win1_0.index t 1 * win1_0.size 1 = 0 := by decide +kernel
  refine congrArg (V c main_v0) (funext fun a => Fin.ext ?_)
  match a with
  | ⟨0, _⟩ => show win1_0.index t 0 * win1_0.size 0 + 1 * r.val = _; rw [(e t).1]; show _ = 1088 * (t.val % 8) + r.val; omega
  | ⟨1, _⟩ => show win1_0.index t 1 * win1_0.size 1 + 1 * d.val = _; rw [(e t).2]; show _ = d.val; omega

/-- The output weights' block. -/
theorem b1_1 (t : Fin cfg1.N) (r : Fin 4096) (d : Fin 512) :
    (iblk1 V c 1 t : Vec Ideal S4096x512 .f32) (ix2 r d) = (V c main_arg6 : FVec Ideal S4096x4096 .f32) (ix2 r ⟨512 * (t.val / 8) + d.val, by have := n64_1 t; omega⟩) := by
  have e : ∀ t : Fin cfg1.N, win1_1.index t 0 * win1_1.size 0 = 0 ∧ win1_1.index t 1 * win1_1.size 1 = 512 * (t.val / 8) := by decide +kernel
  refine congrArg (V c main_arg6) (funext fun a => Fin.ext ?_)
  match a with
  | ⟨0, _⟩ => show win1_1.index t 0 * win1_1.size 0 + 1 * r.val = _; rw [(e t).1]; show _ = r.val; omega
  | ⟨1, _⟩ => show win1_1.index t 1 * win1_1.size 1 + 1 * d.val = _; rw [(e t).2]; show _ = 512 * (t.val / 8) + d.val; omega

/-- The residual's block. -/
theorem b1_2 (t : Fin cfg1.N) (r : Fin 1088) (d : Fin 512) :
    (iblk1 V c 2 t : Vec Ideal S1088x512 .f32) (ix2 r d) = (V c main_arg0 : FVec Ideal S8704x4096 .f32) (ix2 ⟨1088 * (t.val % 8) + r.val, by have := n64_1 t; omega⟩ ⟨512 * (t.val / 8) + d.val, by have := n64_1 t; omega⟩) := by
  have e : ∀ t : Fin cfg1.N, win1_2.index t 0 * win1_2.size 0 = 1088 * (t.val % 8) ∧ win1_2.index t 1 * win1_2.size 1 = 512 * (t.val / 8) := by decide +kernel
  refine congrArg (V c main_arg0) (funext fun a => Fin.ext ?_)
  match a with
  | ⟨0, _⟩ => show win1_2.index t 0 * win1_2.size 0 + 1 * r.val = _; rw [(e t).1]; show _ = 1088 * (t.val % 8) + r.val; omega
  | ⟨1, _⟩ => show win1_2.index t 1 * win1_2.size 1 + 1 * d.val = _; rw [(e t).2]; show _ = 512 * (t.val / 8) + d.val; omega

/-- The reference's merged array, of what region 0 finds. -/
abbrev want0 : FVec Ideal S8704x4096 .bf16 :=
  (Cert.Reference3Ideal.Read.val_main_v8 (F := Ideal) (V c main_arg1) (V c main_arg2) (V c main_arg3) (V c main_arg4) (V c main_arg5) : FVec Ideal S8704x4096 .f32)

/-- The residual plus the product. -/
def proj (x : FVec Ideal S8704x4096 .f32) (y : FVec Ideal S8704x4096 .bf16) (w : FVec Ideal S4096x4096 .f32) : FVec Ideal S8704x4096 .f32 :=
  fun i => x i + ∑ d : Fin 4096, y (ix2 (i 0) d) * w (ix2 d (i 1))

/-- The residual plus the product of what region 1 finds as the merged array. -/
abbrev want1 : FVec Ideal S8704x4096 .f32 := proj (V c main_arg0) (V c main_v0) (V c main_arg6)

/-- What a point of region 0 writes back is its block of the reference's merged array. -/
theorem flushed0 (t : Fin cfg0.N) : (dat0 V c).flushed 6 t = ((cfg0.win 6).blk t).view.read (Elt Ideal) (want0 V c) := by
  have hn := n64_0 t
  show (dat0 V c).after 6 t = _
  rw [after0_6]
  unfold out0_6
  rw [View.canon_unit_zero hz, View.ld_unit_zero hz, View.ld_unit_zero hz, View.ld_unit_zero hz, View.ld_unit_zero hz, View.ld_unit_zero hz, View.ld_unit_zero hz]
  funext i
  obtain ⟨r, k, rfl⟩ : ∃ (r : Fin 1088) (k : Fin 512), i = ix2 r k := ⟨i 0, i 1, funext fun a => by match a with | ⟨0, _⟩ => rfl | ⟨1, _⟩ => rfl⟩
  have z : ∀ t : Fin cfg0.N, win0_6.index t 0 * win0_6.size 0 = 1088 * (t.val % 8) ∧ win0_6.index t 1 * win0_6.size 1 = 512 * (t.val / 8) := by decide +kernel
  have e : ((cfg0.win 6).blk t).view.read (Elt Ideal) (want0 V c) (ix2 r k)
      = want0 V c (ix2 ⟨1088 * (t.val % 8) + r.val, by omega⟩ ⟨512 * (t.val / 8) + k.val, by omega⟩) := by
    refine congrArg (want0 V c) (funext fun a => Fin.ext ?_)
    match a with
    | ⟨0, _⟩ => show win0_6.index t 0 * win0_6.size 0 + 1 * r.val = _; rw [(z t).1]; show _ = 1088 * (t.val % 8) + r.val; omega
    | ⟨1, _⟩ => show win0_6.index t 1 * win0_6.size 1 + 1 * k.val = _; rw [(z t).2]; show _ = 512 * (t.val / 8) + k.val; omega
  rw [e]
  refine (pay0_apply _ _ _ _ _ _ r k).trans ?_
  refine Eq.trans ?_ (refmid_apply _ _ _ _ _ _ _).symm
  simp only [b0_0, b0_1, b0_2, b0_3, b0_4, b0_5]
  have e1 : (⟨4096 + 512 * (t.val / 8) + k.val, by omega⟩ : Fin 8192) = ⟨4096 + (512 * (t.val / 8) + k.val), by omega⟩ := Fin.ext (by show _ + _ = _ + _; omega)
  rw [e1]

/-- The blocks of region 0 tile its output. -/
theorem cover0 (i : S8704x4096.Idx) : ∃ t : Fin cfg0.N, (cfg0.win 6).flush t = true ∧ i ∈ ((cfg0.win 6).blk t).view.set := by
  have h0 : (i 0 : Nat) < 8704 := (i 0).isLt
  have h1 : (i 1 : Nat) < 4096 := (i 1).isLt
  have hN : cfg0.N = 64 := N_0
  obtain ⟨t, ht⟩ : ∃ t : Fin cfg0.N, t.val = 8 * ((i 1 : Nat) / 512) + (i 0 : Nat) / 1088 := ⟨⟨8 * ((i 1 : Nat) / 512) + (i 0 : Nat) / 1088, by omega⟩, rfl⟩
  refine ⟨t, flush0_6 t, ?_⟩
  show i ∈ ((View.whole main_v0).slice (win0_6.rect t)).set
  rw [View.set_slice_whole, Rect.mem_set_unit]
  have z : ∀ t : Fin cfg0.N, win0_6.index t 0 * win0_6.size 0 = 1088 * (t.val % 8) ∧ win0_6.xsize (grid0.coords t) 0 = 1088
      ∧ win0_6.index t 1 * win0_6.size 1 = 512 * (t.val / 8) ∧ win0_6.xsize (grid0.coords t) 1 = 512 := by decide +kernel
  obtain ⟨z1, z2, z3, z4⟩ := z t
  intro a
  match a with
  | ⟨0, _⟩ =>
    show win0_6.index t 0 * win0_6.size 0 ≤ (i 0 : Nat) ∧ (i 0 : Nat) < win0_6.index t 0 * win0_6.size 0 + win0_6.xsize (grid0.coords t) 0
    rw [z1, z2]
    omega
  | ⟨1, _⟩ =>
    show win0_6.index t 1 * win0_6.size 1 ≤ (i 1 : Nat) ∧ (i 1 : Nat) < win0_6.index t 1 * win0_6.size 1 + win0_6.xsize (grid0.coords t) 1
    rw [z3, z4]
    omega

/-- Region 0 leaves the reference's merged array. -/
theorem arr0 : (dat0 V c).arrAt 6 cfg0.N = want0 V c :=
  (dat0 V c).arrAt_eq_of_cover 6 (want0 V c) (fun t _ => flushed0 V c t) cover0

/-- What a point of region 1 writes back is its block of the projected array. -/
theorem flushed1 (t : Fin cfg1.N) : (dat1 V c).flushed 3 t = ((cfg1.win 3).blk t).view.read (Elt Ideal) (want1 V c) := by
  have hn := n64_1 t
  show (dat1 V c).after 3 t = _
  rw [after1_3]
  unfold out1_3
  rw [View.canon_unit_zero hz, View.ld_unit_zero hz, View.ld_unit_zero hz, View.ld_unit_zero hz]
  funext i
  obtain ⟨r, k, rfl⟩ : ∃ (r : Fin 1088) (k : Fin 512), i = ix2 r k := ⟨i 0, i 1, funext fun a => by match a with | ⟨0, _⟩ => rfl | ⟨1, _⟩ => rfl⟩
  have z : ∀ t : Fin cfg1.N, win1_3.index t 0 * win1_3.size 0 = 1088 * (t.val % 8) ∧ win1_3.index t 1 * win1_3.size 1 = 512 * (t.val / 8) := by decide +kernel
  have e : ((cfg1.win 3).blk t).view.read (Elt Ideal) (want1 V c) (ix2 r k)
      = want1 V c (ix2 ⟨1088 * (t.val % 8) + r.val, by omega⟩ ⟨512 * (t.val / 8) + k.val, by omega⟩) := by
    refine congrArg (want1 V c) (funext fun a => Fin.ext ?_)
    match a with
    | ⟨0, _⟩ => show win1_3.index t 0 * win1_3.size 0 + 1 * r.val = _; rw [(z t).1]; show _ = 1088 * (t.val % 8) + r.val; omega
    | ⟨1, _⟩ => show win1_3.index t 1 * win1_3.size 1 + 1 * k.val = _; rw [(z t).2]; show _ = 512 * (t.val / 8) + k.val; omega
  rw [e]
  refine (pay1_apply _ _ _ r k).trans ?_
  simp only [b1_0, b1_1, b1_2]
  rfl

/-- The blocks of region 1 tile its output. -/
theorem cover1 (i : S8704x4096.Idx) : ∃ t : Fin cfg1.N, (cfg1.win 3).flush t = true ∧ i ∈ ((cfg1.win 3).blk t).view.set := by
  have h0 : (i 0 : Nat) < 8704 := (i 0).isLt
  have h1 : (i 1 : Nat) < 4096 := (i 1).isLt
  have hN : cfg1.N = 64 := N_1
  obtain ⟨t, ht⟩ : ∃ t : Fin cfg1.N, t.val = 8 * ((i 1 : Nat) / 512) + (i 0 : Nat) / 1088 := ⟨⟨8 * ((i 1 : Nat) / 512) + (i 0 : Nat) / 1088, by omega⟩, rfl⟩
  refine ⟨t, flush1_3 t, ?_⟩
  show i ∈ ((View.whole main_v1).slice (win1_3.rect t)).set
  rw [View.set_slice_whole, Rect.mem_set_unit]
  have z : ∀ t : Fin cfg1.N, win1_3.index t 0 * win1_3.size 0 = 1088 * (t.val % 8) ∧ win1_3.xsize (grid1.coords t) 0 = 1088
      ∧ win1_3.index t 1 * win1_3.size 1 = 512 * (t.val / 8) ∧ win1_3.xsize (grid1.coords t) 1 = 512 := by decide +kernel
  obtain ⟨z1, z2, z3, z4⟩ := z t
  intro a
  match a with
  | ⟨0, _⟩ =>
    show win1_3.index t 0 * win1_3.size 0 ≤ (i 0 : Nat) ∧ (i 0 : Nat) < win1_3.index t 0 * win1_3.size 0 + win1_3.xsize (grid1.coords t) 0
    rw [z1, z2]
    omega
  | ⟨1, _⟩ =>
    show win1_3.index t 1 * win1_3.size 1 ≤ (i 1 : Nat) ∧ (i 1 : Nat) < win1_3.index t 1 * win1_3.size 1 + win1_3.xsize (grid1.coords t) 1
    rw [z3, z4]
    omega

/-- Region 1 leaves the projected array. -/
theorem arr1 : (dat1 V c).arrAt 3 cfg1.N = want1 V c :=
  (dat1 V c).arrAt_eq_of_cover 3 (want1 V c) (fun t _ => flushed1 V c t) cover1

variable (m : (ℓ : Loc nD τ sig) → Buf (Elt Ideal) ℓ) (ρ : Dev nD → PrngReg)

/-- The reference's result of the call's arguments. -/
abbrev want : FVec Ideal S8704x4096 .f32 :=
  Cert.Reference3Ideal.Read.val_main_v10 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The result buffer at the end of the run holds the reference's result. -/
theorem final : W2 m ρ c (Proc.devRef .tc main_v1) = want c m := by
  refine (W2_arr m ρ c 3).trans ((arr1 (V1 m ρ) c).trans (funext fun i => ?_))
  obtain ⟨r, k, rfl⟩ : ∃ (r : Fin 8704) (k : Fin 4096), i = ix2 r k := ⟨i 0, i 1, funext fun a => by match a with | ⟨0, _⟩ => rfl | ⟨1, _⟩ => rfl⟩
  refine Eq.trans ?_ (ref_apply _ _ _ _ _ _ _ r k).symm
  have h0 : V1 m ρ c main_v0 = want0 (V0 m ρ) c := (W1_arr m ρ c 6).trans (arr0 (V0 m ρ) c)
  have h1 : V1 m ρ c main_arg0 = m ((c : Thread nD τ).loc main_arg0) := W1_args m ρ c main_arg0 (by decide)
  have h2 : V1 m ρ c main_arg6 = m ((c : Thread nD τ).loc main_arg6) := W1_args m ρ c main_arg6 (by decide)
  unfold want1
  rw [h0, h1, h2]
  rfl

section Run
open Idealize.ShloMosaic.Tactic Idealize.SL.RA Idealize.SL.BI Idealize.SL.BI.BIBase Idealize.SL.BI.Laws Idealize.SL.ProofMode Idealize.ShloMosaic.Rounds
open scoped Idealize.SL.BI
open Idealize.ShloMosaic.Pipeline (Dat Cfg Window BodyObligation cellOf)

-- the launch theorem's implicit arguments are found by unifying its conclusion, which unfolds plain definitions in a metavariable's type
set_option backward.isDefEq.respectTransparency.types false in
/-- The run: every buffer the program keeps ends at what the chain of its calls leaves there. -/
theorem run : θ_run defs (onTc (τ := τ) (main (F := Ideal))) ⟨m, fun _ => 0, ρ⟩
    (fun r => ∀ c : Dev nD, ∀ b ∈ Pipeline.ucRefs τ sig, r.2.mem ((c : Thread nD τ).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun _ h _ => h)
end Run

end Cert.Kernel3Ideal.ReadOut

end
-- ==== Proof.Gates.lean ====
/- The gates: the projection's result array is the reference's. -/
module

public import proofs.«01_k».proof.Proof.Gen.Kernel2Ideal.Value
public import proofs.«01_k».proof.Proof.Gen.Reference2Ideal.Read
public import Idealize.ShloMosaic.Lib.Pointwise

@[expose] public section

set_option maxRecDepth 16384

noncomputable section

namespace Cert.Kernel2Ideal.Gates

open Cert.Kernel2Ideal Cert.Kernel2Ideal.Gen Idealize.ShloMosaic Idealize.ShloMosaic.TcCoe Idealize.SL.Sem

theorem hz : (![0, 0] : Fin 2 → Nat) = fun _ => 0 := funext fun a => by fin_cases a <;> rfl

/-- A block's gate: the sigmoid of the row's product with the column. -/
theorem pay_apply (x : Vec Ideal S1088x4096 .bf16) (w : Vec Ideal S512x4096 .f32) (r : Fin 1088) (k : Fin 512) :
    k0_pay1 x w (ix2 r k) = Ideal.div 1 (1 + Ideal.exp (-∑ d : Fin 4096, x (ix2 r d) * w (ix2 k d))) := by
  pointwise [k0_pay1]
  rfl

/-- The reference's gate. -/
theorem ref_apply (x : FVec Ideal S8704x4096 .bf16) (w : FVec Ideal S4096x19680 .f32) (r : Fin 8704) (k : Fin 8192) :
    Cert.Reference2Ideal.Read.val_main_v8 (F := Ideal) x w (ix2 r k)
      = Ideal.div 1 (1 + Ideal.exp (-∑ d : Fin 4096, x (ix2 r d) * w (ix2 d ⟨4608 + k.val, by omega⟩))) := by
  pointwise [Cert.Reference2Ideal.Read.val_main_v8, Cert.Reference2Ideal.Read.val_main_v7, Cert.Reference2Ideal.Read.val_main_v6, Cert.Reference2Ideal.Read.val_main_v5,
    Cert.Reference2Ideal.Read.val_main_v4, Cert.Reference2Ideal.Read.val_main_v3, Cert.Reference2Ideal.Read.val_main_v2, Cert.Reference2Ideal.Read.val_main_v1,
    Cert.Reference2Ideal.Read.val_main_v0, Cert.Reference2Ideal.Read.val_main_cst, Cert.Reference2Ideal.Read.val_main_cst_0]

variable (m : (ℓ : Loc nD τ sig) → Buf (Elt Ideal) ℓ) (c : Dev nD)

theorem n128 (t : Fin cfg0.N) : t.val < 128 := by have := t.isLt; have h : cfg0.N = 128 := N_0; omega

/-- The rows' block. -/
theorem x_at (t : Fin cfg0.N) (r : Fin 1088) (d : Fin 4096) :
    (iblk m c 0 t : Vec Ideal S1088x4096 .bf16) (ix2 r d)
      = (m ((c : Thread nD τ).loc main_arg0) : FVec Ideal S8704x4096 .bf16) (ix2 ⟨1088 * (t.val % 8) + r.val, by omega⟩ d) := by
  rw [← V_main_arg0 m c]
  have e : ∀ t : Fin cfg0.N, win0_0.index t 0 * win0_0.size 0 = 1088 * (t.val % 8) ∧ win0_0.index t 1 * win0_0.size 1 = 0 := by decide +kernel
  refine congrArg (V m c main_arg0) (funext fun a => Fin.ext ?_)
  match a with
  | ⟨0, _⟩ => show win0_0.index t 0 * win0_0.size 0 + 1 * r.val = _; rw [(e t).1]; show _ = 1088 * (t.val % 8) + r.val; omega
  | ⟨1, _⟩ => show win0_0.index t 1 * win0_0.size 1 + 1 * d.val = _; rw [(e t).2]; show _ = d.val; omega

theorem V_v0 : (V m c main_v0 : FVec Ideal S19680x4096 .f32)
    = transpose S19680x4096 [1, 0] (m ((c : Thread nD τ).loc main_arg1) : FVec Ideal S4096x19680 .f32) transposes_S4096x19680_S19680x4096_1_0 := by
  rfl

/-- The columns' block, of the transposed weights: the gates' columns begin at 4608. -/
theorem w_at (t : Fin cfg0.N) (k : Fin 512) (d : Fin 4096) :
    (X0_1 m c t : Vec Ideal S512x4096 .f32) (ix2 k d)
      = (m ((c : Thread nD τ).loc main_arg1) : FVec Ideal S4096x19680 .f32) (ix2 d ⟨4608 + (512 * (t.val / 8) + k.val), by have := n128 t; omega⟩) := by
  have hn := n128 t
  have e : ∀ t : Fin cfg0.N, win0_1.index t 0 * win0_1.size 0 = 4608 + 512 * (t.val / 8) ∧ win0_1.index t 1 * win0_1.size 1 = 0 := by decide +kernel
  have h : ∀ (i : S512x4096.Idx) (j : S19680x4096.Idx), (j 0).val = 4608 + (512 * (t.val / 8) + (i 0).val) → (j 1).val = (i 1).val →
      (X0_1 m c t : Vec Ideal S512x4096 .f32) i = V m c main_v0 j := fun i j h0 h1 => by
    unfold X0_1 Pipeline.Window.fill
    rw [dif_pos (moved0_1 t i)]
    refine congrArg (V m c main_v0) (funext fun a => Fin.ext ?_)
    match a with
    | ⟨0, _⟩ => show win0_1.index t 0 * win0_1.size 0 + 1 * (i 0).val = _; rw [(e t).1]; show _ = (j 0).val; omega
    | ⟨1, _⟩ => show win0_1.index t 1 * win0_1.size 1 + 1 * (i 1).val = _; rw [(e t).2]; show _ = (j 1).val; omega
  refine (h _ (ix2 ⟨4608 + (512 * (t.val / 8) + k.val), by omega⟩ d) rfl rfl).trans ?_
  rw [V_v0]
  generalize (m ((c : Thread nD τ).loc main_arg1) : FVec Ideal S4096x19680 .f32) = y
  pointwise

/-- What the body leaves in the output's buffer is its one store's payload. -/
theorem out_eq (i : grid0.Coords) (a2 : Memref sig .tc .vmem S1088x4096 .bf16) (h2 : a2.IsWhole) (a3 : Memref sig .tc .vmem S512x4096 .f32) (h3 : a3.IsWhole)
    (a4 : Memref sig .tc .vmem S1088x512 .f32) (h4 : a4.IsWhole) (x : Vec Ideal S1088x4096 .bf16) (w : Vec Ideal S512x4096 .f32) :
    out0_A_2 c i a2 h2 a3 h3 a4 h4 x w = k0_pay1 x w := by
  unfold out0_A_2
  rw [View.read_writes_junk_eq_canon]
  show View.canon ([⟨Rect.unit ![0, 0] S1088x512.size inb_S1088x512_S1088x512_0_0,
      k0_pay1
        (View.readAt (Elt Ideal) a2.view (Rect.unit (s := S1088x4096) ![0, 0] S1088x4096.size inb_S1088x4096_S1088x4096_0_0).toLoadRect (h2.unread x))
        (View.readAt (Elt Ideal) a3.view (Rect.unit (s := S512x4096) ![0, 0] S512x4096.size inb_S512x4096_S512x4096_0_0).toLoadRect (h3.unread w))⟩] :
      List (View.Piece (Elt Ideal) S1088x512 .f32)) = _
  rw [View.canon_unit_zero hz, View.readAt_eq_ld, View.readAt_eq_ld, h2.read_unread, h3.read_unread, View.ld_unit_zero hz, View.ld_unit_zero hz]

/-- The reference's result of the call's arguments. -/
abbrev want : FVec Ideal S8704x8192 .f32 :=
  Cert.Reference2Ideal.Read.val_main_v8 (F := Ideal) (m ((c : Thread nD τ).loc main_arg0)) (m ((c : Thread nD τ).loc main_arg1))

/-- What a point writes back is its block of the reference's result. -/
theorem flushed_eq (t : Fin cfg0.N) : (dats m 0 c).flushed 2 t = ((cfg0.win 2).blk t).view.read (Elt Ideal) (want m c) := by
  have hn := n128 t
  rw [Cert.Kernel2Ideal.Value.flushed2_A, out_eq]
  funext i
  obtain ⟨r, k, rfl⟩ : ∃ (r : Fin 1088) (k : Fin 512), i = ix2 r k := ⟨i 0, i 1, funext fun a => by match a with | ⟨0, _⟩ => rfl | ⟨1, _⟩ => rfl⟩
  have z : ∀ t : Fin cfg0.N, win0_2.index t 0 * win0_2.size 0 = 1088 * (t.val % 8) ∧ win0_2.index t 1 * win0_2.size 1 = 512 * (t.val / 8) := by decide +kernel
  have e : ((cfg0.win 2).blk t).view.read (Elt Ideal) (want m c) (ix2 r k)
      = want m c (ix2 ⟨1088 * (t.val % 8) + r.val, by omega⟩ ⟨512 * (t.val / 8) + k.val, by omega⟩) := by
    refine congrArg (want m c) (funext fun a => Fin.ext ?_)
    match a with
    | ⟨0, _⟩ => show win0_2.index t 0 * win0_2.size 0 + 1 * r.val = _; rw [(z t).1]; show _ = 1088 * (t.val % 8) + r.val; omega
    | ⟨1, _⟩ => show win0_2.index t 1 * win0_2.size 1 + 1 * k.val = _; rw [(z t).2]; show _ = 512 * (t.val / 8) + k.val; omega
  rw [e]
  show k0_pay1 (iblk m c 0 t) (X0_1 m c t) (ix2 r k) = _
  rw [pay_apply]
  refine Eq.trans ?_ (ref_apply _ _ _ _).symm
  simp only [x_at, w_at]

/-- The blocks tile the result. -/
theorem cover (i : S8704x8192.Idx) : ∃ t : Fin cfg0.N, (cfg0.win 2).flush t = true ∧ i ∈ ((cfg0.win 2).blk t).view.set := by
  have h0 : (i 0 : Nat) < 8704 := (i 0).isLt
  have h1 : (i 1 : Nat) < 8192 := (i 1).isLt
  have hN : cfg0.N = 128 := N_0
  obtain ⟨t, ht⟩ : ∃ t : Fin cfg0.N, t.val = 8 * ((i 1 : Nat) / 512) + (i 0 : Nat) / 1088 := ⟨⟨8 * ((i 1 : Nat) / 512) + (i 0 : Nat) / 1088, by omega⟩, rfl⟩
  refine ⟨t, flush0_2 t, ?_⟩
  show i ∈ ((View.whole main_v1).slice (win0_2.rect t)).set
  rw [View.set_slice_whole, Rect.mem_set_unit]
  have z : ∀ t : Fin cfg0.N, win0_2.index t 0 * win0_2.size 0 = 1088 * (t.val % 8) ∧ win0_2.xsize (grid0.coords t) 0 = 1088
      ∧ win0_2.index t 1 * win0_2.size 1 = 512 * (t.val / 8) ∧ win0_2.xsize (grid0.coords t) 1 = 512 := by decide +kernel
  obtain ⟨z1, z2, z3, z4⟩ := z t
  intro a
  match a with
  | ⟨0, _⟩ =>
    show win0_2.index t 0 * win0_2.size 0 ≤ (i 0 : Nat) ∧ (i 0 : Nat) < win0_2.index t 0 * win0_2.size 0 + win0_2.xsize (grid0.coords t) 0
    rw [z1, z2]
    omega
  | ⟨1, _⟩ =>
    show win0_2.index t 1 * win0_2.size 1 ≤ (i 1 : Nat) ∧ (i 1 : Nat) < win0_2.index t 1 * win0_2.size 1 + win0_2.xsize (grid0.coords t) 1
    rw [z3, z4]
    omega

/-- So the result array ends at the reference's result. -/
theorem final : (dats m 0 c).arrAt 2 cfg0.N = want m c :=
  (dats m 0 c).arrAt_eq_of_cover 2 (want m c) (fun t _ => flushed_eq m c t) cover

end Cert.Kernel2Ideal.Gates

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Pre_finite_keys
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Final
public import proofs.«01_k».proof.Proof.FrontClaim
public import proofs.«01_k».proof.Proof.ProjV
public import proofs.«01_k».proof.Proof.ProjGate
public import proofs.«01_k».proof.Proof.ProjDecay
public import proofs.«01_k».proof.Proof.ProjRate
public import proofs.«01_k».proof.Proof.ProjK
public import proofs.«01_k».proof.Proof.ProjR
public import proofs.«01_k».proof.Proof.ReadOut
public import proofs.«01_k».proof.Proof.Gates
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's result array ends at the reference's result. -/
theorem algebraic : Cert.algebraic_KernelIdeal_ReferenceIdeal_pre_finite_keys := by
  intro m ρ m' ρ' pre hagree
  have e : ∀ c, Cert.ReferenceIdeal.Read.val_main_v211 (F := Ideal) (StableHlo.launchContents m' c (Proc.devRef .tc Cert.ReferenceIdeal.main_arg0))
      (StableHlo.launchContents m' c (Proc.devRef .tc Cert.ReferenceIdeal.main_arg1)) (StableHlo.launchContents m' c (Proc.devRef .tc Cert.ReferenceIdeal.main_arg2))
      (StableHlo.launchContents m' c (Proc.devRef .tc Cert.ReferenceIdeal.main_arg3)) (StableHlo.launchContents m' c (Proc.devRef .tc Cert.ReferenceIdeal.main_arg4))
      = Cert.KernelIdeal.Arrays.want m c := fun c => by
    obtain ⟨e0, e1, e2, e3, e4⟩ := hagree c
    show Cert.ReferenceIdeal.Read.val_main_v211 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
    rw [e0, e1, e2, e3, e4]
  refine ⟨fun c => Cert.KernelIdeal.Arrays.want m c, ?_, ?_⟩
  · exact (θ_run Cert.KernelIdeal.defs _ _).mono (fun _ h c => ⟨(h c).1.trans (Cert.KernelIdeal.Arrays.final m c (pre c)), (h c).2⟩)
      (Cert.KernelIdeal.Value.run_blocks (F := Ideal) m ρ)
  · exact (θ_run Cert.ReferenceIdeal.defs _ _).mono
      (fun _ h c => ⟨(h c).1.trans ((Cert.ReferenceIdeal.Read.val_main_v211_eq (F := Ideal) (StableHlo.launchContents m' c)).trans (e c)), (h c).2⟩)
      (Cert.ReferenceIdeal.Value.run (F := Ideal) m' ρ')

/-- The reference ends with its arguments unchanged and no semaphore counted. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The result array of the gates ends at its reference's result. -/
theorem algebraic2 : Cert.algebraic_Kernel2Ideal_Reference2Ideal := by
  intro m ρ m' ρ' _ hagree
  have e : ∀ c : Dev Cert.Kernel2Ideal.nD, Cert.Reference2Ideal.Read.val_main_v8 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))
      = Cert.Kernel2Ideal.Gates.want m c := fun c => by
    obtain ⟨e0, e1⟩ := hagree c
    rw [e0, e1]
  refine ⟨fun c => Cert.Kernel2Ideal.Gates.want m c, ?_, ?_⟩
  · exact (θ_run Cert.Kernel2Ideal.defs _ _).mono (fun _ h c => ⟨(h c).1.trans (Cert.Kernel2Ideal.Gates.final m c), (h c).2⟩)
      (Cert.Kernel2Ideal.Value.run_blocks (F := Ideal) m ρ)
  · exact (θ_run Cert.Reference2Ideal.defs _ _).mono
      (fun _ h c => ⟨(h c).1.trans ((Cert.Reference2Ideal.Read.val_main_v8_eq (F := Ideal) _ _).trans (e c)), (h c).2⟩)
      (Cert.Reference2Ideal.Value.run (F := Ideal) m' ρ')

/-- The reference of the gates ends with its arguments unchanged and no semaphore counted. -/
theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The result array of the read-out and output projection ends at its reference's result. -/
theorem algebraic3 : Cert.algebraic_Kernel3Ideal_Reference3Ideal := by
  intro m ρ m' ρ' _ hagree
  have e : ∀ c : Dev Cert.Kernel3Ideal.nD, Cert.Reference3Ideal.Read.val_main_v10 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6))
      = Cert.Kernel3Ideal.ReadOut.want c m := fun c => by
    obtain ⟨e0, e1, e2, e3, e4, e5, e6⟩ := hagree c
    rw [e0, e1, e2, e3, e4, e5, e6]
  refine ⟨fun c => Cert.Kernel3Ideal.ReadOut.want c m, ?_, ?_⟩
  · exact (θ_run Cert.Kernel3Ideal.defs _ _).mono (fun _ h c =>
      ⟨(h c _ (Cert.Kernel3Ideal.Gen.mem_uc Cert.Kernel3Ideal.main_v1 (by decide))).trans (Cert.Kernel3Ideal.ReadOut.final c m ρ),
       (h c _ (Cert.Kernel3Ideal.Gen.mem_uc Cert.Kernel3Ideal.main_arg0 (by decide))).trans (Cert.Kernel3Ideal.Gen.W2_main_arg0 m ρ c),
       (h c _ (Cert.Kernel3Ideal.Gen.mem_uc Cert.Kernel3Ideal.main_arg1 (by decide))).trans (Cert.Kernel3Ideal.Gen.W2_main_arg1 m ρ c),
       (h c _ (Cert.Kernel3Ideal.Gen.mem_uc Cert.Kernel3Ideal.main_arg2 (by decide))).trans (Cert.Kernel3Ideal.Gen.W2_main_arg2 m ρ c),
       (h c _ (Cert.Kernel3Ideal.Gen.mem_uc Cert.Kernel3Ideal.main_arg3 (by decide))).trans (Cert.Kernel3Ideal.Gen.W2_main_arg3 m ρ c),
       (h c _ (Cert.Kernel3Ideal.Gen.mem_uc Cert.Kernel3Ideal.main_arg4 (by decide))).trans (Cert.Kernel3Ideal.Gen.W2_main_arg4 m ρ c),
       (h c _ (Cert.Kernel3Ideal.Gen.mem_uc Cert.Kernel3Ideal.main_arg5 (by decide))).trans (Cert.Kernel3Ideal.Gen.W2_main_arg5 m ρ c),
       (h c _ (Cert.Kernel3Ideal.Gen.mem_uc Cert.Kernel3Ideal.main_arg6 (by decide))).trans (Cert.Kernel3Ideal.Gen.W2_main_arg6 m ρ c)⟩)
      (Cert.Kernel3Ideal.ReadOut.run m ρ)
  · exact (θ_run Cert.Reference3Ideal.defs _ _).mono
      (fun _ h c => ⟨(h c).1.trans ((Cert.Reference3Ideal.Read.val_main_v10_eq (F := Ideal) _ _ _ _ _ _ _).trans (e c)), (h c).2⟩)
      (Cert.Reference3Ideal.Value.run (F := Ideal) m' ρ')

/-- The reference of the read-out and output projection ends with its arguments unchanged and no semaphore counted. -/
theorem frame_reference3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The result array of the receptance projection ends at its reference's result. -/
theorem algebraic5 : Cert.algebraic_Kernel5Ideal_Reference5Ideal := by
  intro m ρ m' ρ' _ hagree
  have e : ∀ c : Dev Cert.Kernel5Ideal.nD, Cert.Reference5Ideal.Read.val_main_v4 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))
      = Cert.Kernel5Ideal.Proj.want m c := fun c => by
    obtain ⟨e0, e1⟩ := hagree c
    rw [e0, e1]
  refine ⟨fun c => Cert.Kernel5Ideal.Proj.want m c, ?_, ?_⟩
  · exact (θ_run Cert.Kernel5Ideal.defs _ _).mono (fun _ h c => ⟨(h c).1.trans (Cert.Kernel5Ideal.Proj.final m c), (h c).2⟩)
      (Cert.Kernel5Ideal.Value.run_blocks (F := Ideal) m ρ)
  · exact (θ_run Cert.Reference5Ideal.defs _ _).mono
      (fun _ h c => ⟨(h c).1.trans ((Cert.Reference5Ideal.Read.val_main_v4_eq (F := Ideal) _ _).trans (e c)), (h c).2⟩)
      (Cert.Reference5Ideal.Value.run (F := Ideal) m' ρ')

/-- The reference of the receptance projection ends with its arguments unchanged and no semaphore counted. -/
theorem frame_reference5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The result array of the key projection ends at its reference's result. -/
theorem algebraic6 : Cert.algebraic_Kernel6Ideal_Reference6Ideal := by
  intro m ρ m' ρ' _ hagree
  have e : ∀ c : Dev Cert.Kernel6Ideal.nD, Cert.Reference6Ideal.Read.val_main_v4 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1))
      = Cert.Kernel6Ideal.Proj.want m c := fun c => by
    obtain ⟨e0, e1⟩ := hagree c
    rw [e0, e1]
  refine ⟨fun c => Cert.Kernel6Ideal.Proj.want m c, ?_, ?_⟩
  · exact (θ_run Cert.Kernel6Ideal.defs _ _).mono (fun _ h c => ⟨(h c).1.trans (Cert.Kernel6Ideal.Proj.final m c), (h c).2⟩)
      (Cert.Kernel6Ideal.Value.run_blocks (F := Ideal) m ρ)
  · exact (θ_run Cert.Reference6Ideal.defs _ _).mono
      (fun _ h c => ⟨(h c).1.trans ((Cert.Reference6Ideal.Read.val_main_v4_eq (F := Ideal) _ _).trans (e c)), (h c).2⟩)
      (Cert.Reference6Ideal.Value.run (F := Ideal) m' ρ')

/-- The reference of the key projection ends with its arguments unchanged and no semaphore counted. -/
theorem frame_reference6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- The result array of the value projection ends at its reference's result. -/
theorem algebraic7 : Cert.algebraic_Kernel7Ideal_Reference7Ideal := by
  intro m ρ m' ρ' _ hagree
  have e : ∀ c : Dev Cert.Kernel7Ideal.nD, Cert.Reference7Ideal.Read.val_main_v4 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1))
      = Cert.Kernel7Ideal.Proj.want m c := fun c => by
    obtain ⟨e0, e1⟩ := hagree c
    rw [e0, e1]
  refine ⟨fun c => Cert.Kernel7Ideal.Proj.want m c, ?_, ?_⟩
  · exact (θ_run Cert.Kernel7Ideal.defs _ _).mono (fun _ h c => ⟨(h c).1.trans (Cert.Kernel7Ideal.Proj.final m c), (h c).2⟩)
      (Cert.Kernel7Ideal.Value.run_blocks (F := Ideal) m ρ)
  · exact (θ_run Cert.Reference7Ideal.defs _ _).mono
      (fun _ h c => ⟨(h c).1.trans ((Cert.Reference7Ideal.Read.val_main_v4_eq (F := Ideal) _ _).trans (e c)), (h c).2⟩)
      (Cert.Reference7Ideal.Value.run (F := Ideal) m' ρ')

/-- The reference of the value projection ends with its arguments unchanged and no semaphore counted. -/
theorem frame_reference7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- The result array of the gate projection ends at its reference's result. -/
theorem algebraic8 : Cert.algebraic_Kernel8Ideal_Reference8Ideal := by
  intro m ρ m' ρ' _ hagree
  have e : ∀ c : Dev Cert.Kernel8Ideal.nD, Cert.Reference8Ideal.Read.val_main_v6 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1))
      = Cert.Kernel8Ideal.Proj.want m c := fun c => by
    obtain ⟨e0, e1⟩ := hagree c
    rw [e0, e1]
  refine ⟨fun c => Cert.Kernel8Ideal.Proj.want m c, ?_, ?_⟩
  · exact (θ_run Cert.Kernel8Ideal.defs _ _).mono (fun _ h c => ⟨(h c).1.trans (Cert.Kernel8Ideal.Proj.final m c), (h c).2⟩)
      (Cert.Kernel8Ideal.Value.run_blocks (F := Ideal) m ρ)
  · exact (θ_run Cert.Reference8Ideal.defs _ _).mono
      (fun _ h c => ⟨(h c).1.trans ((Cert.Reference8Ideal.Read.val_main_v6_eq (F := Ideal) _ _).trans (e c)), (h c).2⟩)
      (Cert.Reference8Ideal.Value.run (F := Ideal) m' ρ')

/-- The reference of the gate projection ends with its arguments unchanged and no semaphore counted. -/
theorem frame_reference8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

/-- The result array of the decay projection ends at its reference's result. -/
theorem algebraic9 : Cert.algebraic_Kernel9Ideal_Reference9Ideal := by
  intro m ρ m' ρ' _ hagree
  have e : ∀ c : Dev Cert.Kernel9Ideal.nD, Cert.Reference9Ideal.Read.val_main_v4 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))
      = Cert.Kernel9Ideal.Proj.want m c := fun c => by
    obtain ⟨e0, e1⟩ := hagree c
    rw [e0, e1]
  refine ⟨fun c => Cert.Kernel9Ideal.Proj.want m c, ?_, ?_⟩
  · exact (θ_run Cert.Kernel9Ideal.defs _ _).mono (fun _ h c => ⟨(h c).1.trans (Cert.Kernel9Ideal.Proj.final m c), (h c).2⟩)
      (Cert.Kernel9Ideal.Value.run_blocks (F := Ideal) m ρ)
  · exact (θ_run Cert.Reference9Ideal.defs _ _).mono
      (fun _ h c => ⟨(h c).1.trans ((Cert.Reference9Ideal.Read.val_main_v4_eq (F := Ideal) _ _).trans (e c)), (h c).2⟩)
      (Cert.Reference9Ideal.Value.run (F := Ideal) m' ρ')

/-- The reference of the decay projection ends with its arguments unchanged and no semaphore counted. -/
theorem frame_reference9 : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

/-- The result array of the rate projection ends at its reference's result. -/
theorem algebraic10 : Cert.algebraic_Kernel10Ideal_Reference10Ideal := by
  intro m ρ m' ρ' _ hagree
  have e : ∀ c : Dev Cert.Kernel10Ideal.nD, Cert.Reference10Ideal.Read.val_main_v4 (F := Ideal) (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1))
      = Cert.Kernel10Ideal.Proj.want m c := fun c => by
    obtain ⟨e0, e1⟩ := hagree c
    rw [e0, e1]
  refine ⟨fun c => Cert.Kernel10Ideal.Proj.want m c, ?_, ?_⟩
  · exact (θ_run Cert.Kernel10Ideal.defs _ _).mono (fun _ h c => ⟨(h c).1.trans (Cert.Kernel10Ideal.Proj.final m c), (h c).2⟩)
      (Cert.Kernel10Ideal.Value.run_blocks (F := Ideal) m ρ)
  · exact (θ_run Cert.Reference10Ideal.defs _ _).mono
      (fun _ h c => ⟨(h c).1.trans ((Cert.Reference10Ideal.Read.val_main_v4_eq (F := Ideal) _ _).trans (e c)), (h c).2⟩)
      (Cert.Reference10Ideal.Value.run (F := Ideal) m' ρ')

/-- The reference of the rate projection ends with its arguments unchanged and no semaphore counted. -/
theorem frame_reference10 : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel4.Gen.facts,
    Cert.Kernel4Ideal.Gen.facts,
    Cert.Reference4Ideal.Gen.facts,
    Cert.Pre_finite_keys.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    fun m ρ _ => Cert.Kernel10.Gen.frame m ρ,
    fun m ρ _ => Cert.Kernel10Ideal.Gen.frame m ρ,
    frame_reference10,
    fun m ρ _ => Cert.Kernel4.Gen.frame m ρ,
    fun m ρ _ => Cert.Kernel4Ideal.Gen.frame m ρ,
    Cert.Kernel4Ideal.Front.frame_reference4,
    trivial,
    algebraic,
    trivial,
    algebraic2,
    trivial,
    algebraic3,
    trivial,
    algebraic5,
    trivial,
    algebraic6,
    trivial,
    algebraic7,
    trivial,
    algebraic8,
    trivial,
    algebraic9,
    trivial,
    algebraic10,
    trivial,
    Cert.Kernel4Ideal.Front.algebraic4⟩

end Cert.Proof

end
